-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mixers [hPre_finite_mixers : Cert.Pre_finite_mixers.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mixers.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mixers [hPre_finite_mixers : Cert.Pre_finite_mixers.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mixers.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_compression [hPre_finite_compression : Cert.Pre_finite_compression.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_compression.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_compression [hPre_finite_compression : Cert.Pre_finite_compression.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_compression.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_mixers [hKernel5Ideal : Cert.Kernel5Ideal.Facts] [hPre_finite_mixers : Cert.Pre_finite_mixers.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mixers m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_mixers [hReference5Ideal : Cert.Reference5Ideal.Facts] [hPre_finite_mixers : Cert.Pre_finite_mixers.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mixers m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_compression [hKernel6Ideal : Cert.Kernel6Ideal.Facts] [hPre_finite_compression : Cert.Pre_finite_compression.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_compression m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_compression [hReference6Ideal : Cert.Reference6Ideal.Facts] [hPre_finite_compression : Cert.Pre_finite_compression.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_compression m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)
  ∧ IdealRules.named_const.Statement Cert.KernelIdeal.κ "masked" .f32 0xF149F2CA#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal_pre_finite_mixers [hKernel5Ideal : Cert.Kernel5Ideal.Facts] [hReference5Ideal : Cert.Reference5Ideal.Facts] [hPre_finite_mixers : Cert.Pre_finite_mixers.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mixers m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite_compression [hKernel6Ideal : Cert.Kernel6Ideal.Facts] [hReference6Ideal : Cert.Reference6Ideal.Facts] [hPre_finite_compression : Cert.Pre_finite_compression.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_compression m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v106) = v0 c
          ∧ r.2.mem ((c.tc : Thread Cert.Reference6Ideal.nD Cert.Reference6Ideal.τ).loc Cert.Reference6Ideal.main_v108) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_queries_and_keys : Cert.Pre_finite_queries_and_keys.Facts) (hPre_finite_mixers : Cert.Pre_finite_mixers.Facts) (hPre_finite_compression : Cert.Pre_finite_compression.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_mixers (hKernel5Ideal := hKernel5Ideal) (hPre_finite_mixers := hPre_finite_mixers)
    ∧ quiescent_Reference5Ideal (hReference5Ideal := hReference5Ideal)
    ∧ quiescent_Reference5Ideal_pre_finite_mixers (hReference5Ideal := hReference5Ideal) (hPre_finite_mixers := hPre_finite_mixers)
    ∧ quiescent_Kernel6 (hKernel6 := hKernel6)
    ∧ quiescent_Kernel6Ideal (hKernel6Ideal := hKernel6Ideal)
    ∧ quiescent_Kernel6Ideal_pre_finite_compression (hKernel6Ideal := hKernel6Ideal) (hPre_finite_compression := hPre_finite_compression)
    ∧ quiescent_Reference6Ideal (hReference6Ideal := hReference6Ideal)
    ∧ quiescent_Reference6Ideal_pre_finite_compression (hReference6Ideal := hReference6Ideal) (hPre_finite_compression := hPre_finite_compression)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_mixers (hKernel5Ideal := hKernel5Ideal) (hReference5Ideal := hReference5Ideal) (hPre_finite_mixers := hPre_finite_mixers)
    ∧ preserves_Kernel6_Kernel6Ideal
    ∧ algebraic_Kernel6Ideal_Reference6Ideal_pre_finite_compression (hKernel6Ideal := hKernel6Ideal) (hReference6Ideal := hReference6Ideal) (hPre_finite_compression := hPre_finite_compression)
-- ==== Pre_finite_compression.lean ====
abbrev S8x4096x2956 : Shape := ⟨3, ![8, 4096, 2956]⟩
abbrev S64 : Shape := ⟨1, ![64]⟩
abbrev S32x64 : Shape := ⟨2, ![32, 64]⟩
abbrev S2048x256 : Shape := ⟨2, ![2048, 256]⟩
abbrev S256x64 : Shape := ⟨2, ![256, 64]⟩
abbrev S8x4096x64 : Shape := ⟨3, ![8, 4096, 64]⟩
abbrev S_ : Shape := ⟨0, ![]⟩
abbrev S1024x32x64 : Shape := ⟨3, ![1024, 32, 64]⟩
abbrev S8192x64 : Shape := ⟨2, ![8192, 64]⟩
abbrev S4x8192x64 : Shape := ⟨3, ![4, 8192, 64]⟩
abbrev S128x256x64 : Shape := ⟨3, ![128, 256, 64]⟩

class Facts : Prop where
  slices_S8x4096x2956_S8x4096x64_0_0_256 : S8x4096x2956.Slices ![0, 0, 256] S8x4096x64
  bcast_S_S8x4096x64 : S_.BroadcastsInDim S8x4096x64 (![] : Fin 0 → Fin S8x4096x64.rank)
  bcast_S_S32x64 : S_.BroadcastsInDim S32x64 (![] : Fin 0 → Fin S32x64.rank)
  bcast_S32x64_S1024x32x64_1_2 : S32x64.BroadcastsInDim S1024x32x64 (![1, 2] : Fin 2 → Fin S1024x32x64.rank)
  shapeCasts_S1024x32x64_S8x4096x64 : S1024x32x64.ShapeCasts S8x4096x64
  bcast_S_S2048x256 : S_.BroadcastsInDim S2048x256 (![] : Fin 0 → Fin S2048x256.rank)
  shapeCasts_S2048x256_S8192x64 : S2048x256.ShapeCasts S8192x64
  bcast_S8192x64_S4x8192x64_1_2 : S8192x64.BroadcastsInDim S4x8192x64 (![1, 2] : Fin 2 → Fin S4x8192x64.rank)
  shapeCasts_S4x8192x64_S8x4096x64 : S4x8192x64.ShapeCasts S8x4096x64
  bcast_S_S256x64 : S_.BroadcastsInDim S256x64 (![] : Fin 0 → Fin S256x64.rank)
  bcast_S256x64_S128x256x64_1_2 : S256x64.BroadcastsInDim S128x256x64 (![1, 2] : Fin 2 → Fin S128x256x64.rank)
  shapeCasts_S128x256x64_S8x4096x64 : S128x256x64.ShapeCasts S8x4096x64

variable [Facts]

def fn_part1 {F : FTy → Type} [FloatOps F] (main_v16 : IVec S8x4096x64 1) (main_v19 : IVec S256x64 1) : IVec S8x4096x64 1 :=
  let main_v20 : IVec S128x256x64 1 := broadcastInDim S128x256x64 ![1, 2] bcast_S256x64_S128x256x64_1_2 main_v19
  let main_v21 : IVec S8x4096x64 1 := shapeCast S8x4096x64 main_v20 shapeCasts_S128x256x64_S8x4096x64
  let main_v22 : IVec S8x4096x64 1 := andi main_v16 main_v21
  main_v22

def fn {F : FTy → Type} [FloatOps F] (main_arg0 : FVec F S8x4096x2956 .f32) (main_arg1 : FVec F S64 .f32) (main_arg2 : FVec F S32x64 .f32) (main_arg3 : FVec F S32x64 .f32) (main_arg4 : FVec F S2048x256 .f32) (main_arg5 : FVec F S256x64 .f32) (main_arg6 : FVec F S2048x256 .f32) (main_arg7 : FVec F S256x64 .f32) : IVec S8x4096x64 1 :=
  let main_v0 : FVec F S8x4096x64 .f32 := (extractStridedSlice S8x4096x64 ![0, 0, 256] · slices_S8x4096x2956_S8x4096x64_0_0_256) main_arg0
  let main_v1 : FVec F S8x4096x64 .f32 := Host.absf main_v0
  let main_cst : FVec F S_ .f32 := constant S_ .f32 0x7F800000#32
  let main_v2 : FVec F S8x4096x64 .f32 := broadcastInDim S8x4096x64 ![] bcast_S_S8x4096x64 main_cst
  let main_v3 : IVec S8x4096x64 1 := cmpf .olt main_v1 main_v2
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_v7 : IVec S1024x32x64 1 := broadcastInDim S1024x32x64 ![1, 2] bcast_S32x64_S1024x32x64_1_2 main_v6
  let main_v8 : IVec S8x4096x64 1 := shapeCast S8x4096x64 main_v7 shapeCasts_S1024x32x64_S8x4096x64
  let main_v9 : IVec S8x4096x64 1 := andi main_v3 main_v8
  let main_v10 : FVec F S2048x256 .f32 := Host.absf main_arg4
  let main_cst_1 : FVec F S_ .f32 := constant S_ .f32 0x7F800000#32
  let main_v11 : FVec F S2048x256 .f32 := broadcastInDim S2048x256 ![] bcast_S_S2048x256 main_cst_1
  let main_v12 : IVec S2048x256 1 := cmpf .olt main_v10 main_v11
  let main_v13 : IVec S8192x64 1 := shapeCast S8192x64 main_v12 shapeCasts_S2048x256_S8192x64
  let main_v14 : IVec S4x8192x64 1 := broadcastInDim S4x8192x64 ![1, 2] bcast_S8192x64_S4x8192x64_1_2 main_v13
  let main_v15 : IVec S8x4096x64 1 := shapeCast S8x4096x64 main_v14 shapeCasts_S4x8192x64_S8x4096x64
  let main_v16 : IVec S8x4096x64 1 := andi main_v9 main_v15
  let main_v17 : FVec F S256x64 .f32 := Host.absf main_arg5
  let main_cst_2 : FVec F S_ .f32 := constant S_ .f32 0x7F800000#32
  let main_v18 : FVec F S256x64 .f32 := broadcastInDim S256x64 ![] bcast_S_S256x64 main_cst_2
  let main_v19 : IVec S256x64 1 := cmpf .olt main_v17 main_v18
  fn_part1 (F := F) main_v16 main_v19
-- ==== Pre_finite_mixers.lean ====
abbrev S8x4096x1024 : Shape := ⟨3, ![8, 4096, 1024]⟩
abbrev S8x4096x2956 : Shape := ⟨3, ![8, 4096, 2956]⟩
abbrev S8x4x4096x64 : Shape := ⟨4, ![8, 4, 4096, 64]⟩
abbrev S3x256 : Shape := ⟨2, ![3, 256]⟩
abbrev S1024 : Shape := ⟨1, ![1024]⟩
abbrev S1024x1024 : Shape := ⟨2, ![1024, 1024]⟩
abbrev S8x4096x256 : Shape := ⟨3, ![8, 4096, 256]⟩
abbrev S_ : Shape := ⟨0, ![]⟩
abbrev S8x4096x4x64 : Shape := ⟨4, ![8, 4096, 4, 64]⟩
abbrev S1x256 : Shape := ⟨2, ![1, 256]⟩
abbrev S256 : Shape := ⟨1, ![256]⟩

class Facts : Prop where
  slices_S8x4096x2956_S8x4096x256_0_0_652 : S8x4096x2956.Slices ![0, 0, 652] S8x4096x256
  bcast_S_S8x4096x256 : S_.BroadcastsInDim S8x4096x256 (![] : Fin 0 → Fin S8x4096x256.rank)
  slices_S8x4096x2956_S8x4096x256_0_0_908 : S8x4096x2956.Slices ![0, 0, 908] S8x4096x256
  slices_S8x4096x2956_S8x4096x256_0_0_1164 : S8x4096x2956.Slices ![0, 0, 1164] S8x4096x256
  bcast_S_S8x4x4096x64 : S_.BroadcastsInDim S8x4x4096x64 (![] : Fin 0 → Fin S8x4x4096x64.rank)
  transposes_S8x4x4096x64_S8x4096x4x64_0_2_1_3 : S8x4x4096x64.Transposes [0, 2, 1, 3] S8x4096x4x64
  shapeCasts_S8x4096x4x64_S8x4096x256 : S8x4096x4x64.ShapeCasts S8x4096x256
  slices_S3x256_S1x256_0_0 : S3x256.Slices ![0, 0] S1x256
  shapeCasts_S1x256_S256 : S1x256.ShapeCasts S256
  bcast_S_S256 : S_.BroadcastsInDim S256 (![] : Fin 0 → Fin S256.rank)
  bcast_S256_S8x4096x256_2 : S256.BroadcastsInDim S8x4096x256 (![2] : Fin 1 → Fin S8x4096x256.rank)
  slices_S3x256_S1x256_1_0 : S3x256.Slices ![1, 0] S1x256
  slices_S3x256_S1x256_2_0 : S3x256.Slices ![2, 0] S1x256

variable [Facts]

def fn_part2 {F : FTy → Type} [FloatOps F] (main_arg5 : FVec F S3x256 .f32) (main_v38 : IVec S8x4096x256 1) (main_v40 : FVec F S256 .f32) : IVec S8x4096x256 1 :=
  let main_v41 : FVec F S256 .f32 := Host.absf main_v40
  let main_cst_6 : FVec F S_ .f32 := constant S_ .f32 0x7F800000#32
  let main_v42 : FVec F S256 .f32 := broadcastInDim S256 ![] bcast_S_S256 main_cst_6
  let main_v43 : IVec S256 1 := cmpf .olt main_v41 main_v42
  let main_v44 : IVec S8x4096x256 1 := broadcastInDim S8x4096x256 ![2] bcast_S256_S8x4096x256_2 main_v43
  let main_v45 : IVec S8x4096x256 1 := andi main_v38 main_v44
  let main_v46 : FVec F S1x256 .f32 := (extractStridedSlice S1x256 ![2, 0] · slices_S3x256_S1x256_2_0) main_arg5
  let main_v47 : FVec F S256 .f32 := shapeCast S256 main_v46 shapeCasts_S1x256_S256
  let main_v48 : FVec F S256 .f32 := Host.absf main_v47
  let main_cst_7 : FVec F S_ .f32 := constant S_ .f32 0x7F800000#32
  let main_v49 : FVec F S256 .f32 := broadcastInDim S256 ![] bcast_S_S256 main_cst_7
  let main_v50 : IVec S256 1 := cmpf .olt main_v48 main_v49
  let main_v51 : IVec S8x4096x256 1 := broadcastInDim S8x4096x256 ![2] bcast_S256_S8x4096x256_2 main_v50
  let main_v52 : IVec S8x4096x256 1 := andi main_v45 main_v51
  main_v52

def fn_part1 {F : FTy → Type} [FloatOps F] (main_arg3 : FVec F S8x4x4096x64 .f32) (main_arg4 : FVec F S8x4x4096x64 .f32) (main_arg5 : FVec F S3x256 .f32) (main_v19 : IVec S8x4096x256 1) : IVec S8x4096x256 1 :=
  let main_v20 : FVec F S8x4x4096x64 .f32 := Host.absf main_arg3
  let main_cst_3 : FVec F S_ .f32 := constant S_ .f32 0x7F800000#32
  let main_v21 : FVec F S8x4x4096x64 .f32 := broadcastInDim S8x4x4096x64 ![] bcast_S_S8x4x4096x64 main_cst_3
  let main_v22 : IVec S8x4x4096x64 1 := cmpf .olt main_v20 main_v21
  let main_v23 : IVec S8x4096x4x64 1 := (transpose S8x4096x4x64 [0, 2, 1, 3] · transposes_S8x4x4096x64_S8x4096x4x64_0_2_1_3) main_v22
  let main_v24 : IVec S8x4096x256 1 := shapeCast S8x4096x256 main_v23 shapeCasts_S8x4096x4x64_S8x4096x256
  let main_v25 : IVec S8x4096x256 1 := andi main_v19 main_v24
  let main_v26 : FVec F S8x4x4096x64 .f32 := Host.absf main_arg4
  let main_cst_4 : FVec F S_ .f32 := constant S_ .f32 0x7F800000#32
  let main_v27 : FVec F S8x4x4096x64 .f32 := broadcastInDim S8x4x4096x64 ![] bcast_S_S8x4x4096x64 main_cst_4
  let main_v28 : IVec S8x4x4096x64 1 := cmpf .olt main_v26 main_v27
  let main_v29 : IVec S8x4096x4x64 1 := (transpose S8x4096x4x64 [0, 2, 1, 3] · transposes_S8x4x4096x64_S8x4096x4x64_0_2_1_3) main_v28
  let main_v30 : IVec S8x4096x256 1 := shapeCast S8x4096x256 main_v29 shapeCasts_S8x4096x4x64_S8x4096x256
  let main_v31 : IVec S8x4096x256 1 := andi main_v25 main_v30
  let main_v32 : FVec F S1x256 .f32 := (extractStridedSlice S1x256 ![0, 0] · slices_S3x256_S1x256_0_0) main_arg5
  let main_v33 : FVec F S256 .f32 := shapeCast S256 main_v32 shapeCasts_S1x256_S256
  let main_v34 : FVec F S256 .f32 := Host.absf main_v33
  let main_cst_5 : FVec F S_ .f32 := constant S_ .f32 0x7F800000#32
  let main_v35 : FVec F S256 .f32 := broadcastInDim S256 ![] bcast_S_S256 main_cst_5
  let main_v36 : IVec S256 1 := cmpf .olt main_v34 main_v35
  let main_v37 : IVec S8x4096x256 1 := broadcastInDim S8x4096x256 ![2] bcast_S256_S8x4096x256_2 main_v36
  let main_v38 : IVec S8x4096x256 1 := andi main_v31 main_v37
  let main_v39 : FVec F S1x256 .f32 := (extractStridedSlice S1x256 ![1, 0] · slices_S3x256_S1x256_1_0) main_arg5
  let main_v40 : FVec F S256 .f32 := shapeCast S256 main_v39 shapeCasts_S1x256_S256
  fn_part2 (F := F) main_arg5 main_v38 main_v40

def fn {F : FTy → Type} [FloatOps F] (main_arg0 : FVec F S8x4096x1024 .f32) (main_arg1 : FVec F S8x4096x2956 .f32) (main_arg2 : FVec F S8x4x4096x64 .f32) (main_arg3 : FVec F S8x4x4096x64 .f32) (main_arg4 : FVec F S8x4x4096x64 .f32) (main_arg5 : FVec F S3x256 .f32) (main_arg6 : FVec F S1024 .f32) (main_arg7 : FVec F S1024x1024 .f32) : IVec S8x4096x256 1 :=
  let main_v0 : FVec F S8x4096x256 .f32 := (extractStridedSlice S8x4096x256 ![0, 0, 652] · slices_S8x4096x2956_S8x4096x256_0_0_652) main_arg1
  let main_v1 : FVec F S8x4096x256 .f32 := Host.absf main_v0
  let main_cst : FVec F S_ .f32 := constant S_ .f32 0x7F800000#32
  let main_v2 : FVec F S8x4096x256 .f32 := broadcastInDim S8x4096x256 ![] bcast_S_S8x4096x256 main_cst
  let main_v3 : IVec S8x4096x256 1 := cmpf .olt main_v1 main_v2
  let main_v4 : FVec F S8x4096x256 .f32 := (extractStridedSlice S8x4096x256 ![0, 0, 908] · slices_S8x4096x2956_S8x4096x256_0_0_908) main_arg1
  let main_v5 : FVec F S8x4096x256 .f32 := Host.absf main_v4
  let main_cst_0 : FVec F S_ .f32 := constant S_ .f32 0x7F800000#32
  let main_v6 : FVec F S8x4096x256 .f32 := broadcastInDim S8x4096x256 ![] bcast_S_S8x4096x256 main_cst_0
  let main_v7 : IVec S8x4096x256 1 := cmpf .olt main_v5 main_v6
  let main_v8 : FVec F S8x4096x256 .f32 := (extractStridedSlice S8x4096x256 ![0, 0, 1164] · slices_S8x4096x2956_S8x4096x256_0_0_1164) main_arg1
  let main_v9 : FVec F S8x4096x256 .f32 := Host.absf main_v8
  let main_cst_1 : FVec F S_ .f32 := constant S_ .f32 0x7F800000#32
  let main_v10 : FVec F S8x4096x256 .f32 := broadcastInDim S8x4096x256 ![] bcast_S_S8x4096x256 main_cst_1
  let main_v11 : IVec S8x4096x256 1 := cmpf .olt main_v9 main_v10
  let main_v12 : IVec S8x4096x256 1 := andi main_v3 main_v7
  let main_v13 : IVec S8x4096x256 1 := andi main_v12 main_v11
  let main_v14 : FVec F S8x4x4096x64 .f32 := Host.absf main_arg2
  let main_cst_2 : FVec F S_ .f32 := constant S_ .f32 0x7F800000#32
  let main_v15 : FVec F S8x4x4096x64 .f32 := broadcastInDim S8x4x4096x64 ![] bcast_S_S8x4x4096x64 main_cst_2
  let main_v16 : IVec S8x4x4096x64 1 := cmpf .olt main_v14 main_v15
  let main_v17 : IVec S8x4096x4x64 1 := (transpose S8x4096x4x64 [0, 2, 1, 3] · transposes_S8x4x4096x64_S8x4096x4x64_0_2_1_3) main_v16
  let main_v18 : IVec S8x4096x256 1 := shapeCast S8x4096x256 main_v17 shapeCasts_S8x4096x4x64_S8x4096x256
  let main_v19 : IVec S8x4096x256 1 := andi main_v13 main_v18
  fn_part1 (F := F) main_arg3 main_arg4 main_arg5 main_v19
-- ==== Pre_finite_queries_and_keys.lean ====
abbrev S8x4096x2956 : Shape := ⟨3, ![8, 4096, 2956]⟩
abbrev S8x4096x512 : Shape := ⟨3, ![8, 4096, 512]⟩
abbrev S_ : Shape := ⟨0, ![]⟩

class Facts : Prop where
  slices_S8x4096x2956_S8x4096x512_0_0_1420 : S8x4096x2956.Slices ![0, 0, 1420] S8x4096x512
  bcast_S_S8x4096x512 : S_.BroadcastsInDim S8x4096x512 (![] : Fin 0 → Fin S8x4096x512.rank)

variable [Facts]

def fn {F : FTy → Type} [FloatOps F] (main_arg0 : FVec F S8x4096x2956 .f32) : IVec S8x4096x512 1 :=
  let main_v0 : FVec F S8x4096x512 .f32 := (extractStridedSlice S8x4096x512 ![0, 0, 1420] · slices_S8x4096x2956_S8x4096x512_0_0_1420) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  main_v3
-- ==== Kernel.lean ====
abbrev S8x4096x2956 : Shape := ⟨3, ![8, 4096, 2956]⟩
abbrev S32768x2956 : Shape := ⟨2, ![32768, 2956]⟩
abbrev S32768x652 : Shape := ⟨2, ![32768, 652]⟩
abbrev S_ : Shape := ⟨0, ![]⟩
abbrev S32768x116 : Shape := ⟨2, ![32768, 116]⟩
abbrev S32768x2304 : Shape := ⟨2, ![32768, 2304]⟩
abbrev S32768x3072 : Shape := ⟨2, ![32768, 3072]⟩
abbrev S128x256x256 : Shape := ⟨3, ![128, 256, 256]⟩
abbrev S256x256 : Shape := ⟨2, ![256, 256]⟩
abbrev S4096x256 : Shape := ⟨2, ![4096, 256]⟩
abbrev S1x256x256 : Shape := ⟨3, ![1, 256, 256]⟩
abbrev S4096x512 : Shape := ⟨2, ![4096, 512]⟩
abbrev S16x256x256 : Shape := ⟨3, ![16, 256, 256]⟩
abbrev S2x256x128 : Shape := ⟨3, ![2, 256, 128]⟩
abbrev S4x256x256 : Shape := ⟨3, ![4, 256, 256]⟩
abbrev S4x64x256 : Shape := ⟨3, ![4, 64, 256]⟩
abbrev S256x128 : Shape := ⟨2, ![256, 128]⟩
abbrev S1x256x128 : Shape := ⟨3, ![1, 256, 128]⟩
abbrev S272x256 : Shape := ⟨2, ![272, 256]⟩
abbrev S1x256 : Shape := ⟨2, ![1, 256]⟩
abbrev S1x64x256 : Shape := ⟨3, ![1, 64, 256]⟩
abbrev S64x256 : Shape := ⟨2, ![64, 256]⟩

abbrev nBuf : Space → Nat
  | .hbm => 8
  | .vmem => 14
  | .smem => 0
  | _ => 0

abbrev bufTy : (tb : Table) → Fin (tcTables nBuf tb) → BufTy
  | .hbm, ⟨0, _⟩ => ⟨S8x4096x2956, .f32⟩
  | .hbm, ⟨1, _⟩ => ⟨S32768x2956, .f32⟩
  | .hbm, ⟨2, _⟩ => ⟨S32768x652, .f32⟩
  | .hbm, ⟨3, _⟩ => ⟨S_, .f32⟩
  | .hbm, ⟨4, _⟩ => ⟨S32768x116, .f32⟩
  | .hbm, ⟨5, _⟩ => ⟨S32768x2304, .f32⟩
  | .hbm, ⟨6, _⟩ => ⟨S32768x3072, .f32⟩
  | .hbm, ⟨7, _⟩ => ⟨S128x256x256, .f32⟩
  | .local _ .vmem, ⟨0, _⟩ => ⟨S256x256, .f32⟩
  | .local _ .vmem, ⟨1, _⟩ => ⟨S256x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1x256x256, .f32⟩
  | .local _ .vmem, ⟨7, _⟩ => ⟨S1x256x256, .f32⟩
  | .local _ .vmem, ⟨8, _⟩ => ⟨S4096x512, .bf16⟩
  | .local _ .vmem, ⟨9, _⟩ => ⟨S16x256x256, .bf16⟩
  | .local _ .vmem, ⟨10, _⟩ => ⟨S2x256x128, .bf16⟩
  | .local _ .vmem, ⟨11, _⟩ => ⟨S4x256x256, .bf16⟩
  | .local _ .vmem, ⟨12, _⟩ => ⟨S4x256x256, .f32⟩
  | .local _ .vmem, ⟨13, _⟩ => ⟨S4x64x256, .f32⟩
  | _, _ => ⟨S8x4096x2956, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c256_i32_13 : BitVec 32 := 256#32
  let v37 : BitVec 32 := Scalar.muli v32 c256_i32_13
  v37
def k0_off1 (i : grid0.Coords) : Fin 2 → Nat :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c256_i32_13 : BitVec 32 := 256#32
  let v37 : BitVec 32 := Scalar.muli v32 c256_i32_13
  let v38 : BitVec 32 := v37
  let v39 : Index := Scalar.indexCast v38
  let c0_14 : Index := 0#32
  ![v39.toNat, 0]
def k0_mult2 (i : grid0.Coords) : BitVec 32 :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c256_i32_31 : BitVec 32 := 256#32
  let v69 : BitVec 32 := Scalar.muli v32 c256_i32_31
  v69
def k0_off2 (i : grid0.Coords) : Fin 2 → Nat :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c256_i32_31 : BitVec 32 := 256#32
  let v69 : BitVec 32 := Scalar.muli v32 c256_i32_31
  let v70 : BitVec 32 := v69
  let v71 : Index := Scalar.indexCast v70
  let c128 : Index := 128#32
  ![v71.toNat, 128]
def k0_mult3 (i : grid0.Coords) : BitVec 32 :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c256_i32_48 : BitVec 32 := 256#32
  let v101 : BitVec 32 := Scalar.muli v32 c256_i32_48
  v101
def k0_off3 (i : grid0.Coords) : Fin 2 → Nat :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c256_i32_48 : BitVec 32 := 256#32
  let v101 : BitVec 32 := Scalar.muli v32 c256_i32_48
  let v102 : BitVec 32 := v101
  let v103 : Index := Scalar.indexCast v102
  let c256 : Index := 256#32
  ![v103.toNat, 256]
def k0_mult4 (i : grid0.Coords) : BitVec 32 :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c256_i32_64 : BitVec 32 := 256#32
  let v133 : BitVec 32 := Scalar.muli v32 c256_i32_64
  v133
def k0_off4 (i : grid0.Coords) : Fin 2 → Nat :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c256_i32_64 : BitVec 32 := 256#32
  let v133 : BitVec 32 := Scalar.muli v32 c256_i32_64
  let v134 : BitVec 32 := v133
  let v135 : Index := Scalar.indexCast v134
  let c384 : Index := 384#32
  ![v135.toNat, 384]
def k0_mult5 (i : grid0.Coords) : BitVec 32 :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c1_i32_88 : BitVec 32 := 1#32
  let v172 : BitVec 32 := Scalar.subi v32 c1_i32_88
  let c0_i32_89 : BitVec 32 := 0#32
  let v173 : BitVec 32 := Scalar.maxsi v172 c0_i32_89
  let c256_i32_90 : BitVec 32 := 256#32
  let v174 : BitVec 32 := Scalar.muli v173 c256_i32_90
  v174
def k0_off5 (i : grid0.Coords) : Fin 2 → Nat :=
  let arg1 : BitVec 32 := BitVec.ofNat 32 (i 1).val
  let c1_i32 : BitVec 32 := 1#32
  let v31 : BitVec 32 := Scalar.muli arg1 c1_i32
  let c0_i32_8 : BitVec 32 := 0#32
  let v32 : BitVec 32 := Scalar.addi v31 c0_i32_8
  let c1_i32_88 : BitVec 32 := 1#32
  let v172 : BitVec 32 := Scalar.subi v32 c1_i32_88
  let c0_i32_89 : BitVec 32 := 0#32
  let v173 : BitVec 32 := Scalar.maxsi v172 c0_i32_89
  let c256_i32_90 : BitVec 32 := 256#32
  let v174 : BitVec 32 := Scalar.muli v173 c256_i32_90
  let v175 : BitVec 32 := v174
  let v176 : Index := Scalar.indexCast v175
  let c0_91 : Index := 0#32
  ![v176.toNat, 0]
@[reducible] def k0_t1_loop (i : grid0.Coords) : Scf.Loop 32 :=
  let c0_i32_97 : BitVec 32 := 0#32
  let arg1 : BitVec 32 := BitVec.ofNat 32 (i 1).val
  let c1_i32_96 : BitVec 32 := 1#32
  let v181 : BitVec 32 := Scalar.muli arg1 c1_i32_96
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_99 : BitVec 32 := 1#32
  ⟨c0_i32_97, v186, c1_i32_99⟩
def k0_mult6 (i : grid0.Coords) (k0_t1 : Fin (k0_t1_loop i).trips) : BitVec 32 :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let c1_i32_173 : BitVec 32 := 1#32
  let v275 : BitVec 32 := Scalar.subi v271 c1_i32_173
  let c256_i32_174 : BitVec 32 := 256#32
  let v276 : BitVec 32 := Scalar.muli v275 c256_i32_174
  v276
def k0_off6 (i : grid0.Coords) (k0_t1 : Fin (k0_t1_loop i).trips) : Fin 2 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let c1_i32_173 : BitVec 32 := 1#32
  let v275 : BitVec 32 := Scalar.subi v271 c1_i32_173
  let c256_i32_174 : BitVec 32 := 256#32
  let v276 : BitVec 32 := Scalar.muli v275 c256_i32_174
  let v277 : BitVec 32 := v276
  let v278 : Index := Scalar.indexCast v277
  let c128_175 : Index := 128#32
  ![v278.toNat, 128]
def k0_off7 (i : grid0.Coords) (k0_t1 : Fin (k0_t1_loop i).trips) : Fin 3 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let v292 : Index := Scalar.indexCast v271
  let c0_186 : Index := 0#32
  let c0_187 : Index := 0#32
  ![v292.toNat, 0, 0]
def k0_mult7 (i : grid0.Coords) (k0_t1 : Fin (k0_t1_loop i).trips) : BitVec 32 :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let c1_i32_205 : BitVec 32 := 1#32
  let v324 : BitVec 32 := Scalar.subi v271 c1_i32_205
  let c256_i32_206 : BitVec 32 := 256#32
  let v325 : BitVec 32 := Scalar.muli v324 c256_i32_206
  v325
def k0_off8 (i : grid0.Coords) (k0_t1 : Fin (k0_t1_loop i).trips) : Fin 2 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let c1_i32_205 : BitVec 32 := 1#32
  let v324 : BitVec 32 := Scalar.subi v271 c1_i32_205
  let c256_i32_206 : BitVec 32 := 256#32
  let v325 : BitVec 32 := Scalar.muli v324 c256_i32_206
  let v326 : BitVec 32 := v325
  let v327 : Index := Scalar.indexCast v326
  let c256_207 : Index := 256#32
  ![v327.toNat, 256]
def k0_off9 (i : grid0.Coords) (k0_t1 : Fin (k0_t1_loop i).trips) : Fin 3 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let v341 : Index := Scalar.indexCast v271
  let c64_218 : Index := 64#32
  let c0_219 : Index := 0#32
  ![v341.toNat, 64, 0]
def k0_mult8 (i : grid0.Coords) (k0_t1 : Fin (k0_t1_loop i).trips) : BitVec 32 :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let c1_i32_237 : BitVec 32 := 1#32
  let v373 : BitVec 32 := Scalar.subi v271 c1_i32_237
  let c256_i32_238 : BitVec 32 := 256#32
  let v374 : BitVec 32 := Scalar.muli v373 c256_i32_238
  v374
def k0_off10 (i : grid0.Coords) (k0_t1 : Fin (k0_t1_loop i).trips) : Fin 2 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let c1_i32_237 : BitVec 32 := 1#32
  let v373 : BitVec 32 := Scalar.subi v271 c1_i32_237
  let c256_i32_238 : BitVec 32 := 256#32
  let v374 : BitVec 32 := Scalar.muli v373 c256_i32_238
  let v375 : BitVec 32 := v374
  let v376 : Index := Scalar.indexCast v375
  let c384_239 : Index := 384#32
  ![v376.toNat, 384]
def k0_off11 (i : grid0.Coords) (k0_t1 : Fin (k0_t1_loop i).trips) : Fin 3 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let v390 : Index := Scalar.indexCast v271
  let c128_250 : Index := 128#32
  let c0_251 : Index := 0#32
  ![v390.toNat, 128, 0]
def k0_mult9 (i : grid0.Coords) (k0_t1 : Fin (k0_t1_loop i).trips) : BitVec 32 :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let c2_i32 : BitVec 32 := 2#32
  let v422 : BitVec 32 := Scalar.subi v271 c2_i32
  let c0_i32_269 : BitVec 32 := 0#32
  let v423 : BitVec 32 := Scalar.maxsi v422 c0_i32_269
  let c256_i32_270 : BitVec 32 := 256#32
  let v424 : BitVec 32 := Scalar.muli v423 c256_i32_270
  v424
def k0_off12 (i : grid0.Coords) (k0_t1 : Fin (k0_t1_loop i).trips) : Fin 2 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let c2_i32 : BitVec 32 := 2#32
  let v422 : BitVec 32 := Scalar.subi v271 c2_i32
  let c0_i32_269 : BitVec 32 := 0#32
  let v423 : BitVec 32 := Scalar.maxsi v422 c0_i32_269
  let c256_i32_270 : BitVec 32 := 256#32
  let v424 : BitVec 32 := Scalar.muli v423 c256_i32_270
  let v425 : BitVec 32 := v424
  let v426 : Index := Scalar.indexCast v425
  let c0_271 : Index := 0#32
  ![v426.toNat, 0]
def k0_off13 (i : grid0.Coords) (k0_t1 : Fin (k0_t1_loop i).trips) : Fin 3 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let c1_i32_99 : BitVec 32 := 1#32
  let arg12 : BitVec 32 := Scf.iv c0_i32_97 c1_i32_99 k0_t1
  let v271 : BitVec 32 := Scalar.subi v181 arg12
  let v440 : Index := Scalar.indexCast v271
  let c192_282 : Index := 192#32
  let c0_283 : Index := 0#32
  ![v440.toNat, 192, 0]
@[reducible] def k0_t2_loop (i : grid0.Coords) : Scf.Loop 32 :=
  let c0_i32_97 : BitVec 32 := 0#32
  let arg1 : BitVec 32 := BitVec.ofNat 32 (i 1).val
  let c1_i32_96 : BitVec 32 := 1#32
  let v181 : BitVec 32 := Scalar.muli arg1 c1_i32_96
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let v183 : BitVec 32 := Scalar.addi c0_i32_97 v182
  let c1_i32_100 : BitVec 32 := 1#32
  ⟨v186, v183, c1_i32_100⟩
def k0_mult10 (i : grid0.Coords) (k0_t2 : Fin (k0_t2_loop i).trips) : BitVec 32 :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let c1_i32_173 : BitVec 32 := 1#32
  let v275 : BitVec 32 := Scalar.subi v271 c1_i32_173
  let c256_i32_174 : BitVec 32 := 256#32
  let v276 : BitVec 32 := Scalar.muli v275 c256_i32_174
  v276
def k0_off14 (i : grid0.Coords) (k0_t2 : Fin (k0_t2_loop i).trips) : Fin 2 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let c1_i32_173 : BitVec 32 := 1#32
  let v275 : BitVec 32 := Scalar.subi v271 c1_i32_173
  let c256_i32_174 : BitVec 32 := 256#32
  let v276 : BitVec 32 := Scalar.muli v275 c256_i32_174
  let v277 : BitVec 32 := v276
  let v278 : Index := Scalar.indexCast v277
  let c128_175 : Index := 128#32
  ![v278.toNat, 128]
def k0_off15 (i : grid0.Coords) (k0_t2 : Fin (k0_t2_loop i).trips) : Fin 3 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let v292 : Index := Scalar.indexCast v271
  let c0_186 : Index := 0#32
  let c0_187 : Index := 0#32
  ![v292.toNat, 0, 0]
def k0_mult11 (i : grid0.Coords) (k0_t2 : Fin (k0_t2_loop i).trips) : BitVec 32 :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let c1_i32_205 : BitVec 32 := 1#32
  let v324 : BitVec 32 := Scalar.subi v271 c1_i32_205
  let c256_i32_206 : BitVec 32 := 256#32
  let v325 : BitVec 32 := Scalar.muli v324 c256_i32_206
  v325
def k0_off16 (i : grid0.Coords) (k0_t2 : Fin (k0_t2_loop i).trips) : Fin 2 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let c1_i32_205 : BitVec 32 := 1#32
  let v324 : BitVec 32 := Scalar.subi v271 c1_i32_205
  let c256_i32_206 : BitVec 32 := 256#32
  let v325 : BitVec 32 := Scalar.muli v324 c256_i32_206
  let v326 : BitVec 32 := v325
  let v327 : Index := Scalar.indexCast v326
  let c256_207 : Index := 256#32
  ![v327.toNat, 256]
def k0_off17 (i : grid0.Coords) (k0_t2 : Fin (k0_t2_loop i).trips) : Fin 3 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let v341 : Index := Scalar.indexCast v271
  let c64_218 : Index := 64#32
  let c0_219 : Index := 0#32
  ![v341.toNat, 64, 0]
def k0_mult12 (i : grid0.Coords) (k0_t2 : Fin (k0_t2_loop i).trips) : BitVec 32 :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let c1_i32_237 : BitVec 32 := 1#32
  let v373 : BitVec 32 := Scalar.subi v271 c1_i32_237
  let c256_i32_238 : BitVec 32 := 256#32
  let v374 : BitVec 32 := Scalar.muli v373 c256_i32_238
  v374
def k0_off18 (i : grid0.Coords) (k0_t2 : Fin (k0_t2_loop i).trips) : Fin 2 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let c1_i32_237 : BitVec 32 := 1#32
  let v373 : BitVec 32 := Scalar.subi v271 c1_i32_237
  let c256_i32_238 : BitVec 32 := 256#32
  let v374 : BitVec 32 := Scalar.muli v373 c256_i32_238
  let v375 : BitVec 32 := v374
  let v376 : Index := Scalar.indexCast v375
  let c384_239 : Index := 384#32
  ![v376.toNat, 384]
def k0_off19 (i : grid0.Coords) (k0_t2 : Fin (k0_t2_loop i).trips) : Fin 3 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let v390 : Index := Scalar.indexCast v271
  let c128_250 : Index := 128#32
  let c0_251 : Index := 0#32
  ![v390.toNat, 128, 0]
def k0_mult13 (i : grid0.Coords) (k0_t2 : Fin (k0_t2_loop i).trips) : BitVec 32 :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let c2_i32 : BitVec 32 := 2#32
  let v422 : BitVec 32 := Scalar.subi v271 c2_i32
  let c0_i32_269 : BitVec 32 := 0#32
  let v423 : BitVec 32 := Scalar.maxsi v422 c0_i32_269
  let c256_i32_270 : BitVec 32 := 256#32
  let v424 : BitVec 32 := Scalar.muli v423 c256_i32_270
  v424
def k0_off20 (i : grid0.Coords) (k0_t2 : Fin (k0_t2_loop i).trips) : Fin 2 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let c2_i32 : BitVec 32 := 2#32
  let v422 : BitVec 32 := Scalar.subi v271 c2_i32
  let c0_i32_269 : BitVec 32 := 0#32
  let v423 : BitVec 32 := Scalar.maxsi v422 c0_i32_269
  let c256_i32_270 : BitVec 32 := 256#32
  let v424 : BitVec 32 := Scalar.muli v423 c256_i32_270
  let v425 : BitVec 32 := v424
  let v426 : Index := Scalar.indexCast v425
  let c0_271 : Index := 0#32
  ![v426.toNat, 0]
def k0_off21 (i : grid0.Coords) (k0_t2 : Fin (k0_t2_loop i).trips) : Fin 3 → Nat :=
  let arg1 : BitVec 32 := BitVec.ofNat 32 (i 1).val
  let c1_i32_96 : BitVec 32 := 1#32
  let v181 : BitVec 32 := Scalar.muli arg1 c1_i32_96
  let c0_i32_97 : BitVec 32 := 0#32
  let v182 : BitVec 32 := Scalar.subi v181 c0_i32_97
  let c1_i32_98 : BitVec 32 := 1#32
  let v184 : BitVec 32 := Scalar.divsi v182 c1_i32_98
  let v185 : BitVec 32 := Scalar.muli v184 c1_i32_98
  let v186 : BitVec 32 := Scalar.addi c0_i32_97 v185
  let c1_i32_100 : BitVec 32 := 1#32
  let arg12 : BitVec 32 := Scf.iv v186 c1_i32_100 k0_t2
  let v271 : BitVec 32 := Scalar.subi v181 arg12
  let v440 : Index := Scalar.indexCast v271
  let c192_282 : Index := 192#32
  let c0_283 : Index := 0#32
  ![v440.toNat, 192, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "masked" => some ⊥
  | "neg_log2_e" => some ((-((Real.log 2)⁻¹) : ℝ) : EReal)
  | _ => none
-- ==== ReferenceIdeal.lean ====
abbrev S8x4096x2956 : Shape := ⟨3, ![8, 4096, 2956]⟩
abbrev S8x4096x256 : Shape := ⟨3, ![8, 4096, 256]⟩
abbrev S8x4096x4x64 : Shape := ⟨4, ![8, 4096, 4, 64]⟩
abbrev S8x4x4096x64 : Shape := ⟨4, ![8, 4, 4096, 64]⟩
abbrev S4096 : Shape := ⟨1, ![4096]⟩
abbrev S8x4x4096x4096 : Shape := ⟨4, ![8, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4x16x256x64 : Shape := ⟨5, ![8, 4, 16, 256, 64]⟩
abbrev S8x16x4x64x256 : Shape := ⟨5, ![8, 16, 4, 64, 256]⟩
abbrev S128x256x256 : Shape := ⟨3, ![128, 256, 256]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x2956, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x4x64, .f32⟩
  | .hbm, ⟨5, _⟩ => ⟨S8x4x4096x64, .f32⟩
  | .hbm, ⟨6, _⟩ => ⟨S8x4096x4x64, .f32⟩
  | .hbm, ⟨7, _⟩ => ⟨S8x4x4096x64, .f32⟩
  | .hbm, ⟨8, _⟩ => ⟨S8x4096x4x64, .f32⟩
  | .hbm, ⟨9, _⟩ => ⟨S8x4x4096x64, .f32⟩
  | .hbm, ⟨10, _⟩ => ⟨S4096, .i32⟩
  | .hbm, ⟨11, _⟩ => ⟨S8x4x4096x4096, .f32⟩
  | .hbm, ⟨12, _⟩ => ⟨S_, .f32⟩
  | .hbm, ⟨13, _⟩ => ⟨S8x4x4096x4096, .f32⟩
  | .hbm, ⟨14, _⟩ => ⟨S8x4x4096x4096, .f32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S8x4x4096x4096, .f32⟩
  | .hbm, ⟨22, _⟩ => ⟨S8x4x4096x4096, .f32⟩
  | .hbm, ⟨23, _⟩ => ⟨S8x4x4096x4096, .f32⟩
  | .hbm, ⟨24, _⟩ => ⟨S8x4x4096x4096, .f32⟩
  | .hbm, ⟨25, _⟩ => ⟨S8x4x4096x4096, .i1⟩
  | .hbm, ⟨26, _⟩ => ⟨S8x4x4096x4096, .f32⟩
  | .hbm, ⟨27, _⟩ => ⟨S8x4x4096x4096, .f32⟩
  | .hbm, ⟨28, _⟩ => ⟨S8x4x4096x4096, .f32⟩
  | .hbm, ⟨29, _⟩ => ⟨S8x4x4096x4096, .f32⟩
  | .hbm, ⟨30, _⟩ => ⟨S8x4x4096x4096, .f32⟩
  | .hbm, ⟨31, _⟩ => ⟨S8x4x4096x4096, .f32⟩
  | .hbm, ⟨32, _⟩ => ⟨S8x4x4096x4096, .f32⟩
  | .hbm, ⟨33, _⟩ => ⟨S8x4x4096x4096, .f32⟩
  | .hbm, ⟨34, _⟩ => ⟨S_, .f32⟩
  | .hbm, ⟨35, _⟩ => ⟨S_, .f32⟩
  | .hbm, ⟨36, _⟩ => ⟨S8x4x4096x4096, .i1⟩
  | .hbm, ⟨37, _⟩ => ⟨S8x4x4096x4096, .f32⟩
  | .hbm, ⟨38, _⟩ => ⟨S8x4x4096x4096, .f32⟩
  | .hbm, ⟨39, _⟩ => ⟨S_, .f32⟩
  | .hbm, ⟨40, _⟩ => ⟨S_, .f32⟩
  | .hbm, ⟨41, _⟩ => ⟨S8x4x4096x4096, .f32⟩
  | .hbm, ⟨42, _⟩ => ⟨S8x4x4096x4096, .f32⟩
  | .hbm, ⟨43, _⟩ => ⟨S8x4x4096x4096, .f32⟩
  | .hbm, ⟨44, _⟩ => ⟨S_, .f32⟩
  | .hbm, ⟨45, _⟩ => ⟨S8x4x4096x4096, .f32⟩
  | .hbm, ⟨46, _⟩ => ⟨S8x4x4096x4096, .f32⟩
  | .hbm, ⟨47, _⟩ => ⟨S8x4x4096x4096, .f32⟩
  | .hbm, ⟨48, _⟩ => ⟨S8x4x4096x4096, .f32⟩
  | .hbm, ⟨49, _⟩ => ⟨S8x4x4096x4096, .i1⟩
  | .hbm, ⟨50, _⟩ => ⟨S8x4x4096x4096, .f32⟩
  | .hbm, ⟨51, _⟩ => ⟨S8x4x4096x4096, .f32⟩
  | .hbm, ⟨52, _⟩ => ⟨S8x4x4096x4096, .f32⟩
  | .hbm, ⟨53, _⟩ => ⟨S8x4x4096x4096, .f32⟩
  | .hbm, ⟨54, _⟩ => ⟨S8x4x4096x4096, .f32⟩
  | .hbm, ⟨55, _⟩ => ⟨S8x4x4096x4096, .f32⟩
  | .hbm, ⟨56, _⟩ => ⟨S8x4x4096x4096, .f32⟩
  | .hbm, ⟨57, _⟩ => ⟨S8x4x4096x4096, .f32⟩
  | .hbm, ⟨58, _⟩ => ⟨S8x4x4096x4096, .f32⟩
  | .hbm, ⟨59, _⟩ => ⟨S8x4x4096x4096, .f32⟩
  | .hbm, ⟨60, _⟩ => ⟨S8x4x4096x4096, .f32⟩
  | .hbm, ⟨61, _⟩ => ⟨S_, .f32⟩
  | .hbm, ⟨62, _⟩ => ⟨S_, .f32⟩
  | .hbm, ⟨63, _⟩ => ⟨S8x4x4096x4096, .i1⟩
  | .hbm, ⟨64, _⟩ => ⟨S8x4x4096x4096, .f32⟩
  | .hbm, ⟨65, _⟩ => ⟨S8x4x4096x4096, .f32⟩
  | .hbm, ⟨66, _⟩ => ⟨S8x4x4096x64, .f32⟩
  | .hbm, ⟨67, _⟩ => ⟨S8x4x16x256x64, .f32⟩
  | .hbm, ⟨68, _⟩ => ⟨S8x16x4x64x256, .f32⟩
  | .hbm, ⟨69, _⟩ => ⟨S128x256x256, .f32⟩
  | _, _ => ⟨S8x4096x2956, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v18 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_call2_cst : Ref sig .tc := ⟨.hbm, 39, rfl⟩
abbrev main_call2_v0 : Ref sig .tc := ⟨.hbm, 40, rfl⟩
abbrev main_v20 : Ref sig .tc := ⟨.hbm, 41, rfl⟩
abbrev main_v21 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S2816x256 : Shape := ⟨2, ![2816, 256]⟩

abbrev nBuf : Space → Nat
  | .hbm => 11
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S_, .f32⟩
  | .hbm, ⟨25, _⟩ => ⟨S8x4096x2816, .f32⟩
  | .hbm, ⟨26, _⟩ => ⟨S8x4096x2816, .f32⟩
  | .hbm, ⟨27, _⟩ => ⟨S_, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2956 : Shape := ⟨2, ![1024, 2956]⟩
abbrev S1024x652 : Shape := ⟨2, ![1024, 652]⟩
abbrev S_ : Shape := ⟨0, ![]⟩
abbrev S1024x116 : Shape := ⟨2, ![1024, 116]⟩
abbrev S1024x2304 : Shape := ⟨2, ![1024, 2304]⟩
abbrev S1024x3072 : Shape := ⟨2, ![1024, 3072]⟩
abbrev S32768x1024 : Shape := ⟨2, ![32768, 1024]⟩
abbrev S1x1024 : Shape := ⟨2, ![1, 1024]⟩
abbrev S32768x3072 : Shape := ⟨2, ![32768, 3072]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 12
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2956, .f32⟩
  | .hbm, ⟨3, _⟩ => ⟨S1024x652, .f32⟩
  | .hbm, ⟨4, _⟩ => ⟨S_, .f32⟩
  | .hbm, ⟨5, _⟩ => ⟨S1024x116, .f32⟩
  | .hbm, ⟨6, _⟩ => ⟨S1024x2304, .f32⟩
  | .hbm, ⟨7, _⟩ => ⟨S1024x3072, .f32⟩
  | .hbm, ⟨8, _⟩ => ⟨S32768x1024, .f32⟩
  | .hbm, ⟨9, _⟩ => ⟨S1x1024, .f32⟩
  | .hbm, ⟨10, _⟩ => ⟨S1024x3072, .bf16⟩
  | .hbm, ⟨11, _⟩ => ⟨S32768x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .f32⟩
  | .local _ .vmem, ⟨5, _⟩ => ⟨S1024x3072, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x4096x1024 : Shape := ⟨3, ![8, 4096, 1024]⟩
abbrev S1024 : Shape := ⟨1, ![1024]⟩
abbrev S1024x2956 : Shape := ⟨2, ![1024, 2956]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2956 : Shape := ⟨3, ![8, 4096, 2956]⟩
abbrev S8x4096x652 : Shape := ⟨3, ![8, 4096, 652]⟩
abbrev S8x4096x116 : Shape := ⟨3, ![8, 4096, 116]⟩
abbrev S8x4096x2304 : Shape := ⟨3, ![8, 4096, 2304]⟩
abbrev S8x4096x3072 : Shape := ⟨3, ![8, 4096, 3072]⟩
abbrev S32768x3072 : Shape := ⟨2, ![32768, 3072]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2956, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x2956, .f32⟩
  | .hbm, ⟨20, _⟩ => ⟨S8x4096x652, .f32⟩
  | .hbm, ⟨21, _⟩ => ⟨S_, .f32⟩
  | .hbm, ⟨22, _⟩ => ⟨S8x4096x116, .f32⟩
  | .hbm, ⟨23, _⟩ => ⟨S8x4096x2304, .f32⟩
  | .hbm, ⟨24, _⟩ => ⟨S8x4096x3072, .f32⟩
  | .hbm, ⟨25, _⟩ => ⟨S32768x3072, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S1024x2956 : Shape := ⟨2, ![1024, 2956]⟩
abbrev S1024x3072 : Shape := ⟨2, ![1024, 3072]⟩
abbrev S256x2956 : Shape := ⟨2, ![256, 2956]⟩
abbrev S256x3072 : Shape := ⟨2, ![256, 3072]⟩
abbrev S256x640 : Shape := ⟨2, ![256, 640]⟩
abbrev S256x128 : Shape := ⟨2, ![256, 128]⟩
abbrev S256x2304 : Shape := ⟨2, ![256, 2304]⟩

abbrev nBuf : Space → Nat
  | .hbm => 2
  | .vmem => 4
  | .smem => 0
  | _ => 0

abbrev bufTy : (tb : Table) → Fin (tcTables nBuf tb) → BufTy
  | .hbm, ⟨0, _⟩ => ⟨S1024x2956, .f32⟩
  | .hbm, ⟨1, _⟩ => ⟨S1024x3072, .bf16⟩
  | .local _ .vmem, ⟨0, _⟩ => ⟨S256x2956, .f32⟩
  | .local _ .vmem, ⟨1, _⟩ => ⟨S256x2956, .f32⟩
  | .local _ .vmem, ⟨2, _⟩ => ⟨S256x3072, .bf16⟩
  | .local _ .vmem, ⟨3, _⟩ => ⟨S256x3072, .bf16⟩
  | _, _ => ⟨S1024x2956, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2956 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S1024x2956 : Shape := ⟨2, ![1024, 2956]⟩
abbrev S1024x652 : Shape := ⟨2, ![1024, 652]⟩
abbrev S_ : Shape := ⟨0, ![]⟩
abbrev S1024x116 : Shape := ⟨2, ![1024, 116]⟩
abbrev S1024x2304 : Shape := ⟨2, ![1024, 2304]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S1024x2956, .f32⟩
  | .hbm, ⟨1, _⟩ => ⟨S1024x652, .f32⟩
  | .hbm, ⟨2, _⟩ => ⟨S_, .f32⟩
  | .hbm, ⟨3, _⟩ => ⟨S1024x116, .f32⟩
  | .hbm, ⟨4, _⟩ => ⟨S1024x2304, .f32⟩
  | .hbm, ⟨5, _⟩ => ⟨S1024x3072, .f32⟩
  | .hbm, ⟨6, _⟩ => ⟨S1024x3072, .bf16⟩
  | _, _ => ⟨S1024x2956, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x2956 : Shape := ⟨3, ![8, 4096, 2956]⟩
abbrev S8x4x4096x64 : Shape := ⟨4, ![8, 4, 4096, 64]⟩
abbrev S3x256 : Shape := ⟨2, ![3, 256]⟩
abbrev S1024 : Shape := ⟨1, ![1024]⟩
abbrev S1024x1024 : Shape := ⟨2, ![1024, 1024]⟩
abbrev S32768x2956 : Shape := ⟨2, ![32768, 2956]⟩
abbrev S32768x652 : Shape := ⟨2, ![32768, 652]⟩
abbrev S_ : Shape := ⟨0, ![]⟩
abbrev S32768x116 : Shape := ⟨2, ![32768, 116]⟩
abbrev S32768x2304 : Shape := ⟨2, ![32768, 2304]⟩
abbrev S32768x3072 : Shape := ⟨2, ![32768, 3072]⟩
abbrev S8x4x8x512x64 : Shape := ⟨5, ![8, 4, 8, 512, 64]⟩
abbrev S8x8x4x64x512 : Shape := ⟨5, ![8, 8, 4, 64, 512]⟩
abbrev S64x256x512 : Shape := ⟨3, ![64, 256, 512]⟩
abbrev S8x4x16x256x64 : Shape := ⟨5, ![8, 4, 16, 256, 64]⟩
abbrev S8x16x4x64x256 : Shape := ⟨5, ![8, 16, 4, 64, 256]⟩
abbrev S128x256x256 : Shape := ⟨3, ![128, 256, 256]⟩
abbrev S8x4x8x32x16x64 : Shape := ⟨6, ![8, 4, 8, 32, 16, 64]⟩
abbrev S8x8x4x64x16x32 : Shape := ⟨6, ![8, 8, 4, 64, 16, 32]⟩
abbrev S8x256 : Shape := ⟨2, ![8, 256]⟩
abbrev S1 : Shape := ⟨1, ![1]⟩
abbrev S32768x1024 : Shape := ⟨2, ![32768, 1024]⟩
abbrev S1x1024 : Shape := ⟨2, ![1, 1024]⟩
abbrev S512x1024 : Shape := ⟨2, ![512, 1024]⟩
abbrev S1x256x512 : Shape := ⟨3, ![1, 256, 512]⟩
abbrev S512x256 : Shape := ⟨2, ![512, 256]⟩
abbrev S2x256x256 : Shape := ⟨3, ![2, 256, 256]⟩
abbrev S1x2x512x128 : Shape := ⟨4, ![1, 2, 512, 128]⟩
abbrev S256x512 : Shape := ⟨2, ![256, 512]⟩
abbrev S512x128 : Shape := ⟨2, ![512, 128]⟩
abbrev S1x1x512x128 : Shape := ⟨4, ![1, 1, 512, 128]⟩
abbrev S520x256 : Shape := ⟨2, ![520, 256]⟩
abbrev S1x256 : Shape := ⟨2, ![1, 256]⟩
abbrev S1024x128 : Shape := ⟨2, ![1024, 128]⟩
abbrev S128x1024 : Shape := ⟨2, ![128, 1024]⟩
abbrev S1x256x256 : Shape := ⟨3, ![1, 256, 256]⟩
abbrev S256x256 : Shape := ⟨2, ![256, 256]⟩
abbrev S1x1x16x128 : Shape := ⟨4, ![1, 1, 16, 128]⟩
abbrev S16x128 : Shape := ⟨2, ![16, 128]⟩
abbrev S256x128 : Shape := ⟨2, ![256, 128]⟩
abbrev S256x1024 : Shape := ⟨2, ![256, 1024]⟩

abbrev nBuf : Space → Nat
  | .hbm => 32
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2956, .f32⟩
  | .hbm, ⟨2, _⟩ => ⟨S8x4x4096x64, .f32⟩
  | .hbm, ⟨3, _⟩ => ⟨S8x4x4096x64, .f32⟩
  | .hbm, ⟨4, _⟩ => ⟨S8x4x4096x64, .f32⟩
  | .hbm, ⟨5, _⟩ => ⟨S3x256, .f32⟩
  | .hbm, ⟨6, _⟩ => ⟨S1024, .f32⟩
  | .hbm, ⟨7, _⟩ => ⟨S1024x1024, .f32⟩
  | .hbm, ⟨8, _⟩ => ⟨S32768x2956, .f32⟩
  | .hbm, ⟨9, _⟩ => ⟨S32768x652, .f32⟩
  | .hbm, ⟨10, _⟩ => ⟨S_, .f32⟩
  | .hbm, ⟨11, _⟩ => ⟨S32768x116, .f32⟩
  | .hbm, ⟨12, _⟩ => ⟨S32768x2304, .f32⟩
  | .hbm, ⟨13, _⟩ => ⟨S32768x3072, .f32⟩
  | .hbm, ⟨14, _⟩ => ⟨S8x4x8x512x64, .f32⟩
  | .hbm, ⟨15, _⟩ => ⟨S8x8x4x64x512, .f32⟩
  | .hbm, ⟨16, _⟩ => ⟨S64x256x512, .f32⟩
  | .hbm, ⟨17, _⟩ => ⟨S8x4x16x256x64, .f32⟩
  | .hbm, ⟨18, _⟩ => ⟨S8x16x4x64x256, .f32⟩
  | .hbm, ⟨19, _⟩ => ⟨S128x256x256, .f32⟩
  | .hbm, ⟨20, _⟩ => ⟨S8x4x8x32x16x64, .f32⟩
  | .hbm, ⟨21, _⟩ => ⟨S8x8x4x64x16x32, .f32⟩
  | .hbm, ⟨22, _⟩ => ⟨S64x256x512, .f32⟩
  | .hbm, ⟨23, _⟩ => ⟨S_, .f32⟩
  | .hbm, ⟨24, _⟩ => ⟨S8x256, .f32⟩
  | .hbm, ⟨25, _⟩ => ⟨S_, .i32⟩
  | .hbm, ⟨26, _⟩ => ⟨S1, .i32⟩
  | .hbm, ⟨27, _⟩ => ⟨S8x256, .f32⟩
  | .hbm, ⟨28, _⟩ => ⟨S32768x1024, .f32⟩
  | .hbm, ⟨29, _⟩ => ⟨S1x1024, .f32⟩
  | .hbm, ⟨30, _⟩ => ⟨S1024x1024, .bf16⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x256x512, .f32⟩
  | .local _ .vmem, ⟨3, _⟩ => ⟨S1x256x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S2x256x256, .f32⟩
  | .local _ .vmem, ⟨15, _⟩ => ⟨S2x256x256, .f32⟩
  | .local _ .vmem, ⟨16, _⟩ => ⟨S1x256x512, .f32⟩
  | .local _ .vmem, ⟨17, _⟩ => ⟨S1x256x512, .f32⟩
  | .local _ .vmem, ⟨18, _⟩ => ⟨S8x256, .f32⟩
  | .local _ .vmem, ⟨19, _⟩ => ⟨S1x1024, .f32⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S1x2x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S8x4096x1024 : Shape := ⟨3, ![8, 4096, 1024]⟩
abbrev S8x4096x2956 : Shape := ⟨3, ![8, 4096, 2956]⟩
abbrev S8x4x4096x64 : Shape := ⟨4, ![8, 4, 4096, 64]⟩
abbrev S3x256 : Shape := ⟨2, ![3, 256]⟩
abbrev S1024 : Shape := ⟨1, ![1024]⟩
abbrev S1024x1024 : Shape := ⟨2, ![1024, 1024]⟩
abbrev S8x4096x256 : Shape := ⟨3, ![8, 4096, 256]⟩
abbrev S_ : Shape := ⟨0, ![]⟩
abbrev S8x1x256 : Shape := ⟨3, ![8, 1, 256]⟩
abbrev S8x4095x256 : Shape := ⟨3, ![8, 4095, 256]⟩
abbrev S8x2x256 : Shape := ⟨3, ![8, 2, 256]⟩
abbrev S8x4094x256 : Shape := ⟨3, ![8, 4094, 256]⟩
abbrev S1x256 : Shape := ⟨2, ![1, 256]⟩
abbrev S256 : Shape := ⟨1, ![256]⟩
abbrev S1x1x256 : Shape := ⟨3, ![1, 1, 256]⟩
abbrev S8x4096x4x64 : Shape := ⟨4, ![8, 4096, 4, 64]⟩
abbrev S8x4096x16x64 : Shape := ⟨4, ![8, 4096, 16, 64]⟩
abbrev S16x64 : Shape := ⟨2, ![16, 64]⟩
abbrev S8x4096x16 : Shape := ⟨3, ![8, 4096, 16]⟩
abbrev S8x4096x16x1 : Shape := ⟨4, ![8, 4096, 16, 1]⟩
abbrev S1x1x16x64 : Shape := ⟨4, ![1, 1, 16, 64]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2956, .f32⟩
  | .hbm, ⟨2, _⟩ => ⟨S8x4x4096x64, .f32⟩
  | .hbm, ⟨3, _⟩ => ⟨S8x4x4096x64, .f32⟩
  | .hbm, ⟨4, _⟩ => ⟨S8x4x4096x64, .f32⟩
  | .hbm, ⟨5, _⟩ => ⟨S3x256, .f32⟩
  | .hbm, ⟨6, _⟩ => ⟨S1024, .f32⟩
  | .hbm, ⟨7, _⟩ => ⟨S1024x1024, .f32⟩
  | .hbm, ⟨8, _⟩ => ⟨S8x4096x256, .f32⟩
  | .hbm, ⟨9, _⟩ => ⟨S8x4096x256, .f32⟩
  | .hbm, ⟨10, _⟩ => ⟨S8x4096x256, .f32⟩
  | .hbm, ⟨11, _⟩ => ⟨S8x4096x256, .f32⟩
  | .hbm, ⟨12, _⟩ => ⟨S_, .f32⟩
  | .hbm, ⟨13, _⟩ => ⟨S8x1x256, .f32⟩
  | .hbm, ⟨14, _⟩ => ⟨S8x4095x256, .f32⟩
  | .hbm, ⟨15, _⟩ => ⟨S8x4096x256, .f32⟩
  | .hbm, ⟨16, _⟩ => ⟨S_, .f32⟩
  | .hbm, ⟨17, _⟩ => ⟨S8x2x256, .f32⟩
  | .hbm, ⟨18, _⟩ => ⟨S8x4094x256, .f32⟩
  | .hbm, ⟨19, _⟩ => ⟨S8x4096x256, .f32⟩
  | .hbm, ⟨20, _⟩ => ⟨S1x256, .f32⟩
  | .hbm, ⟨21, _⟩ => ⟨S256, .f32⟩
  | .hbm, ⟨22, _⟩ => ⟨S1x1x256, .f32⟩
  | .hbm, ⟨23, _⟩ => ⟨S8x4096x256, .f32⟩
  | .hbm, ⟨24, _⟩ => ⟨S8x4096x256, .f32⟩
  | .hbm, ⟨25, _⟩ => ⟨S1x256, .f32⟩
  | .hbm, ⟨26, _⟩ => ⟨S256, .f32⟩
  | .hbm, ⟨27, _⟩ => ⟨S1x1x256, .f32⟩
  | .hbm, ⟨28, _⟩ => ⟨S8x4096x256, .f32⟩
  | .hbm, ⟨29, _⟩ => ⟨S8x4096x256, .f32⟩
  | .hbm, ⟨30, _⟩ => ⟨S8x4096x256, .f32⟩
  | .hbm, ⟨31, _⟩ => ⟨S1x256, .f32⟩
  | .hbm, ⟨32, _⟩ => ⟨S256, .f32⟩
  | .hbm, ⟨33, _⟩ => ⟨S1x1x256, .f32⟩
  | .hbm, ⟨34, _⟩ => ⟨S8x4096x256, .f32⟩
  | .hbm, ⟨35, _⟩ => ⟨S8x4096x256, .f32⟩
  | .hbm, ⟨36, _⟩ => ⟨S8x4096x256, .f32⟩
  | .hbm, ⟨37, _⟩ => ⟨S8x4096x256, .f32⟩
  | .hbm, ⟨38, _⟩ => ⟨S8x4096x4x64, .f32⟩
  | .hbm, ⟨39, _⟩ => ⟨S8x4096x4x64, .f32⟩
  | .hbm, ⟨40, _⟩ => ⟨S8x4096x4x64, .f32⟩
  | .hbm, ⟨41, _⟩ => ⟨S8x4096x4x64, .f32⟩
  | .hbm, ⟨42, _⟩ => ⟨S8x4096x16x64, .f32⟩
  | .hbm, ⟨43, _⟩ => ⟨S16x64, .f32⟩
  | .hbm, ⟨44, _⟩ => ⟨S8x4096x16x64, .f32⟩
  | .hbm, ⟨45, _⟩ => ⟨S_, .f32⟩
  | .hbm, ⟨46, _⟩ => ⟨S8x4096x16, .f32⟩
  | .hbm, ⟨47, _⟩ => ⟨S8x4096x16x1, .f32⟩
  | .hbm, ⟨48, _⟩ => ⟨S_, .f32⟩
  | .hbm, ⟨49, _⟩ => ⟨S8x4096x16x1, .f32⟩
  | .hbm, ⟨50, _⟩ => ⟨S8x4096x16x1, .f32⟩
  | .hbm, ⟨51, _⟩ => ⟨S_, .f32⟩
  | .hbm, ⟨52, _⟩ => ⟨S8x4096x16x1, .f32⟩
  | .hbm, ⟨53, _⟩ => ⟨S8x4096x16x1, .f32⟩
  | .hbm, ⟨54, _⟩ => ⟨S8x4096x16x1, .f32⟩
  | .hbm, ⟨55, _⟩ => ⟨S8x4096x16x64, .f32⟩
  | .hbm, ⟨56, _⟩ => ⟨S8x4096x16x64, .f32⟩
  | .hbm, ⟨57, _⟩ => ⟨S1x1x16x64, .f32⟩
  | .hbm, ⟨58, _⟩ => ⟨S8x4096x16x64, .f32⟩
  | .hbm, ⟨59, _⟩ => ⟨S8x4096x16x64, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel6.lean ====
abbrev S8x4096x2956 : Shape := ⟨3, ![8, 4096, 2956]⟩
abbrev S64 : Shape := ⟨1, ![64]⟩
abbrev S32x64 : Shape := ⟨2, ![32, 64]⟩
abbrev S2048x256 : Shape := ⟨2, ![2048, 256]⟩
abbrev S256x64 : Shape := ⟨2, ![256, 64]⟩
abbrev S32768x2956 : Shape := ⟨2, ![32768, 2956]⟩
abbrev S32768x652 : Shape := ⟨2, ![32768, 652]⟩
abbrev S_ : Shape := ⟨0, ![]⟩
abbrev S32768x116 : Shape := ⟨2, ![32768, 116]⟩
abbrev S32768x2304 : Shape := ⟨2, ![32768, 2304]⟩
abbrev S32768x3072 : Shape := ⟨2, ![32768, 3072]⟩
abbrev S32x64x256 : Shape := ⟨3, ![32, 64, 256]⟩
abbrev S32x64x512 : Shape := ⟨3, ![32, 64, 512]⟩
abbrev S32x128x512 : Shape := ⟨3, ![32, 128, 512]⟩
abbrev S256x128 : Shape := ⟨2, ![256, 128]⟩
abbrev S512x128 : Shape := ⟨2, ![512, 128]⟩
abbrev S32x128 : Shape := ⟨2, ![32, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x256x256 : Shape := ⟨3, ![8, 256, 256]⟩
abbrev S8x64x256 : Shape := ⟨3, ![8, 64, 256]⟩
abbrev S4096x128 : Shape := ⟨2, ![4096, 128]⟩
abbrev S1x256x256 : Shape := ⟨3, ![1, 256, 256]⟩
abbrev S1x64x256 : Shape := ⟨3, ![1, 64, 256]⟩
abbrev S1x128x512 : Shape := ⟨3, ![1, 128, 512]⟩
abbrev S128x512 : Shape := ⟨2, ![128, 512]⟩
abbrev S256x512 : Shape := ⟨2, ![256, 512]⟩
abbrev S128x128 : Shape := ⟨2, ![128, 128]⟩
abbrev S256x256 : Shape := ⟨2, ![256, 256]⟩
abbrev S256x1 : Shape := ⟨2, ![256, 1]⟩
abbrev S128x256 : Shape := ⟨2, ![128, 256]⟩
abbrev S64x256 : Shape := ⟨2, ![64, 256]⟩

abbrev nBuf : Space → Nat
  | .hbm => 35
  | .vmem => 10
  | .smem => 0
  | _ => 0

abbrev bufTy : (tb : Table) → Fin (tcTables nBuf tb) → BufTy
  | .hbm, ⟨0, _⟩ => ⟨S8x4096x2956, .f32⟩
  | .hbm, ⟨1, _⟩ => ⟨S64, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S32768x2956, .f32⟩
  | .hbm, ⟨9, _⟩ => ⟨S32768x652, .f32⟩
  | .hbm, ⟨10, _⟩ => ⟨S_, .f32⟩
  | .hbm, ⟨11, _⟩ => ⟨S32768x116, .f32⟩
  | .hbm, ⟨12, _⟩ => ⟨S32768x2304, .f32⟩
  | .hbm, ⟨13, _⟩ => ⟨S32768x3072, .f32⟩
  | .hbm, ⟨14, _⟩ => ⟨S32x64x256, .f32⟩
  | .hbm, ⟨15, _⟩ => ⟨S32x64x256, .f32⟩
  | .hbm, ⟨16, _⟩ => ⟨S_, .f32⟩
  | .hbm, ⟨17, _⟩ => ⟨S32x64x256, .f32⟩
  | .hbm, ⟨18, _⟩ => ⟨S32x64x512, .f32⟩
  | .hbm, ⟨19, _⟩ => ⟨S32x64x512, .f32⟩
  | .hbm, ⟨20, _⟩ => ⟨S32x128x512, .f32⟩
  | .hbm, ⟨21, _⟩ => ⟨S_, .f32⟩
  | .hbm, ⟨22, _⟩ => ⟨S256x64, .f32⟩
  | .hbm, ⟨23, _⟩ => ⟨S256x128, .f32⟩
  | .hbm, ⟨24, _⟩ => ⟨S256x128, .f32⟩
  | .hbm, ⟨25, _⟩ => ⟨S512x128, .f32⟩
  | .hbm, ⟨26, _⟩ => ⟨S32x128, .f32⟩
  | .hbm, ⟨27, _⟩ => ⟨S32x128x512, .bf16⟩
  | .hbm, ⟨28, _⟩ => ⟨S512x128, .bf16⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S8x256x256, .bf16⟩
  | .hbm, ⟨34, _⟩ => ⟨S8x64x256, .bf16⟩
  | .local _ .vmem, ⟨0, _⟩ => ⟨S4096x128, .f32⟩
  | .local _ .vmem, ⟨1, _⟩ => ⟨S4096x128, .f32⟩
  | .local _ .vmem, ⟨2, _⟩ => ⟨S32x128, .f32⟩
  | .local _ .vmem, ⟨3, _⟩ => ⟨S32x128x512, .bf16⟩
  | .local _ .vmem, ⟨4, _⟩ => ⟨S512x128, .bf16⟩
  | .local _ .vmem, ⟨5, _⟩ => ⟨S1x128, .f32⟩
  | .local _ .vmem, ⟨6, _⟩ => ⟨S1x256x256, .bf16⟩
  | .local _ .vmem, ⟨7, _⟩ => ⟨S1x256x256, .bf16⟩
  | .local _ .vmem, ⟨8, _⟩ => ⟨S1x64x256, .bf16⟩
  | .local _ .vmem, ⟨9, _⟩ => ⟨S1x64x256, .bf16⟩
  | _, _ => ⟨S8x4096x2956, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8x4096x2956 : Shape := ⟨3, ![8, 4096, 2956]⟩
abbrev S64 : Shape := ⟨1, ![64]⟩
abbrev S32x64 : Shape := ⟨2, ![32, 64]⟩
abbrev S2048x256 : Shape := ⟨2, ![2048, 256]⟩
abbrev S256x64 : Shape := ⟨2, ![256, 64]⟩
abbrev S8x4096x64 : Shape := ⟨3, ![8, 4096, 64]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S256x32x1 : Shape := ⟨3, ![256, 32, 1]⟩
abbrev S8x256x32x64 : Shape := ⟨4, ![8, 256, 32, 64]⟩
abbrev S1x1x32x64 : Shape := ⟨4, ![1, 1, 32, 64]⟩
abbrev S8x256x2048 : Shape := ⟨3, ![8, 256, 2048]⟩
abbrev S8x256x256 : Shape := ⟨3, ![8, 256, 256]⟩
abbrev S8x256x64 : Shape := ⟨3, ![8, 256, 64]⟩
abbrev S8x256 : Shape := ⟨2, ![8, 256]⟩
abbrev S8x256x1 : Shape := ⟨3, ![8, 256, 1]⟩
abbrev S1x1x64 : Shape := ⟨3, ![1, 1, 64]⟩
abbrev S256x2 : Shape := ⟨2, ![256, 2]⟩
abbrev S256x60 : Shape := ⟨2, ![256, 60]⟩
abbrev S8x64x256 : Shape := ⟨3, ![8, 64, 256]⟩

abbrev nBuf : Space → Nat
  | .hbm => 142
  | .vmem => 0
  | .smem => 0
  | _ => 0

abbrev hbmTy0_0 (i : Nat) : BufTy := match i % 128 with
  | 0 => ⟨S8x4096x2956, .f32⟩
  | 1 => ⟨S64, .f32⟩
  | 2 => ⟨S32x64, .f32⟩
  | 3 => ⟨S32x64, .f32⟩
  | 4 => ⟨S2048x256, .f32⟩
  | 5 => ⟨S256x64, .f32⟩
  | 6 => ⟨S2048x256, .f32⟩
  | 7 => ⟨S256x64, .f32⟩
  | 8 => ⟨S8x4096x64, .f32⟩
  | 9 => ⟨S256, .i32⟩
  | 10 => ⟨S256x1, .i32⟩
  | 11 => ⟨S_, .i32⟩
  | 12 => ⟨S256x1, .i32⟩
  | 13 => ⟨S256x1, .i32⟩
  | 14 => ⟨S32, .i32⟩
  | 15 => ⟨S1x32, .i32⟩
  | 16 => ⟨S256x32, .i32⟩
  | 17 => ⟨S256x32, .i32⟩
  | 18 => ⟨S256x32, .i32⟩
  | 19 => ⟨S_, .i32⟩
  | 20 => ⟨S256x32, .i32⟩
  | 21 => ⟨S256x32, .i32⟩
  | 22 => ⟨S_, .i32⟩
  | 23 => ⟨S256x32, .i32⟩
  | 24 => ⟨S256x32, .i1⟩
  | 25 => ⟨S_, .i32⟩
  | 26 => ⟨S256x32, .i32⟩
  | 27 => ⟨S256x32, .i32⟩
  | 28 => ⟨S256x32, .i32⟩
  | 29 => ⟨S256x32x1, .i32⟩
  | 30 => ⟨S8x256x32x64, .f32⟩
  | 31 => ⟨S1x1x32x64, .f32⟩
  | 32 => ⟨S8x256x32x64, .f32⟩
  | 33 => ⟨S8x256x32x64, .f32⟩
  | 34 => ⟨S8x256x2048, .f32⟩
  | 35 => ⟨S8x256x256, .f32⟩
  | 36 => ⟨S8x256x256, .f32⟩
  | 37 => ⟨S8x256x256, .f32⟩
  | 38 => ⟨S_, .f32⟩
  | 39 => ⟨S8x256x256, .f32⟩
  | 40 => ⟨S8x256x256, .f32⟩
  | 41 => ⟨S8x256x256, .f32⟩
  | 42 => ⟨S_, .f32⟩
  | 43 => ⟨S8x256x256, .f32⟩
  | 44 => ⟨S8x256x256, .f32⟩
  | 45 => ⟨S8x256x256, .f32⟩
  | 46 => ⟨S_, .f32⟩
  | 47 => ⟨S8x256x256, .f32⟩
  | 48 => ⟨S8x256x256, .f32⟩
  | 49 => ⟨S_, .f32⟩
  | 50 => ⟨S8x256x256, .f32⟩
  | 51 => ⟨S8x256x256, .f32⟩
  | 52 => ⟨S8x256x256, .f32⟩
  | 53 => ⟨S8x256x64, .f32⟩
  | 54 => ⟨S8x256x64, .f32⟩
  | 55 => ⟨S_, .f32⟩
  | 56 => ⟨S8x256, .f32⟩
  | 57 => ⟨S8x256x1, .f32⟩
  | 58 => ⟨S_, .f32⟩
  | 59 => ⟨S8x256x1, .f32⟩
  | 60 => ⟨S8x256x1, .f32⟩
  | 61 => ⟨S_, .f32⟩
  | 62 => ⟨S8x256x1, .f32⟩
  | 63 => ⟨S8x256x1, .f32⟩
  | 64 => ⟨S8x256x1, .f32⟩
  | 65 => ⟨S8x256x64, .f32⟩
  | 66 => ⟨S8x256x64, .f32⟩
  | 67 => ⟨S1x1x64, .f32⟩
  | 68 => ⟨S8x256x64, .f32⟩
  | 69 => ⟨S8x256x64, .f32⟩
  | 70 => ⟨S8x4096x64, .f32⟩
  | 71 => ⟨S256, .i32⟩
  | 72 => ⟨S256x1, .i32⟩
  | 73 => ⟨S_, .i32⟩
  | 74 => ⟨S256x1, .i32⟩
  | 75 => ⟨S256x1, .i32⟩
  | 76 => ⟨S32, .i32⟩
  | 77 => ⟨S1x32, .i32⟩
  | 78 => ⟨S256x32, .i32⟩
  | 79 => ⟨S256x32, .i32⟩
  | 80 => ⟨S256x32, .i32⟩
  | 81 => ⟨S_, .i32⟩
  | 82 => ⟨S256x32, .i32⟩
  | 83 => ⟨S256x32, .i32⟩
  | 84 => ⟨S_, .i32⟩
  | 85 => ⟨S256x32, .i32⟩
  | 86 => ⟨S256x32, .i1⟩
  | 87 => ⟨S_, .i32⟩
  | 88 => ⟨S256x32, .i32⟩
  | 89 => ⟨S256x32, .i32⟩
  | 90 => ⟨S256x32, .i32⟩
  | 91 => ⟨S256x32x1, .i32⟩
  | 92 => ⟨S8x256x32x64, .f32⟩
  | 93 => ⟨S1x1x32x64, .f32⟩
  | 94 => ⟨S8x256x32x64, .f32⟩
  | 95 => ⟨S8x256x32x64, .f32⟩
  | 96 => ⟨S8x256x2048, .f32⟩
  | 97 => ⟨S8x256x256, .f32⟩
  | 98 => ⟨S8x256x256, .f32⟩
  | 99 => ⟨S8x256x256, .f32⟩
  | 100 => ⟨S_, .f32⟩
  | 101 => ⟨S8x256x256, .f32⟩
  | 102 => ⟨S8x256x256, .f32⟩
  | 103 => ⟨S8x256x256, .f32⟩
  | 104 => ⟨S_, .f32⟩
  | 105 => ⟨S8x256x256, .f32⟩
  | 106 => ⟨S8x256x256, .f32⟩
  | 107 => ⟨S8x256x256, .f32⟩
  | 108 => ⟨S_, .f32⟩
  | 109 => ⟨S8x256x256, .f32⟩
  | 110 => ⟨S8x256x256, .f32⟩
  | 111 => ⟨S_, .f32⟩
  | 112 => ⟨S8x256x256, .f32⟩
  | 113 => ⟨S8x256x256, .f32⟩
  | 114 => ⟨S8x256x256, .f32⟩
  | 115 => ⟨S8x256x64, .f32⟩
  | 116 => ⟨S256, .i32⟩
  | 117 => ⟨S_, .i32⟩
  | 118 => ⟨S256, .i32⟩
  | 119 => ⟨S256, .i32⟩
  | 120 => ⟨S_, .i32⟩
  | 121 => ⟨S256, .i32⟩
  | 122 => ⟨S256, .i32⟩
  | 123 => ⟨S256x1, .i32⟩
  | 124 => ⟨S_, .i32⟩
  | 125 => ⟨S256x1, .i32⟩
  | 126 => ⟨S256x1, .i32⟩
  | 127 => ⟨S256x1, .f32⟩
  | _ => ⟨S8x4096x2956, .f32⟩

abbrev hbmTy0_1 (i : Nat) : BufTy := match i % 128 with
  | 0 => ⟨S_, .i32⟩
  | 1 => ⟨S256x1, .i32⟩
  | 2 => ⟨S256x1, .i32⟩
  | 3 => ⟨S256x1, .f32⟩
  | 4 => ⟨S_, .f32⟩
  | 5 => ⟨S256x2, .f32⟩
  | 6 => ⟨S_, .f32⟩
  | 7 => ⟨S256x60, .f32⟩
  | 8 => ⟨S256x64, .f32⟩
  | 9 => ⟨S8x256x64, .f32⟩
  | 10 => ⟨S8x256x256, .f32⟩
  | 11 => ⟨S8x256x256, .bf16⟩
  | 12 => ⟨S8x64x256, .f32⟩
  | 13 => ⟨S8x64x256, .bf16⟩
  | _ => ⟨S8x4096x2956, .f32⟩

abbrev hbmTy (i : Nat) : BufTy := match i / 128 with
  | 0 => hbmTy0_0 i
  | 1 => hbmTy0_1 i
  | _ => ⟨S8x4096x2956, .f32⟩

abbrev bufTy : (tb : Table) → Fin (tcTables nBuf tb) → BufTy
  | .hbm, ⟨i, _⟩ => hbmTy i
  | _, _ => ⟨S8x4096x2956, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_14 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_cst_16 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_17 : Ref sig .tc := ⟨.hbm, 117, rfl⟩
abbrev main_v90 : Ref sig .tc := ⟨.hbm, 118, rfl⟩
abbrev main_v91 : Ref sig .tc := ⟨.hbm, 119, rfl⟩
abbrev main_c_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_19 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_20 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_cst_22 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]
-- ==== Proof.Ffn.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe
open Idealize.SL Idealize.SL.Sem Idealize.ShloMosaic.Tactic

/-- One gated hidden value: SiLU of the gate projection times the up projection of row `r` of the normalised rows `h`. -/
def actAt (h : Vec Ideal S1024x1024 .bf16) (wg wu : Vec Ideal S1024x2816 .bf16) (r : Fin 1024) (l : Fin 2816) : EReal :=
  (∑ k : Fin 1024, h (ix2 r k) * wg (ix2 k l)) * Ideal.div 1 (1 + Ideal.exp (-∑ k : Fin 1024, h (ix2 r k) * wg (ix2 k l)))
    * ∑ k : Fin 1024, h (ix2 r k) * wu (ix2 k l)

/-- The gated hidden row block. -/
def act (h : Vec Ideal S1024x1024 .bf16) (wg wu : Vec Ideal S1024x2816 .bf16) : Vec Ideal S1024x2816 .bf16 := fun j =>
  actAt h wg wu (j 0) (j 1)

/-- The block the feed-forward body leaves: the input rows plus the down projection of the hidden rows. -/
def outBlock (x0 : Vec Ideal S1024x1024 .f32) (x1 : Vec Ideal S1x1024 .f32) (x2 x3 : Vec Ideal S1024x2816 .bf16) (x4 : Vec Ideal S2816x1024 .bf16) :
    Vec Ideal S1024x1024 .f32 := fun j =>
  x0 j + ∑ k : Fin 2816, act (k0_pay3 x0 x1) x2 x3 (ix2 (j 0) k) * x4 (ix2 k (j 1))

theorem hz : (![0, 0] : Fin 2 → Nat) = fun _ => 0 := funext fun a => by fin_cases a <;> rfl

/-- Any store of 256 hidden columns holds the matching columns of `act`. -/
theorem act_cols (h : Vec Ideal S1024x1024 .bf16) (wg wu : Vec Ideal S1024x2816 .bf16) (o : ℕ) (inb : ∀ a : Fin 2, (![0, o] : Fin 2 → ℕ) a + S1024x256.size a ≤ S1024x2816.size a)
    (x : S1024x256.Idx) : k0_pay10 h (View.ld wg (Rect.unit (s := S1024x2816) ![0, o] S1024x256.size inb)) (View.ld wu (Rect.unit (s := S1024x2816) ![0, o] S1024x256.size inb)) x
      = act h wg wu ((Rect.unit (s := S1024x2816) ![0, o] S1024x256.size inb).emb x) := by
  have he : act h wg wu ((Rect.unit (s := S1024x2816) ![0, o] S1024x256.size inb).emb x)
      = actAt h wg wu (x 0) ⟨o + (x 1).val, Nat.lt_of_lt_of_le (Nat.add_lt_add_left (x 1).isLt o) (inb 1)⟩ := by
    unfold act
    congr 1
    · apply Fin.ext; show 0 + 1 * (x 0).val = (x 0).val; omega
    · apply Fin.ext; show o + 1 * (x 1).val = o + (x 1).val; omega
  rw [he]
  unfold actAt
  idx_vars x
  pointwise [k0_pay10]
  rfl

/-- Any store of 256 output columns holds the matching columns of the output block. -/
theorem out_cols (x0 : Vec Ideal S1024x1024 .f32) (x1 : Vec Ideal S1x1024 .f32) (x2 x3 : Vec Ideal S1024x2816 .bf16) (x4 : Vec Ideal S2816x1024 .bf16)
    (o : ℕ) (inb : ∀ a : Fin 2, (![0, o] : Fin 2 → ℕ) a + S1024x256.size a ≤ S1024x1024.size a)
    (inb' : ∀ a : Fin 2, (![0, o] : Fin 2 → ℕ) a + (![2816, 256] : Fin 2 → ℕ) a ≤ S2816x1024.size a)
    (x : S1024x256.Idx) : k0_pay20 (View.ld x0 (Rect.unit (s := S1024x1024) ![0, o] S1024x256.size inb)) (act (k0_pay3 x0 x1) x2 x3) (View.ld x4 (Rect.unit (s := S2816x1024) ![0, o] ![2816, 256] inb')) x
      = outBlock x0 x1 x2 x3 x4 ((Rect.unit (s := S1024x1024) ![0, o] S1024x256.size inb).emb x) := by
  have hl : o + (x 1).val < 1024 := Nat.lt_of_lt_of_le (Nat.add_lt_add_left (x 1).isLt o) (inb 1)
  have he : (Rect.unit (s := S1024x1024) ![0, o] S1024x256.size inb).emb x = ix2 (x 0 : Fin 1024) (⟨o + (x 1).val, hl⟩ : Fin 1024) := by
    funext a
    match a with
    | ⟨0, _⟩ => apply Fin.ext; show 0 + 1 * (x 0).val = (x 0).val; omega
    | ⟨1, _⟩ => apply Fin.ext; show o + 1 * (x 1).val = o + (x 1).val; omega
  rw [he]
  unfold outBlock
  generalize act (k0_pay3 x0 x1) x2 x3 = A
  idx_vars x
  pointwise [k0_pay20]

/-- Stores that are column blocks of the hidden rows and cover them: a load of the whole buffer reads the hidden rows. -/
theorem act_of_pieces (v : View sig .tc .vmem S1024x2816 .bf16) (A : Vec Ideal S1024x2816 .bf16) (L : List (View.Piece (Elt Ideal) S1024x2816 .bf16))
    (h : View.PiecesOf A L) (hc : ∀ y : S1024x2816.Idx, ∃ p ∈ L, y ∈ p.1.set) :
    v.readCov L (Rect.unit (s := S1024x2816) ![0, 0] S1024x2816.size inb_S1024x2816_S1024x2816_0_0).toLoadRect = A := by
  rw [View.readCov_eq_canon']
  funext j
  rw [View.canon_apply_of_pieces A L h.mem _ (hc _)]
  congr 1
  funext a
  match a with
  | ⟨0, _⟩ => apply Fin.ext; show 0 + 1 * (j 0).val = (j 0).val; omega
  | ⟨1, _⟩ => apply Fin.ext; show 0 + 1 * (j 1).val = (j 1).val; omega

/-- What the body leaves in the output's staging buffer. -/
theorem out_eq (c : Dev nD) (i : grid0.Coords) (arg1 : Memref sig .tc .vmem S1024x1024 .f32) (harg1 : arg1.IsWhole)
    (arg2 : Memref sig .tc .vmem S1x1024 .f32) (harg2 : arg2.IsWhole) (arg3 : Memref sig .tc .vmem S1024x2816 .bf16) (harg3 : arg3.IsWhole)
    (arg4 : Memref sig .tc .vmem S1024x2816 .bf16) (harg4 : arg4.IsWhole) (arg5 : Memref sig .tc .vmem S2816x1024 .bf16) (harg5 : arg5.IsWhole)
    (arg6 : Memref sig .tc .vmem S1024x1024 .f32) (harg6 : arg6.IsWhole) (arg7 : Memref sig .tc .vmem S1024x2816 .bf16) (harg7 : arg7.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) :
    out0_A_5 c i arg1 harg1 arg2 harg2 arg3 harg3 arg4 harg4 arg5 harg5 arg6 harg6 arg7 harg7 x0 x1 x2 x3 x4 = outBlock x0 x1 x2 x3 x4 := by
  unfold out0_A_5
  rw [View.read_writes_junk_eq_canon]
  unfold kernelRun0_A
  dsimp only
  sl_unfold_words
  simp only [View.readAt_eq_ld, harg1.read_unread, harg2.read_unread, harg3.read_unread, harg4.read_unread, harg5.read_unread, View.ld_unit_zero (S := S1024x1024) hz, View.ld_unit_zero (S := S1x1024) hz]
  have hact := fun o inb x => act_cols (k0_pay3 x0 x1) x2 x3 o inb x
  rw [act_of_pieces _ (act (k0_pay3 x0 x1) x2 x3)]
  rotate_left
  · exact ⟨fun x => hact 2560 _ x, fun x => hact 2304 _ x, fun x => hact 2048 _ x, fun x => hact 1792 _ x, fun x => hact 1536 _ x, fun x => hact 1280 _ x,
      fun x => hact 1024 _ x, fun x => hact 768 _ x, fun x => hact 512 _ x, fun x => hact 256 _ x, fun x => hact 0 _ x, trivial⟩
  · exact View.cover_of_tiledL _ ![1024, 256] (by sl_kernel_rfl)
  funext y
  refine View.canon_apply_of_pieces (outBlock x0 x1 x2 x3 x4) _ ?_ y (View.cover_of_tiledL _ ![1024, 256] (by sl_kernel_rfl) y)
  refine View.PiecesOf.mem ?_
  exact ⟨fun x => out_cols x0 x1 x2 x3 x4 768 _ _ x, fun x => out_cols x0 x1 x2 x3 x4 512 _ _ x, fun x => out_cols x0 x1 x2 x3 x4 256 _ _ x,
      fun x => out_cols x0 x1 x2 x3 x4 0 _ _ x, trivial⟩

end Cert.Kernel2Ideal.Ffn

namespace Cert.Reference2Ideal.Ffn

open Cert.Reference2Ideal Cert.Reference2Ideal.Gen Idealize.ShloMosaic

/-- The feed-forward reference's result as one function of the arrays. -/
def result (a0 : FVec Ideal S8x4096x1024 .f32) (a1 : FVec Ideal S1024 .f32) (a2 a3 : FVec Ideal S1024x2816 .f32) (a4 : FVec Ideal S2816x1024 .f32) : FVec Ideal S32768x1024 .f32 :=
  shapeCast S32768x1024 (addf a0 (Host.dotGeneral dot_S8x4096x2816_S2816x1024_S8x4096x1024_2_0_01_1_n_n none (mulf (mulf (Host.dotGeneral dot_S8x4096x1024_S1024x2816_S8x4096x2816_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a1))) a2) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (Host.dotGeneral dot_S8x4096x1024_S1024x2816_S8x4096x2816_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a1))) a2)))))) (Host.dotGeneral dot_S8x4096x1024_S1024x2816_S8x4096x2816_2_0_01_1_n_n none (mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a1))) a3)) a4)) shapeCasts_S8x4096x1024_S32768x1024

end Cert.Reference2Ideal.Ffn

namespace Cert.Kernel2Ideal.Ffn

open Cert.Kernel2Ideal Cert.Kernel2Ideal.Gen Idealize.ShloMosaic Idealize.ShloMosaic.TcCoe
open Idealize.SL Idealize.SL.Sem Idealize.ShloMosaic.Tactic

variable (m : (ℓ : Loc nD τ sig) → Buf (Elt Ideal) ℓ) (ρ : Dev nD → PrngReg)

/-- Where each window's block lies: the row blocks move with the point, the weights stay. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] := (by decide +kernel : ∀ t : Fin grid0.N, _)

/-- The rows a point reads are the argument's rows, its two leading axes flattened. -/
theorem block0 (c : Dev nD) (t : Fin cfg0.N) (r k : Fin 1024) (h : t.val * 1024 + r.val < 32768) :
    iblk m c 0 t (ix2 r k) = m ((c : Thread nD τ).loc main_arg0) (ix3 (⟨(t.val * 1024 + r.val) / 4096, by omega⟩ : Fin 8) (⟨(t.val * 1024 + r.val) % 4096, by omega⟩ : Fin 4096) k) := by
  blk_point [iblk, V, idx t]

/-- The gain row is the gain vector. -/
theorem block1 (c : Dev nD) (t : Fin cfg0.N) (k : Fin 1024) : iblk m c 1 t (ix2 (0 : Fin 1) k) = m ((c : Thread nD τ).loc main_arg1) (ix1 k) := by
  blk_point [iblk, V, idx t]

/-- The three weight matrices arrive whole. -/
theorem block2 (c : Dev nD) (t : Fin cfg0.N) (k : Fin 1024) (l : Fin 2816) : iblk m c 2 t (ix2 k l) = m ((c : Thread nD τ).loc main_arg2) (ix2 k l) := by
  blk_point [iblk, V, idx t]
theorem block3 (c : Dev nD) (t : Fin cfg0.N) (k : Fin 1024) (l : Fin 2816) : iblk m c 3 t (ix2 k l) = m ((c : Thread nD τ).loc main_arg3) (ix2 k l) := by
  blk_point [iblk, V, idx t]
theorem block4 (c : Dev nD) (t : Fin cfg0.N) (k : Fin 2816) (l : Fin 1024) : iblk m c 4 t (ix2 k l) = m ((c : Thread nD τ).loc main_arg4) (ix2 k l) := by
  blk_point [iblk, V, idx t]

/-- A point indexes one of the array's 32 row blocks. -/
theorem lt32 (t : Fin cfg0.N) : t.val < 32 := (N_0 : cfg0.N = 32) ▸ t.isLt

/-- Where an index of the output block lies in the output array. -/
theorem emb5 (t : Fin cfg0.N) (y : S1024x1024.Idx) : ((cfg0.win 5).blk t).view.emb y
    = ix2 (⟨t.val * 1024 + (y 0).val, by have := lt32 t; have : (y 0).val < 1024 := (y 0).isLt; omega⟩ : Fin 32768) (y 1 : Fin 1024) := by
  obtain ⟨-, -, -, -, -, h5⟩ := idx t
  funext a
  match a with
  | ⟨0, _⟩ => apply Fin.ext; show win0_5.index t (0 : Fin 2) * 1024 + 1 * (y 0).val = t.val * 1024 + (y 0).val; rw [h5]; show t.val * 1024 + 1 * (y 0).val = t.val * 1024 + (y 0).val; omega
  | ⟨1, _⟩ => apply Fin.ext; show win0_5.index t (1 : Fin 2) * 1024 + 1 * (y 1).val = (y 1).val; rw [h5]; show 0 * 1024 + 1 * (y 1).val = (y 1).val; omega

/-- A block's value is the reference's at the block's place in the array. -/
theorem point (c : Dev nD) (t : Fin cfg0.N) (y : S1024x1024.Idx) :
    outBlock (iblk m c 0 t) (iblk m c 1 t) (iblk m c 2 t) (iblk m c 3 t) (iblk m c 4 t) y
      = Cert.Reference2Ideal.Ffn.result (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  rw [emb5 t y]
  unfold outBlock act actAt
  idx_vars y
  pointwise [k0_pay3, Cert.Reference2Ideal.Ffn.result]
  simp only [block0 m c t _ _ (show t.val * 1024 + (y0 : Fin 1024).val < 32768 by have := lt32 t; omega), block1, block2, block3, block4]

/-- What a point writes back is its block of the reference's result. -/
theorem flushed (c : Dev nD) (t : Fin cfg0.N) :
    (dats m 0 c).flushed 5 t = ((cfg0.win 5).blk t).view.read (Elt Ideal)
      (Cert.Reference2Ideal.Ffn.result (m ((c : Thread nD τ).loc main_arg0)) (m ((c : Thread nD τ).loc main_arg1)) (m ((c : Thread nD τ).loc main_arg2))
          (m ((c : Thread nD τ).loc main_arg3)) (m ((c : Thread nD τ).loc main_arg4))) := by
  rw [Value.flushed5_A, out_eq]
  funext y
  exact point m c t y

/-- Every row of the result lies in some point's block. -/
theorem covered (i : S32768x1024.Idx) : ∃ t : Fin cfg0.N, (cfg0.win 5).flush t = true ∧ i ∈ ((cfg0.win 5).blk t).view.set := by
  have h0 : (i 0).val < 32768 := (i 0).isLt
  let t : Fin cfg0.N := ⟨(i 0).val / 1024, by rw [show cfg0.N = 32 from N_0]; omega⟩
  refine ⟨t, flush0_5 t, ?_⟩
  have h := ((cfg0.win 5).blk t).view.emb_mem_set (ix2 (⟨(i 0).val % 1024, by omega⟩ : Fin 1024) (i 1 : Fin 1024))
  rw [emb5] at h
  have he : ix2 (⟨t.val * 1024 + (i 0).val % 1024, by show (i 0).val / 1024 * 1024 + (i 0).val % 1024 < 32768; omega⟩ : Fin 32768) (i 1 : Fin 1024) = i := by
    funext a
    match a with
    | ⟨0, _⟩ => apply Fin.ext; show (i 0).val / 1024 * 1024 + (i 0).val % 1024 = (i 0).val; omega
    | ⟨1, _⟩ => rfl
  exact he ▸ h

/-- The kernel's result array after the run is the reference's function of the arguments. -/
theorem run : θ_run defs (onTc (τ := τ) (main (F := Ideal))) ⟨m, fun _ => 0, ρ⟩ fun r => ∀ c : Dev nD,
      r.2.mem ((c : Thread nD τ).loc main_v5) = Cert.Reference2Ideal.Ffn.result (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed m c t) covered), (h c).2⟩) (Value.run_blocks m ρ)

end Cert.Kernel2Ideal.Ffn

namespace Cert.Proof

open Idealize.ShloMosaic Idealize.SL.Sem

/-- The feed-forward kernel and its reference compute the same array of extended reals. -/
theorem ffn_value : Cert.algebraic_Kernel2Ideal_Reference2Ideal (hKernel2Ideal := Cert.Kernel2Ideal.Gen.facts) (hReference2Ideal := Cert.Reference2Ideal.Gen.facts) := by
  intro m g m' g' _ hm
  refine ⟨_, Cert.Kernel2Ideal.Ffn.run m g, ?_⟩
  refine (θ_run _ _ _).mono (fun r h c => ?_) (Cert.Reference2Ideal.Value.run (F := Ideal) m' g')
  obtain ⟨e0, e1, e2, e3, e4⟩ := hm c
  refine ⟨(h c).1.trans ?_, (h c).2⟩
  rw [e0, e1, e2, e3, e4]
  rfl

end Cert.Proof

end
-- ==== Proof.StickPrep.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The walk over the earlier tiles of keys: both printed loops. -/
def walk (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (arg1 : BitVec 32) (v28 : FVec F S272x256 .bf16) (v165 : FVec F S1x256 .f32) (v166 : FVec F S1x256 .f32) (v167 : FVec F S1x256 .f32) (v168 : FVec F S1x256 .f32) (v171 : FVec F S272x256 .f32) (v177 : Vec F S256x128 .bf16) (v179 : FVec F S256x128 .bf16) :
    Prog (TpuEff nD τ sig (Elt F) Λ₀ .tc) (FVec F S1x256 .f32 × FVec F S1x256 .f32 × FVec F S1x256 .f32 × FVec F S1x256 .f32 × FVec F S272x256 .f32 × FVec F S256x256 .f32) := do
  let v181 : BitVec 32 := Scalar.muli arg1 1#32
  let v182 : BitVec 32 := Scalar.subi v181 0#32
  let v184 : BitVec 32 := Scalar.divsi v182 1#32
  let v185 : BitVec 32 := Scalar.muli v184 1#32
  let v186 : BitVec 32 := Scalar.addi 0#32 v185
  let (v187_0, v187_1, v187_2, v187_3, v187_4, v187_5) ← Scf.Loop.for (k0_t1_loop i) (k0_t1_ok i) (v165, v166, v167, v168, v171, k0_pay246 v177 v179) (k0_t1_body i arg2 harg2 arg3 harg3 arg4 harg4 arg5 harg5 arg6 harg6 arg7 harg7 arg8 harg8 arg9 harg9 arg10 harg10 arg11 harg11 arg1 v28 v165 v166 v167 v168 v171 v177 v179 v181)
  Scf.Loop.for (k0_t2_loop i) (k0_t2_ok i) (v187_0, v187_1, v187_2, v187_3, v187_4, v187_5) (k0_t2_body i arg2 harg2 arg3 harg3 arg4 harg4 arg5 harg5 arg6 harg6 arg7 harg7 arg8 harg8 arg9 harg9 arg10 harg10 arg11 harg11 arg1 v28 v165 v166 v167 v168 v171 v177 v179 v181 v186)

/-- What the body does after the walk: the last tile's weighted values, and the block it stores. -/
def finish (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (v28 : FVec F S272x256 .bf16)
    (p : FVec F S1x256 .f32 × FVec F S1x256 .f32 × FVec F S1x256 .f32 × FVec F S1x256 .f32 × FVec F S272x256 .f32 × FVec F S256x256 .f32) :
    Prog (TpuEff nD τ sig (Elt F) Λ₀ .tc) PUnit := do
  let (v188_0, v188_1, v188_2, v188_3, v188_4, v188_5) := p
  let v189 : Vec F S1x256x256 .bf16 ← Prog.lift (.load arg9 (Rect.unit (s := S4x256x256) ![1, 0, 0] S1x256x256.size inb_S4x256x256_S1x256x256_1_0_0).toLoadRect (View.loadsAt_vmem h_S1x256x256))
  let v192 : Vec F S1x256x256 .f32 ← Prog.lift (.load arg10 (Rect.unit (s := S4x256x256) ![0, 0, 0] S1x256x256.size inb_S4x256x256_S1x256x256_0_0_0).toLoadRect (View.loadsAt_vmem h_S1x256x256))
  let v199 : Vec F S1x64x256 .f32 ← Prog.lift (.load arg11 (Rect.unit (s := S4x64x256) ![0, 0, 0] S1x64x256.size inb_S4x64x256_S1x64x256_0_0_0).toLoadRect (View.loadsAt_vmem h_S1x64x256))
  let v201 : Vec F S1x64x256 .bf16 ← Prog.lift (.load arg7 (Rect.unit (s := S16x256x256) ![0, 0, 0] S1x64x256.size inb_S16x256x256_S1x64x256_0_0_0).toLoadRect (View.loadsAt_vmem h_S1x64x256))
  let v206 : Vec F S1x64x256 .f32 ← Prog.lift (.load arg11 (Rect.unit (s := S4x64x256) ![0, 0, 0] S1x64x256.size inb_S4x64x256_S1x64x256_0_0_0).toLoadRect (View.loadsAt_vmem h_S1x64x256))
  Prog.lift (.store arg11 (Rect.unit (s := S4x64x256) ![0, 0, 0] S1x64x256.size inb_S4x64x256_S1x64x256_0_0_0) (k0_pay258 v188_0 v188_4 v192 v199 v201) Finset.univ (View.stores_vmem_bits_univ h_S1x64x256 rfl) (.inl rfl))
  let v209 : Vec F S1x256x256 .bf16 ← Prog.lift (.load arg9 (Rect.unit (s := S4x256x256) ![2, 0, 0] S1x256x256.size inb_S4x256x256_S1x256x256_2_0_0).toLoadRect (View.loadsAt_vmem h_S1x256x256))
  let v191 := k0_pay257 v28 v189
  let v211 := k0_pay259 v28 v209
  let ⟨v231, v240, v242, v243, cst_147⟩ : Σ' (v231 : FVec F S272x256 .f32) (v240 : FVec F S64x256 .f32) (v242 : FVec F S64x256 .bf16) (v243 : FVec F S256x256 .bf16), FVec F S64x256 .f32 ← k0_part36 i arg2 harg2 arg3 harg3 arg4 harg4 arg5 harg5 arg6 harg6 arg7 harg7 arg8 harg8 arg9 harg9 arg10 harg10 arg11 harg11 v28 v188_1 v188_2 v191 v211
  let v246 : Vec F S1x64x256 .f32 ← Prog.lift (.load arg11 (Rect.unit (s := S4x64x256) ![2, 0, 0] S1x64x256.size inb_S4x64x256_S1x64x256_2_0_0).toLoadRect (View.loadsAt_vmem h_S1x64x256))
  Prog.lift (.store arg11 (Rect.unit (s := S4x64x256) ![2, 0, 0] S1x64x256.size inb_S4x64x256_S1x64x256_2_0_0) (k0_pay1 v240 v242 v243 cst_147) Finset.univ (View.stores_vmem_bits_univ h_S1x64x256 rfl) (.inl rfl))
  let v249 : Vec F S1x256x256 .f32 ← Prog.lift (.load arg10 (Rect.unit (s := S4x256x256) ![3, 0, 0] S1x256x256.size inb_S4x256x256_S1x256x256_3_0_0).toLoadRect (View.loadsAt_vmem h_S1x256x256))
  let v256 : Vec F S1x64x256 .f32 ← Prog.lift (.load arg11 (Rect.unit (s := S4x64x256) ![3, 0, 0] S1x64x256.size inb_S4x64x256_S1x64x256_3_0_0).toLoadRect (View.loadsAt_vmem h_S1x64x256))
  let v258 : Vec F S1x64x256 .bf16 ← Prog.lift (.load arg7 (Rect.unit (s := S16x256x256) ![0, 192, 0] S1x64x256.size inb_S16x256x256_S1x64x256_0_192_0).toLoadRect (View.loadsAt_vmem h_S1x64x256))
  let v263 : Vec F S1x64x256 .f32 ← Prog.lift (.load arg11 (Rect.unit (s := S4x64x256) ![3, 0, 0] S1x64x256.size inb_S4x64x256_S1x64x256_3_0_0).toLoadRect (View.loadsAt_vmem h_S1x64x256))
  Prog.lift (.store arg11 (Rect.unit (s := S4x64x256) ![3, 0, 0] S1x64x256.size inb_S4x64x256_S1x64x256_3_0_0) (k0_pay2 v188_3 v231 v249 v256 v258) Finset.univ (View.stores_vmem_bits_univ h_S1x64x256 rfl) (.inl rfl))
  let v266 : Vec F S4x64x256 .f32 ← Prog.lift (.load arg11 (Rect.unit (s := S4x64x256) ![0, 0, 0] S4x64x256.size inb_S4x64x256_S4x64x256_0_0_0).toLoadRect (View.loadsAt_vmem h_S4x64x256))
  let v268 : Vec F S1x256x256 .f32 ← Prog.lift (.load arg5 (Rect.unit (s := S1x256x256) ![0, 0, 0] S1x256x256.size inb_S1x256x256_S1x256x256_0_0_0).toLoadRect (View.loadsAt_vmem h_S1x256x256))
  Prog.lift (.store arg5 (Rect.unit (s := S1x256x256) ![0, 0, 0] S1x256x256.size inb_S1x256x256_S1x256x256_0_0_0) (k0_pay3 v266) Finset.univ (View.stores_vmem_bits_univ h_S1x256x256 rfl) (.inl rfl))
  pure ⟨⟩

/-- The body up to the walk: the tile of keys on the diagonal. -/
def start (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (v28 : FVec F S272x256 .bf16) (v29 : IVec S256x256 32) (v30 : IVec S256x256 32) (v32 : BitVec 32) (v33 : FVec F S4x64x256 .f32) :
    Prog (TpuEff nD τ sig (Elt F) Λ₀ .tc) (Σ' (v165 : FVec F S1x256 .f32) (v166 : FVec F S1x256 .f32) (v167 : FVec F S1x256 .f32) (v168 : FVec F S1x256 .f32) (v171 : FVec F S272x256 .f32) (v177 : Vec F S256x128 .bf16), FVec F S256x128 .bf16) := do
  let v72 : Vec F S256x128 .bf16 ← k0_part31 i arg2 harg2 arg3 harg3 arg4 harg4 arg5 harg5 arg6 harg6 arg7 harg7 arg8 harg8 arg9 harg9 arg10 harg10 arg11 harg11 v29 v30 v32 v33
  let ⟨v107, c0_i32_53⟩ : Σ' (v107 : FVec F S256x256 .f32), BitVec 32 ← k0_part32 i arg2 harg2 arg3 harg3 arg4 harg4 arg5 harg5 arg6 harg6 arg7 harg7 arg8 harg8 arg9 harg9 arg10 harg10 arg11 harg11 v29 v30 v32 v72
  let ⟨v139, v142, v144, v145, cst_71⟩ : Σ' (v139 : FVec F S256x256 .f32) (v142 : IVec S256x256 1) (v144 : FVec F S256x256 .f32) (v145 : FVec F S256x256 .f32), F .f32 ← k0_part33 i arg2 harg2 arg3 harg3 arg4 harg4 arg5 harg5 arg6 harg6 arg7 harg7 arg8 harg8 arg9 harg9 arg10 harg10 arg11 harg11 v29 v30 v32 v107 c0_i32_53
  k0_part34 i arg2 harg2 arg3 harg3 arg4 harg4 arg5 harg5 arg6 harg6 arg7 harg7 arg8 harg8 arg9 harg9 arg10 harg10 arg11 harg11 v28 v32 v139 v142 v144 v145 cst_71

/-- The body after the diagonal tile. -/
def tailOf (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (p : Σ' (arg1 : BitVec 32) (v28 : FVec F S272x256 .bf16) (v29 : IVec S256x256 32) (v30 : IVec S256x256 32) (v32 : BitVec 32), FVec F S4x64x256 .f32)
    (s : Σ' (v165 : FVec F S1x256 .f32) (v166 : FVec F S1x256 .f32) (v167 : FVec F S1x256 .f32) (v168 : FVec F S1x256 .f32) (v171 : FVec F S272x256 .f32) (v177 : Vec F S256x128 .bf16), FVec F S256x128 .bf16) :
    Prog (TpuEff nD τ sig (Elt F) Λ₀ .tc) PUnit :=
  let arg1 := p.1
  let v28 := p.2.1
  let v165 := s.1
  let v166 := s.2.1
  let v167 := s.2.2.1
  let v168 := s.2.2.2.1
  let v171 := s.2.2.2.2.1
  let v177 := s.2.2.2.2.2.1
  let v179 := s.2.2.2.2.2.2
  do
  let ⟨v188_1, v188_2, v188_3, v191, v211⟩ : Σ' (v188_1 : FVec F S1x256 .f32) (v188_2 : FVec F S1x256 .f32) (v188_3 : FVec F S1x256 .f32) (v191 : FVec F S272x256 .f32), FVec F S272x256 .f32 ← k0_part35 i arg2 harg2 arg3 harg3 arg4 harg4 arg5 harg5 arg6 harg6 arg7 harg7 arg8 harg8 arg9 harg9 arg10 harg10 arg11 harg11 arg1 v28 v165 v166 v167 v168 v171 v177 v179
  let ⟨v231, v240, v242, v243, cst_147⟩ : Σ' (v231 : FVec F S272x256 .f32) (v240 : FVec F S64x256 .f32) (v242 : FVec F S64x256 .bf16) (v243 : FVec F S256x256 .bf16), FVec F S64x256 .f32 ← k0_part36 i arg2 harg2 arg3 harg3 arg4 harg4 arg5 harg5 arg6 harg6 arg7 harg7 arg8 harg8 arg9 harg9 arg10 harg10 arg11 harg11 v28 v188_1 v188_2 v191 v211
  let v246 : Vec F S1x64x256 .f32 ← Prog.lift (.load arg11 (Rect.unit (s := S4x64x256) ![2, 0, 0] S1x64x256.size inb_S4x64x256_S1x64x256_2_0_0).toLoadRect (View.loadsAt_vmem h_S1x64x256))
  Prog.lift (.store arg11 (Rect.unit (s := S4x64x256) ![2, 0, 0] S1x64x256.size inb_S4x64x256_S1x64x256_2_0_0) (k0_pay1 v240 v242 v243 cst_147) Finset.univ (View.stores_vmem_bits_univ h_S1x64x256 rfl) (.inl rfl))
  let v249 : Vec F S1x256x256 .f32 ← Prog.lift (.load arg10 (Rect.unit (s := S4x256x256) ![3, 0, 0] S1x256x256.size inb_S4x256x256_S1x256x256_3_0_0).toLoadRect (View.loadsAt_vmem h_S1x256x256))
  let v256 : Vec F S1x64x256 .f32 ← Prog.lift (.load arg11 (Rect.unit (s := S4x64x256) ![3, 0, 0] S1x64x256.size inb_S4x64x256_S1x64x256_3_0_0).toLoadRect (View.loadsAt_vmem h_S1x64x256))
  let v258 : Vec F S1x64x256 .bf16 ← Prog.lift (.load arg7 (Rect.unit (s := S16x256x256) ![0, 192, 0] S1x64x256.size inb_S16x256x256_S1x64x256_0_192_0).toLoadRect (View.loadsAt_vmem h_S1x64x256))
  let v263 : Vec F S1x64x256 .f32 ← Prog.lift (.load arg11 (Rect.unit (s := S4x64x256) ![3, 0, 0] S1x64x256.size inb_S4x64x256_S1x64x256_3_0_0).toLoadRect (View.loadsAt_vmem h_S1x64x256))
  Prog.lift (.store arg11 (Rect.unit (s := S4x64x256) ![3, 0, 0] S1x64x256.size inb_S4x64x256_S1x64x256_3_0_0) (k0_pay2 v188_3 v231 v249 v256 v258) Finset.univ (View.stores_vmem_bits_univ h_S1x64x256 rfl) (.inl rfl))
  let v266 : Vec F S4x64x256 .f32 ← Prog.lift (.load arg11 (Rect.unit (s := S4x64x256) ![0, 0, 0] S4x64x256.size inb_S4x64x256_S4x64x256_0_0_0).toLoadRect (View.loadsAt_vmem h_S4x64x256))
  let v268 : Vec F S1x256x256 .f32 ← Prog.lift (.load arg5 (Rect.unit (s := S1x256x256) ![0, 0, 0] S1x256x256.size inb_S1x256x256_S1x256x256_0_0_0).toLoadRect (View.loadsAt_vmem h_S1x256x256))
  Prog.lift (.store arg5 (Rect.unit (s := S1x256x256) ![0, 0, 0] S1x256x256.size inb_S1x256x256_S1x256x256_0_0_0) (k0_pay3 v266) Finset.univ (View.stores_vmem_bits_univ h_S1x256x256 rfl) (.inl rfl))
  pure ⟨⟩

/-- The body is the part that prepares, the diagonal tile, the walk, then the finish. -/
theorem body_eq (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) :
    cc0_stick_breaking (F := F) i arg2 harg2 arg3 harg3 arg4 harg4 arg5 harg5 arg6 harg6 arg7 harg7 arg8 harg8 arg9 harg9 arg10 harg10 arg11 harg11 = (k0_part30 (F := F) i arg2 harg2 arg3 harg3 arg4 harg4 arg5 harg5 arg6 harg6 arg7 harg7 arg8 harg8 arg9 harg9 arg10 harg10 arg11 harg11 >>= fun p => start i arg2 harg2 arg3 harg3 arg4 harg4 arg5 harg5 arg6 harg6 arg7 harg7 arg8 harg8 arg9 harg9 arg10 harg10 arg11 harg11 p.2.1 p.2.2.1 p.2.2.2.1 p.2.2.2.2.1 p.2.2.2.2.2 >>= fun s =>
      walk i arg2 harg2 arg3 harg3 arg4 harg4 arg5 harg5 arg6 harg6 arg7 harg7 arg8 harg8 arg9 harg9 arg10 harg10 arg11 harg11 p.1 p.2.1 s.1 s.2.1 s.2.2.1 s.2.2.2.1 s.2.2.2.2.1 s.2.2.2.2.2.1 s.2.2.2.2.2.2 >>= fun w => finish i arg2 harg2 arg3 harg3 arg4 harg4 arg5 harg5 arg6 harg6 arg7 harg7 arg8 harg8 arg9 harg9 arg10 harg10 arg11 harg11 p.2.1 w) := by
  unfold start
  simp only [bind_assoc]
  have h : ∀ (p : Σ' (arg1 : BitVec 32) (v28 : FVec F S272x256 .bf16) (v29 : IVec S256x256 32) (v30 : IVec S256x256 32) (v32 : BitVec 32), FVec F S4x64x256 .f32)
      (s : Σ' (v165 : FVec F S1x256 .f32) (v166 : FVec F S1x256 .f32) (v167 : FVec F S1x256 .f32) (v168 : FVec F S1x256 .f32) (v171 : FVec F S272x256 .f32) (v177 : Vec F S256x128 .bf16), FVec F S256x128 .bf16),
      (walk i arg2 harg2 arg3 harg3 arg4 harg4 arg5 harg5 arg6 harg6 arg7 harg7 arg8 harg8 arg9 harg9 arg10 harg10 arg11 harg11 p.1 p.2.1 s.1 s.2.1 s.2.2.1 s.2.2.2.1 s.2.2.2.2.1 s.2.2.2.2.2.1 s.2.2.2.2.2.2 >>= fun w => finish i arg2 harg2 arg3 harg3 arg4 harg4 arg5 harg5 arg6 harg6 arg7 harg7 arg8 harg8 arg9 harg9 arg10 harg10 arg11 harg11 p.2.1 w)
      = tailOf i arg2 harg2 arg3 harg3 arg4 harg4 arg5 harg5 arg6 harg6 arg7 harg7 arg8 harg8 arg9 harg9 arg10 harg10 arg11 harg11 p s := by
    intro p s
    unfold walk tailOf
    rw [k0_part35_eq_skeleton]
    unfold k0_part35_skel
    simp only [bind_assoc]
    rfl
  simp only [h]
  rfl

set_option maxHeartbeats 4000000 in
/-- The part that prepares, at a sequence's first tile of queries: the keys, the values and the
    queries are laid out in their three scratch buffers, whatever these held. -/
def prepFirst (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (hc : Scalar.cmpi .ne (Scalar.extui (Scalar.cmpi .eq (BitVec.ofNat 32 (i 1).val) 0#32)) 0#32 = 1#1) (x2 : Vec F S256x256 .f32) (x3 : Vec F S4096x256 .f32) (x4 : Vec F S4096x256 .f32) :
    Σ' (L6 : List (View.Piece (Elt F) S4096x512 .bf16)) (L7 : List (View.Piece (Elt F) S16x256x256 .bf16)), { L8 : List (View.Piece (Elt F) S2x256x128 .bf16) //
      ∀ (E : Set ℕ) (K : (Σ' (arg1 : BitVec 32) (v28 : FVec F S272x256 .bf16) (v29 : IVec S256x256 32) (v30 : IVec S256x256 32) (v32 : BitVec 32), FVec F S4x64x256 .f32) → sProp 𝕄),
        iprop(owns (c : Thread nD τ) arg2 fullShare x2 ∗ owns (c : Thread nD τ) arg3 fullShare x3 ∗ owns (c : Thread nD τ) arg4 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg11 fullShare d)
            ∗ (iprop(owns (c : Thread nD τ) arg2 fullShare x2 ∗ owns (c : Thread nD τ) arg3 fullShare x3 ∗ owns (c : Thread nD τ) arg4 fullShare x4 ∗ (arg6.view.loc (c : Thread nD τ) ↦[arg6.view.set]{fullShare} arg6.view.writes (Elt F) arg6.view.junk L6) ∗ (arg7.view.loc (c : Thread nD τ) ↦[arg7.view.set]{fullShare} arg7.view.writes (Elt F) arg7.view.junk L7) ∗ (arg8.view.loc (c : Thread nD τ) ↦[arg8.view.set]{fullShare} arg8.view.writes (Elt F) arg8.view.junk L8) ∗ (∃ d, owns (c : Thread nD τ) arg11 fullShare d)) -∗ K ⟨BitVec.ofNat 32 (i 1).val, k0_pay215 (F := F), iota .tc S256x256 32 [0] iota_S256x256_d0_w32, iota .tc S256x256 32 [1] iota_S256x256_d1_w32, Scalar.addi (Scalar.muli (BitVec.ofNat 32 (i 1).val) 1#32) 0#32, k0_pay216 (F := F)⟩))
          ⊢ wp frame (wpE (defs₀ (F := F)) Variants.none c none) E (k0_part30 i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [k0_part30_eq_skeleton]; unfold k0_part30_skel
    unfold owns
    iintro ⟨⟨%f2, %hf2, H2⟩, ⟨%f3, %hf3, H3⟩, ⟨%f4, %hf4, H4⟩, ⟨%d6, %f6, -, H6⟩, ⟨%d7, %f7, -, H7⟩, ⟨%d8, %f8, -, H8⟩, ⟨%d11, %f11, %hf11, H11⟩, Hk⟩
    obtain rfl := harg2.eq_unread hf2; obtain rfl := harg3.eq_unread hf3; obtain rfl := harg4.eq_unread hf4
    sl_exec!
    sl_step
    unfold prepFirst.sl.v29 prepFirst.sl.v30 prepFirst.sl.v32 prepFirst.sl.v31
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]; · iexact H6
    isplitl [H7]; · iexact H7
    isplitl [H8]; · iexact H8
    iexists d11; iexists f11; isplitr; · ipureintro; exact hf11
    iexact H11

set_option maxHeartbeats 4000000 in
/-- The part that prepares, at every later tile of queries of a sequence: only the queries are laid
    out; the keys' and the values' buffers are kept. -/
def prepNext (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (hc : ¬ Scalar.cmpi .ne (Scalar.extui (Scalar.cmpi .eq (BitVec.ofNat 32 (i 1).val) 0#32)) 0#32 = 1#1) (x2 : Vec F S256x256 .f32) :
    { L8 : List (View.Piece (Elt F) S2x256x128 .bf16) //
      ∀ (E : Set ℕ) (K : (Σ' (arg1 : BitVec 32) (v28 : FVec F S272x256 .bf16) (v29 : IVec S256x256 32) (v30 : IVec S256x256 32) (v32 : BitVec 32), FVec F S4x64x256 .f32) → sProp 𝕄),
        iprop(owns (c : Thread nD τ) arg2 fullShare x2 ∗ (∃ d, owns (c : Thread nD τ) arg8 fullShare d) ∗ (∃ d, owns (c : Thread nD τ) arg11 fullShare d)
            ∗ (iprop(owns (c : Thread nD τ) arg2 fullShare x2 ∗ (arg8.view.loc (c : Thread nD τ) ↦[arg8.view.set]{fullShare} arg8.view.writes (Elt F) arg8.view.junk L8) ∗ (∃ d, owns (c : Thread nD τ) arg11 fullShare d)) -∗ K ⟨BitVec.ofNat 32 (i 1).val, k0_pay215 (F := F), iota .tc S256x256 32 [0] iota_S256x256_d0_w32, iota .tc S256x256 32 [1] iota_S256x256_d1_w32, Scalar.addi (Scalar.muli (BitVec.ofNat 32 (i 1).val) 1#32) 0#32, k0_pay216 (F := F)⟩))
          ⊢ wp frame (wpE (defs₀ (F := F)) Variants.none c none) E (k0_part30 i arg2 harg2 arg3 harg3 arg4 harg4 arg5 harg5 arg6 harg6 arg7 harg7 arg8 harg8 arg9 harg9 arg10 harg10 arg11 harg11) K } := by
  refine ⟨?_, fun E K => ?run⟩
  case run =>
    simp only [k0_part30_eq_skeleton]; unfold k0_part30_skel
    unfold owns
    iintro ⟨⟨%f2, %hf2, H2⟩, ⟨%d8, %f8, -, H8⟩, ⟨%d11, %f11, %hf11, H11⟩, Hk⟩
    obtain rfl := harg2.eq_unread hf2
    sl_exec!
    sl_step
    unfold prepNext.sl.v29 prepNext.sl.v30 prepNext.sl.v32 prepNext.sl.v31
    iapply Hk
    isplitl [H2]
    · iexists _; isplitr; · ipureintro; exact harg2.read_unread _
      iexact H2
    isplitl [H8]; · iexact H8
    iexists d11; iexists f11; isplitr; · ipureintro; exact hf11
    iexact H11

set_option maxHeartbeats 8000000 in
/-- The diagonal tile, from what the prepared buffers hold: what it stages, whatever the other buffers
    held, and what it hands to the walk. -/
def startRun (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (f6 : BufTy.Contents (Elt F) arg6.view.ty) (f8 : BufTy.Contents (Elt F) arg8.view.ty) :
    Σ' (R : (Σ' (v165 : FVec F S1x256 .f32) (v166 : FVec F S1x256 .f32) (v167 : FVec F S1x256 .f32) (v168 : FVec F S1x256 .f32) (v171 : FVec F S272x256 .f32) (v177 : Vec F S256x128 .bf16), FVec F S256x128 .bf16)) (L9 : List (View.Piece (Elt F) S4x256x256 .bf16)) (L10 : List (View.Piece (Elt F) S4x256x256 .f32)), { L11 : List (View.Piece (Elt F) S4x64x256 .f32) //
      ∀ (E : Set ℕ) (K : (Σ' (v165 : FVec F S1x256 .f32) (v166 : FVec F S1x256 .f32) (v167 : FVec F S1x256 .f32) (v168 : FVec F S1x256 .f32) (v171 : FVec F S272x256 .f32) (v177 : Vec F S256x128 .bf16), FVec F S256x128 .bf16) → sProp 𝕄),
        iprop((arg6.view.loc (c : Thread nD τ) ↦[arg6.view.set]{fullShare} f6) ∗ (arg8.view.loc (c : Thread nD τ) ↦[arg8.view.set]{fullShare} f8) ∗ (∃ d, owns (c : Thread nD τ) arg9 fullShare d) ∗ (∃ d, owns (c : Thread nD τ) arg10 fullShare d) ∗ (∃ d, owns (c : Thread nD τ) arg11 fullShare d)
            ∗ (iprop((arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} arg9.view.writes (Elt F) arg9.view.junk L9) ∗ (arg10.view.loc (c : Thread nD τ) ↦[arg10.view.set]{fullShare} arg10.view.writes (Elt F) arg10.view.junk L10) ∗ (arg11.view.loc (c : Thread nD τ) ↦[arg11.view.set]{fullShare} arg11.view.writes (Elt F) arg11.view.junk L11)) -∗ K R))
          ⊢ wp frame (wpE (defs₀ (F := F)) Variants.none c none) E (start i arg2 harg2 arg3 harg3 arg4 harg4 arg5 harg5 arg6 harg6 arg7 harg7 arg8 harg8 arg9 harg9 arg10 harg10 arg11 harg11 (k0_pay215 (F := F)) (iota .tc S256x256 32 [0] iota_S256x256_d0_w32) (iota .tc S256x256 32 [1] iota_S256x256_d1_w32) (Scalar.addi (Scalar.muli (BitVec.ofNat 32 (i 1).val) 1#32) 0#32) (k0_pay216 (F := F))) K } := by
  refine ⟨?_, ?_, ?_, ?_, fun E K => ?run⟩
  case run =>
    unfold start
    simp only [k0_part31_eq_skeleton, k0_part32_eq_skeleton, k0_part33_eq_skeleton, k0_part34_eq_skeleton]
    unfold owns
    iintro ⟨H6, H8, ⟨%d9, %f9, -, H9⟩, ⟨%d10, %f10, -, H10⟩, ⟨%d11, %f11, -, H11⟩, Hk⟩
    sl_exec!
    sl_step
    iapply Hk
    isplitl [H6]; · iexact H6
    isplitl [H8]; · iexact H8
    isplitl [H9]; · iexact H9
    isplitl [H10]; · iexact H10
    iexact H11

set_option maxHeartbeats 8000000 in
/-- The finish, from what every buffer holds and what the walk carried: the block it stores, and the
    sums it leaves. -/
def finishRun (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (f7 : BufTy.Contents (Elt F) arg7.view.ty) (f9 : BufTy.Contents (Elt F) arg9.view.ty) (f10 : BufTy.Contents (Elt F) arg10.view.ty) (f11 : BufTy.Contents (Elt F) arg11.view.ty) (p : (FVec F S1x256 .f32 × FVec F S1x256 .f32 × FVec F S1x256 .f32 × FVec F S1x256 .f32 × FVec F S272x256 .f32 × FVec F S256x256 .f32)) :
    Σ' (L5 : List (View.Piece (Elt F) S1x256x256 .f32)), { L11 : List (View.Piece (Elt F) S4x64x256 .f32) //
      ∀ (E : Set ℕ) (K : PUnit → sProp 𝕄),
        iprop((arg7.view.loc (c : Thread nD τ) ↦[arg7.view.set]{fullShare} f7) ∗ (∃ d, owns (c : Thread nD τ) arg5 fullShare d) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop((arg7.view.loc (c : Thread nD τ) ↦[arg7.view.set]{fullShare} f7) ∗ (arg5.view.loc (c : Thread nD τ) ↦[arg5.view.set]{fullShare} arg5.view.writes (Elt F) arg5.view.junk L5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} arg11.view.writes (Elt F) arg11.view.junk L11)) -∗ K ⟨⟩))
          ⊢ wp frame (wpE (defs₀ (F := F)) Variants.none c none) E (finish i arg2 harg2 arg3 harg3 arg4 harg4 arg5 harg5 arg6 harg6 arg7 harg7 arg8 harg8 arg9 harg9 arg10 harg10 arg11 harg11 (k0_pay215 (F := F)) p) K } := by
  refine ⟨?_, ?_, fun E K => ?run⟩
  case run =>
    unfold finish
    simp only [k0_part36_eq_skeleton]
    unfold owns
    iintro ⟨H7, ⟨%d5, %f5, -, H5⟩, H9, H10, H11, Hk⟩
    sl_exec!
    sl_step
    iapply Hk
    isplitl [H7]; · iexact H7
    isplitl [H5]; · iexact H5
    isplitl [H9]; · iexact H9
    isplitl [H10]; · iexact H10
    iexact H11

set_option maxHeartbeats 8000000 in
/-- The walk over the earlier tiles, from what every buffer holds and what the diagonal tile handed on. -/
def walkRun (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (s : (Σ' (v165 : FVec F S1x256 .f32) (v166 : FVec F S1x256 .f32) (v167 : FVec F S1x256 .f32) (v168 : FVec F S1x256 .f32) (v171 : FVec F S272x256 .f32) (v177 : Vec F S256x128 .bf16), FVec F S256x128 .bf16)) :
    Σ' (R : (FVec F S1x256 .f32 × FVec F S1x256 .f32 × FVec F S1x256 .f32 × FVec F S1x256 .f32 × FVec F S272x256 .f32 × FVec F S256x256 .f32)) (g9 : BufTy.Contents (Elt F) arg9.view.ty) (g10 : BufTy.Contents (Elt F) arg10.view.ty), { g11 : BufTy.Contents (Elt F) arg11.view.ty //
      ∀ (E : Set ℕ) (K : (FVec F S1x256 .f32 × FVec F S1x256 .f32 × FVec F S1x256 .f32 × FVec F S1x256 .f32 × FVec F S272x256 .f32 × FVec F S256x256 .f32) → sProp 𝕄),
        iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11)) -∗ K R))
          ⊢ wp frame (wpE (defs₀ (F := F)) Variants.none c none) E (walk i arg2 harg2 arg3 harg3 arg4 harg4 arg5 harg5 arg6 harg6 arg7 harg7 arg8 harg8 arg9 harg9 arg10 harg10 arg11 harg11 (BitVec.ofNat 32 (i 1).val) (k0_pay215 (F := F)) s.1 s.2.1 s.2.2.1 s.2.2.2.1 s.2.2.2.2.1 s.2.2.2.2.2.1 s.2.2.2.2.2.2) K } := by
  refine ⟨?_, ?_, ?_, ?_, fun E K => ?run⟩
  case run =>
    unfold walk
    iintro ⟨H6, H7, H8, H9, H10, H11, Hk⟩
    sl_exec!
    iapply Hk
    isplitl [H6]; · iexact H6
    isplitl [H7]; · iexact H7
    isplitl [H8]; · iexact H8
    isplitl [H9]; · iexact H9
    isplitl [H10]; · iexact H10
    iexact H11

/-- The pieces of the block that a point stores, from what the prepared buffers hold. -/
def restL5 (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (f6 : BufTy.Contents (Elt F) arg6.view.ty) (f7 : BufTy.Contents (Elt F) arg7.view.ty) (f8 : BufTy.Contents (Elt F) arg8.view.ty) : List (View.Piece (Elt F) S1x256x256 .f32) :=
  (finishRun c i arg2 harg2 arg3 harg3 arg4 harg4 arg5 harg5 arg6 harg6 arg7 harg7 arg8 harg8 arg9 harg9 arg10 harg10 arg11 harg11 f7
    (walkRun c i arg2 harg2 arg3 harg3 arg4 harg4 arg5 harg5 arg6 harg6 arg7 harg7 arg8 harg8 arg9 harg9 arg10 harg10 arg11 harg11 f6 f7 f8 (arg9.view.writes (Elt F) arg9.view.junk (startRun c i arg2 harg2 arg3 harg3 arg4 harg4 arg5 harg5 arg6 harg6 arg7 harg7 arg8 harg8 arg9 harg9 arg10 harg10 arg11 harg11 f6 f8).2.1) (arg10.view.writes (Elt F) arg10.view.junk (startRun c i arg2 harg2 arg3 harg3 arg4 harg4 arg5 harg5 arg6 harg6 arg7 harg7 arg8 harg8 arg9 harg9 arg10 harg10 arg11 harg11 f6 f8).2.2.1) (arg11.view.writes (Elt F) arg11.view.junk (startRun c i arg2 harg2 arg3 harg3 arg4 harg4 arg5 harg5 arg6 harg6 arg7 harg7 arg8 harg8 arg9 harg9 arg10 harg10 arg11 harg11 f6 f8).2.2.2.1) (startRun c i arg2 harg2 arg3 harg3 arg4 harg4 arg5 harg5 arg6 harg6 arg7 harg7 arg8 harg8 arg9 harg9 arg10 harg10 arg11 harg11 f6 f8).1).2.1
    (walkRun c i arg2 harg2 arg3 harg3 arg4 harg4 arg5 harg5 arg6 harg6 arg7 harg7 arg8 harg8 arg9 harg9 arg10 harg10 arg11 harg11 f6 f7 f8 (arg9.view.writes (Elt F) arg9.view.junk (startRun c i arg2 harg2 arg3 harg3 arg4 harg4 arg5 harg5 arg6 harg6 arg7 harg7 arg8 harg8 arg9 harg9 arg10 harg10 arg11 harg11 f6 f8).2.1) (arg10.view.writes (Elt F) arg10.view.junk (startRun c i arg2 harg2 arg3 harg3 arg4 harg4 arg5 harg5 arg6 harg6 arg7 harg7 arg8 harg8 arg9 harg9 arg10 harg10 arg11 harg11 f6 f8).2.2.1) (arg11.view.writes (Elt F) arg11.view.junk (startRun c i arg2 harg2 arg3 harg3 arg4 harg4 arg5 harg5 arg6 harg6 arg7 harg7 arg8 harg8 arg9 harg9 arg10 harg10 arg11 harg11 f6 f8).2.2.2.1) (startRun c i arg2 harg2 arg3 harg3 arg4 harg4 arg5 harg5 arg6 harg6 arg7 harg7 arg8 harg8 arg9 harg9 arg10 harg10 arg11 harg11 f6 f8).1).2.2.1
    (walkRun c i arg2 harg2 arg3 harg3 arg4 harg4 arg5 harg5 arg6 harg6 arg7 harg7 arg8 harg8 arg9 harg9 arg10 harg10 arg11 harg11 f6 f7 f8 (arg9.view.writes (Elt F) arg9.view.junk (startRun c i arg2 harg2 arg3 harg3 arg4 harg4 arg5 harg5 arg6 harg6 arg7 harg7 arg8 harg8 arg9 harg9 arg10 harg10 arg11 harg11 f6 f8).2.1) (arg10.view.writes (Elt F) arg10.view.junk (startRun c i arg2 harg2 arg3 harg3 arg4 harg4 arg5 harg5 arg6 harg6 arg7 harg7 arg8 harg8 arg9 harg9 arg10 harg10 arg11 harg11 f6 f8).2.2.1) (arg11.view.writes (Elt F) arg11.view.junk (startRun c i arg2 harg2 arg3 harg3 arg4 harg4 arg5 harg5 arg6 harg6 arg7 harg7 arg8 harg8 arg9 harg9 arg10 harg10 arg11 harg11 f6 f8).2.2.2.1) (startRun c i arg2 harg2 arg3 harg3 arg4 harg4 arg5 harg5 arg6 harg6 arg7 harg7 arg8 harg8 arg9 harg9 arg10 harg10 arg11 harg11 f6 f8).1).2.2.2.1
    (walkRun c i arg2 harg2 arg3 harg3 arg4 harg4 arg5 harg5 arg6 harg6 arg7 harg7 arg8 harg8 arg9 harg9 arg10 harg10 arg11 harg11 f6 f7 f8 (arg9.view.writes (Elt F) arg9.view.junk (startRun c i arg2 harg2 arg3 harg3 arg4 harg4 arg5 harg5 arg6 harg6 arg7 harg7 arg8 harg8 arg9 harg9 arg10 harg10 arg11 harg11 f6 f8).2.1) (arg10.view.writes (Elt F) arg10.view.junk (startRun c i arg2 harg2 arg3 harg3 arg4 harg4 arg5 harg5 arg6 harg6 arg7 harg7 arg8 harg8 arg9 harg9 arg10 harg10 arg11 harg11 f6 f8).2.2.1) (arg11.view.writes (Elt F) arg11.view.junk (startRun c i arg2 harg2 arg3 harg3 arg4 harg4 arg5 harg5 arg6 harg6 arg7 harg7 arg8 harg8 arg9 harg9 arg10 harg10 arg11 harg11 f6 f8).2.2.2.1) (startRun c i arg2 harg2 arg3 harg3 arg4 harg4 arg5 harg5 arg6 harg6 arg7 harg7 arg8 harg8 arg9 harg9 arg10 harg10 arg11 harg11 f6 f8).1).1).1

/-- The body after its first part, in one run: the three runs one after the other. -/
theorem rest_wp (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (f6 : BufTy.Contents (Elt F) arg6.view.ty) (f7 : BufTy.Contents (Elt F) arg7.view.ty) (f8 : BufTy.Contents (Elt F) arg8.view.ty) (E : Set ℕ) (K : PUnit → sProp 𝕄) :
    iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ d, owns (c : Thread nD τ) arg5 fullShare d) ∗ (∃ d, owns (c : Thread nD τ) arg9 fullShare d) ∗ (∃ d, owns (c : Thread nD τ) arg10 fullShare d) ∗ (∃ d, owns (c : Thread nD τ) arg11 fullShare d)
        ∗ (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg5.view.loc (c : Thread nD τ) ↦[arg5.view.set]{fullShare} arg5.view.writes (Elt F) arg5.view.junk (restL5 c i arg2 harg2 arg3 harg3 arg4 harg4 arg5 harg5 arg6 harg6 arg7 harg7 arg8 harg8 arg9 harg9 arg10 harg10 arg11 harg11 f6 f7 f8)) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E
        (start i arg2 harg2 arg3 harg3 arg4 harg4 arg5 harg5 arg6 harg6 arg7 harg7 arg8 harg8 arg9 harg9 arg10 harg10 arg11 harg11 (k0_pay215 (F := F)) (iota .tc S256x256 32 [0] iota_S256x256_d0_w32) (iota .tc S256x256 32 [1] iota_S256x256_d1_w32) (Scalar.addi (Scalar.muli (BitVec.ofNat 32 (i 1).val) 1#32) 0#32) (k0_pay216 (F := F)) >>= fun s =>
          walk i arg2 harg2 arg3 harg3 arg4 harg4 arg5 harg5 arg6 harg6 arg7 harg7 arg8 harg8 arg9 harg9 arg10 harg10 arg11 harg11 (BitVec.ofNat 32 (i 1).val) (k0_pay215 (F := F)) s.1 s.2.1 s.2.2.1 s.2.2.2.1 s.2.2.2.2.1 s.2.2.2.2.2.1 s.2.2.2.2.2.2 >>= fun w => finish i arg2 harg2 arg3 harg3 arg4 harg4 arg5 harg5 arg6 harg6 arg7 harg7 arg8 harg8 arg9 harg9 arg10 harg10 arg11 harg11 (k0_pay215 (F := F)) w) K := by
  simp only [wp_bind]
  iintro ⟨H6, H7, H8, H5, H9, H10, H11, Hk⟩
  iapply (startRun c i arg2 harg2 arg3 harg3 arg4 harg4 arg5 harg5 arg6 harg6 arg7 harg7 arg8 harg8 arg9 harg9 arg10 harg10 arg11 harg11 f6 f8).2.2.2.2 E _
  isplitl [H6]; · iexact H6
  isplitl [H8]; · iexact H8
  isplitl [H9]; · iexact H9
  isplitl [H10]; · iexact H10
  isplitl [H11]; · iexact H11
  iintro ⟨H6, H8, H9, H10, H11⟩
  iapply (walkRun c i arg2 harg2 arg3 harg3 arg4 harg4 arg5 harg5 arg6 harg6 arg7 harg7 arg8 harg8 arg9 harg9 arg10 harg10 arg11 harg11 f6 f7 f8 _ _ _ (startRun c i arg2 harg2 arg3 harg3 arg4 harg4 arg5 harg5 arg6 harg6 arg7 harg7 arg8 harg8 arg9 harg9 arg10 harg10 arg11 harg11 f6 f8).1).2.2.2.2 E _
  isplitl [H6]; · iexact H6
  isplitl [H7]; · iexact H7
  isplitl [H8]; · iexact H8
  isplitl [H9]; · iexact H9
  isplitl [H10]; · iexact H10
  isplitl [H11]; · iexact H11
  iintro ⟨H6, H7, H8, H9, H10, H11⟩
  iapply (finishRun c i arg2 harg2 arg3 harg3 arg4 harg4 arg5 harg5 arg6 harg6 arg7 harg7 arg8 harg8 arg9 harg9 arg10 harg10 arg11 harg11 f7 _ _ _ _).2.2 E _
  isplitl [H7]; · iexact H7
  isplitl [H5]; · iexact H5
  isplitl [H9]; · iexact H9
  isplitl [H10]; · iexact H10
  isplitl [H11]; · iexact H11
  iintro ⟨H7, H5, H9, H10, H11⟩
  iapply Hk
  isplitl [H6]; · iexact H6
  isplitl [H7]; · iexact H7
  isplitl [H8]; · iexact H8
  isplitl [H5]; · unfold restL5; iexact H5
  isplitl [H9]; · iexists _; unfold owns; iexists _; isplitr; swap; (· iexact H9); ipureintro; rfl
  isplitl [H10]; · iexists _; unfold owns; iexists _; isplitr; swap; (· iexact H10); ipureintro; rfl
  iexists _; unfold owns; iexists _; isplitr; swap; (· iexact H11); ipureintro; rfl

end Cert.KernelIdeal.Stick

end
-- ==== Proof.StickFrame.lean ====
module

public import proofs.«01_k».proof.Proof.StickPrep
public import proofs.«01_k».proof.Proof.Gen.KernelIdeal.Points
public import Idealize.ShloMosaic.Lib.Claim

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window 0's staging buffer at a point, and that it is whole. -/
abbrev m0 (t : Fin cfg0.N) : Memref sig .tc .vmem S256x256 .f32 := win0_0.stage (cfg0.slots t 0)
abbrev h0 (t : Fin cfg0.N) : (m0 t).IsWhole := hstage0_0 ((cfg0.slots t 0).cast nbuf0_0)
/-- Window 1's staging buffer at a point, and that it is whole. -/
abbrev m1 (t : Fin cfg0.N) : Memref sig .tc .vmem S4096x256 .f32 := win0_1.stage (cfg0.slots t 1)
abbrev h1 (t : Fin cfg0.N) : (m1 t).IsWhole := hstage0_1 ((cfg0.slots t 1).cast nbuf0_1)
/-- Window 2's staging buffer at a point, and that it is whole. -/
abbrev m2 (t : Fin cfg0.N) : Memref sig .tc .vmem S4096x256 .f32 := win0_2.stage (cfg0.slots t 2)
abbrev h2 (t : Fin cfg0.N) : (m2 t).IsWhole := hstage0_2 ((cfg0.slots t 2).cast nbuf0_2)
/-- Window 3's staging buffer at a point, and that it is whole. -/
abbrev m3 (t : Fin cfg0.N) : Memref sig .tc .vmem S1x256x256 .f32 := win0_3.stage (cfg0.slots t 3)
abbrev h3 (t : Fin cfg0.N) : (m3 t).IsWhole := hstage0_3 ((cfg0.slots t 3).cast nbuf0_3)
/-- Scratch buffer 0. -/
abbrev s0 : Memref sig .tc .vmem S4096x512 .bf16 := Memref.whole cc0_scratch0
/-- Scratch buffer 1. -/
abbrev s1 : Memref sig .tc .vmem S16x256x256 .bf16 := Memref.whole cc0_scratch1
/-- Scratch buffer 2. -/
abbrev s2 : Memref sig .tc .vmem S2x256x128 .bf16 := Memref.whole cc0_scratch2
/-- Scratch buffer 3. -/
abbrev s3 : Memref sig .tc .vmem S4x256x256 .bf16 := Memref.whole cc0_scratch3
/-- Scratch buffer 4. -/
abbrev s4 : Memref sig .tc .vmem S4x256x256 .f32 := Memref.whole cc0_scratch4
/-- Scratch buffer 5. -/
abbrev s5 : Memref sig .tc .vmem S4x64x256 .f32 := Memref.whole cc0_scratch5

/-- The branch that prepares the keys and values is taken at the first point of every sequence. -/
theorem hcond (t : Fin cfg0.N) : (Scalar.cmpi .ne (Scalar.extui (Scalar.cmpi .eq (BitVec.ofNat 32 (grid0.coords t 1).val) 0#32)) 0#32 = 1#1) ↔ t.val % 16 = 0 := by
  revert t; decide +kernel

/-- The first point of the sequence that point `n` belongs to. -/
def first (n : ℕ) : Fin cfg0.N := ⟨16 * (n % 128 / 16), by have h : cfg0.N = 128 := N_0; omega⟩

theorem first_mod (n : ℕ) : (first n).val % 16 = 0 := by simp [first]

theorem first_self (t : Fin cfg0.N) (h : t.val % 16 = 0) : first t.val = t := by
  have hN : cfg0.N = 128 := N_0
  have := t.isLt
  apply Fin.ext; simp only [first]; omega

theorem first_succ (n : ℕ) (h : (n + 1) % 16 ≠ 0) : first (n + 1) = first n := by
  apply Fin.ext; simp only [first]; omega

/-- What the keys' scratch buffer holds throughout a sequence whose first point is `t`. -/
def keysAt (c : Dev nD) (t : Fin cfg0.N) (h : t.val % 16 = 0) : BufTy.Contents (Elt F) s0.view.ty :=
  s0.view.writes (Elt F) s0.view.junk (prepFirst c (grid0.coords t) (m0 t) (h0 t) (m1 t) (h1 t) (m2 t) (h2 t) (m3 t) (h3 t) s0 (Memref.isWhole_whole _) s1 (Memref.isWhole_whole _) s2 (Memref.isWhole_whole _) s3 (Memref.isWhole_whole _) s4 (Memref.isWhole_whole _) s5 (Memref.isWhole_whole _) ((hcond t).2 h) (iblk m c 0 t) (iblk m c 1 t) (iblk m c 2 t)).1

/-- What the values' scratch buffer holds throughout a sequence whose first point is `t`. -/
def valsAt (c : Dev nD) (t : Fin cfg0.N) (h : t.val % 16 = 0) : BufTy.Contents (Elt F) s1.view.ty :=
  s1.view.writes (Elt F) s1.view.junk (prepFirst c (grid0.coords t) (m0 t) (h0 t) (m1 t) (h1 t) (m2 t) (h2 t) (m3 t) (h3 t) s0 (Memref.isWhole_whole _) s1 (Memref.isWhole_whole _) s2 (Memref.isWhole_whole _) s3 (Memref.isWhole_whole _) s4 (Memref.isWhole_whole _) s5 (Memref.isWhole_whole _) ((hcond t).2 h) (iblk m c 0 t) (iblk m c 1 t) (iblk m c 2 t)).2.1

theorem keys_congr (c : Dev nD) {t t' : Fin cfg0.N} (e : t = t') (h : t.val % 16 = 0) (h' : t'.val % 16 = 0) :
    keysAt m c t h = keysAt m c t' h' := by subst e; rfl

theorem vals_congr (c : Dev nD) {t t' : Fin cfg0.N} (e : t = t') (h : t.val % 16 = 0) (h' : t'.val % 16 = 0) :
    valsAt m c t h = valsAt m c t' h' := by subst e; rfl

/-- What the queries' scratch buffer holds at a point. -/
def qryAt (c : Dev nD) (t : Fin cfg0.N) : BufTy.Contents (Elt F) s2.view.ty :=
  if h : t.val % 16 = 0 then s2.view.writes (Elt F) s2.view.junk (prepFirst c (grid0.coords t) (m0 t) (h0 t) (m1 t) (h1 t) (m2 t) (h2 t) (m3 t) (h3 t) s0 (Memref.isWhole_whole _) s1 (Memref.isWhole_whole _) s2 (Memref.isWhole_whole _) s3 (Memref.isWhole_whole _) s4 (Memref.isWhole_whole _) s5 (Memref.isWhole_whole _) ((hcond t).2 h) (iblk m c 0 t) (iblk m c 1 t) (iblk m c 2 t)).2.2.1
  else s2.view.writes (Elt F) s2.view.junk (prepNext c (grid0.coords t) (m0 t) (h0 t) (m1 t) (h1 t) (m2 t) (h2 t) (m3 t) (h3 t) s0 (Memref.isWhole_whole _) s1 (Memref.isWhole_whole _) s2 (Memref.isWhole_whole _) s3 (Memref.isWhole_whole _) s4 (Memref.isWhole_whole _) s5 (Memref.isWhole_whole _) (fun hc => h ((hcond t).1 hc)) (iblk m c 0 t)).1

/-- The block that a point stores. -/
def outsAt (c : Dev nD) (t : Fin cfg0.N) : Vec F S1x256x256 .f32 :=
  (m3 t).view.read (Elt F) ((m3 t).view.writes (Elt F) (m3 t).view.junk
    (restL5 c (grid0.coords t) (m0 t) (h0 t) (m1 t) (h1 t) (m2 t) (h2 t) (m3 t) (h3 t) s0 (Memref.isWhole_whole _) s1 (Memref.isWhole_whole _) s2 (Memref.isWhole_whole _) s3 (Memref.isWhole_whole _) s4 (Memref.isWhole_whole _) s5 (Memref.isWhole_whole _) (keysAt m c (first t.val) (first_mod _)) (valsAt m c (first t.val) (first_mod _)) (qryAt m c t)))

/-- Between two points: the scratch buffers hold anything between two sequences; within a sequence the keys'
    and the values' hold what its first point put there. -/
def inv (c : Dev nD) (n : ℕ) : sProp 𝕄 :=
  if n % 16 = 0 then Pipeline.ΦA spec0 c
  else iprop((s0.view.loc (c : Thread nD τ) ↦[s0.view.set]{fullShare} (keysAt m c (first n) (first_mod _))) ∗ (s1.view.loc (c : Thread nD τ) ↦[s1.view.set]{fullShare} (valsAt m c (first n) (first_mod _))) ∗ (∃ d, owns (c : Thread nD τ) s2 fullShare d) ∗ (∃ d, owns (c : Thread nD τ) s3 fullShare d) ∗ (∃ d, owns (c : Thread nD τ) s4 fullShare d) ∗ (∃ d, owns (c : Thread nD τ) s5 fullShare d) ∗ (∃ r, prngReg c r))

theorem inv_mod (c : Dev nD) (n : ℕ) (h : n % 16 = 0) : inv m c n = Pipeline.ΦA spec0 c := if_pos h

/-- The scratch buffers at any contents. -/
theorem PhiA_eq (c : Dev nD) : (Pipeline.ΦA spec0 c : sProp 𝕄)
      = iprop(iprop((∃ d, owns (c : Thread nD τ) s0 fullShare d) ∗ (∃ d, owns (c : Thread nD τ) s1 fullShare d) ∗ (∃ d, owns (c : Thread nD τ) s2 fullShare d) ∗ (∃ d, owns (c : Thread nD τ) s3 fullShare d) ∗ (∃ d, owns (c : Thread nD τ) s4 fullShare d) ∗ (∃ d, owns (c : Thread nD τ) s5 fullShare d)) ∗ (∃ r, prngReg c r)) := by
  unfold Pipeline.ΦA; rw [scopedRest0_eq]; simp only [s0, s1, s2, s3, s4, s5, owns_whole]; try rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t)
  Φ t := inv m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d))
    ∗ (∃ d, owns (c : Thread nD τ) (m3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ owns (c : Thread nD τ) (m0 t) fullShare ((dats m 0 c).after 0 t)
    ∗ owns (c : Thread nD τ) (m1 t) fullShare ((dats m 0 c).after 1 t)
    ∗ owns (c : Thread nD τ) (m2 t) fullShare ((dats m 0 c).after 2 t)
    ∗ owns (c : Thread nD τ) (m3 t) fullShare ((dats m 0 c).after 3 t))

/-- After a point the scratch buffers are as the next point finds them. -/
theorem inv_succ (c : Dev nD) (t : Fin cfg0.N) :
    iprop((s0.view.loc (c : Thread nD τ) ↦[s0.view.set]{fullShare} (keysAt m c (first t.val) (first_mod _))) ∗ (s1.view.loc (c : Thread nD τ) ↦[s1.view.set]{fullShare} (valsAt m c (first t.val) (first_mod _))) ∗ (∃ d, owns (c : Thread nD τ) s2 fullShare d) ∗ (∃ d, owns (c : Thread nD τ) s3 fullShare d) ∗ (∃ d, owns (c : Thread nD τ) s4 fullShare d) ∗ (∃ d, owns (c : Thread nD τ) s5 fullShare d) ∗ (∃ r, prngReg c r))
      ⊢ inv m c (t.val + 1) := by
  unfold inv
  by_cases h : (t.val + 1) % 16 = 0
  · rw [if_pos h, PhiA_eq]
    iintro ⟨H0, H1, H2, H3, H4, H5, Hg⟩
    isplitr [Hg]
    · isplitl [H0]
      · iexists _; unfold owns; iexists _; isplitr; swap; (· iexact H0); ipureintro; rfl
      isplitl [H1]
      · iexists _; unfold owns; iexists _; isplitr; swap; (· iexact H1); ipureintro; rfl
      isplitl [H2]; · iexact H2
      isplitl [H3]; · iexact H3
      isplitl [H4]; · iexact H4
      iexact H5
    iexact Hg
  · rw [if_neg h, keys_congr m c (first_succ _ h) _ (first_mod t.val), vals_congr m c (first_succ _ h) _ (first_mod t.val)]

/-- The body at a sequence's first point. -/
theorem sound_first (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = inv m c (t.val + 1) from rfl,
    show (dats m 0 c).owesAt () t.succ = (dats m 0 c).owesAt () t.castSucc from rfl,
    after0_0, after0_1, after0_2, after0_3]
  rw [show (dats m 0 c).Φ t.castSucc = inv m c t.val from rfl, show inv m c t.val = Pipeline.ΦA spec0 c from if_pos h, PhiA_eq]
  rw [body_eq, wp_bind]
  have hi := inv_succ m c t
  unfold outsAt
  rw [keys_congr m c (first_self t h) (first_mod t.val) h, vals_congr m c (first_self t h) (first_mod t.val) h] at hi ⊢
  rw [show qryAt m c t = s2.view.writes (Elt F) s2.view.junk (prepFirst c (grid0.coords t) (m0 t) (h0 t) (m1 t) (h1 t) (m2 t) (h2 t) (m3 t) (h3 t) s0 (Memref.isWhole_whole _) s1 (Memref.isWhole_whole _) s2 (Memref.isWhole_whole _) s3 (Memref.isWhole_whole _) s4 (Memref.isWhole_whole _) s5 (Memref.isWhole_whole _) ((hcond t).2 h) (iblk m c 0 t) (iblk m c 1 t) (iblk m c 2 t)).2.2.1 from dif_pos h]
  unfold keysAt valsAt at hi ⊢
  iintro ⟨⟨⟨HS0, HS1, HS2, HS3, HS4, HS5⟩, Hg⟩, Ho, ⟨%d0, H0⟩, ⟨%d1, H1⟩, ⟨%d2, H2⟩, ⟨%d3, H3⟩⟩
  iapply ((prepFirst c (grid0.coords t) _ _ _ _ _ _ _ _ _ _ _ _ _ _ _ _ _ _ _ _ ((hcond t).2 h) (iblk m c 0 t) (iblk m c 1 t) (iblk m c 2 t)).2.2.2 Set.univ _)
  isplitl [H0]; · iexact H0
  isplitl [H1]; · iexact H1
  isplitl [H2]; · iexact H2
  isplitl [HS0]; · iexact HS0
  isplitl [HS1]; · iexact HS1
  isplitl [HS2]; · iexact HS2
  isplitl [HS5]; · iexact HS5
  iintro ⟨H0, H1, H2, HS0, HS1, HS2, HS5⟩
  iapply rest_wp c (grid0.coords t) _ _ _ _ _ _ _ _ _ _ _ _ _ _ _ _ _ _ _ _ _ _ _ Set.univ _
  isplitl [HS0]; · iexact HS0
  isplitl [HS1]; · iexact HS1
  isplitl [HS2]; · iexact HS2
  isplitl [H3]; · iexists _; iexact H3
  isplitl [HS3]; · iexact HS3
  isplitl [HS4]; · iexact HS4
  isplitl [HS5]; · iexact HS5
  iintro ⟨HS0, HS1, HS2, H3, HS3, HS4, HS5⟩
  isplitl [HS0 HS1 HS2 HS3 HS4 HS5 Hg]
  · iapply hi
    isplitl [HS0]; · iexact HS0
    isplitl [HS1]; · iexact HS1
    isplitl [HS2]
    · iexists _; unfold owns; iexists _; isplitr; swap; (· iexact HS2); ipureintro; rfl
    isplitl [HS3]; · iexact HS3
    isplitl [HS4]; · iexact HS4
    isplitl [HS5]; · iexact HS5
    iexact Hg
  isplitl [Ho]; · iexact Ho
  isplitl [H0]; · iexact H0
  isplitl [H1]; · iexact H1
  isplitl [H2]; · iexact H2
  unfold owns; iexists _; isplitr
  swap; · iexact H3
  ipureintro; rfl

/-- The body at any other point. -/
theorem sound_next (c : Dev nD) (t : Fin cfg0.N) (h : ¬ t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = inv m c (t.val + 1) from rfl,
    show (dats m 0 c).owesAt () t.succ = (dats m 0 c).owesAt () t.castSucc from rfl,
    after0_0, after0_1, after0_2, after0_3]
  rw [show (dats m 0 c).Φ t.castSucc = inv m c t.val from rfl]
  rw [show inv m c t.val = iprop((s0.view.loc (c : Thread nD τ) ↦[s0.view.set]{fullShare} (keysAt m c (first t.val) (first_mod _))) ∗ (s1.view.loc (c : Thread nD τ) ↦[s1.view.set]{fullShare} (valsAt m c (first t.val) (first_mod _))) ∗ (∃ d, owns (c : Thread nD τ) s2 fullShare d) ∗ (∃ d, owns (c : Thread nD τ) s3 fullShare d) ∗ (∃ d, owns (c : Thread nD τ) s4 fullShare d) ∗ (∃ d, owns (c : Thread nD τ) s5 fullShare d) ∗ (∃ r, prngReg c r)) from if_neg h]
  rw [body_eq, wp_bind]
  have hi := inv_succ m c t
  unfold outsAt
  rw [show qryAt m c t = s2.view.writes (Elt F) s2.view.junk (prepNext c (grid0.coords t) (m0 t) (h0 t) (m1 t) (h1 t) (m2 t) (h2 t) (m3 t) (h3 t) s0 (Memref.isWhole_whole _) s1 (Memref.isWhole_whole _) s2 (Memref.isWhole_whole _) s3 (Memref.isWhole_whole _) s4 (Memref.isWhole_whole _) s5 (Memref.isWhole_whole _) (fun hc => h ((hcond t).1 hc)) (iblk m c 0 t)).1 from dif_neg h]
  iintro ⟨⟨HS0, HS1, HS2, HS3, HS4, HS5, Hg⟩, Ho, ⟨%d0, H0⟩, ⟨%d1, H1⟩, ⟨%d2, H2⟩, ⟨%d3, H3⟩⟩
  iapply ((prepNext c (grid0.coords t) _ _ _ _ _ _ _ _ _ _ _ _ _ _ _ _ _ _ _ _ (fun hc => h ((hcond t).1 hc)) (iblk m c 0 t)).2 Set.univ _)
  isplitl [H0]; · iexact H0
  isplitl [HS2]; · iexact HS2
  isplitl [HS5]; · iexact HS5
  iintro ⟨H0, HS2, HS5⟩
  iapply rest_wp c (grid0.coords t) _ _ _ _ _ _ _ _ _ _ _ _ _ _ _ _ _ _ _ _ _ _ _ Set.univ _
  isplitl [HS0]; · iexact HS0
  isplitl [HS1]; · iexact HS1
  isplitl [HS2]; · iexact HS2
  isplitl [H3]; · iexists _; iexact H3
  isplitl [HS3]; · iexact HS3
  isplitl [HS4]; · iexact HS4
  isplitl [HS5]; · iexact HS5
  iintro ⟨HS0, HS1, HS2, H3, HS3, HS4, HS5⟩
  isplitl [HS0 HS1 HS2 HS3 HS4 HS5 Hg]
  · iapply hi
    isplitl [HS0]; · iexact HS0
    isplitl [HS1]; · iexact HS1
    isplitl [HS2]
    · iexists _; unfold owns; iexists _; isplitr; swap; (· iexact HS2); ipureintro; rfl
    isplitl [HS3]; · iexact HS3
    isplitl [HS4]; · iexact HS4
    isplitl [HS5]; · iexact HS5
    iexact Hg
  isplitl [Ho]; · iexact Ho
  isplitl [H0]; · iexact H0
  isplitl [H1]; · iexact H1
  isplitl [H2]; · iexact H2
  unfold owns; iexists _; isplitr
  swap; · iexact H3
  ipureintro; rfl

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 16 = 0
  · exact sound_first m c t h
  · exact sound_next m c t h

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every execution ends, the windows' arrays are as the proof data say, no semaphore is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by
      have e : (dats m 0 c).Φ 0 = Pipeline.ΦA spec0 c := inv_mod m c 0 rfl
      rw [e])
    (hout := fun c => by
      have e : (dats m 0 c).Φ (Fin.last cfg0.N) = Pipeline.ΦA spec0 c :=
        inv_mod m c cfg0.N (by rw [show cfg0.N = 128 from N_0])
      exact e ▸ .rfl)
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The argument array ends unchanged, and no semaphore is left raised. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.KernelIdeal.Stick

end
-- ==== Proof.StickRead.lean ====
module

public import proofs.«01_k».proof.Proof.StickPrep
public import Idealize.ShloMosaic.Lib.Pointwise
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.KernelIdeal.Stick

open Cert.KernelIdeal Cert.KernelIdeal.Gen Idealize.ShloMosaic Idealize.ShloMosaic.TcCoe
open Idealize.SL Idealize.SL.Sem Idealize.ShloMosaic.Tactic

/-! ## Reading the scratch buffers -/

/-- A load of a block of `S4096x512`, at an index. -/
theorem ld_keys {e : EltTy} (v : View sig .tc .vmem S4096x512 e) (f : v.ty.Contents (Elt Ideal)) (off : Fin 2 → ℕ) (inb : ∀ a : Fin 2, off a + S256x128.size a ≤ S4096x512.size a)
    (y0 : Fin 256) (y1 : Fin 128) :
    v.readAt (Elt Ideal) (Rect.unit (s := S4096x512) off S256x128.size inb).toLoadRect f (ix2 y0 y1)
      = v.read (Elt Ideal) f (ix2 (⟨off 0 + y0.val, by have h := inb 0; change off 0 + 256 ≤ 4096 at h; have := y0.isLt; omega⟩ : Fin 4096) (⟨off 1 + y1.val, by have h := inb 1; change off 1 + 128 ≤ 512 at h; have := y1.isLt; omega⟩ : Fin 512)) := by
  rw [View.readAt_eq_ld, View.ld_apply]
  congr 1
  funext a
  match a with
  | ⟨0, _⟩ => apply Fin.ext; show off 0 + 1 * y0.val = off 0 + y0.val; omega
  | ⟨1, _⟩ => apply Fin.ext; show off 1 + 1 * y1.val = off 1 + y1.val; omega

/-- A load of a block of `S16x256x256`, at an index. -/
theorem ld_vals {e : EltTy} (v : View sig .tc .vmem S16x256x256 e) (f : v.ty.Contents (Elt Ideal)) (off : Fin 3 → ℕ) (inb : ∀ a : Fin 3, off a + S1x64x256.size a ≤ S16x256x256.size a)
    (y0 : Fin 1) (y1 : Fin 64) (y2 : Fin 256) :
    v.readAt (Elt Ideal) (Rect.unit (s := S16x256x256) off S1x64x256.size inb).toLoadRect f (ix3 y0 y1 y2)
      = v.read (Elt Ideal) f (ix3 (⟨off 0 + y0.val, by have h := inb 0; change off 0 + 1 ≤ 16 at h; have := y0.isLt; omega⟩ : Fin 16) (⟨off 1 + y1.val, by have h := inb 1; change off 1 + 64 ≤ 256 at h; have := y1.isLt; omega⟩ : Fin 256) (⟨off 2 + y2.val, by have h := inb 2; change off 2 + 256 ≤ 256 at h; have := y2.isLt; omega⟩ : Fin 256)) := by
  rw [View.readAt_eq_ld, View.ld_apply]
  congr 1
  funext a
  match a with
  | ⟨0, _⟩ => apply Fin.ext; show off 0 + 1 * y0.val = off 0 + y0.val; omega
  | ⟨1, _⟩ => apply Fin.ext; show off 1 + 1 * y1.val = off 1 + y1.val; omega
  | ⟨2, _⟩ => apply Fin.ext; show off 2 + 1 * y2.val = off 2 + y2.val; omega

/-- A load of a block of `S2x256x128`, at an index. -/
theorem ld_qry {e : EltTy} (v : View sig .tc .vmem S2x256x128 e) (f : v.ty.Contents (Elt Ideal)) (off : Fin 3 → ℕ) (inb : ∀ a : Fin 3, off a + S1x256x128.size a ≤ S2x256x128.size a)
    (y0 : Fin 1) (y1 : Fin 256) (y2 : Fin 128) :
    v.readAt (Elt Ideal) (Rect.unit (s := S2x256x128) off S1x256x128.size inb).toLoadRect f (ix3 y0 y1 y2)
      = v.read (Elt Ideal) f (ix3 (⟨off 0 + y0.val, by have h := inb 0; change off 0 + 1 ≤ 2 at h; have := y0.isLt; omega⟩ : Fin 2) (⟨off 1 + y1.val, by have h := inb 1; change off 1 + 256 ≤ 256 at h; have := y1.isLt; omega⟩ : Fin 256) (⟨off 2 + y2.val, by have h := inb 2; change off 2 + 128 ≤ 128 at h; have := y2.isLt; omega⟩ : Fin 128)) := by
  rw [View.readAt_eq_ld, View.ld_apply]
  congr 1
  funext a
  match a with
  | ⟨0, _⟩ => apply Fin.ext; show off 0 + 1 * y0.val = off 0 + y0.val; omega
  | ⟨1, _⟩ => apply Fin.ext; show off 1 + 1 * y1.val = off 1 + y1.val; omega
  | ⟨2, _⟩ => apply Fin.ext; show off 2 + 1 * y2.val = off 2 + y2.val; omega

/-- A load of a block of `S4x256x256`, at an index. -/
theorem ld_tile {e : EltTy} (v : View sig .tc .vmem S4x256x256 e) (f : v.ty.Contents (Elt Ideal)) (off : Fin 3 → ℕ) (inb : ∀ a : Fin 3, off a + S1x256x256.size a ≤ S4x256x256.size a)
    (y0 : Fin 1) (y1 : Fin 256) (y2 : Fin 256) :
    v.readAt (Elt Ideal) (Rect.unit (s := S4x256x256) off S1x256x256.size inb).toLoadRect f (ix3 y0 y1 y2)
      = v.read (Elt Ideal) f (ix3 (⟨off 0 + y0.val, by have h := inb 0; change off 0 + 1 ≤ 4 at h; have := y0.isLt; omega⟩ : Fin 4) (⟨off 1 + y1.val, by have h := inb 1; change off 1 + 256 ≤ 256 at h; have := y1.isLt; omega⟩ : Fin 256) (⟨off 2 + y2.val, by have h := inb 2; change off 2 + 256 ≤ 256 at h; have := y2.isLt; omega⟩ : Fin 256)) := by
  rw [View.readAt_eq_ld, View.ld_apply]
  congr 1
  funext a
  match a with
  | ⟨0, _⟩ => apply Fin.ext; show off 0 + 1 * y0.val = off 0 + y0.val; omega
  | ⟨1, _⟩ => apply Fin.ext; show off 1 + 1 * y1.val = off 1 + y1.val; omega
  | ⟨2, _⟩ => apply Fin.ext; show off 2 + 1 * y2.val = off 2 + y2.val; omega

/-- A load of a block of `S4x64x256`, at an index. -/
theorem ld_acc {e : EltTy} (v : View sig .tc .vmem S4x64x256 e) (f : v.ty.Contents (Elt Ideal)) (off : Fin 3 → ℕ) (inb : ∀ a : Fin 3, off a + S1x64x256.size a ≤ S4x64x256.size a)
    (y0 : Fin 1) (y1 : Fin 64) (y2 : Fin 256) :
    v.readAt (Elt Ideal) (Rect.unit (s := S4x64x256) off S1x64x256.size inb).toLoadRect f (ix3 y0 y1 y2)
      = v.read (Elt Ideal) f (ix3 (⟨off 0 + y0.val, by have h := inb 0; change off 0 + 1 ≤ 4 at h; have := y0.isLt; omega⟩ : Fin 4) (⟨off 1 + y1.val, by have h := inb 1; change off 1 + 64 ≤ 64 at h; have := y1.isLt; omega⟩ : Fin 64) (⟨off 2 + y2.val, by have h := inb 2; change off 2 + 256 ≤ 256 at h; have := y2.isLt; omega⟩ : Fin 256)) := by
  rw [View.readAt_eq_ld, View.ld_apply]
  congr 1
  funext a
  match a with
  | ⟨0, _⟩ => apply Fin.ext; show off 0 + 1 * y0.val = off 0 + y0.val; omega
  | ⟨1, _⟩ => apply Fin.ext; show off 1 + 1 * y1.val = off 1 + y1.val; omega
  | ⟨2, _⟩ => apply Fin.ext; show off 2 + 1 * y2.val = off 2 + y2.val; omega

/-- Four stores that fill the four planes one after the other, read back. -/
theorem planes_tile {e : EltTy} (v : View sig .tc .vmem S4x256x256 e) (f : v.ty.Contents (Elt Ideal)) (p0 p1 p2 p3 : S1x256x256.Idx → Elt Ideal e)
    (inb0 : ∀ a : Fin 3, (![0, 0, 0] : Fin 3 → ℕ) a + S1x256x256.size a ≤ S4x256x256.size a) (inb1 : ∀ a : Fin 3, (![1, 0, 0] : Fin 3 → ℕ) a + S1x256x256.size a ≤ S4x256x256.size a) (inb2 : ∀ a : Fin 3, (![2, 0, 0] : Fin 3 → ℕ) a + S1x256x256.size a ≤ S4x256x256.size a) (inb3 : ∀ a : Fin 3, (![3, 0, 0] : Fin 3 → ℕ) a + S1x256x256.size a ≤ S4x256x256.size a) (h : Fin 4) (x : Fin 256) (q : Fin 256) :
    v.read (Elt Ideal) (v.writes (Elt Ideal) f [⟨Rect.unit (s := S4x256x256) ![3, 0, 0] S1x256x256.size inb3, p3⟩, ⟨Rect.unit (s := S4x256x256) ![2, 0, 0] S1x256x256.size inb2, p2⟩, ⟨Rect.unit (s := S4x256x256) ![1, 0, 0] S1x256x256.size inb1, p1⟩, ⟨Rect.unit (s := S4x256x256) ![0, 0, 0] S1x256x256.size inb0, p0⟩]) (ix3 h x q)
      = (![p0, p1, p2, p3] h) (ix3 (0 : Fin 1) x q) := by
  have hc : ∀ y : (S4x256x256).Idx, ∃ p ∈ ([⟨Rect.unit (s := S4x256x256) ![3, 0, 0] S1x256x256.size inb3, p3⟩, ⟨Rect.unit (s := S4x256x256) ![2, 0, 0] S1x256x256.size inb2, p2⟩, ⟨Rect.unit (s := S4x256x256) ![1, 0, 0] S1x256x256.size inb1, p1⟩, ⟨Rect.unit (s := S4x256x256) ![0, 0, 0] S1x256x256.size inb0, p0⟩] : List (View.Piece (Elt Ideal) S4x256x256 e)), y ∈ p.1.set :=
    View.cover_of_tiledL _ ![1, 256, 256] (by sl_kernel_rfl)
  rw [View.read_writes_of_cover v f v v.junk _ hc, View.read_writes_junk_eq_canon]
  refine (View.canon_apply_of_pieces (fun y => (![p0, p1, p2, p3] (y 0 : Fin 4)) (ix3 (0 : Fin 1) (y 1 : Fin 256) (y 2 : Fin 256))) _ (View.PiecesOf.mem (G := fun y : (S4x256x256).Idx => (![p0, p1, p2, p3] (y 0 : Fin 4)) (ix3 (0 : Fin 1) (y 1 : Fin 256) (y 2 : Fin 256))) ?_) _ (hc _)).trans rfl
  refine ⟨fun z => ?_, fun z => ?_, fun z => ?_, fun z => ?_, trivial⟩
  · show p3 z = _
    have e0 : (Rect.unit (s := S4x256x256) ![3, 0, 0] S1x256x256.size inb3).emb z 0 = (3 : Fin 4) := by
      apply Fin.ext; show 3 + 1 * (z 0).val = 3; have : (z 0).val < 1 := (z 0).isLt; omega
    simp only [e0]
    show p3 z = p3 _
    congr 1
    funext a
    match a with
    | ⟨0, _⟩ => apply Fin.ext; show (z 0).val = 0; have : (z 0).val < 1 := (z 0).isLt; omega
    | ⟨1, _⟩ => apply Fin.ext; show (z 1).val = 0 + 1 * (z 1).val; omega
    | ⟨2, _⟩ => apply Fin.ext; show (z 2).val = 0 + 1 * (z 2).val; omega
  · show p2 z = _
    have e0 : (Rect.unit (s := S4x256x256) ![2, 0, 0] S1x256x256.size inb2).emb z 0 = (2 : Fin 4) := by
      apply Fin.ext; show 2 + 1 * (z 0).val = 2; have : (z 0).val < 1 := (z 0).isLt; omega
    simp only [e0]
    show p2 z = p2 _
    congr 1
    funext a
    match a with
    | ⟨0, _⟩ => apply Fin.ext; show (z 0).val = 0; have : (z 0).val < 1 := (z 0).isLt; omega
    | ⟨1, _⟩ => apply Fin.ext; show (z 1).val = 0 + 1 * (z 1).val; omega
    | ⟨2, _⟩ => apply Fin.ext; show (z 2).val = 0 + 1 * (z 2).val; omega
  · show p1 z = _
    have e0 : (Rect.unit (s := S4x256x256) ![1, 0, 0] S1x256x256.size inb1).emb z 0 = (1 : Fin 4) := by
      apply Fin.ext; show 1 + 1 * (z 0).val = 1; have : (z 0).val < 1 := (z 0).isLt; omega
    simp only [e0]
    show p1 z = p1 _
    congr 1
    funext a
    match a with
    | ⟨0, _⟩ => apply Fin.ext; show (z 0).val = 0; have : (z 0).val < 1 := (z 0).isLt; omega
    | ⟨1, _⟩ => apply Fin.ext; show (z 1).val = 0 + 1 * (z 1).val; omega
    | ⟨2, _⟩ => apply Fin.ext; show (z 2).val = 0 + 1 * (z 2).val; omega
  · show p0 z = _
    have e0 : (Rect.unit (s := S4x256x256) ![0, 0, 0] S1x256x256.size inb0).emb z 0 = (0 : Fin 4) := by
      apply Fin.ext; show 0 + 1 * (z 0).val = 0; have : (z 0).val < 1 := (z 0).isLt; omega
    simp only [e0]
    show p0 z = p0 _
    congr 1
    funext a
    match a with
    | ⟨0, _⟩ => apply Fin.ext; show (z 0).val = 0; have : (z 0).val < 1 := (z 0).isLt; omega
    | ⟨1, _⟩ => apply Fin.ext; show (z 1).val = 0 + 1 * (z 1).val; omega
    | ⟨2, _⟩ => apply Fin.ext; show (z 2).val = 0 + 1 * (z 2).val; omega

/-- Four stores that fill the four planes one after the other, read back. -/
theorem planes_acc {e : EltTy} (v : View sig .tc .vmem S4x64x256 e) (f : v.ty.Contents (Elt Ideal)) (p0 p1 p2 p3 : S1x64x256.Idx → Elt Ideal e)
    (inb0 : ∀ a : Fin 3, (![0, 0, 0] : Fin 3 → ℕ) a + S1x64x256.size a ≤ S4x64x256.size a) (inb1 : ∀ a : Fin 3, (![1, 0, 0] : Fin 3 → ℕ) a + S1x64x256.size a ≤ S4x64x256.size a) (inb2 : ∀ a : Fin 3, (![2, 0, 0] : Fin 3 → ℕ) a + S1x64x256.size a ≤ S4x64x256.size a) (inb3 : ∀ a : Fin 3, (![3, 0, 0] : Fin 3 → ℕ) a + S1x64x256.size a ≤ S4x64x256.size a) (h : Fin 4) (x : Fin 64) (q : Fin 256) :
    v.read (Elt Ideal) (v.writes (Elt Ideal) f [⟨Rect.unit (s := S4x64x256) ![3, 0, 0] S1x64x256.size inb3, p3⟩, ⟨Rect.unit (s := S4x64x256) ![2, 0, 0] S1x64x256.size inb2, p2⟩, ⟨Rect.unit (s := S4x64x256) ![1, 0, 0] S1x64x256.size inb1, p1⟩, ⟨Rect.unit (s := S4x64x256) ![0, 0, 0] S1x64x256.size inb0, p0⟩]) (ix3 h x q)
      = (![p0, p1, p2, p3] h) (ix3 (0 : Fin 1) x q) := by
  have hc : ∀ y : (S4x64x256).Idx, ∃ p ∈ ([⟨Rect.unit (s := S4x64x256) ![3, 0, 0] S1x64x256.size inb3, p3⟩, ⟨Rect.unit (s := S4x64x256) ![2, 0, 0] S1x64x256.size inb2, p2⟩, ⟨Rect.unit (s := S4x64x256) ![1, 0, 0] S1x64x256.size inb1, p1⟩, ⟨Rect.unit (s := S4x64x256) ![0, 0, 0] S1x64x256.size inb0, p0⟩] : List (View.Piece (Elt Ideal) S4x64x256 e)), y ∈ p.1.set :=
    View.cover_of_tiledL _ ![1, 64, 256] (by sl_kernel_rfl)
  rw [View.read_writes_of_cover v f v v.junk _ hc, View.read_writes_junk_eq_canon]
  refine (View.canon_apply_of_pieces (fun y => (![p0, p1, p2, p3] (y 0 : Fin 4)) (ix3 (0 : Fin 1) (y 1 : Fin 64) (y 2 : Fin 256))) _ (View.PiecesOf.mem (G := fun y : (S4x64x256).Idx => (![p0, p1, p2, p3] (y 0 : Fin 4)) (ix3 (0 : Fin 1) (y 1 : Fin 64) (y 2 : Fin 256))) ?_) _ (hc _)).trans rfl
  refine ⟨fun z => ?_, fun z => ?_, fun z => ?_, fun z => ?_, trivial⟩
  · show p3 z = _
    have e0 : (Rect.unit (s := S4x64x256) ![3, 0, 0] S1x64x256.size inb3).emb z 0 = (3 : Fin 4) := by
      apply Fin.ext; show 3 + 1 * (z 0).val = 3; have : (z 0).val < 1 := (z 0).isLt; omega
    simp only [e0]
    show p3 z = p3 _
    congr 1
    funext a
    match a with
    | ⟨0, _⟩ => apply Fin.ext; show (z 0).val = 0; have : (z 0).val < 1 := (z 0).isLt; omega
    | ⟨1, _⟩ => apply Fin.ext; show (z 1).val = 0 + 1 * (z 1).val; omega
    | ⟨2, _⟩ => apply Fin.ext; show (z 2).val = 0 + 1 * (z 2).val; omega
  · show p2 z = _
    have e0 : (Rect.unit (s := S4x64x256) ![2, 0, 0] S1x64x256.size inb2).emb z 0 = (2 : Fin 4) := by
      apply Fin.ext; show 2 + 1 * (z 0).val = 2; have : (z 0).val < 1 := (z 0).isLt; omega
    simp only [e0]
    show p2 z = p2 _
    congr 1
    funext a
    match a with
    | ⟨0, _⟩ => apply Fin.ext; show (z 0).val = 0; have : (z 0).val < 1 := (z 0).isLt; omega
    | ⟨1, _⟩ => apply Fin.ext; show (z 1).val = 0 + 1 * (z 1).val; omega
    | ⟨2, _⟩ => apply Fin.ext; show (z 2).val = 0 + 1 * (z 2).val; omega
  · show p1 z = _
    have e0 : (Rect.unit (s := S4x64x256) ![1, 0, 0] S1x64x256.size inb1).emb z 0 = (1 : Fin 4) := by
      apply Fin.ext; show 1 + 1 * (z 0).val = 1; have : (z 0).val < 1 := (z 0).isLt; omega
    simp only [e0]
    show p1 z = p1 _
    congr 1
    funext a
    match a with
    | ⟨0, _⟩ => apply Fin.ext; show (z 0).val = 0; have : (z 0).val < 1 := (z 0).isLt; omega
    | ⟨1, _⟩ => apply Fin.ext; show (z 1).val = 0 + 1 * (z 1).val; omega
    | ⟨2, _⟩ => apply Fin.ext; show (z 2).val = 0 + 1 * (z 2).val; omega
  · show p0 z = _
    have e0 : (Rect.unit (s := S4x64x256) ![0, 0, 0] S1x64x256.size inb0).emb z 0 = (0 : Fin 4) := by
      apply Fin.ext; show 0 + 1 * (z 0).val = 0; have : (z 0).val < 1 := (z 0).isLt; omega
    simp only [e0]
    show p0 z = p0 _
    congr 1
    funext a
    match a with
    | ⟨0, _⟩ => apply Fin.ext; show (z 0).val = 0; have : (z 0).val < 1 := (z 0).isLt; omega
    | ⟨1, _⟩ => apply Fin.ext; show (z 1).val = 0 + 1 * (z 1).val; omega
    | ⟨2, _⟩ => apply Fin.ext; show (z 2).val = 0 + 1 * (z 2).val; omega

end Cert.KernelIdeal.Stick

end
-- ==== Proof.StickTile.lean ====
module

public import proofs.«01_k».proof.Proof.StickRead
public import Idealize.ShloMosaic.Lib.Pointwise
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.KernelIdeal.Stick

open Cert.KernelIdeal Cert.KernelIdeal.Gen Idealize.ShloMosaic Idealize.ShloMosaic.TcCoe
open Idealize.SL Idealize.SL.Sem Idealize.ShloMosaic.Tactic

/-! ## The tile of scores and the state of the walk -/

/-- The score of key `k` of tile `κ` against query `q`, at head `h`, from the prepared buffers. -/
def zed (KP : ℕ → ℕ → EReal) (QP : ℕ → ℕ → ℕ → EReal) (κ h k q : ℕ) : EReal :=
  ∑ l : Fin 128, KP (256 * κ + k) (128 * h + l.val) * QP (h / 2) q l.val

/-- The kernel's softplus of a score. -/
def soft (z : EReal) : EReal :=
  max z 0 + Ideal.log (1 + FloatOps.exp2 (F := Ideal) (φ := .f32) (FloatOps.absf (F := Ideal) (φ := .f32) z * Named.named (F := Ideal) (φ := .f32) κ "neg_log2_e" 0xBFB8AA3B#32))

/-- Row `r` of the ones matrix times the tile of softplus values. -/
def tails (S : Fin 256 → Fin 256 → EReal) (r : Fin 272) (q : Fin 256) : EReal :=
  ∑ x : Fin 256, k0_pay215 (F := Ideal) (ix2 r x) * S x q

/-- One tile's share of the output. -/
def share (VT : ℕ → ℕ → ℕ → EReal) (κ : ℕ) (S E : Fin 4 → Fin 256 → Fin 256 → EReal) (L : Fin 4 → Fin 256 → EReal)
    (h : Fin 4) (d : Fin 64) (q : Fin 256) : EReal :=
  ∑ x : Fin 256, VT κ (64 * h.val + d.val) x.val * Ideal.exp (E h x q - tails (S h) ⟨x.val, by have := x.isLt; omega⟩ q - L h q)

/-- What the buffers and the carried values hold when tile `κ` is the next one to be summed. -/
structure Holds (KP : ℕ → ℕ → EReal) (QP : ℕ → ℕ → ℕ → EReal) (κ : ℕ) (S E : Fin 4 → Fin 256 → Fin 256 → EReal) (A : Fin 4 → Fin 64 → Fin 256 → EReal) (L : Fin 4 → Fin 256 → EReal)
    (v9 : View sig .tc .vmem S4x256x256 .bf16) (v10 : View sig .tc .vmem S4x256x256 .f32) (v11 : View sig .tc .vmem S4x64x256 .f32)
    (f9 : v9.ty.Contents (Elt Ideal)) (f10 : v10.ty.Contents (Elt Ideal)) (f11 : v11.ty.Contents (Elt Ideal))
    (acc : (FVec Ideal S1x256 .f32 × FVec Ideal S1x256 .f32 × FVec Ideal S1x256 .f32 × FVec Ideal S1x256 .f32 × FVec Ideal S272x256 .f32 × FVec Ideal S256x256 .f32)) : Prop where
  s9 : ∀ h k q, v9.read (Elt Ideal) f9 (ix3 h k q) = S h k q
  s10 : ∀ h k q, v10.read (Elt Ideal) f10 (ix3 h k q) = E h k q
  s11 : ∀ h d q, v11.read (Elt Ideal) f11 (ix3 h d q) = A h d q
  l0 : ∀ q : Fin 256, acc.1 (ix2 (0 : Fin 1) q) = L 0 q
  l1 : ∀ q : Fin 256, acc.2.1 (ix2 (0 : Fin 1) q) = L 1 q
  l2 : ∀ q : Fin 256, acc.2.2.1 (ix2 (0 : Fin 1) q) = L 2 q
  l3 : ∀ q : Fin 256, acc.2.2.2.1 (ix2 (0 : Fin 1) q) = L 3 q
  t0 : ∀ (r : Fin 272) (q : Fin 256), acc.2.2.2.2.1 (ix2 r q) = tails (S 0) r q
  z0 : ∀ k q : Fin 256, acc.2.2.2.2.2 (ix2 k q) = zed KP QP (κ - 1) 0 k.val q.val

/-- Plane 0 read back after planes 0, 1 and 2 were stored. -/
theorem plane0_tile {e : EltTy} (v : View sig .tc .vmem S4x256x256 e) (p0 p1 p2 : S1x256x256.Idx → Elt Ideal e)
    (inb0 : ∀ a : Fin 3, (![0, 0, 0] : Fin 3 → ℕ) a + S1x256x256.size a ≤ S4x256x256.size a) (inb1 : ∀ a : Fin 3, (![1, 0, 0] : Fin 3 → ℕ) a + S1x256x256.size a ≤ S4x256x256.size a)
    (inb2 : ∀ a : Fin 3, (![2, 0, 0] : Fin 3 → ℕ) a + S1x256x256.size a ≤ S4x256x256.size a) :
    v.readCov [⟨Rect.unit (s := S4x256x256) ![2, 0, 0] S1x256x256.size inb2, p2⟩, ⟨Rect.unit (s := S4x256x256) ![1, 0, 0] S1x256x256.size inb1, p1⟩, ⟨Rect.unit (s := S4x256x256) ![0, 0, 0] S1x256x256.size inb0, p0⟩]
      (Rect.unit (s := S4x256x256) ![0, 0, 0] S1x256x256.size inb0).toLoadRect = p0 := by
  rw [View.readCov_skip _ _ _ _ _ (by rfl), View.readCov_skip _ _ _ _ _ (by rfl), View.readCov_cons_toLoadRect]

/-! Loads of the prepared buffers and of the tiles, in the model's words. -/

theorem score_load {KP : ℕ → ℕ → EReal} {QP : ℕ → ℕ → ℕ → EReal} {v6 : View sig .tc .vmem S4096x512 .bf16} {v8 : View sig .tc .vmem S2x256x128 .bf16}
    {f6 : v6.ty.Contents (Elt Ideal)} {f8 : v8.ty.Contents (Elt Ideal)} (hK : ∀ a b, v6.read (Elt Ideal) f6 (ix2 a b) = KP a.val b.val) (hQ : ∀ g q l, v8.read (Elt Ideal) f8 (ix3 g q l) = QP g.val q.val l.val)
    (κ h : ℕ) {off : Fin 2 → ℕ} (o : off = ![256 * κ, 128 * h]) {off' : Fin 3 → ℕ} (o' : off' = ![h / 2, 0, 0])
    (inb : ∀ a : Fin 2, off a + S256x128.size a ≤ S4096x512.size a) (inb' : ∀ a : Fin 3, off' a + S1x256x128.size a ≤ S2x256x128.size a) (x q : Fin 256) :
    (∑ l : Fin 128, (v6.readAt (Elt Ideal) (Rect.unit (s := S4096x512) off S256x128.size inb).toLoadRect f6 (ix2 x l) : EReal)
      * v8.readAt (Elt Ideal) (Rect.unit (s := S2x256x128) off' S1x256x128.size inb').toLoadRect f8 (ix3 (0 : Fin 1) q l)) = zed KP QP κ h x.val q.val := by
  subst o o'
  refine Finset.sum_congr rfl fun l _ => ?_
  rw [ld_keys, ld_qry, hK, hQ]
  show KP _ _ * QP (h / 2 + 0) (0 + q.val) (0 + l.val) = _
  simp only [Nat.zero_add, Nat.add_zero]
  rfl

theorem tile_load {e : EltTy} {v : View sig .tc .vmem S4x256x256 e} {f : v.ty.Contents (Elt Ideal)} {S : Fin 4 → Fin 256 → Fin 256 → Elt Ideal e} (hS : ∀ h k q, v.read (Elt Ideal) f (ix3 h k q) = S h k q)
    (h : Fin 4) {off : Fin 3 → ℕ} (o : off = ![h.val, 0, 0]) (inb : ∀ a : Fin 3, off a + S1x256x256.size a ≤ S4x256x256.size a) (x q : Fin 256) :
    v.readAt (Elt Ideal) (Rect.unit (s := S4x256x256) off S1x256x256.size inb).toLoadRect f (ix3 (0 : Fin 1) x q) = S h x q := by
  subst o
  rw [ld_tile, hS]
  congr 1 <;> exact Fin.ext (Nat.zero_add _)

theorem acc_load {v : View sig .tc .vmem S4x64x256 .f32} {f : v.ty.Contents (Elt Ideal)} {A : Fin 4 → Fin 64 → Fin 256 → EReal} (hA : ∀ h d q, v.read (Elt Ideal) f (ix3 h d q) = A h d q)
    (h : Fin 4) {off : Fin 3 → ℕ} (o : off = ![h.val, 0, 0]) (inb : ∀ a : Fin 3, off a + S1x64x256.size a ≤ S4x64x256.size a) (d : Fin 64) (q : Fin 256) :
    v.readAt (Elt Ideal) (Rect.unit (s := S4x64x256) off S1x64x256.size inb).toLoadRect f (ix3 (0 : Fin 1) d q) = A h d q := by
  subst o
  rw [ld_acc, hA]
  congr 1 <;> exact Fin.ext (Nat.zero_add _)

theorem vals_load {VT : ℕ → ℕ → ℕ → EReal} {v : View sig .tc .vmem S16x256x256 .bf16} {f : v.ty.Contents (Elt Ideal)} (hV : ∀ t r k, v.read (Elt Ideal) f (ix3 t r k) = VT t.val r.val k.val)
    (κ h : ℕ) {off : Fin 3 → ℕ} (o : off = ![κ, 64 * h, 0]) (inb : ∀ a : Fin 3, off a + S1x64x256.size a ≤ S16x256x256.size a) (d : Fin 64) (x : Fin 256) :
    v.readAt (Elt Ideal) (Rect.unit (s := S16x256x256) off S1x64x256.size inb).toLoadRect f (ix3 (0 : Fin 1) d x) = VT κ (64 * h + d.val) x.val := by
  subst o
  rw [ld_vals, hV]
  show VT (κ + 0) (64 * h + d.val) (0 + x.val) = _
  simp only [Nat.zero_add, Nat.add_zero]

theorem tails_load {v : View sig .tc .vmem S4x256x256 .bf16} {f : v.ty.Contents (Elt Ideal)} {S : Fin 4 → Fin 256 → Fin 256 → EReal} (hS : ∀ h k q, v.read (Elt Ideal) f (ix3 h k q) = S h k q)
    (h : Fin 4) {off : Fin 3 → ℕ} (o : off = ![h.val, 0, 0]) (inb : ∀ a : Fin 3, off a + S1x256x256.size a ≤ S4x256x256.size a) (r : Fin 272) (q : Fin 256) :
    (∑ x : Fin 256, (k0_pay215 (F := Ideal) (ix2 r x) : EReal) * v.readAt (Elt Ideal) (Rect.unit (s := S4x256x256) off S1x256x256.size inb).toLoadRect f (ix3 (0 : Fin 1) x q)) = tails (S h) r q :=
  Finset.sum_congr rfl fun x _ => by rw [tile_load hS h o]

/-- The sum that a trip adds to the output, from its loads. -/
theorem share_load {VT : ℕ → ℕ → ℕ → EReal} {κ : ℕ} {S E : Fin 4 → Fin 256 → Fin 256 → EReal} {L : Fin 4 → Fin 256 → EReal} {h : Fin 4} {d : Fin 64} {q : Fin 256}
    {a b l : EReal} {V e t : Fin 256 → EReal} (ha : a = b) (hV : ∀ x, V x = VT κ (64 * h.val + d.val) x.val) (he : ∀ x, e x = E h x q)
    (ht : ∀ x : Fin 256, t x = tails (S h) ⟨x.val, by have := x.isLt; omega⟩ q) (hl : l = L h q) :
    a + ∑ x, V x * Ideal.exp (e x - t x - l) = b + share VT κ S E L h d q := by
  subst ha hl
  simp only [hV, he, ht]
  rfl

/-! Where the loads of a trip begin. -/

theorem off6_eq : ∀ (i : grid0.Coords) (k : Fin (k0_t1_loop i).trips), k0_off6 i k = ![256 * ((i 1).val - k.val - 1), 128] := by decide +kernel
theorem off8_eq : ∀ (i : grid0.Coords) (k : Fin (k0_t1_loop i).trips), k0_off8 i k = ![256 * ((i 1).val - k.val - 1), 256] := by decide +kernel
theorem off10_eq : ∀ (i : grid0.Coords) (k : Fin (k0_t1_loop i).trips), k0_off10 i k = ![256 * ((i 1).val - k.val - 1), 384] := by decide +kernel
theorem off7_eq : ∀ (i : grid0.Coords) (k : Fin (k0_t1_loop i).trips), k0_off7 i k = ![(i 1).val - k.val, 0, 0] := by decide +kernel
theorem off9_eq : ∀ (i : grid0.Coords) (k : Fin (k0_t1_loop i).trips), k0_off9 i k = ![(i 1).val - k.val, 64, 0] := by decide +kernel
theorem off11_eq : ∀ (i : grid0.Coords) (k : Fin (k0_t1_loop i).trips), k0_off11 i k = ![(i 1).val - k.val, 128, 0] := by decide +kernel
theorem off13_eq : ∀ (i : grid0.Coords) (k : Fin (k0_t1_loop i).trips), k0_off13 i k = ![(i 1).val - k.val, 192, 0] := by decide +kernel
theorem off12_eq : ∀ (i : grid0.Coords) (k : Fin (k0_t1_loop i).trips), k0_off12 i k = ![256 * ((i 1).val - k.val - 1 - 1), 0] := by decide +kernel
theorem trips1 : ∀ i : grid0.Coords, (k0_t1_loop i).trips = (i 1).val := by decide +kernel
theorem trips2 : ∀ i : grid0.Coords, (k0_t2_loop i).trips = 0 := by decide +kernel

set_option maxHeartbeats 4000000 in
/-- One trip takes the state from tile `κ` to the tile before. -/
theorem trip_holds {KP : ℕ → ℕ → EReal} {QP VT : ℕ → ℕ → ℕ → EReal} (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (u1 u2 u3 u4 : FVec Ideal S1x256 .f32) (u5 : FVec Ideal S272x256 .f32) (u6 : Vec Ideal S256x128 .bf16) (u7 : FVec Ideal S256x128 .bf16) (v181 : BitVec 32)
    (f6 : BufTy.Contents (Elt Ideal) arg6.view.ty) (f7 : BufTy.Contents (Elt Ideal) arg7.view.ty) (f8 : BufTy.Contents (Elt Ideal) arg8.view.ty)
    (hK : ∀ a b, arg6.view.read (Elt Ideal) f6 (ix2 a b) = KP a.val b.val) (hV : ∀ t r k, arg7.view.read (Elt Ideal) f7 (ix3 t r k) = VT t.val r.val k.val) (hQ : ∀ g q l, arg8.view.read (Elt Ideal) f8 (ix3 g q l) = QP g.val q.val l.val)
    (k : Fin (k0_t1_loop i).trips) (f9 : BufTy.Contents (Elt Ideal) arg9.view.ty) (f10 : BufTy.Contents (Elt Ideal) arg10.view.ty) (f11 : BufTy.Contents (Elt Ideal) arg11.view.ty) (acc : (FVec Ideal S1x256 .f32 × FVec Ideal S1x256 .f32 × FVec Ideal S1x256 .f32 × FVec Ideal S1x256 .f32 × FVec Ideal S272x256 .f32 × FVec Ideal S256x256 .f32)) (S E : Fin 4 → Fin 256 → Fin 256 → EReal) (A : Fin 4 → Fin 64 → Fin 256 → EReal) (L : Fin 4 → Fin 256 → EReal)
    (H : Holds KP QP ((i 1).val - k.val) S E A L arg9.view arg10.view arg11.view f9 f10 f11 acc) :
    Holds KP QP ((i 1).val - k.val - 1) (fun h x q => soft (zed KP QP ((i 1).val - k.val - 1) h.val x.val q.val))
      (fun h x q => zed KP QP ((i 1).val - k.val - 1) h.val x.val q.val - soft (zed KP QP ((i 1).val - k.val - 1) h.val x.val q.val))
      (fun h d q => A h d q + share VT ((i 1).val - k.val) S E L h d q) (fun h q => L h q + tails (S h) 256 q) arg9.view arg10.view arg11.view
      (arg9.view.writes (Elt Ideal) f9 (tripL_k0_t1 Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 k acc f9 f10 f11).1)
      (arg10.view.writes (Elt Ideal) f10 (tripL_k0_t1 Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 k acc f9 f10 f11).2.1)
      (arg11.view.writes (Elt Ideal) f11 (tripL_k0_t1 Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 k acc f9 f10 f11).2.2)
      (tripR_k0_t1 Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 k acc f9 f10 f11) := by
  obtain ⟨s9, s10, s11, l0, l1, l2, l3, t0, z0⟩ := H
  have o6 := off6_eq i k
  unfold tripL_k0_t1 tripR_k0_t1
  unfold trip_k0_t1
  dsimp only
  refine ⟨fun h x q => ?_, fun h x q => ?_, fun h x q => ?_, fun q => ?_, fun q => ?_, fun q => ?_, fun q => ?_, fun r q => ?_, fun x q => ?_⟩
  · refine (planes_tile _ _ _ _ _ _ _ _ _ _ h x q).trans ?_
    fin_cases h
    · show k0_pay157 _ _ _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay157, k0_pay156, k0_pay155]
      exact congrArg soft (z0 x q)
    · show k0_pay165 _ _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay165, k0_pay164]
      exact congrArg soft (score_load hK hQ _ 1 (off6_eq i k) (off' := ![0, 0, 0]) rfl _ _ x q)
    · show (_ : FVec Ideal S1x256x256 .bf16) _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay172, k0_pay171, k0_pay160]
      exact congrArg soft (score_load hK hQ _ 2 (off8_eq i k) (off' := ![1, 0, 0]) rfl _ _ x q)
    · show k0_pay250 _ _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay250, k0_pay249, k0_pay168]
      exact congrArg soft (score_load hK hQ _ 3 (off10_eq i k) (off' := ![1, 0, 0]) rfl _ _ x q)
  · refine (planes_tile _ _ _ _ _ _ _ _ _ _ h x q).trans ?_
    fin_cases h
    · show k0_pay158 _ _ _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay158, k0_pay156, k0_pay155]
      exact congrArg (fun z => z - soft z) (z0 x q)
    · show k0_pay166 _ _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay166, k0_pay164]
      exact congrArg (fun z => z - soft z) (score_load hK hQ _ 1 (off6_eq i k) (off' := ![0, 0, 0]) rfl _ _ x q)
    · show (_ : FVec Ideal S1x256x256 .f32) _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay172, k0_pay171, k0_pay160]
      exact congrArg (fun z => z - soft z) (score_load hK hQ _ 2 (off8_eq i k) (off' := ![1, 0, 0]) rfl _ _ x q)
    · show k0_pay251 _ _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay251, k0_pay249, k0_pay168]
      exact congrArg (fun z => z - soft z) (score_load hK hQ _ 3 (off10_eq i k) (off' := ![1, 0, 0]) rfl _ _ x q)
  · refine (planes_acc _ _ _ _ _ _ _ _ _ _ h x q).trans ?_
    fin_cases h
    · show (_ : FVec Ideal S1x64x256 .f32) _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise []
      exact share_load (h := 0) (acc_load s11 0 (off := ![0, 0, 0]) rfl _ x q) (fun y => vals_load hV _ 0 (off7_eq i k) _ x y) (fun y => tile_load s10 0 (off := ![0, 0, 0]) rfl _ y q) (fun y => t0 _ q) (l0 q)
    · show k0_pay162 _ _ _ _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay162, k0_pay161]
      exact share_load (h := 1) (acc_load s11 1 (off := ![1, 0, 0]) rfl _ x q) (fun y => vals_load hV _ 1 (off9_eq i k) _ x y) (fun y => tile_load s10 1 (off := ![1, 0, 0]) rfl _ y q) (fun y => tails_load s9 1 (off := ![1, 0, 0]) rfl _ _ q) (l1 q)
    · show k0_pay169 _ _ _ _ _ _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay169, k0_pay159]
      exact share_load (h := 2) (acc_load s11 2 (off := ![2, 0, 0]) rfl _ x q) (fun y => vals_load hV _ 2 (off11_eq i k) _ x y) (fun y => tile_load s10 2 (off := ![2, 0, 0]) rfl _ y q) (fun y => tails_load s9 2 (off := ![2, 0, 0]) rfl _ _ q) (l2 q)
    · show k0_pay247 _ _ _ _ _ = _
      simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
      pointwise [k0_pay247, k0_pay167]
      exact share_load (h := 3) (acc_load s11 3 (off := ![3, 0, 0]) rfl _ x q) (fun y => vals_load hV _ 3 (off13_eq i k) _ x y) (fun y => tile_load s10 3 (off := ![3, 0, 0]) rfl _ y q) (fun y => tails_load s9 3 (off := ![3, 0, 0]) rfl _ _ q) (l3 q)
  · simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
    pointwise [k0_pay154]
    exact congrArg₂ (· + ·) (l0 q) (t0 256 q)
  · simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
    pointwise [k0_pay163]
    exact congrArg₂ (· + ·) (l1 q) (tails_load s9 1 (off := ![1, 0, 0]) rfl _ 256 q)
  · simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
    pointwise [k0_pay170, k0_pay159]
    exact congrArg₂ (· + ·) (l2 q) (tails_load s9 2 (off := ![2, 0, 0]) rfl _ 256 q)
  · simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
    pointwise [k0_pay248, k0_pay167]
    exact congrArg₂ (· + ·) (l3 q) (tails_load s9 3 (off := ![3, 0, 0]) rfl _ 256 q)
  · simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
    pointwise []
    refine Finset.sum_congr rfl fun x _ => congrArg (k0_pay215 (F := Ideal) (ix2 r x) * ·) ?_
    refine (congrFun (plane0_tile arg9.view _ _ _ _ _ _) (ix3 (0 : Fin 1) x q)).trans ?_
    show k0_pay157 _ _ _ = _
    simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
    pointwise [k0_pay157, k0_pay156, k0_pay155]
    exact congrArg soft (z0 x q)
  · simp only [trip_k0_t1.sl.arg12, trip_k0_t1.sl.cst_172, trip_k0_t1.sl.cst_179, trip_k0_t1.sl.cst_188, trip_k0_t1.sl.cst_192, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v271, trip_k0_t1.sl.v273, trip_k0_t1.sl.v274, trip_k0_t1.sl.v275, trip_k0_t1.sl.v276, trip_k0_t1.sl.v278, trip_k0_t1.sl.v281, trip_k0_t1.sl.v282, trip_k0_t1.sl.v284, trip_k0_t1.sl.v285, trip_k0_t1.sl.v286, trip_k0_t1.sl.v287, trip_k0_t1.sl.v288, trip_k0_t1.sl.v289, trip_k0_t1.sl.v291, trip_k0_t1.sl.v292, trip_k0_t1.sl.v294, trip_k0_t1.sl.v295, trip_k0_t1.sl.v296, trip_k0_t1.sl.v297, trip_k0_t1.sl.v300, trip_k0_t1.sl.v301, trip_k0_t1.sl.v302, trip_k0_t1.sl.v303, trip_k0_t1.sl.v304, trip_k0_t1.sl.v321, trip_k0_t1.sl.v332, trip_k0_t1.sl.v339, trip_k0_t1.sl.v370, trip_k0_t1.sl.v381, trip_k0_t1.sl.v388, trip_k0_t1.sl.v412, trip_k0_t1.sl.v413, trip_k0_t1.sl.v414, trip_k0_t1.sl.v415, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v426, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v439, trip_k0_t1.sl.v442, trip_k0_t1.sl.v443]
    pointwise []
    exact score_load hK hQ _ 0 (off12_eq i k) (off' := ![0, 0, 0]) rfl _ _ x q

/-! ## The state before each trip, in closed form -/

/-- The softplus values in hand before trip `n`: at first those of the diagonal tile, where key < query. -/
def stS (KP : ℕ → ℕ → EReal) (QP : ℕ → ℕ → ℕ → EReal) (b : ℕ) : ℕ → Fin 4 → Fin 256 → Fin 256 → EReal
  | 0 => fun h k q => if k.val < q.val then soft (zed KP QP b h.val k.val q.val) else 0
  | n + 1 => fun h k q => soft (zed KP QP (b - n - 1) h.val k.val q.val)

/-- The scores less their softplus before trip `n`. -/
def stE (KP : ℕ → ℕ → EReal) (QP : ℕ → ℕ → ℕ → EReal) (b : ℕ) : ℕ → Fin 4 → Fin 256 → Fin 256 → EReal
  | 0 => fun h k q => if k.val < q.val then zed KP QP b h.val k.val q.val - soft (zed KP QP b h.val k.val q.val) else ⊥
  | n + 1 => fun h k q => zed KP QP (b - n - 1) h.val k.val q.val - soft (zed KP QP (b - n - 1) h.val k.val q.val)

/-- The softplus values summed over the tiles of the earlier trips. -/
def stL (KP : ℕ → ℕ → EReal) (QP : ℕ → ℕ → ℕ → EReal) (b : ℕ) : ℕ → Fin 4 → Fin 256 → EReal
  | 0 => fun _ _ => 0
  | n + 1 => fun h q => stL KP QP b n h q + tails (stS KP QP b n h) 256 q

/-- The output summed over the tiles of the earlier trips. -/
def stA (KP : ℕ → ℕ → EReal) (QP VT : ℕ → ℕ → ℕ → EReal) (b : ℕ) : ℕ → Fin 4 → Fin 64 → Fin 256 → EReal
  | 0 => fun _ _ _ => 0
  | n + 1 => fun h d q => stA KP QP VT b n h d q + share VT (b - n) (stS KP QP b n) (stE KP QP b n) (stL KP QP b n) h d q

theorem toInt_eq : ∀ x : Fin 256, (BitVec.ofNat 32 x.val).toInt = (x.val : Int) := by decide +kernel

theorem mask_eq (k q : Fin 256) : IntOp.cmpi .slt (IntOp.addi 0#32 (BitVec.ofNat 32 k.val)) (BitVec.ofNat 32 q.val) = if k.val < q.val then 1#1 else 0#1 := by
  rw [show IntOp.addi 0#32 (BitVec.ofNat 32 k.val) = BitVec.ofNat 32 k.val from BitVec.zero_add _]
  show BitVec.ofBool (decide ((BitVec.ofNat 32 k.val).toInt < (BitVec.ofNat 32 q.val).toInt)) = _
  rw [toInt_eq, toInt_eq]
  by_cases h : k.val < q.val
  · rw [if_pos h, decide_eq_true (by omega)]; rfl
  · rw [if_neg h, decide_eq_false (by omega)]; rfl

theorem masked_soft {z w : EReal} (hz : z = w) (k q : Fin 256) :
    Scalar.select (α := EReal) (IntOp.cmpi .slt (IntOp.addi 0#32 (BitVec.ofNat 32 k.val)) (BitVec.ofNat 32 q.val)) (soft z) 0 = if k.val < q.val then soft w else 0 := by
  subst hz
  rw [mask_eq]; split <;> rfl

theorem masked_named : Named.named (F := Ideal) (φ := .f32) κ "masked" 0xF149F2CA#32 = (⊥ : EReal) := by
  first | rfl | exact (by simp [κ, Named.named])

theorem masked_diff {z w : EReal} (hz : z = w) (k q : Fin 256) :
    Scalar.select (α := EReal) (IntOp.cmpi .slt (IntOp.addi 0#32 (BitVec.ofNat 32 k.val)) (BitVec.ofNat 32 q.val)) (z - soft z) (Named.named (F := Ideal) (φ := .f32) κ "masked" 0xF149F2CA#32) = if k.val < q.val then w - soft w else ⊥ := by
  subst hz
  rw [mask_eq, masked_named]; split <;> rfl

theorem off1_eq : ∀ i : grid0.Coords, k0_off1 i = ![256 * (i 1).val, 0] := by decide +kernel
theorem off2_eq : ∀ i : grid0.Coords, k0_off2 i = ![256 * (i 1).val, 128] := by decide +kernel
theorem off3_eq : ∀ i : grid0.Coords, k0_off3 i = ![256 * (i 1).val, 256] := by decide +kernel
theorem off4_eq : ∀ i : grid0.Coords, k0_off4 i = ![256 * (i 1).val, 384] := by decide +kernel
theorem off5_eq : ∀ i : grid0.Coords, k0_off5 i = ![256 * ((i 1).val - 1), 0] := by decide +kernel

set_option maxHeartbeats 4000000 in
/-- What the first part of the body leaves: the state before the first trip. -/
theorem start_holds {KP : ℕ → ℕ → EReal} {QP VT : ℕ → ℕ → ℕ → EReal} (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (f6 : BufTy.Contents (Elt Ideal) arg6.view.ty) (f7 : BufTy.Contents (Elt Ideal) arg7.view.ty) (f8 : BufTy.Contents (Elt Ideal) arg8.view.ty)
    (hK : ∀ a b, arg6.view.read (Elt Ideal) f6 (ix2 a b) = KP a.val b.val) (hV : ∀ t r k, arg7.view.read (Elt Ideal) f7 (ix3 t r k) = VT t.val r.val k.val) (hQ : ∀ g q l, arg8.view.read (Elt Ideal) f8 (ix3 g q l) = QP g.val q.val l.val) (g9 : BufTy.Contents (Elt Ideal) arg9.view.ty) (g10 : BufTy.Contents (Elt Ideal) arg10.view.ty) (g11 : BufTy.Contents (Elt Ideal) arg11.view.ty) :
    Holds KP QP (i 1).val (stS KP QP (i 1).val 0) (stE KP QP (i 1).val 0) (stA KP QP VT (i 1).val 0) (stL KP QP (i 1).val 0) arg9.view arg10.view arg11.view
      (arg9.view.writes (Elt Ideal) g9 (startRun (F := Ideal) c i arg2 harg2 arg3 harg3 arg4 harg4 arg5 harg5 arg6 harg6 arg7 harg7 arg8 harg8 arg9 harg9 arg10 harg10 arg11 harg11 f6 f8).2.1) (arg10.view.writes (Elt Ideal) g10 (startRun (F := Ideal) c i arg2 harg2 arg3 harg3 arg4 harg4 arg5 harg5 arg6 harg6 arg7 harg7 arg8 harg8 arg9 harg9 arg10 harg10 arg11 harg11 f6 f8).2.2.1) (arg11.view.writes (Elt Ideal) g11 (startRun (F := Ideal) c i arg2 harg2 arg3 harg3 arg4 harg4 arg5 harg5 arg6 harg6 arg7 harg7 arg8 harg8 arg9 harg9 arg10 harg10 arg11 harg11 f6 f8).2.2.2.1)
      ((startRun (F := Ideal) c i arg2 harg2 arg3 harg3 arg4 harg4 arg5 harg5 arg6 harg6 arg7 harg7 arg8 harg8 arg9 harg9 arg10 harg10 arg11 harg11 f6 f8).1.1, (startRun (F := Ideal) c i arg2 harg2 arg3 harg3 arg4 harg4 arg5 harg5 arg6 harg6 arg7 harg7 arg8 harg8 arg9 harg9 arg10 harg10 arg11 harg11 f6 f8).1.2.1, (startRun (F := Ideal) c i arg2 harg2 arg3 harg3 arg4 harg4 arg5 harg5 arg6 harg6 arg7 harg7 arg8 harg8 arg9 harg9 arg10 harg10 arg11 harg11 f6 f8).1.2.2.1, (startRun (F := Ideal) c i arg2 harg2 arg3 harg3 arg4 harg4 arg5 harg5 arg6 harg6 arg7 harg7 arg8 harg8 arg9 harg9 arg10 harg10 arg11 harg11 f6 f8).1.2.2.2.1, (startRun (F := Ideal) c i arg2 harg2 arg3 harg3 arg4 harg4 arg5 harg5 arg6 harg6 arg7 harg7 arg8 harg8 arg9 harg9 arg10 harg10 arg11 harg11 f6 f8).1.2.2.2.2.1, k0_pay246 (startRun (F := Ideal) c i arg2 harg2 arg3 harg3 arg4 harg4 arg5 harg5 arg6 harg6 arg7 harg7 arg8 harg8 arg9 harg9 arg10 harg10 arg11 harg11 f6 f8).1.2.2.2.2.2.1 (startRun (F := Ideal) c i arg2 harg2 arg3 harg3 arg4 harg4 arg5 harg5 arg6 harg6 arg7 harg7 arg8 harg8 arg9 harg9 arg10 harg10 arg11 harg11 f6 f8).1.2.2.2.2.2.2) := by
  have h9 : ∀ (g9 : BufTy.Contents (Elt Ideal) arg9.view.ty) (h : Fin 4) (x q : Fin 256), arg9.view.read (Elt Ideal) (arg9.view.writes (Elt Ideal) g9 (startRun (F := Ideal) c i arg2 harg2 arg3 harg3 arg4 harg4 arg5 harg5 arg6 harg6 arg7 harg7 arg8 harg8 arg9 harg9 arg10 harg10 arg11 harg11 f6 f8).2.1) (ix3 h x q) = stS KP QP (i 1).val 0 h x q := by
    intro g9 h x q
    refine (planes_tile _ _ _ _ _ _ _ _ _ _ h x q).trans ?_
    fin_cases h
    · show k0_pay221 _ _ _ _ _ = _
      simp only [startRun.sl.cst_71, startRun.sl.r, startRun.sl.r_1, startRun.sl.r_2, startRun.sl.r_3, startRun.sl.r_4, startRun.sl.r_5, startRun.sl.v169]
      pointwise [k0_pay221, k0_pay219, k0_pay220, k0_pay218]
      exact masked_soft (score_load hK hQ _ 0 (off1_eq i) (off' := ![0, 0, 0]) rfl _ _ x q) x q
    · show k0_pay226 _ _ _ _ _ = _
      simp only [startRun.sl.cst_71, startRun.sl.r, startRun.sl.r_1, startRun.sl.r_2, startRun.sl.r_3, startRun.sl.r_4, startRun.sl.r_5, startRun.sl.v169]
      pointwise [k0_pay226, k0_pay224, k0_pay225, k0_pay223]
      exact masked_soft (score_load hK hQ _ 1 (off2_eq i) (off' := ![0, 0, 0]) rfl _ _ x q) x q
    · show k0_pay231 _ _ _ _ _ = _
      simp only [startRun.sl.cst_71, startRun.sl.r, startRun.sl.r_1, startRun.sl.r_2, startRun.sl.r_3, startRun.sl.r_4, startRun.sl.r_5, startRun.sl.v169]
      pointwise [k0_pay231, k0_pay229, k0_pay230, k0_pay228]
      exact masked_soft (score_load hK hQ _ 2 (off3_eq i) (off' := ![1, 0, 0]) rfl _ _ x q) x q
    · show k0_pay238 _ _ _ _ _ = _
      simp only [startRun.sl.cst_71, startRun.sl.r, startRun.sl.r_1, startRun.sl.r_2, startRun.sl.r_3, startRun.sl.r_4, startRun.sl.r_5, startRun.sl.v169]
      pointwise [k0_pay238, k0_pay237, k0_pay234, k0_pay235, k0_pay236, k0_pay233]
      exact masked_soft (score_load hK hQ _ 3 (off4_eq i) (off' := ![1, 0, 0]) rfl _ _ x q) x q
  refine ⟨h9 g9, fun h x q => ?_, fun h x q => ?_, fun q => ?_, fun q => ?_, fun q => ?_, fun q => ?_, fun r q => ?_, fun x q => ?_⟩
  · refine (planes_tile _ _ _ _ _ _ _ _ _ _ h x q).trans ?_
    fin_cases h
    · show k0_pay222 _ _ _ _ _ = _
      simp only [startRun.sl.cst_71, startRun.sl.r, startRun.sl.r_1, startRun.sl.r_2, startRun.sl.r_3, startRun.sl.r_4, startRun.sl.r_5, startRun.sl.v169]
      pointwise [k0_pay222, k0_pay219, k0_pay220, k0_pay218]
      exact masked_diff (score_load hK hQ _ 0 (off1_eq i) (off' := ![0, 0, 0]) rfl _ _ x q) x q
    · show k0_pay227 _ _ _ _ _ = _
      simp only [startRun.sl.cst_71, startRun.sl.r, startRun.sl.r_1, startRun.sl.r_2, startRun.sl.r_3, startRun.sl.r_4, startRun.sl.r_5, startRun.sl.v169]
      pointwise [k0_pay227, k0_pay224, k0_pay225, k0_pay223]
      exact masked_diff (score_load hK hQ _ 1 (off2_eq i) (off' := ![0, 0, 0]) rfl _ _ x q) x q
    · show k0_pay232 _ _ _ _ _ = _
      simp only [startRun.sl.cst_71, startRun.sl.r, startRun.sl.r_1, startRun.sl.r_2, startRun.sl.r_3, startRun.sl.r_4, startRun.sl.r_5, startRun.sl.v169]
      pointwise [k0_pay232, k0_pay229, k0_pay230, k0_pay228]
      exact masked_diff (score_load hK hQ _ 2 (off3_eq i) (off' := ![1, 0, 0]) rfl _ _ x q) x q
    · show k0_pay239 _ _ _ _ _ _ = _
      simp only [startRun.sl.cst_71, startRun.sl.r, startRun.sl.r_1, startRun.sl.r_2, startRun.sl.r_3, startRun.sl.r_4, startRun.sl.r_5, startRun.sl.v169]
      pointwise [k0_pay239, k0_pay237, k0_pay234, k0_pay235, k0_pay236, k0_pay233]
      exact masked_diff (score_load hK hQ _ 3 (off4_eq i) (off' := ![1, 0, 0]) rfl _ _ x q) x q
  · refine (congrFun (View.read_writes_of_cover arg11.view g11 arg11.view arg11.view.junk [⟨Rect.unit (s := S4x64x256) ![0, 0, 0] S4x64x256.size inb_S4x64x256_S4x64x256_0_0_0, k0_pay217 (k0_pay216 (F := Ideal))⟩] (View.cover_of_tiledL _ ![4, 64, 256] (by sl_kernel_rfl))) (ix3 h x q)).trans ?_
    rw [View.read_writes_junk_eq_canon, View.canon_cons_unit_lit _ _ _ (by decide)]
    pointwise [k0_pay217, k0_pay216]
    rfl
  · show k0_pay240 (ix2 0 q) = 0
    pointwise [k0_pay240]
  · show k0_pay241 (ix2 0 q) = 0
    pointwise [k0_pay241]
  · show k0_pay242 (ix2 0 q) = 0
    pointwise [k0_pay242]
  · show k0_pay243 (ix2 0 q) = 0
    pointwise [k0_pay243]
  · show k0_pay244 _ _ (ix2 r q) = _
    simp only [startRun.sl.v169]
    pointwise [k0_pay244]
    exact tails_load (h9 _) 0 (off := ![0, 0, 0]) rfl _ r q
  · show k0_pay246 _ _ (ix2 x q) = _
    unfold startRun
    dsimp only
    pointwise [k0_pay246, k0_pay245]
    exact score_load hK hQ _ 0 (off5_eq i) (off' := ![0, 0, 0]) rfl _ _ x q

end Cert.KernelIdeal.Stick

end
-- ==== Proof.StickWalk.lean ====
module

public import proofs.«01_k».proof.Proof.StickTile
public import Idealize.ShloMosaic.Lib.Pointwise
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.KernelIdeal.Stick

open Cert.KernelIdeal Cert.KernelIdeal.Gen Idealize.ShloMosaic Idealize.ShloMosaic.TcCoe
open Idealize.SL Idealize.SL.Sem Idealize.ShloMosaic.Tactic

/-! ## The walk over the tiles and the block stored -/

set_option maxHeartbeats 4000000 in
/-- The state before every trip. -/
theorem walk_holds {KP : ℕ → ℕ → EReal} {QP VT : ℕ → ℕ → ℕ → EReal} (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (u1 u2 u3 u4 : FVec Ideal S1x256 .f32) (u5 : FVec Ideal S272x256 .f32) (u6 : Vec Ideal S256x128 .bf16) (u7 : FVec Ideal S256x128 .bf16) (v181 : BitVec 32)
    (f6 : BufTy.Contents (Elt Ideal) arg6.view.ty) (f7 : BufTy.Contents (Elt Ideal) arg7.view.ty) (f8 : BufTy.Contents (Elt Ideal) arg8.view.ty)
    (hK : ∀ a b, arg6.view.read (Elt Ideal) f6 (ix2 a b) = KP a.val b.val) (hV : ∀ t r k, arg7.view.read (Elt Ideal) f7 (ix3 t r k) = VT t.val r.val k.val) (hQ : ∀ g q l, arg8.view.read (Elt Ideal) f8 (ix3 g q l) = QP g.val q.val l.val) (g9 : BufTy.Contents (Elt Ideal) arg9.view.ty) (g10 : BufTy.Contents (Elt Ideal) arg10.view.ty) (g11 : BufTy.Contents (Elt Ideal) arg11.view.ty) (init : (FVec Ideal S1x256 .f32 × FVec Ideal S1x256 .f32 × FVec Ideal S1x256 .f32 × FVec Ideal S1x256 .f32 × FVec Ideal S272x256 .f32 × FVec Ideal S256x256 .f32))
    (H : Holds KP QP (i 1).val (stS KP QP (i 1).val 0) (stE KP QP (i 1).val 0) (stA KP QP VT (i 1).val 0) (stL KP QP (i 1).val 0) arg9.view arg10.view arg11.view g9 g10 g11 init) :
    ∀ n, n ≤ (k0_t1_loop i).trips → Holds KP QP ((i 1).val - n) (stS KP QP (i 1).val (n)) (stE KP QP (i 1).val (n)) (stA KP QP VT (i 1).val (n)) (stL KP QP (i 1).val (n)) arg9.view arg10.view arg11.view
      (arg9.view.writes (Elt Ideal) g9 (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 g9 g10 g11 init n).2.1) (arg10.view.writes (Elt Ideal) g10 (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 g9 g10 g11 init n).2.2.1) (arg11.view.writes (Elt Ideal) g11 (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 g9 g10 g11 init n).2.2.2) (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 g9 g10 g11 init n).1 := by
  intro n
  induction n with
  | zero => intro _; exact H
  | succ n ih =>
    intro hn
    have h := trip_holds (VT := VT) c i arg2 harg2 arg3 harg3 arg4 harg4 arg5 harg5 arg6 harg6 arg7 harg7 arg8 harg8 arg9 harg9 arg10 harg10 arg11 harg11 u1 u2 u3 u4 u5 u6 u7 v181 f6 f7 f8 hK hV hQ ⟨n, hn⟩ _ _ _ _ _ _ _ _ (ih (Nat.le_of_succ_le hn))
    have e := st_k0_t1_succ (F := Ideal) Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 g9 g10 g11 init ⟨n, hn⟩
    have e' : (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (k0_pay215 (F := Ideal)) u1 u2 u3 u4 u5 u6 u7 v181 f6 f7 f8 g9 g10 g11 init (n + 1)) = _ := e
    rw [e']
    simp only [View.writes_append]
    exact h

set_option maxHeartbeats 4000000 in
/-- The block that a point stores, from the state after the last trip. -/
theorem finish_block {KP : ℕ → ℕ → EReal} {QP VT : ℕ → ℕ → ℕ → EReal} (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (f7 : BufTy.Contents (Elt Ideal) arg7.view.ty) (hV : ∀ t r k, arg7.view.read (Elt Ideal) f7 (ix3 t r k) = VT t.val r.val k.val) (f9 : BufTy.Contents (Elt Ideal) arg9.view.ty) (f10 : BufTy.Contents (Elt Ideal) arg10.view.ty) (f11 : BufTy.Contents (Elt Ideal) arg11.view.ty) (p : (FVec Ideal S1x256 .f32 × FVec Ideal S1x256 .f32 × FVec Ideal S1x256 .f32 × FVec Ideal S1x256 .f32 × FVec Ideal S272x256 .f32 × FVec Ideal S256x256 .f32)) (κ : ℕ) (S E : Fin 4 → Fin 256 → Fin 256 → EReal) (A : Fin 4 → Fin 64 → Fin 256 → EReal) (L : Fin 4 → Fin 256 → EReal)
    (H : Holds KP QP κ S E A L arg9.view arg10.view arg11.view f9 f10 f11 p) (g5 : BufTy.Contents (Elt Ideal) arg5.view.ty) (h : Fin 4) (d : Fin 64) (q : Fin 256) :
    arg5.view.read (Elt Ideal) (arg5.view.writes (Elt Ideal) g5 (finishRun (F := Ideal) c i arg2 harg2 arg3 harg3 arg4 harg4 arg5 harg5 arg6 harg6 arg7 harg7 arg8 harg8 arg9 harg9 arg10 harg10 arg11 harg11 f7 f9 f10 f11 p).1) (ix3 (0 : Fin 1) (⟨64 * h.val + d.val, by have := h.isLt; have := d.isLt; omega⟩ : Fin 256) q)
      = A h d q + share VT 0 S E L h d q := by
  obtain ⟨s9, s10, s11, l0, l1, l2, l3, t0, z0⟩ := H
  have h11 : ∀ (h : Fin 4) (d : Fin 64) (q : Fin 256), arg11.view.read (Elt Ideal) (arg11.view.writes (Elt Ideal) arg11.view.junk (finishRun.sl.H11_4 arg7 arg9 arg10 arg11 f7 f9 f10 f11 p)) (ix3 h d q) = A h d q + share VT 0 S E L h d q := by
    intro h x q
    refine (planes_acc _ _ _ _ _ _ _ _ _ _ h x q).trans ?_
    fin_cases h
    · show k0_pay258 _ _ _ _ _ _ = _
      simp only [finishRun.sl.cst_147, finishRun.sl.r, finishRun.sl.r_1, finishRun.sl.r_2, finishRun.sl.r_3, finishRun.sl.v219, finishRun.sl.v239, finishRun.sl.v256, finishRun.sl.v266]
      pointwise [k0_pay258]
      exact share_load (h := 0) (acc_load s11 0 (off := ![0, 0, 0]) rfl _ x q) (fun y => vals_load hV _ 0 (off := ![0, 0, 0]) rfl _ x y) (fun y => tile_load s10 0 (off := ![0, 0, 0]) rfl _ y q) (fun y => t0 _ q) (l0 q)
    · show k0_pay260 _ _ _ _ _ _ = _
      simp only [finishRun.sl.cst_147, finishRun.sl.r, finishRun.sl.r_1, finishRun.sl.r_2, finishRun.sl.r_3, finishRun.sl.v219, finishRun.sl.v239, finishRun.sl.v256, finishRun.sl.v266]
      pointwise [k0_pay260, k0_pay257]
      exact share_load (h := 1) (acc_load s11 1 (off := ![1, 0, 0]) rfl _ x q) (fun y => vals_load hV _ 1 (off := ![0, 64, 0]) rfl _ x y) (fun y => tile_load s10 1 (off := ![1, 0, 0]) rfl _ y q) (fun y => tails_load s9 1 (off := ![1, 0, 0]) rfl _ _ q) (l1 q)
    · show k0_pay1 _ _ _ _ _ = _
      simp only [finishRun.sl.cst_147, finishRun.sl.r, finishRun.sl.r_1, finishRun.sl.r_2, finishRun.sl.r_3, finishRun.sl.v219, finishRun.sl.v239, finishRun.sl.v256, finishRun.sl.v266]
      pointwise [k0_pay1, k0_pay262, k0_pay263, k0_pay264, k0_pay259]
      exact share_load (h := 2) (acc_load s11 2 (off := ![2, 0, 0]) rfl _ x q) (fun y => vals_load hV _ 2 (off := ![0, 128, 0]) rfl _ x y) (fun y => tile_load s10 2 (off := ![2, 0, 0]) rfl _ y q) (fun y => tails_load s9 2 (off := ![2, 0, 0]) rfl _ _ q) (l2 q)
    · show k0_pay2 _ _ _ _ _ _ = _
      simp only [finishRun.sl.cst_147, finishRun.sl.r, finishRun.sl.r_1, finishRun.sl.r_2, finishRun.sl.r_3, finishRun.sl.v219, finishRun.sl.v239, finishRun.sl.v256, finishRun.sl.v266]
      pointwise [k0_pay2, k0_pay261]
      exact share_load (h := 3) (acc_load s11 3 (off := ![3, 0, 0]) rfl _ x q) (fun y => vals_load hV _ 3 (off := ![0, 192, 0]) rfl _ x y) (fun y => tile_load s10 3 (off := ![3, 0, 0]) rfl _ y q) (fun y => tails_load s9 3 (off := ![3, 0, 0]) rfl _ _ q) (l3 q)
  unfold finishRun
  dsimp only
  rw [View.read_writes_of_cover arg5.view g5 arg5.view arg5.view.junk _ (View.cover_of_tiledL _ ![1, 256, 256] (by sl_kernel_rfl)), View.read_writes_junk_eq_canon]
  unfold finishRun.sl.H5_1
  rw [View.canon_cons_unit_lit _ _ _ (by decide)]
  pointwise [k0_pay3]
  refine Eq.trans ?_ (h11 h d q)
  unfold finishRun.sl.v266
  show arg11.view.readAt (Elt Ideal) _ _ _ = _
  rw [View.readAt_eq_ld]
  exact congrFun (View.ld_unit_zero (S := S4x64x256) (show (![0, 0, 0] : Fin 3 → ℕ) = fun _ => 0 by funext a; fin_cases a <;> rfl) _ _) _

set_option maxHeartbeats 4000000 in
/-- The state after both loops. -/
theorem walk_end {KP : ℕ → ℕ → EReal} {QP VT : ℕ → ℕ → ℕ → EReal} (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (f6 : BufTy.Contents (Elt Ideal) arg6.view.ty) (f7 : BufTy.Contents (Elt Ideal) arg7.view.ty) (f8 : BufTy.Contents (Elt Ideal) arg8.view.ty)
    (hK : ∀ a b, arg6.view.read (Elt Ideal) f6 (ix2 a b) = KP a.val b.val) (hV : ∀ t r k, arg7.view.read (Elt Ideal) f7 (ix3 t r k) = VT t.val r.val k.val) (hQ : ∀ g q l, arg8.view.read (Elt Ideal) f8 (ix3 g q l) = QP g.val q.val l.val) (g9 : BufTy.Contents (Elt Ideal) arg9.view.ty) (g10 : BufTy.Contents (Elt Ideal) arg10.view.ty) (g11 : BufTy.Contents (Elt Ideal) arg11.view.ty)
    (s : (Σ' (v165 : FVec Ideal S1x256 .f32) (v166 : FVec Ideal S1x256 .f32) (v167 : FVec Ideal S1x256 .f32) (v168 : FVec Ideal S1x256 .f32) (v171 : FVec Ideal S272x256 .f32) (v177 : Vec Ideal S256x128 .bf16), FVec Ideal S256x128 .bf16))
    (H : Holds KP QP (i 1).val (stS KP QP (i 1).val 0) (stE KP QP (i 1).val 0) (stA KP QP VT (i 1).val 0) (stL KP QP (i 1).val 0) arg9.view arg10.view arg11.view g9 g10 g11
      (s.1, s.2.1, s.2.2.1, s.2.2.2.1, s.2.2.2.2.1, k0_pay246 s.2.2.2.2.2.1 s.2.2.2.2.2.2)) :
    Holds KP QP ((i 1).val - (i 1).val) (stS KP QP (i 1).val (i 1).val) (stE KP QP (i 1).val (i 1).val) (stA KP QP VT (i 1).val (i 1).val) (stL KP QP (i 1).val (i 1).val) arg9.view arg10.view arg11.view
      (walkRun (F := Ideal) c i arg2 harg2 arg3 harg3 arg4 harg4 arg5 harg5 arg6 harg6 arg7 harg7 arg8 harg8 arg9 harg9 arg10 harg10 arg11 harg11 f6 f7 f8 g9 g10 g11 s).2.1 (walkRun (F := Ideal) c i arg2 harg2 arg3 harg3 arg4 harg4 arg5 harg5 arg6 harg6 arg7 harg7 arg8 harg8 arg9 harg9 arg10 harg10 arg11 harg11 f6 f7 f8 g9 g10 g11 s).2.2.1 (walkRun (F := Ideal) c i arg2 harg2 arg3 harg3 arg4 harg4 arg5 harg5 arg6 harg6 arg7 harg7 arg8 harg8 arg9 harg9 arg10 harg10 arg11 harg11 f6 f7 f8 g9 g10 g11 s).2.2.2.1 (walkRun (F := Ideal) c i arg2 harg2 arg3 harg3 arg4 harg4 arg5 harg5 arg6 harg6 arg7 harg7 arg8 harg8 arg9 harg9 arg10 harg10 arg11 harg11 f6 f7 f8 g9 g10 g11 s).1 := by
  have e1 : Scf.trips 0#32 (Scalar.addi 0#32 (Scalar.muli (Scalar.divsi (Scalar.subi (Scalar.muli (BitVec.ofNat 32 (i 1).val) 1#32) 0#32) 1#32) 1#32)) 1#32 = (i 1).val := trips1 i
  have e2 : Scf.trips (Scalar.addi 0#32 (Scalar.muli (Scalar.divsi (Scalar.subi (Scalar.muli (BitVec.ofNat 32 (i 1).val) 1#32) 0#32) 1#32) 1#32)) (Scalar.addi 0#32 (Scalar.subi (Scalar.muli (BitVec.ofNat 32 (i 1).val) 1#32) 0#32)) 1#32 = 0 := trips2 i
  unfold walkRun
  dsimp only
  simp only [e1, e2, st_k0_t2_zero, List.nil_append]
  exact walk_holds (VT := VT) c i arg2 harg2 arg3 harg3 arg4 harg4 arg5 harg5 arg6 harg6 arg7 harg7 arg8 harg8 arg9 harg9 arg10 harg10 arg11 harg11 _ _ _ _ _ _ _ _ f6 f7 f8 hK hV hQ g9 g10 g11 _ H _ (le_of_eq (trips1 i).symm)

/-- The block that a point stores, from what the prepared buffers hold. -/
theorem rest_block {KP : ℕ → ℕ → EReal} {QP VT : ℕ → ℕ → ℕ → EReal} (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole)
    (f6 : BufTy.Contents (Elt Ideal) arg6.view.ty) (f7 : BufTy.Contents (Elt Ideal) arg7.view.ty) (f8 : BufTy.Contents (Elt Ideal) arg8.view.ty)
    (hK : ∀ a b, arg6.view.read (Elt Ideal) f6 (ix2 a b) = KP a.val b.val) (hV : ∀ t r k, arg7.view.read (Elt Ideal) f7 (ix3 t r k) = VT t.val r.val k.val) (hQ : ∀ g q l, arg8.view.read (Elt Ideal) f8 (ix3 g q l) = QP g.val q.val l.val) (g5 : BufTy.Contents (Elt Ideal) arg5.view.ty) (h : Fin 4) (d : Fin 64) (q : Fin 256) :
    arg5.view.read (Elt Ideal) (arg5.view.writes (Elt Ideal) g5 (restL5 (F := Ideal) c i arg2 harg2 arg3 harg3 arg4 harg4 arg5 harg5 arg6 harg6 arg7 harg7 arg8 harg8 arg9 harg9 arg10 harg10 arg11 harg11 f6 f7 f8)) (ix3 (0 : Fin 1) (⟨64 * h.val + d.val, by have := h.isLt; have := d.isLt; omega⟩ : Fin 256) q)
      = stA KP QP VT (i 1).val ((i 1).val + 1) h d q := by
  have H := walk_end (VT := VT) c i arg2 harg2 arg3 harg3 arg4 harg4 arg5 harg5 arg6 harg6 arg7 harg7 arg8 harg8 arg9 harg9 arg10 harg10 arg11 harg11 f6 f7 f8 hK hV hQ _ _ _ _ (start_holds (VT := VT) c i arg2 harg2 arg3 harg3 arg4 harg4 arg5 harg5 arg6 harg6 arg7 harg7 arg8 harg8 arg9 harg9 arg10 harg10 arg11 harg11 f6 f7 f8 hK hV hQ arg9.view.junk arg10.view.junk arg11.view.junk)
  refine (finish_block c i arg2 harg2 arg3 harg3 arg4 harg4 arg5 harg5 arg6 harg6 arg7 harg7 arg8 harg8 arg9 harg9 arg10 harg10 arg11 harg11 f7 hV _ _ _ _ _ _ _ _ _ H g5 h d q).trans ?_
  show _ = stA KP QP VT (i 1).val (i 1).val h d q + share VT ((i 1).val - (i 1).val) _ _ _ h d q
  rw [Nat.sub_self]

end Cert.KernelIdeal.Stick

end
-- ==== Proof.StickPieces.lean ====
module

public import proofs.«01_k».proof.Proof.StickRead
public import Idealize.ShloMosaic.Lib.Pointwise
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.KernelIdeal.Stick

open Cert.KernelIdeal Cert.KernelIdeal.Gen Idealize.ShloMosaic Idealize.ShloMosaic.TcCoe
open Idealize.SL Idealize.SL.Sem Idealize.ShloMosaic.Tactic

/-! ## The prepared buffers, in the words of the arrays they are made from -/

/-- A load of a block of `S4096x256`, at an index. -/
theorem ld_rows {e : EltTy} (v : View sig .tc .vmem S4096x256 e) (f : v.ty.Contents (Elt Ideal)) (off : Fin 2 → ℕ) (inb : ∀ a : Fin 2, off a + S256x256.size a ≤ S4096x256.size a)
    (y0 : Fin 256) (y1 : Fin 256) :
    v.readAt (Elt Ideal) (Rect.unit (s := S4096x256) off S256x256.size inb).toLoadRect f (ix2 y0 y1)
      = v.read (Elt Ideal) f (ix2 (⟨off 0 + y0.val, by have h := inb 0; change off 0 + 256 ≤ 4096 at h; have := y0.isLt; omega⟩ : Fin 4096) (⟨off 1 + y1.val, by have h := inb 1; change off 1 + 256 ≤ 256 at h; have := y1.isLt; omega⟩ : Fin 256)) := by
  rw [View.readAt_eq_ld, View.ld_apply]
  congr 1
  funext a
  match a with
  | ⟨0, _⟩ => apply Fin.ext; show off 0 + 1 * y0.val = off 0 + y0.val; omega
  | ⟨1, _⟩ => apply Fin.ext; show off 1 + 1 * y1.val = off 1 + y1.val; omega

/-- A load of a block of `S256x256`, at an index. -/
theorem ld_query {e : EltTy} (v : View sig .tc .vmem S256x256 e) (f : v.ty.Contents (Elt Ideal)) (off : Fin 2 → ℕ) (inb : ∀ a : Fin 2, off a + S256x256.size a ≤ S256x256.size a)
    (y0 : Fin 256) (y1 : Fin 256) :
    v.readAt (Elt Ideal) (Rect.unit (s := S256x256) off S256x256.size inb).toLoadRect f (ix2 y0 y1)
      = v.read (Elt Ideal) f (ix2 (⟨off 0 + y0.val, by have h := inb 0; change off 0 + 256 ≤ 256 at h; have := y0.isLt; omega⟩ : Fin 256) (⟨off 1 + y1.val, by have h := inb 1; change off 1 + 256 ≤ 256 at h; have := y1.isLt; omega⟩ : Fin 256)) := by
  rw [View.readAt_eq_ld, View.ld_apply]
  congr 1
  funext a
  match a with
  | ⟨0, _⟩ => apply Fin.ext; show off 0 + 1 * y0.val = off 0 + y0.val; omega
  | ⟨1, _⟩ => apply Fin.ext; show off 1 + 1 * y1.val = off 1 + y1.val; omega

/-- An array of 4096 rows, read at natural numbers. -/
def rowsN (x : S4096x256.Idx → EReal) (s j : ℕ) : EReal :=
  if h : s < 4096 ∧ j < 256 then x (ix2 (⟨s, h.1⟩ : Fin 4096) (⟨j, h.2⟩ : Fin 256)) else 0

/-- An array of 256 rows, read at natural numbers. -/
def qryN (x : S256x256.Idx → EReal) (s j : ℕ) : EReal :=
  if h : s < 256 ∧ j < 256 then x (ix2 (⟨s, h.1⟩ : Fin 256) (⟨j, h.2⟩ : Fin 256)) else 0

/-- The keys, one copy of a pair of heads per head, the other head's lanes zero. -/
def keyPad (x : S4096x256.Idx → EReal) (s b : ℕ) : EReal :=
  if b % 128 / 64 = b / 128 % 2 then rowsN x s (128 * (b / 256) + b % 128) else 0

/-- The values, transposed tile by tile. -/
def valT (x : S4096x256.Idx → EReal) (t r k : ℕ) : EReal := rowsN x (256 * t + k) r

/-- The queries times the factor, by pairs of heads. -/
def qryP (x : S256x256.Idx → EReal) (g q l : ℕ) : EReal :=
  qryN x q (128 * g + l) * FloatOps.ofBits (F := Ideal) .f32 0x3E000000#32

theorem lane_lt : ∀ l : Fin 128, IntOp.cmpi .slt (BitVec.ofNat 32 l.val) 64#32 = if l.val / 64 = 0 then 1#1 else 0#1 := by decide +kernel
theorem lane_ge : ∀ l : Fin 128, IntOp.cmpi .sge (BitVec.ofNat 32 l.val) 64#32 = if l.val / 64 = 1 then 1#1 else 0#1 := by decide +kernel

theorem rowsN_of (x : S4096x256.Idx → EReal) {a b : ℕ} (ha : a < 4096) (hb : b < 256) : x (ix2 (⟨a, ha⟩ : Fin 4096) (⟨b, hb⟩ : Fin 256)) = rowsN x a b := by
  rw [rowsN, dif_pos ⟨ha, hb⟩]

theorem qryN_of (x : S256x256.Idx → EReal) {a b : ℕ} (ha : a < 256) (hb : b < 256) : x (ix2 (⟨a, ha⟩ : Fin 256) (⟨b, hb⟩ : Fin 256)) = qryN x a b := by
  rw [qryN, dif_pos ⟨ha, hb⟩]

/-- The copy for head 0 of a tile of keys. -/
theorem key_piece0 {arg3 : Memref sig .tc .vmem S4096x256 .f32} (harg3 : arg3.IsWhole) (x3 : S4096x256.Idx → EReal) (t : ℕ) {off : Fin 2 → ℕ} (o : off = ![256 * t, 0])
    (inb : ∀ a : Fin 2, off a + S256x256.size a ≤ S4096x256.size a) {off' : Fin 2 → ℕ} (o' : off' = ![256 * t, 0]) (inb' : ∀ a : Fin 2, off' a + S256x128.size a ≤ S4096x512.size a)
    (w1 w2 w3 w4 w5) (z : S256x128.Idx) :
    (shapeCast (α := Ideal .bf16) S256x128 (truncf (F := Ideal) (φ := .f32) .bf16 (select (α := Ideal .f32) (cmpi .slt (iota .tc S256x128 32 [1] w1) (broadcast S256x128 64#32))
      (extractStridedSlice S256x128 ![0, 0] (shapeCast S256x256 (arg3.view.readAt (Elt Ideal) (Rect.unit (s := S4096x256) off S256x256.size inb).toLoadRect (harg3.unread x3)) w2) w3)
      (broadcast S256x128 (FloatOps.ofBits (F := Ideal) .f32 0#32))) w4) w5 : S256x128.Idx → EReal) z
      = (fun y : S4096x512.Idx => keyPad x3 (y 0).val (y 1).val) ((Rect.unit (s := S4096x512) off' S256x128.size inb').emb z) := by
  subst o o'
  idx_vars z
  pointwise []
  rw [ld_rows, harg3.read_unread, lane_lt]
  have hz := z1.isLt
  have c : ((0 + 1 * z1.val) % 128 / 64 = (0 + 1 * z1.val) / 128 % 2) ↔ (z1.val / 64 = 0) := by omega
  have e : 128 * ((0 + 1 * z1.val) / 256) + (0 + 1 * z1.val) % 128 = 0 + z1.val := by omega
  show Scalar.select (α := EReal) _ _ _ = if (0 + 1 * z1.val) % 128 / 64 = (0 + 1 * z1.val) / 128 % 2 then rowsN x3 (256 * t + 1 * z0.val) (128 * ((0 + 1 * z1.val) / 256) + (0 + 1 * z1.val) % 128) else 0
  rw [e, if_congr c rfl rfl]
  refine (congrArg (fun v => Scalar.select (α := EReal) _ v 0) (rowsN_of x3 _ _)).trans ?_
  show Scalar.select (α := EReal) _ (rowsN x3 (256 * t + z0.val) (0 + z1.val)) 0 = _
  simp only [Nat.zero_add, Nat.one_mul]
  split <;> rfl

/-- The copy for head 1 of a tile of keys. -/
theorem key_piece1 {arg3 : Memref sig .tc .vmem S4096x256 .f32} (harg3 : arg3.IsWhole) (x3 : S4096x256.Idx → EReal) (t : ℕ) {off : Fin 2 → ℕ} (o : off = ![256 * t, 0])
    (inb : ∀ a : Fin 2, off a + S256x256.size a ≤ S4096x256.size a) {off' : Fin 2 → ℕ} (o' : off' = ![256 * t, 128]) (inb' : ∀ a : Fin 2, off' a + S256x128.size a ≤ S4096x512.size a)
    (w1 w2 w3 w4 w5) (z : S256x128.Idx) :
    (shapeCast (α := Ideal .bf16) S256x128 (truncf (F := Ideal) (φ := .f32) .bf16 (select (α := Ideal .f32) (cmpi .sge (iota .tc S256x128 32 [1] w1) (broadcast S256x128 64#32))
      (extractStridedSlice S256x128 ![0, 0] (shapeCast S256x256 (arg3.view.readAt (Elt Ideal) (Rect.unit (s := S4096x256) off S256x256.size inb).toLoadRect (harg3.unread x3)) w2) w3)
      (broadcast S256x128 (FloatOps.ofBits (F := Ideal) .f32 0#32))) w4) w5 : S256x128.Idx → EReal) z
      = (fun y : S4096x512.Idx => keyPad x3 (y 0).val (y 1).val) ((Rect.unit (s := S4096x512) off' S256x128.size inb').emb z) := by
  subst o o'
  idx_vars z
  pointwise []
  rw [ld_rows, harg3.read_unread, lane_ge]
  have hz := z1.isLt
  have c : ((128 + 1 * z1.val) % 128 / 64 = (128 + 1 * z1.val) / 128 % 2) ↔ (z1.val / 64 = 1) := by omega
  have e : 128 * ((128 + 1 * z1.val) / 256) + (128 + 1 * z1.val) % 128 = 0 + z1.val := by omega
  show Scalar.select (α := EReal) _ _ _ = if (128 + 1 * z1.val) % 128 / 64 = (128 + 1 * z1.val) / 128 % 2 then rowsN x3 (256 * t + 1 * z0.val) (128 * ((128 + 1 * z1.val) / 256) + (128 + 1 * z1.val) % 128) else 0
  rw [e, if_congr c rfl rfl]
  refine (congrArg (fun v => Scalar.select (α := EReal) _ v 0) (rowsN_of x3 _ _)).trans ?_
  show Scalar.select (α := EReal) _ (rowsN x3 (256 * t + z0.val) (0 + z1.val)) 0 = _
  simp only [Nat.zero_add, Nat.one_mul]
  split <;> rfl

/-- The copy for head 2 of a tile of keys. -/
theorem key_piece2 {arg3 : Memref sig .tc .vmem S4096x256 .f32} (harg3 : arg3.IsWhole) (x3 : S4096x256.Idx → EReal) (t : ℕ) {off : Fin 2 → ℕ} (o : off = ![256 * t, 0])
    (inb : ∀ a : Fin 2, off a + S256x256.size a ≤ S4096x256.size a) {off' : Fin 2 → ℕ} (o' : off' = ![256 * t, 256]) (inb' : ∀ a : Fin 2, off' a + S256x128.size a ≤ S4096x512.size a)
    (w1 w2 w3 w4 w5) (z : S256x128.Idx) :
    (shapeCast (α := Ideal .bf16) S256x128 (truncf (F := Ideal) (φ := .f32) .bf16 (select (α := Ideal .f32) (cmpi .slt (iota .tc S256x128 32 [1] w1) (broadcast S256x128 64#32))
      (extractStridedSlice S256x128 ![0, 128] (shapeCast S256x256 (arg3.view.readAt (Elt Ideal) (Rect.unit (s := S4096x256) off S256x256.size inb).toLoadRect (harg3.unread x3)) w2) w3)
      (broadcast S256x128 (FloatOps.ofBits (F := Ideal) .f32 0#32))) w4) w5 : S256x128.Idx → EReal) z
      = (fun y : S4096x512.Idx => keyPad x3 (y 0).val (y 1).val) ((Rect.unit (s := S4096x512) off' S256x128.size inb').emb z) := by
  subst o o'
  idx_vars z
  pointwise []
  rw [ld_rows, harg3.read_unread, lane_lt]
  have hz := z1.isLt
  have c : ((256 + 1 * z1.val) % 128 / 64 = (256 + 1 * z1.val) / 128 % 2) ↔ (z1.val / 64 = 0) := by omega
  have e : 128 * ((256 + 1 * z1.val) / 256) + (256 + 1 * z1.val) % 128 = 128 + z1.val := by omega
  show Scalar.select (α := EReal) _ _ _ = if (256 + 1 * z1.val) % 128 / 64 = (256 + 1 * z1.val) / 128 % 2 then rowsN x3 (256 * t + 1 * z0.val) (128 * ((256 + 1 * z1.val) / 256) + (256 + 1 * z1.val) % 128) else 0
  rw [e, if_congr c rfl rfl]
  refine (congrArg (fun v => Scalar.select (α := EReal) _ v 0) (rowsN_of x3 _ _)).trans ?_
  show Scalar.select (α := EReal) _ (rowsN x3 (256 * t + z0.val) (0 + (128 + z1.val))) 0 = _
  simp only [Nat.zero_add, Nat.one_mul]
  split <;> rfl

/-- The copy for head 3 of a tile of keys. -/
theorem key_piece3 {arg3 : Memref sig .tc .vmem S4096x256 .f32} (harg3 : arg3.IsWhole) (x3 : S4096x256.Idx → EReal) (t : ℕ) {off : Fin 2 → ℕ} (o : off = ![256 * t, 0])
    (inb : ∀ a : Fin 2, off a + S256x256.size a ≤ S4096x256.size a) {off' : Fin 2 → ℕ} (o' : off' = ![256 * t, 384]) (inb' : ∀ a : Fin 2, off' a + S256x128.size a ≤ S4096x512.size a)
    (w1 w2 w3 w4 w5) (z : S256x128.Idx) :
    (shapeCast (α := Ideal .bf16) S256x128 (truncf (F := Ideal) (φ := .f32) .bf16 (select (α := Ideal .f32) (cmpi .sge (iota .tc S256x128 32 [1] w1) (broadcast S256x128 64#32))
      (extractStridedSlice S256x128 ![0, 128] (shapeCast S256x256 (arg3.view.readAt (Elt Ideal) (Rect.unit (s := S4096x256) off S256x256.size inb).toLoadRect (harg3.unread x3)) w2) w3)
      (broadcast S256x128 (FloatOps.ofBits (F := Ideal) .f32 0#32))) w4) w5 : S256x128.Idx → EReal) z
      = (fun y : S4096x512.Idx => keyPad x3 (y 0).val (y 1).val) ((Rect.unit (s := S4096x512) off' S256x128.size inb').emb z) := by
  subst o o'
  idx_vars z
  pointwise []
  rw [ld_rows, harg3.read_unread, lane_ge]
  have hz := z1.isLt
  have c : ((384 + 1 * z1.val) % 128 / 64 = (384 + 1 * z1.val) / 128 % 2) ↔ (z1.val / 64 = 1) := by omega
  have e : 128 * ((384 + 1 * z1.val) / 256) + (384 + 1 * z1.val) % 128 = 128 + z1.val := by omega
  show Scalar.select (α := EReal) _ _ _ = if (384 + 1 * z1.val) % 128 / 64 = (384 + 1 * z1.val) / 128 % 2 then rowsN x3 (256 * t + 1 * z0.val) (128 * ((384 + 1 * z1.val) / 256) + (384 + 1 * z1.val) % 128) else 0
  rw [e, if_congr c rfl rfl]
  refine (congrArg (fun v => Scalar.select (α := EReal) _ v 0) (rowsN_of x3 _ _)).trans ?_
  show Scalar.select (α := EReal) _ (rowsN x3 (256 * t + z0.val) (0 + (128 + z1.val))) 0 = _
  simp only [Nat.zero_add, Nat.one_mul]
  split <;> rfl

/-- The transposed tile of values. -/
theorem val_piece {arg4 : Memref sig .tc .vmem S4096x256 .f32} (harg4 : arg4.IsWhole) (x4 : S4096x256.Idx → EReal) (t : ℕ) {off : Fin 2 → ℕ} (o : off = ![256 * t, 0])
    (inb : ∀ a : Fin 2, off a + S256x256.size a ≤ S4096x256.size a) {off' : Fin 3 → ℕ} (o' : off' = ![t, 0, 0]) (inb' : ∀ a : Fin 3, off' a + S1x256x256.size a ≤ S16x256x256.size a)
    (w1 w2 w3 w4) (z : S1x256x256.Idx) :
    (shapeCast (α := Ideal .bf16) S1x256x256 (truncf (F := Ideal) (φ := .f32) .bf16 (transpose S256x256 [1, 0]
      (shapeCast (α := Ideal .f32) S256x256 (arg4.view.readAt (Elt Ideal) (Rect.unit (s := S4096x256) off S256x256.size inb).toLoadRect (harg4.unread x4)) w1) w2) w3) w4 : S1x256x256.Idx → EReal) z
      = (fun y : S16x256x256.Idx => valT x4 (y 0).val (y 1).val (y 2).val) ((Rect.unit (s := S16x256x256) off' S1x256x256.size inb').emb z) := by
  subst o o'
  idx_vars z
  pointwise []
  rw [ld_rows, harg4.read_unread]
  have h0 := z0.isLt
  show _ = rowsN x4 (256 * (t + 1 * z0.val) + (0 + 1 * z2.val)) (0 + 1 * z1.val)
  refine (rowsN_of x4 _ _).trans ?_
  show rowsN x4 (256 * t + z2.val) (0 + z1.val) = _
  congr 1 <;> omega

/-- The queries of one pair of heads, times the factor. -/
theorem qry_piece0 {arg2 : Memref sig .tc .vmem S256x256 .f32} (harg2 : arg2.IsWhole) (x2 : S256x256.Idx → EReal) {off : Fin 2 → ℕ} (o : off = ![0, 0])
    (inb : ∀ a : Fin 2, off a + S256x256.size a ≤ S256x256.size a) {off' : Fin 3 → ℕ} (o' : off' = ![0, 0, 0]) (inb' : ∀ a : Fin 3, off' a + S1x256x128.size a ≤ S2x256x128.size a)
    (z : S1x256x128.Idx) :
    (k0_pay213 (F := Ideal) (arg2.view.readAt (Elt Ideal) (Rect.unit (s := S256x256) off S256x256.size inb).toLoadRect (harg2.unread x2)) : S1x256x128.Idx → EReal) z
      = (fun y : S2x256x128.Idx => qryP x2 (y 0).val (y 1).val (y 2).val) ((Rect.unit (s := S2x256x128) off' S1x256x128.size inb').emb z) := by
  subst o o'
  idx_vars z
  pointwise [k0_pay213, k0_pay212]
  rw [ld_query, harg2.read_unread]
  have h0 := z0.isLt
  show _ = qryN x2 (0 + 1 * z1.val) (128 * (0 + 1 * z0.val) + (0 + 1 * z2.val)) * FloatOps.ofBits (F := Ideal) .f32 0x3E000000#32
  refine congrArg₂ (· * ·) ((qryN_of x2 _ _).trans ?_) rfl
  show qryN x2 (0 + z1.val) (0 + z2.val) = _
  congr 1 <;> omega

/-- The queries of one pair of heads, times the factor. -/
theorem qry_piece1 {arg2 : Memref sig .tc .vmem S256x256 .f32} (harg2 : arg2.IsWhole) (x2 : S256x256.Idx → EReal) {off : Fin 2 → ℕ} (o : off = ![0, 0])
    (inb : ∀ a : Fin 2, off a + S256x256.size a ≤ S256x256.size a) {off' : Fin 3 → ℕ} (o' : off' = ![1, 0, 0]) (inb' : ∀ a : Fin 3, off' a + S1x256x128.size a ≤ S2x256x128.size a)
    (z : S1x256x128.Idx) :
    (k0_pay214 (F := Ideal) (arg2.view.readAt (Elt Ideal) (Rect.unit (s := S256x256) off S256x256.size inb).toLoadRect (harg2.unread x2)) : S1x256x128.Idx → EReal) z
      = (fun y : S2x256x128.Idx => qryP x2 (y 0).val (y 1).val (y 2).val) ((Rect.unit (s := S2x256x128) off' S1x256x128.size inb').emb z) := by
  subst o o'
  idx_vars z
  pointwise [k0_pay214, k0_pay212]
  rw [ld_query, harg2.read_unread]
  have h0 := z0.isLt
  show _ = qryN x2 (0 + 1 * z1.val) (128 * (1 + 1 * z0.val) + (0 + 1 * z2.val)) * FloatOps.ofBits (F := Ideal) .f32 0x3E000000#32
  refine congrArg₂ (· * ·) ((qryN_of x2 _ _).trans ?_) rfl
  show qryN x2 (0 + z1.val) (0 + (128 + z2.val)) = _
  congr 1 <;> omega

set_option maxHeartbeats 4000000 in
/-- The keys as the first point of a sequence prepares them. -/
theorem keys_read (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (hc : Scalar.cmpi .ne (Scalar.extui (Scalar.cmpi .eq (BitVec.ofNat 32 (i 1).val) 0#32)) 0#32 = 1#1) (x2 : Vec Ideal S256x256 .f32) (x3 x4 : Vec Ideal S4096x256 .f32) (a : Fin 4096) (b : Fin 512) :
    arg6.view.read (Elt Ideal) (arg6.view.writes (Elt Ideal) arg6.view.junk (prepFirst (F := Ideal) c i arg2 harg2 arg3 harg3 arg4 harg4 arg5 harg5 arg6 harg6 arg7 harg7 arg8 harg8 arg9 harg9 arg10 harg10 arg11 harg11 hc x2 x3 x4).1) (ix2 a b) = keyPad x3 a.val b.val := by
  rw [View.read_writes_junk_eq_canon]
  unfold prepFirst
  dsimp only
  unfold prepFirst.sl.H6_64
  refine (View.canon_apply_of_pieces (S := S4096x512) (e := .bf16) (Val := Elt Ideal) (fun y : S4096x512.Idx => keyPad x3 (y 0).val (y 1).val) _ (View.PiecesOf.mem (s := S4096x512) (e := .bf16) (Val := Elt Ideal) (G := fun y : S4096x512.Idx => keyPad x3 (y 0).val (y 1).val) ?_) _ (View.cover_of_tiledL _ ![256, 128] (by sl_kernel_rfl) _)).trans rfl
  exact ⟨fun z => key_piece3 harg3 x3 15 (off := ![3840, 0]) rfl inb_S4096x256_S256x256_3840_0 (off' := ![3840, 384]) rfl inb_S4096x512_S256x128_3840_384 iota_S256x128_d1_w32 shapeCasts_S256x256_S256x256 slices_S256x256_o0_128_S256x128 bitsLt_bf16_f32 shapeCasts_S256x128_S256x128 z, fun z => key_piece2 harg3 x3 15 (off := ![3840, 0]) rfl inb_S4096x256_S256x256_3840_0 (off' := ![3840, 256]) rfl inb_S4096x512_S256x128_3840_256 iota_S256x128_d1_w32 shapeCasts_S256x256_S256x256 slices_S256x256_o0_128_S256x128 bitsLt_bf16_f32 shapeCasts_S256x128_S256x128 z, fun z => key_piece1 harg3 x3 15 (off := ![3840, 0]) rfl inb_S4096x256_S256x256_3840_0 (off' := ![3840, 128]) rfl inb_S4096x512_S256x128_3840_128 iota_S256x128_d1_w32 shapeCasts_S256x256_S256x256 slices_S256x256_o0_0_S256x128 bitsLt_bf16_f32 shapeCasts_S256x128_S256x128 z, fun z => key_piece0 harg3 x3 15 (off := ![3840, 0]) rfl inb_S4096x256_S256x256_3840_0 (off' := ![3840, 0]) rfl inb_S4096x512_S256x128_3840_0 iota_S256x128_d1_w32 shapeCasts_S256x256_S256x256 slices_S256x256_o0_0_S256x128 bitsLt_bf16_f32 shapeCasts_S256x128_S256x128 z, fun z => key_piece3 harg3 x3 14 (off := ![3584, 0]) rfl inb_S4096x256_S256x256_3584_0 (off' := ![3584, 384]) rfl inb_S4096x512_S256x128_3584_384 iota_S256x128_d1_w32 shapeCasts_S256x256_S256x256 slices_S256x256_o0_128_S256x128 bitsLt_bf16_f32 shapeCasts_S256x128_S256x128 z, fun z => key_piece2 harg3 x3 14 (off := ![3584, 0]) rfl inb_S4096x256_S256x256_3584_0 (off' := ![3584, 256]) rfl inb_S4096x512_S256x128_3584_256 iota_S256x128_d1_w32 shapeCasts_S256x256_S256x256 slices_S256x256_o0_128_S256x128 bitsLt_bf16_f32 shapeCasts_S256x128_S256x128 z, fun z => key_piece1 harg3 x3 14 (off := ![3584, 0]) rfl inb_S4096x256_S256x256_3584_0 (off' := ![3584, 128]) rfl inb_S4096x512_S256x128_3584_128 iota_S256x128_d1_w32 shapeCasts_S256x256_S256x256 slices_S256x256_o0_0_S256x128 bitsLt_bf16_f32 shapeCasts_S256x128_S256x128 z, fun z => key_piece0 harg3 x3 14 (off := ![3584, 0]) rfl inb_S4096x256_S256x256_3584_0 (off' := ![3584, 0]) rfl inb_S4096x512_S256x128_3584_0 iota_S256x128_d1_w32 shapeCasts_S256x256_S256x256 slices_S256x256_o0_0_S256x128 bitsLt_bf16_f32 shapeCasts_S256x128_S256x128 z, fun z => key_piece3 harg3 x3 13 (off := ![3328, 0]) rfl inb_S4096x256_S256x256_3328_0 (off' := ![3328, 384]) rfl inb_S4096x512_S256x128_3328_384 iota_S256x128_d1_w32 shapeCasts_S256x256_S256x256 slices_S256x256_o0_128_S256x128 bitsLt_bf16_f32 shapeCasts_S256x128_S256x128 z, fun z => key_piece2 harg3 x3 13 (off := ![3328, 0]) rfl inb_S4096x256_S256x256_3328_0 (off' := ![3328, 256]) rfl inb_S4096x512_S256x128_3328_256 iota_S256x128_d1_w32 shapeCasts_S256x256_S256x256 slices_S256x256_o0_128_S256x128 bitsLt_bf16_f32 shapeCasts_S256x128_S256x128 z, fun z => key_piece1 harg3 x3 13 (off := ![3328, 0]) rfl inb_S4096x256_S256x256_3328_0 (off' := ![3328, 128]) rfl inb_S4096x512_S256x128_3328_128 iota_S256x128_d1_w32 shapeCasts_S256x256_S256x256 slices_S256x256_o0_0_S256x128 bitsLt_bf16_f32 shapeCasts_S256x128_S256x128 z, fun z => key_piece0 harg3 x3 13 (off := ![3328, 0]) rfl inb_S4096x256_S256x256_3328_0 (off' := ![3328, 0]) rfl inb_S4096x512_S256x128_3328_0 iota_S256x128_d1_w32 shapeCasts_S256x256_S256x256 slices_S256x256_o0_0_S256x128 bitsLt_bf16_f32 shapeCasts_S256x128_S256x128 z, fun z => key_piece3 harg3 x3 12 (off := ![3072, 0]) rfl inb_S4096x256_S256x256_3072_0 (off' := ![3072, 384]) rfl inb_S4096x512_S256x128_3072_384 iota_S256x128_d1_w32 shapeCasts_S256x256_S256x256 slices_S256x256_o0_128_S256x128 bitsLt_bf16_f32 shapeCasts_S256x128_S256x128 z, fun z => key_piece2 harg3 x3 12 (off := ![3072, 0]) rfl inb_S4096x256_S256x256_3072_0 (off' := ![3072, 256]) rfl inb_S4096x512_S256x128_3072_256 iota_S256x128_d1_w32 shapeCasts_S256x256_S256x256 slices_S256x256_o0_128_S256x128 bitsLt_bf16_f32 shapeCasts_S256x128_S256x128 z, fun z => key_piece1 harg3 x3 12 (off := ![3072, 0]) rfl inb_S4096x256_S256x256_3072_0 (off' := ![3072, 128]) rfl inb_S4096x512_S256x128_3072_128 iota_S256x128_d1_w32 shapeCasts_S256x256_S256x256 slices_S256x256_o0_0_S256x128 bitsLt_bf16_f32 shapeCasts_S256x128_S256x128 z, fun z => key_piece0 harg3 x3 12 (off := ![3072, 0]) rfl inb_S4096x256_S256x256_3072_0 (off' := ![3072, 0]) rfl inb_S4096x512_S256x128_3072_0 iota_S256x128_d1_w32 shapeCasts_S256x256_S256x256 slices_S256x256_o0_0_S256x128 bitsLt_bf16_f32 shapeCasts_S256x128_S256x128 z, fun z => key_piece3 harg3 x3 11 (off := ![2816, 0]) rfl inb_S4096x256_S256x256_2816_0 (off' := ![2816, 384]) rfl inb_S4096x512_S256x128_2816_384 iota_S256x128_d1_w32 shapeCasts_S256x256_S256x256 slices_S256x256_o0_128_S256x128 bitsLt_bf16_f32 shapeCasts_S256x128_S256x128 z, fun z => key_piece2 harg3 x3 11 (off := ![2816, 0]) rfl inb_S4096x256_S256x256_2816_0 (off' := ![2816, 256]) rfl inb_S4096x512_S256x128_2816_256 iota_S256x128_d1_w32 shapeCasts_S256x256_S256x256 slices_S256x256_o0_128_S256x128 bitsLt_bf16_f32 shapeCasts_S256x128_S256x128 z, fun z => key_piece1 harg3 x3 11 (off := ![2816, 0]) rfl inb_S4096x256_S256x256_2816_0 (off' := ![2816, 128]) rfl inb_S4096x512_S256x128_2816_128 iota_S256x128_d1_w32 shapeCasts_S256x256_S256x256 slices_S256x256_o0_0_S256x128 bitsLt_bf16_f32 shapeCasts_S256x128_S256x128 z, fun z => key_piece0 harg3 x3 11 (off := ![2816, 0]) rfl inb_S4096x256_S256x256_2816_0 (off' := ![2816, 0]) rfl inb_S4096x512_S256x128_2816_0 iota_S256x128_d1_w32 shapeCasts_S256x256_S256x256 slices_S256x256_o0_0_S256x128 bitsLt_bf16_f32 shapeCasts_S256x128_S256x128 z, fun z => key_piece3 harg3 x3 10 (off := ![2560, 0]) rfl inb_S4096x256_S256x256_2560_0 (off' := ![2560, 384]) rfl inb_S4096x512_S256x128_2560_384 iota_S256x128_d1_w32 shapeCasts_S256x256_S256x256 slices_S256x256_o0_128_S256x128 bitsLt_bf16_f32 shapeCasts_S256x128_S256x128 z, fun z => key_piece2 harg3 x3 10 (off := ![2560, 0]) rfl inb_S4096x256_S256x256_2560_0 (off' := ![2560, 256]) rfl inb_S4096x512_S256x128_2560_256 iota_S256x128_d1_w32 shapeCasts_S256x256_S256x256 slices_S256x256_o0_128_S256x128 bitsLt_bf16_f32 shapeCasts_S256x128_S256x128 z, fun z => key_piece1 harg3 x3 10 (off := ![2560, 0]) rfl inb_S4096x256_S256x256_2560_0 (off' := ![2560, 128]) rfl inb_S4096x512_S256x128_2560_128 iota_S256x128_d1_w32 shapeCasts_S256x256_S256x256 slices_S256x256_o0_0_S256x128 bitsLt_bf16_f32 shapeCasts_S256x128_S256x128 z, fun z => key_piece0 harg3 x3 10 (off := ![2560, 0]) rfl inb_S4096x256_S256x256_2560_0 (off' := ![2560, 0]) rfl inb_S4096x512_S256x128_2560_0 iota_S256x128_d1_w32 shapeCasts_S256x256_S256x256 slices_S256x256_o0_0_S256x128 bitsLt_bf16_f32 shapeCasts_S256x128_S256x128 z, fun z => key_piece3 harg3 x3 9 (off := ![2304, 0]) rfl inb_S4096x256_S256x256_2304_0 (off' := ![2304, 384]) rfl inb_S4096x512_S256x128_2304_384 iota_S256x128_d1_w32 shapeCasts_S256x256_S256x256 slices_S256x256_o0_128_S256x128 bitsLt_bf16_f32 shapeCasts_S256x128_S256x128 z, fun z => key_piece2 harg3 x3 9 (off := ![2304, 0]) rfl inb_S4096x256_S256x256_2304_0 (off' := ![2304, 256]) rfl inb_S4096x512_S256x128_2304_256 iota_S256x128_d1_w32 shapeCasts_S256x256_S256x256 slices_S256x256_o0_128_S256x128 bitsLt_bf16_f32 shapeCasts_S256x128_S256x128 z, fun z => key_piece1 harg3 x3 9 (off := ![2304, 0]) rfl inb_S4096x256_S256x256_2304_0 (off' := ![2304, 128]) rfl inb_S4096x512_S256x128_2304_128 iota_S256x128_d1_w32 shapeCasts_S256x256_S256x256 slices_S256x256_o0_0_S256x128 bitsLt_bf16_f32 shapeCasts_S256x128_S256x128 z, fun z => key_piece0 harg3 x3 9 (off := ![2304, 0]) rfl inb_S4096x256_S256x256_2304_0 (off' := ![2304, 0]) rfl inb_S4096x512_S256x128_2304_0 iota_S256x128_d1_w32 shapeCasts_S256x256_S256x256 slices_S256x256_o0_0_S256x128 bitsLt_bf16_f32 shapeCasts_S256x128_S256x128 z, fun z => key_piece3 harg3 x3 8 (off := ![2048, 0]) rfl inb_S4096x256_S256x256_2048_0 (off' := ![2048, 384]) rfl inb_S4096x512_S256x128_2048_384 iota_S256x128_d1_w32 shapeCasts_S256x256_S256x256 slices_S256x256_o0_128_S256x128 bitsLt_bf16_f32 shapeCasts_S256x128_S256x128 z, fun z => key_piece2 harg3 x3 8 (off := ![2048, 0]) rfl inb_S4096x256_S256x256_2048_0 (off' := ![2048, 256]) rfl inb_S4096x512_S256x128_2048_256 iota_S256x128_d1_w32 shapeCasts_S256x256_S256x256 slices_S256x256_o0_128_S256x128 bitsLt_bf16_f32 shapeCasts_S256x128_S256x128 z, fun z => key_piece1 harg3 x3 8 (off := ![2048, 0]) rfl inb_S4096x256_S256x256_2048_0 (off' := ![2048, 128]) rfl inb_S4096x512_S256x128_2048_128 iota_S256x128_d1_w32 shapeCasts_S256x256_S256x256 slices_S256x256_o0_0_S256x128 bitsLt_bf16_f32 shapeCasts_S256x128_S256x128 z, fun z => key_piece0 harg3 x3 8 (off := ![2048, 0]) rfl inb_S4096x256_S256x256_2048_0 (off' := ![2048, 0]) rfl inb_S4096x512_S256x128_2048_0 iota_S256x128_d1_w32 shapeCasts_S256x256_S256x256 slices_S256x256_o0_0_S256x128 bitsLt_bf16_f32 shapeCasts_S256x128_S256x128 z, fun z => key_piece3 harg3 x3 7 (off := ![1792, 0]) rfl inb_S4096x256_S256x256_1792_0 (off' := ![1792, 384]) rfl inb_S4096x512_S256x128_1792_384 iota_S256x128_d1_w32 shapeCasts_S256x256_S256x256 slices_S256x256_o0_128_S256x128 bitsLt_bf16_f32 shapeCasts_S256x128_S256x128 z, fun z => key_piece2 harg3 x3 7 (off := ![1792, 0]) rfl inb_S4096x256_S256x256_1792_0 (off' := ![1792, 256]) rfl inb_S4096x512_S256x128_1792_256 iota_S256x128_d1_w32 shapeCasts_S256x256_S256x256 slices_S256x256_o0_128_S256x128 bitsLt_bf16_f32 shapeCasts_S256x128_S256x128 z, fun z => key_piece1 harg3 x3 7 (off := ![1792, 0]) rfl inb_S4096x256_S256x256_1792_0 (off' := ![1792, 128]) rfl inb_S4096x512_S256x128_1792_128 iota_S256x128_d1_w32 shapeCasts_S256x256_S256x256 slices_S256x256_o0_0_S256x128 bitsLt_bf16_f32 shapeCasts_S256x128_S256x128 z, fun z => key_piece0 harg3 x3 7 (off := ![1792, 0]) rfl inb_S4096x256_S256x256_1792_0 (off' := ![1792, 0]) rfl inb_S4096x512_S256x128_1792_0 iota_S256x128_d1_w32 shapeCasts_S256x256_S256x256 slices_S256x256_o0_0_S256x128 bitsLt_bf16_f32 shapeCasts_S256x128_S256x128 z, fun z => key_piece3 harg3 x3 6 (off := ![1536, 0]) rfl inb_S4096x256_S256x256_1536_0 (off' := ![1536, 384]) rfl inb_S4096x512_S256x128_1536_384 iota_S256x128_d1_w32 shapeCasts_S256x256_S256x256 slices_S256x256_o0_128_S256x128 bitsLt_bf16_f32 shapeCasts_S256x128_S256x128 z, fun z => key_piece2 harg3 x3 6 (off := ![1536, 0]) rfl inb_S4096x256_S256x256_1536_0 (off' := ![1536, 256]) rfl inb_S4096x512_S256x128_1536_256 iota_S256x128_d1_w32 shapeCasts_S256x256_S256x256 slices_S256x256_o0_128_S256x128 bitsLt_bf16_f32 shapeCasts_S256x128_S256x128 z, fun z => key_piece1 harg3 x3 6 (off := ![1536, 0]) rfl inb_S4096x256_S256x256_1536_0 (off' := ![1536, 128]) rfl inb_S4096x512_S256x128_1536_128 iota_S256x128_d1_w32 shapeCasts_S256x256_S256x256 slices_S256x256_o0_0_S256x128 bitsLt_bf16_f32 shapeCasts_S256x128_S256x128 z, fun z => key_piece0 harg3 x3 6 (off := ![1536, 0]) rfl inb_S4096x256_S256x256_1536_0 (off' := ![1536, 0]) rfl inb_S4096x512_S256x128_1536_0 iota_S256x128_d1_w32 shapeCasts_S256x256_S256x256 slices_S256x256_o0_0_S256x128 bitsLt_bf16_f32 shapeCasts_S256x128_S256x128 z, fun z => key_piece3 harg3 x3 5 (off := ![1280, 0]) rfl inb_S4096x256_S256x256_1280_0 (off' := ![1280, 384]) rfl inb_S4096x512_S256x128_1280_384 iota_S256x128_d1_w32 shapeCasts_S256x256_S256x256 slices_S256x256_o0_128_S256x128 bitsLt_bf16_f32 shapeCasts_S256x128_S256x128 z, fun z => key_piece2 harg3 x3 5 (off := ![1280, 0]) rfl inb_S4096x256_S256x256_1280_0 (off' := ![1280, 256]) rfl inb_S4096x512_S256x128_1280_256 iota_S256x128_d1_w32 shapeCasts_S256x256_S256x256 slices_S256x256_o0_128_S256x128 bitsLt_bf16_f32 shapeCasts_S256x128_S256x128 z, fun z => key_piece1 harg3 x3 5 (off := ![1280, 0]) rfl inb_S4096x256_S256x256_1280_0 (off' := ![1280, 128]) rfl inb_S4096x512_S256x128_1280_128 iota_S256x128_d1_w32 shapeCasts_S256x256_S256x256 slices_S256x256_o0_0_S256x128 bitsLt_bf16_f32 shapeCasts_S256x128_S256x128 z, fun z => key_piece0 harg3 x3 5 (off := ![1280, 0]) rfl inb_S4096x256_S256x256_1280_0 (off' := ![1280, 0]) rfl inb_S4096x512_S256x128_1280_0 iota_S256x128_d1_w32 shapeCasts_S256x256_S256x256 slices_S256x256_o0_0_S256x128 bitsLt_bf16_f32 shapeCasts_S256x128_S256x128 z, fun z => key_piece3 harg3 x3 4 (off := ![1024, 0]) rfl inb_S4096x256_S256x256_1024_0 (off' := ![1024, 384]) rfl inb_S4096x512_S256x128_1024_384 iota_S256x128_d1_w32 shapeCasts_S256x256_S256x256 slices_S256x256_o0_128_S256x128 bitsLt_bf16_f32 shapeCasts_S256x128_S256x128 z, fun z => key_piece2 harg3 x3 4 (off := ![1024, 0]) rfl inb_S4096x256_S256x256_1024_0 (off' := ![1024, 256]) rfl inb_S4096x512_S256x128_1024_256 iota_S256x128_d1_w32 shapeCasts_S256x256_S256x256 slices_S256x256_o0_128_S256x128 bitsLt_bf16_f32 shapeCasts_S256x128_S256x128 z, fun z => key_piece1 harg3 x3 4 (off := ![1024, 0]) rfl inb_S4096x256_S256x256_1024_0 (off' := ![1024, 128]) rfl inb_S4096x512_S256x128_1024_128 iota_S256x128_d1_w32 shapeCasts_S256x256_S256x256 slices_S256x256_o0_0_S256x128 bitsLt_bf16_f32 shapeCasts_S256x128_S256x128 z, fun z => key_piece0 harg3 x3 4 (off := ![1024, 0]) rfl inb_S4096x256_S256x256_1024_0 (off' := ![1024, 0]) rfl inb_S4096x512_S256x128_1024_0 iota_S256x128_d1_w32 shapeCasts_S256x256_S256x256 slices_S256x256_o0_0_S256x128 bitsLt_bf16_f32 shapeCasts_S256x128_S256x128 z, fun z => key_piece3 harg3 x3 3 (off := ![768, 0]) rfl inb_S4096x256_S256x256_768_0 (off' := ![768, 384]) rfl inb_S4096x512_S256x128_768_384 iota_S256x128_d1_w32 shapeCasts_S256x256_S256x256 slices_S256x256_o0_128_S256x128 bitsLt_bf16_f32 shapeCasts_S256x128_S256x128 z, fun z => key_piece2 harg3 x3 3 (off := ![768, 0]) rfl inb_S4096x256_S256x256_768_0 (off' := ![768, 256]) rfl inb_S4096x512_S256x128_768_256 iota_S256x128_d1_w32 shapeCasts_S256x256_S256x256 slices_S256x256_o0_128_S256x128 bitsLt_bf16_f32 shapeCasts_S256x128_S256x128 z, fun z => key_piece1 harg3 x3 3 (off := ![768, 0]) rfl inb_S4096x256_S256x256_768_0 (off' := ![768, 128]) rfl inb_S4096x512_S256x128_768_128 iota_S256x128_d1_w32 shapeCasts_S256x256_S256x256 slices_S256x256_o0_0_S256x128 bitsLt_bf16_f32 shapeCasts_S256x128_S256x128 z, fun z => key_piece0 harg3 x3 3 (off := ![768, 0]) rfl inb_S4096x256_S256x256_768_0 (off' := ![768, 0]) rfl inb_S4096x512_S256x128_768_0 iota_S256x128_d1_w32 shapeCasts_S256x256_S256x256 slices_S256x256_o0_0_S256x128 bitsLt_bf16_f32 shapeCasts_S256x128_S256x128 z, fun z => key_piece3 harg3 x3 2 (off := ![512, 0]) rfl inb_S4096x256_S256x256_512_0 (off' := ![512, 384]) rfl inb_S4096x512_S256x128_512_384 iota_S256x128_d1_w32 shapeCasts_S256x256_S256x256 slices_S256x256_o0_128_S256x128 bitsLt_bf16_f32 shapeCasts_S256x128_S256x128 z, fun z => key_piece2 harg3 x3 2 (off := ![512, 0]) rfl inb_S4096x256_S256x256_512_0 (off' := ![512, 256]) rfl inb_S4096x512_S256x128_512_256 iota_S256x128_d1_w32 shapeCasts_S256x256_S256x256 slices_S256x256_o0_128_S256x128 bitsLt_bf16_f32 shapeCasts_S256x128_S256x128 z, fun z => key_piece1 harg3 x3 2 (off := ![512, 0]) rfl inb_S4096x256_S256x256_512_0 (off' := ![512, 128]) rfl inb_S4096x512_S256x128_512_128 iota_S256x128_d1_w32 shapeCasts_S256x256_S256x256 slices_S256x256_o0_0_S256x128 bitsLt_bf16_f32 shapeCasts_S256x128_S256x128 z, fun z => key_piece0 harg3 x3 2 (off := ![512, 0]) rfl inb_S4096x256_S256x256_512_0 (off' := ![512, 0]) rfl inb_S4096x512_S256x128_512_0 iota_S256x128_d1_w32 shapeCasts_S256x256_S256x256 slices_S256x256_o0_0_S256x128 bitsLt_bf16_f32 shapeCasts_S256x128_S256x128 z, fun z => key_piece3 harg3 x3 1 (off := ![256, 0]) rfl inb_S4096x256_S256x256_256_0 (off' := ![256, 384]) rfl inb_S4096x512_S256x128_256_384 iota_S256x128_d1_w32 shapeCasts_S256x256_S256x256 slices_S256x256_o0_128_S256x128 bitsLt_bf16_f32 shapeCasts_S256x128_S256x128 z, fun z => key_piece2 harg3 x3 1 (off := ![256, 0]) rfl inb_S4096x256_S256x256_256_0 (off' := ![256, 256]) rfl inb_S4096x512_S256x128_256_256 iota_S256x128_d1_w32 shapeCasts_S256x256_S256x256 slices_S256x256_o0_128_S256x128 bitsLt_bf16_f32 shapeCasts_S256x128_S256x128 z, fun z => key_piece1 harg3 x3 1 (off := ![256, 0]) rfl inb_S4096x256_S256x256_256_0 (off' := ![256, 128]) rfl inb_S4096x512_S256x128_256_128 iota_S256x128_d1_w32 shapeCasts_S256x256_S256x256 slices_S256x256_o0_0_S256x128 bitsLt_bf16_f32 shapeCasts_S256x128_S256x128 z, fun z => key_piece0 harg3 x3 1 (off := ![256, 0]) rfl inb_S4096x256_S256x256_256_0 (off' := ![256, 0]) rfl inb_S4096x512_S256x128_256_0 iota_S256x128_d1_w32 shapeCasts_S256x256_S256x256 slices_S256x256_o0_0_S256x128 bitsLt_bf16_f32 shapeCasts_S256x128_S256x128 z, fun z => key_piece3 harg3 x3 0 (off := ![0, 0]) rfl inb_S4096x256_S256x256_0_0 (off' := ![0, 384]) rfl inb_S4096x512_S256x128_0_384 iota_S256x128_d1_w32 shapeCasts_S256x256_S256x256 slices_S256x256_o0_128_S256x128 bitsLt_bf16_f32 shapeCasts_S256x128_S256x128 z, fun z => key_piece2 harg3 x3 0 (off := ![0, 0]) rfl inb_S4096x256_S256x256_0_0 (off' := ![0, 256]) rfl inb_S4096x512_S256x128_0_256 iota_S256x128_d1_w32 shapeCasts_S256x256_S256x256 slices_S256x256_o0_128_S256x128 bitsLt_bf16_f32 shapeCasts_S256x128_S256x128 z, fun z => key_piece1 harg3 x3 0 (off := ![0, 0]) rfl inb_S4096x256_S256x256_0_0 (off' := ![0, 128]) rfl inb_S4096x512_S256x128_0_128 iota_S256x128_d1_w32 shapeCasts_S256x256_S256x256 slices_S256x256_o0_0_S256x128 bitsLt_bf16_f32 shapeCasts_S256x128_S256x128 z, fun z => key_piece0 harg3 x3 0 (off := ![0, 0]) rfl inb_S4096x256_S256x256_0_0 (off' := ![0, 0]) rfl inb_S4096x512_S256x128_0_0 iota_S256x128_d1_w32 shapeCasts_S256x256_S256x256 slices_S256x256_o0_0_S256x128 bitsLt_bf16_f32 shapeCasts_S256x128_S256x128 z, trivial⟩

set_option maxHeartbeats 4000000 in
/-- The values as the first point of a sequence prepares them. -/
theorem vals_read (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (hc : Scalar.cmpi .ne (Scalar.extui (Scalar.cmpi .eq (BitVec.ofNat 32 (i 1).val) 0#32)) 0#32 = 1#1) (x2 : Vec Ideal S256x256 .f32) (x3 x4 : Vec Ideal S4096x256 .f32) (t : Fin 16) (r k : Fin 256) :
    arg7.view.read (Elt Ideal) (arg7.view.writes (Elt Ideal) arg7.view.junk (prepFirst (F := Ideal) c i arg2 harg2 arg3 harg3 arg4 harg4 arg5 harg5 arg6 harg6 arg7 harg7 arg8 harg8 arg9 harg9 arg10 harg10 arg11 harg11 hc x2 x3 x4).2.1) (ix3 t r k) = valT x4 t.val r.val k.val := by
  rw [View.read_writes_junk_eq_canon]
  unfold prepFirst
  dsimp only
  unfold prepFirst.sl.H7_16
  refine (View.canon_apply_of_pieces (S := S16x256x256) (e := .bf16) (Val := Elt Ideal) (fun y : S16x256x256.Idx => valT x4 (y 0).val (y 1).val (y 2).val) _ (View.PiecesOf.mem (s := S16x256x256) (e := .bf16) (Val := Elt Ideal) (G := fun y : S16x256x256.Idx => valT x4 (y 0).val (y 1).val (y 2).val) ?_) _ (View.cover_of_tiledL _ ![1, 256, 256] (by sl_kernel_rfl) _)).trans rfl
  exact ⟨fun z => val_piece harg4 x4 15 (off := ![3840, 0]) rfl inb_S4096x256_S256x256_3840_0 (off' := ![15, 0, 0]) rfl inb_S16x256x256_S1x256x256_15_0_0 shapeCasts_S256x256_S256x256 transposes_S256x256_p1_0_S256x256 bitsLt_bf16_f32 shapeCasts_S256x256_S1x256x256 z, fun z => val_piece harg4 x4 14 (off := ![3584, 0]) rfl inb_S4096x256_S256x256_3584_0 (off' := ![14, 0, 0]) rfl inb_S16x256x256_S1x256x256_14_0_0 shapeCasts_S256x256_S256x256 transposes_S256x256_p1_0_S256x256 bitsLt_bf16_f32 shapeCasts_S256x256_S1x256x256 z, fun z => val_piece harg4 x4 13 (off := ![3328, 0]) rfl inb_S4096x256_S256x256_3328_0 (off' := ![13, 0, 0]) rfl inb_S16x256x256_S1x256x256_13_0_0 shapeCasts_S256x256_S256x256 transposes_S256x256_p1_0_S256x256 bitsLt_bf16_f32 shapeCasts_S256x256_S1x256x256 z, fun z => val_piece harg4 x4 12 (off := ![3072, 0]) rfl inb_S4096x256_S256x256_3072_0 (off' := ![12, 0, 0]) rfl inb_S16x256x256_S1x256x256_12_0_0 shapeCasts_S256x256_S256x256 transposes_S256x256_p1_0_S256x256 bitsLt_bf16_f32 shapeCasts_S256x256_S1x256x256 z, fun z => val_piece harg4 x4 11 (off := ![2816, 0]) rfl inb_S4096x256_S256x256_2816_0 (off' := ![11, 0, 0]) rfl inb_S16x256x256_S1x256x256_11_0_0 shapeCasts_S256x256_S256x256 transposes_S256x256_p1_0_S256x256 bitsLt_bf16_f32 shapeCasts_S256x256_S1x256x256 z, fun z => val_piece harg4 x4 10 (off := ![2560, 0]) rfl inb_S4096x256_S256x256_2560_0 (off' := ![10, 0, 0]) rfl inb_S16x256x256_S1x256x256_10_0_0 shapeCasts_S256x256_S256x256 transposes_S256x256_p1_0_S256x256 bitsLt_bf16_f32 shapeCasts_S256x256_S1x256x256 z, fun z => val_piece harg4 x4 9 (off := ![2304, 0]) rfl inb_S4096x256_S256x256_2304_0 (off' := ![9, 0, 0]) rfl inb_S16x256x256_S1x256x256_9_0_0 shapeCasts_S256x256_S256x256 transposes_S256x256_p1_0_S256x256 bitsLt_bf16_f32 shapeCasts_S256x256_S1x256x256 z, fun z => val_piece harg4 x4 8 (off := ![2048, 0]) rfl inb_S4096x256_S256x256_2048_0 (off' := ![8, 0, 0]) rfl inb_S16x256x256_S1x256x256_8_0_0 shapeCasts_S256x256_S256x256 transposes_S256x256_p1_0_S256x256 bitsLt_bf16_f32 shapeCasts_S256x256_S1x256x256 z, fun z => val_piece harg4 x4 7 (off := ![1792, 0]) rfl inb_S4096x256_S256x256_1792_0 (off' := ![7, 0, 0]) rfl inb_S16x256x256_S1x256x256_7_0_0 shapeCasts_S256x256_S256x256 transposes_S256x256_p1_0_S256x256 bitsLt_bf16_f32 shapeCasts_S256x256_S1x256x256 z, fun z => val_piece harg4 x4 6 (off := ![1536, 0]) rfl inb_S4096x256_S256x256_1536_0 (off' := ![6, 0, 0]) rfl inb_S16x256x256_S1x256x256_6_0_0 shapeCasts_S256x256_S256x256 transposes_S256x256_p1_0_S256x256 bitsLt_bf16_f32 shapeCasts_S256x256_S1x256x256 z, fun z => val_piece harg4 x4 5 (off := ![1280, 0]) rfl inb_S4096x256_S256x256_1280_0 (off' := ![5, 0, 0]) rfl inb_S16x256x256_S1x256x256_5_0_0 shapeCasts_S256x256_S256x256 transposes_S256x256_p1_0_S256x256 bitsLt_bf16_f32 shapeCasts_S256x256_S1x256x256 z, fun z => val_piece harg4 x4 4 (off := ![1024, 0]) rfl inb_S4096x256_S256x256_1024_0 (off' := ![4, 0, 0]) rfl inb_S16x256x256_S1x256x256_4_0_0 shapeCasts_S256x256_S256x256 transposes_S256x256_p1_0_S256x256 bitsLt_bf16_f32 shapeCasts_S256x256_S1x256x256 z, fun z => val_piece harg4 x4 3 (off := ![768, 0]) rfl inb_S4096x256_S256x256_768_0 (off' := ![3, 0, 0]) rfl inb_S16x256x256_S1x256x256_3_0_0 shapeCasts_S256x256_S256x256 transposes_S256x256_p1_0_S256x256 bitsLt_bf16_f32 shapeCasts_S256x256_S1x256x256 z, fun z => val_piece harg4 x4 2 (off := ![512, 0]) rfl inb_S4096x256_S256x256_512_0 (off' := ![2, 0, 0]) rfl inb_S16x256x256_S1x256x256_2_0_0 shapeCasts_S256x256_S256x256 transposes_S256x256_p1_0_S256x256 bitsLt_bf16_f32 shapeCasts_S256x256_S1x256x256 z, fun z => val_piece harg4 x4 1 (off := ![256, 0]) rfl inb_S4096x256_S256x256_256_0 (off' := ![1, 0, 0]) rfl inb_S16x256x256_S1x256x256_1_0_0 shapeCasts_S256x256_S256x256 transposes_S256x256_p1_0_S256x256 bitsLt_bf16_f32 shapeCasts_S256x256_S1x256x256 z, fun z => val_piece harg4 x4 0 (off := ![0, 0]) rfl inb_S4096x256_S256x256_0_0 (off' := ![0, 0, 0]) rfl inb_S16x256x256_S1x256x256_0_0_0 shapeCasts_S256x256_S256x256 transposes_S256x256_p1_0_S256x256 bitsLt_bf16_f32 shapeCasts_S256x256_S1x256x256 z, trivial⟩

set_option maxHeartbeats 4000000 in
/-- The queries as the first point of a sequence prepares them. -/
theorem first_qry_read (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (hc : Scalar.cmpi .ne (Scalar.extui (Scalar.cmpi .eq (BitVec.ofNat 32 (i 1).val) 0#32)) 0#32 = 1#1) (x2 : Vec Ideal S256x256 .f32) (x3 x4 : Vec Ideal S4096x256 .f32) (g : Fin 2) (q : Fin 256) (l : Fin 128) :
    arg8.view.read (Elt Ideal) (arg8.view.writes (Elt Ideal) arg8.view.junk (prepFirst (F := Ideal) c i arg2 harg2 arg3 harg3 arg4 harg4 arg5 harg5 arg6 harg6 arg7 harg7 arg8 harg8 arg9 harg9 arg10 harg10 arg11 harg11 hc x2 x3 x4).2.2.1) (ix3 g q l) = qryP x2 g.val q.val l.val := by
  rw [View.read_writes_junk_eq_canon]
  unfold prepFirst
  dsimp only
  unfold prepFirst.sl.H8_2
  refine (View.canon_apply_of_pieces (S := S2x256x128) (e := .bf16) (Val := Elt Ideal) (fun y : S2x256x128.Idx => qryP x2 (y 0).val (y 1).val (y 2).val) _ (View.PiecesOf.mem (s := S2x256x128) (e := .bf16) (Val := Elt Ideal) (G := fun y : S2x256x128.Idx => qryP x2 (y 0).val (y 1).val (y 2).val) ?_) _ (View.cover_of_tiledL _ ![1, 256, 128] (by sl_kernel_rfl) _)).trans rfl
  exact ⟨fun z => qry_piece1 harg2 x2 (off := ![0, 0]) rfl inb_S256x256_S256x256_0_0 (off' := ![1, 0, 0]) rfl inb_S2x256x128_S1x256x128_1_0_0 z, fun z => qry_piece0 harg2 x2 (off := ![0, 0]) rfl inb_S256x256_S256x256_0_0 (off' := ![0, 0, 0]) rfl inb_S2x256x128_S1x256x128_0_0_0 z, trivial⟩

set_option maxHeartbeats 4000000 in
/-- The queries as a later point of a sequence prepares them. -/
theorem next_qry_read (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1x256x256 .f32) (harg5 : arg5.IsWhole) (arg6 : Memref sig .tc .vmem S4096x512 .bf16) (harg6 : arg6.IsWhole) (arg7 : Memref sig .tc .vmem S16x256x256 .bf16) (harg7 : arg7.IsWhole) (arg8 : Memref sig .tc .vmem S2x256x128 .bf16) (harg8 : arg8.IsWhole) (arg9 : Memref sig .tc .vmem S4x256x256 .bf16) (harg9 : arg9.IsWhole) (arg10 : Memref sig .tc .vmem S4x256x256 .f32) (harg10 : arg10.IsWhole) (arg11 : Memref sig .tc .vmem S4x64x256 .f32) (harg11 : arg11.IsWhole) (hc : ¬ Scalar.cmpi .ne (Scalar.extui (Scalar.cmpi .eq (BitVec.ofNat 32 (i 1).val) 0#32)) 0#32 = 1#1) (x2 : Vec Ideal S256x256 .f32) (x3 x4 : Vec Ideal S4096x256 .f32) (g : Fin 2) (q : Fin 256) (l : Fin 128) :
    arg8.view.read (Elt Ideal) (arg8.view.writes (Elt Ideal) arg8.view.junk (prepNext (F := Ideal) c i arg2 harg2 arg3 harg3 arg4 harg4 arg5 harg5 arg6 harg6 arg7 harg7 arg8 harg8 arg9 harg9 arg10 harg10 arg11 harg11 hc x2).1) (ix3 g q l) = qryP x2 g.val q.val l.val := by
  rw [View.read_writes_junk_eq_canon]
  unfold prepNext
  dsimp only
  unfold prepNext.sl.H8_2
  refine (View.canon_apply_of_pieces (S := S2x256x128) (e := .bf16) (Val := Elt Ideal) (fun y : S2x256x128.Idx => qryP x2 (y 0).val (y 1).val (y 2).val) _ (View.PiecesOf.mem (s := S2x256x128) (e := .bf16) (Val := Elt Ideal) (G := fun y : S2x256x128.Idx => qryP x2 (y 0).val (y 1).val (y 2).val) ?_) _ (View.cover_of_tiledL _ ![1, 256, 128] (by sl_kernel_rfl) _)).trans rfl
  exact ⟨fun z => qry_piece1 harg2 x2 (off := ![0, 0]) rfl inb_S256x256_S256x256_0_0 (off' := ![1, 0, 0]) rfl inb_S2x256x128_S1x256x128_1_0_0 z, fun z => qry_piece0 harg2 x2 (off := ![0, 0]) rfl inb_S256x256_S256x256_0_0 (off' := ![0, 0, 0]) rfl inb_S2x256x128_S1x256x128_0_0_0 z, trivial⟩

end Cert.KernelIdeal.Stick

end
-- ==== Proof.StickRef.lean ====
module

public import proofs.«01_k».proof.Defs
public import proofs.«01_k».proof.Proof.Gen.ReferenceIdeal.Run
public import Idealize.ShloMosaic.Lib.Pointwise

@[expose] public section

set_option maxRecDepth 16384

noncomputable section

namespace Cert.ReferenceIdeal.Stick

open Cert.ReferenceIdeal Cert.ReferenceIdeal.Gen Idealize.ShloMosaic Idealize.ShloMosaic.TcCoe

/-- The queries, keys and values by head: 256 columns of the projection, cut into 4 heads of 64. -/
def queries (a : FVec Ideal S8x4096x2956 .f32) : FVec Ideal S8x4x4096x64 .f32 :=
  transpose S8x4x4096x64 [0, 2, 1, 3] (shapeCast _ (extractStridedSlice S8x4096x256 ![0, 0, 1420] a slices_S8x4096x2956_S8x4096x256_0_0_1420) shapeCasts_S8x4096x256_S8x4096x4x64) transposes_S8x4096x4x64_S8x4x4096x64_0_2_1_3
def keys (a : FVec Ideal S8x4096x2956 .f32) : FVec Ideal S8x4x4096x64 .f32 :=
  transpose S8x4x4096x64 [0, 2, 1, 3] (shapeCast _ (extractStridedSlice S8x4096x256 ![0, 0, 1676] a slices_S8x4096x2956_S8x4096x256_0_0_1676) shapeCasts_S8x4096x256_S8x4096x4x64) transposes_S8x4096x4x64_S8x4x4096x64_0_2_1_3
def values (a : FVec Ideal S8x4096x2956 .f32) : FVec Ideal S8x4x4096x64 .f32 :=
  transpose S8x4x4096x64 [0, 2, 1, 3] (shapeCast _ (extractStridedSlice S8x4096x256 ![0, 0, 1932] a slices_S8x4096x2956_S8x4096x256_0_0_1932) shapeCasts_S8x4096x256_S8x4096x4x64) transposes_S8x4096x4x64_S8x4x4096x64_0_2_1_3

/-- The scaled scores. -/
def scores (a : FVec Ideal S8x4096x2956 .f32) : FVec Ideal S8x4x4096x4096 .f32 :=
  mulf (Host.dotGeneral dot_S8x4x4096x64_S8x4x4096x64_S8x4x4096x4096_3_3_2_2_01_01 none (queries a) (keys a)) (broadcastInDim S8x4x4096x4096 ![] bcast_S_S8x4x4096x4096 (constant S_ .f32 0x3E000000#32))

/-- Zero everywhere. -/
def zeros : FVec Ideal S8x4x4096x4096 .f32 := broadcastInDim S8x4x4096x4096 ![] bcast_S_S8x4x4096x4096 (constant S_ .f32 0x00000000#32)

/-- Whether the key lies before the query. -/
def past : IVec S8x4x4096x4096 1 :=
  broadcastInDim S8x4x4096x4096 ![2, 3] bcast_S4096x4096_S8x4x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The softplus of an array. -/
def softplus (Z : FVec Ideal S8x4x4096x4096 .f32) : FVec Ideal S8x4x4096x4096 .f32 :=
  select (cmpf .une (subf Z zeros) (subf Z zeros)) (addf Z zeros) (addf (maximumf Z zeros) (Host.log1p (Host.exp (Host.negf (Host.absf (subf Z zeros))))))

/-- An array where the key lies before the query, zero elsewhere. -/
def masked (Z : FVec Ideal S8x4x4096x4096 .f32) : FVec Ideal S8x4x4096x4096 .f32 :=
  select past Z (broadcastInDim S8x4x4096x4096 ![] bcast_S_S8x4x4096x4096 (id (constant S_ .f32 0x00000000#32)))

/-- The sums over the keys from a key on. -/
def sums (Z : FVec Ideal S8x4x4096x4096 .f32) : FVec Ideal S8x4x4096x4096 .f32 :=
  Host.reduceWindowAdd ![1, 1, 1, 4096] ![1, 1, 1, 1] ![0, 0, 0, 0] ![0, 0, 0, 4095] Z (broadcastInDim S_ ![] bcast_S_S_ (constant S_ .f32 0x00000000#32)) reduceWindows_S8x4x4096x4096_S8x4x4096x4096_w1s1p0_0_w1s1p0_0_w1s1p0_0_w4096s1p0_4095 h_S_

/-- The attention weights of the scores. -/
def weights (Z : FVec Ideal S8x4x4096x4096 .f32) : FVec Ideal S8x4x4096x4096 .f32 :=
  masked (Host.exp (subf (Host.negf (softplus (Host.negf Z))) (subf (sums (masked (softplus Z))) (masked (softplus Z)))))

/-- The reference's result as one function of the projection. -/
def result (a : FVec Ideal S8x4096x2956 .f32) : FVec Ideal S128x256x256 .f32 :=
  shapeCast _ (transpose S8x16x4x64x256 [0, 2, 1, 4, 3] (shapeCast _ (Host.dotGeneral dot_S8x4x4096x4096_S8x4x4096x64_S8x4x4096x64_3_2_2_3_01_01 none (weights (scores a)) (values a)) shapeCasts_S8x4x4096x64_S8x4x16x256x64) transposes_S8x4x16x256x64_S8x16x4x64x256_0_2_1_4_3) shapeCasts_S8x16x4x64x256_S128x256x256

theorem result_eq (m : (ℓ : Loc nD τ sig) → Buf (Elt Ideal) ℓ) (c : Dev nD) :
    Cert.ReferenceIdeal.Value.res_main_v29 (F := Ideal) m c = result (m ((c.tc : Thread nD τ).loc main_arg0)) := rfl

/-- The queries at an index. -/
theorem queries_at (a : FVec Ideal S8x4096x2956 .f32) (B : Fin 8) (h : Fin 4) (T : Fin 4096) (d : Fin 64) :
    queries a (ix4 B h T d) = a (ix3 B T (⟨1420 + (64 * h.val + d.val), by omega⟩ : Fin 2956)) := by
  pointwise [queries]
  rw [show (⟨1420 + (h.val * 64 + d.val), by omega⟩ : Fin 2956) = ⟨1420 + (64 * h.val + d.val), by omega⟩ from Fin.ext (by dsimp only; omega)]

/-- The keys at an index. -/
theorem keys_at (a : FVec Ideal S8x4096x2956 .f32) (B : Fin 8) (h : Fin 4) (T : Fin 4096) (d : Fin 64) :
    keys a (ix4 B h T d) = a (ix3 B T (⟨1676 + (64 * h.val + d.val), by omega⟩ : Fin 2956)) := by
  pointwise [keys]
  rw [show (⟨1676 + (h.val * 64 + d.val), by omega⟩ : Fin 2956) = ⟨1676 + (64 * h.val + d.val), by omega⟩ from Fin.ext (by dsimp only; omega)]

/-- The values at an index. -/
theorem values_at (a : FVec Ideal S8x4096x2956 .f32) (B : Fin 8) (h : Fin 4) (T : Fin 4096) (d : Fin 64) :
    values a (ix4 B h T d) = a (ix3 B T (⟨1932 + (64 * h.val + d.val), by omega⟩ : Fin 2956)) := by
  pointwise [values]
  rw [show (⟨1932 + (h.val * 64 + d.val), by omega⟩ : Fin 2956) = ⟨1932 + (64 * h.val + d.val), by omega⟩ from Fin.ext (by dsimp only; omega)]

/-- The scores at an index. -/
theorem scores_at (a : FVec Ideal S8x4096x2956 .f32) (B : Fin 8) (h : Fin 4) (T s : Fin 4096) :
    scores a (ix4 B h T s) = (∑ d : Fin 64, queries a (ix4 B h T d) * keys a (ix4 B h s d)) * Ideal.ofBits .f32 0x3E000000#32 := by
  pointwise [scores]

/-- Comparing two positions as 32-bit words is comparing them. -/
theorem slt_pos (s T : ℕ) (hs : s < 4096) (hT : T < 4096) :
    IntOp.cmpi .slt (BitVec.ofNat 32 s) (BitVec.ofNat 32 T) = if s < T then 1#1 else 0#1 := by
  have e : ∀ n : ℕ, n < 4096 → (BitVec.ofNat 32 n).toInt = (n : ℤ) := fun n hn => by
    rw [BitVec.toInt_eq_toNat_of_lt (by rw [BitVec.toNat_ofNat]; omega), BitVec.toNat_ofNat]
    omega
  unfold IntOp.cmpi
  simp only [BitVec.slt, e s hs, e T hT, Nat.cast_lt]
  by_cases h : s < T <;> simp [h]

/-- The mask at an index. -/
theorem past_at (B : Fin 8) (h : Fin 4) (T s : Fin 4096) : past (ix4 B h T s) = if s.val < T.val then 1#1 else 0#1 := by
  pointwise [past]
  exact slt_pos _ _ s.isLt T.isLt

/-- The softplus of a number, as it is computed. -/
def sp (z : EReal) : EReal := max z 0 + Ideal.log (1 + Ideal.exp (-(FloatOps.absf (F := Ideal) (φ := .f32) z)))

theorem softplus_at (Z : FVec Ideal S8x4x4096x4096 .f32) (B : Fin 8) (h : Fin 4) (T s : Fin 4096) :
    softplus Z (ix4 B h T s) = sp (Z (ix4 B h T s)) := by
  unfold sp
  pointwise [softplus, zeros]
  rw [if_neg (fun hn => hn rfl)]
  rfl

theorem masked_at (Z : FVec Ideal S8x4x4096x4096 .f32) (B : Fin 8) (h : Fin 4) (T s : Fin 4096) :
    masked Z (ix4 B h T s) = if s.val < T.val then Z (ix4 B h T s) else 0 := by
  pointwise [masked]
  rw [past_at]
  by_cases hs : s.val < T.val
  · rw [if_pos hs, if_pos hs]; rfl
  · rw [if_neg hs, if_neg hs]
    exact (show Scalar.select (0#1) (Z (ix4 B h T s)) (Ideal.ofBits .f32 0#32) = Ideal.ofBits .f32 0#32 from rfl).trans Ideal.ofBits_zero_f32

/-- A left fold of additions is the start plus a sum. -/
theorem foldl_add {ι : Type} (f : ι → EReal) (l : List ι) (v : EReal) : l.foldl (fun r i => r + f i) v = v + (l.map f).sum := by
  induction l generalizing v with
  | nil => simp
  | cons a l ih => rw [List.foldl_cons, ih, List.map_cons, List.sum_cons, add_assoc]

/-- The positions of a window that is long in the last axis alone. -/
def lastAxis (N : ℕ) : (⟨4, ![1, 1, 1, N]⟩ : Shape).Idx ≃ Fin N where
  toFun i := i 3
  invFun k := ix4 (0 : Fin 1) (0 : Fin 1) (0 : Fin 1) k
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- A window sum along the last axis from the entry on, padded behind. -/
theorem window_last {n0 n1 n2 N M : ℕ} (Z : FVec Ideal ⟨4, ![n0, n1, n2, N]⟩ .f32) (init : FVec Ideal S_ .f32) (hi : ∀ x, init x = (0 : EReal))
    (hw : (⟨4, ![n0, n1, n2, N]⟩ : Shape).ReduceWindows ![1, 1, 1, N] ![1, 1, 1, 1] ![0, 0, 0, 0] ![0, 0, 0, M] ⟨4, ![n0, n1, n2, N]⟩) (hu : 0 < S_.numel)
    (B : Fin n0) (h : Fin n1) (T : Fin n2) (s : Fin N) :
    Host.reduceWindowAdd ![1, 1, 1, N] ![1, 1, 1, 1] ![0, 0, 0, 0] ![0, 0, 0, M] Z init hw hu (ix4 B h T s)
      = ∑ k : Fin N, if hk : s.val + k.val < N then (Z (ix4 B h T ⟨s.val + k.val, hk⟩) : EReal) else 0 := by
  show Host.reduceWindow (· + ·) ![1, 1, 1, N] ![1, 1, 1, 1] ![0, 0, 0, 0] ![0, 0, 0, M] Z (fun _ : (⟨0, ![]⟩ : Shape).Idx => init (Shape.Idx.first hu)) hw (by decide) (ix4 B h T s) = _
  unfold Host.reduceWindow
  dsimp only
  rw [hi]
  refine (foldl_add _ _ _).trans ?_
  rw [zero_add, ← List.ofFn_eq_map, List.sum_ofFn]
  refine Fintype.sum_equiv ((⟨4, ![1, 1, 1, N]⟩ : Shape).rowMajor.symm.trans (lastAxis N)) _ _ (fun n => ?_)
  show _ = if hk : s.val + ((⟨4, ![1, 1, 1, N]⟩ : Shape).rowMajor.symm n 3).val < N then _ else _
  have w0 : ((⟨4, ![1, 1, 1, N]⟩ : Shape).rowMajor.symm n 0).val = 0 := Nat.lt_one_iff.1 ((⟨4, ![1, 1, 1, N]⟩ : Shape).rowMajor.symm n 0).isLt
  have w1 : ((⟨4, ![1, 1, 1, N]⟩ : Shape).rowMajor.symm n 1).val = 0 := Nat.lt_one_iff.1 ((⟨4, ![1, 1, 1, N]⟩ : Shape).rowMajor.symm n 1).isLt
  have w2 : ((⟨4, ![1, 1, 1, N]⟩ : Shape).rowMajor.symm n 2).val = 0 := Nat.lt_one_iff.1 ((⟨4, ![1, 1, 1, N]⟩ : Shape).rowMajor.symm n 2).isLt
  by_cases hk : s.val + ((⟨4, ![1, 1, 1, N]⟩ : Shape).rowMajor.symm n 3).val < N
  · rw [dif_pos hk, dif_pos]
    · congr 1
      funext a
      match a with
      | ⟨0, _⟩ => apply Fin.ext; show B.val * 1 + ((⟨4, ![1, 1, 1, N]⟩ : Shape).rowMajor.symm n 0).val - 0 = B.val; omega
      | ⟨1, _⟩ => apply Fin.ext; show h.val * 1 + ((⟨4, ![1, 1, 1, N]⟩ : Shape).rowMajor.symm n 1).val - 0 = h.val; omega
      | ⟨2, _⟩ => apply Fin.ext; show T.val * 1 + ((⟨4, ![1, 1, 1, N]⟩ : Shape).rowMajor.symm n 2).val - 0 = T.val; omega
      | ⟨3, _⟩ => apply Fin.ext; show s.val * 1 + ((⟨4, ![1, 1, 1, N]⟩ : Shape).rowMajor.symm n 3).val - 0 = s.val + ((⟨4, ![1, 1, 1, N]⟩ : Shape).rowMajor.symm n 3).val; omega
    · intro a
      match a with
      | ⟨0, _⟩ => show 0 ≤ B.val * 1 + ((⟨4, ![1, 1, 1, N]⟩ : Shape).rowMajor.symm n 0).val ∧ B.val * 1 + ((⟨4, ![1, 1, 1, N]⟩ : Shape).rowMajor.symm n 0).val - 0 < n0; have := B.isLt; omega
      | ⟨1, _⟩ => show 0 ≤ h.val * 1 + ((⟨4, ![1, 1, 1, N]⟩ : Shape).rowMajor.symm n 1).val ∧ h.val * 1 + ((⟨4, ![1, 1, 1, N]⟩ : Shape).rowMajor.symm n 1).val - 0 < n1; have := h.isLt; omega
      | ⟨2, _⟩ => show 0 ≤ T.val * 1 + ((⟨4, ![1, 1, 1, N]⟩ : Shape).rowMajor.symm n 2).val ∧ T.val * 1 + ((⟨4, ![1, 1, 1, N]⟩ : Shape).rowMajor.symm n 2).val - 0 < n2; have := T.isLt; omega
      | ⟨3, _⟩ => show 0 ≤ s.val * 1 + ((⟨4, ![1, 1, 1, N]⟩ : Shape).rowMajor.symm n 3).val ∧ s.val * 1 + ((⟨4, ![1, 1, 1, N]⟩ : Shape).rowMajor.symm n 3).val - 0 < N; omega
  · rw [dif_neg hk, dif_neg]
    intro H
    have H3 : 0 ≤ s.val * 1 + ((⟨4, ![1, 1, 1, N]⟩ : Shape).rowMajor.symm n 3).val ∧ s.val * 1 + ((⟨4, ![1, 1, 1, N]⟩ : Shape).rowMajor.symm n 3).val - 0 < N := H 3
    omega

/-- The sums at an index: the entries from the key on. -/
theorem sums_at (Z : FVec Ideal S8x4x4096x4096 .f32) (B : Fin 8) (h : Fin 4) (T s : Fin 4096) :
    sums Z (ix4 B h T s) = ∑ k : Fin 4096, if hk : s.val + k.val < 4096 then Z (ix4 B h T ⟨s.val + k.val, hk⟩) else 0 :=
  window_last Z _ (fun _ => Ideal.ofBits_zero_f32) _ _ B h T s

/-- A weight at an index. -/
theorem weights_at (Z : FVec Ideal S8x4x4096x4096 .f32) (B : Fin 8) (h : Fin 4) (T s : Fin 4096) :
    weights Z (ix4 B h T s) = if s.val < T.val then Ideal.exp (-sp (-Z (ix4 B h T s))
        - ((∑ k : Fin 4096, if hk : s.val + k.val < 4096 then (if s.val + k.val < T.val then sp (Z (ix4 B h T ⟨s.val + k.val, hk⟩)) else 0) else 0)
          - if s.val < T.val then sp (Z (ix4 B h T s)) else 0)) else 0 := by
  unfold weights
  rw [masked_at]
  pointwise []
  rw [softplus_at, sums_at, masked_at, softplus_at]
  simp only [masked_at, softplus_at]
  rfl

/-- The reference's result at an index. -/
theorem result_at (a : FVec Ideal S8x4096x2956 .f32) (B : Fin 8) (b : Fin 16) (h : Fin 4) (d : Fin 64) (q : Fin 256) :
    result a (ix3 (⟨16 * B.val + b.val, by omega⟩ : Fin 128) (⟨64 * h.val + d.val, by omega⟩ : Fin 256) q)
      = ∑ s : Fin 4096, weights (scores a) (ix4 B h (⟨256 * b.val + q.val, by omega⟩ : Fin 4096) s) * values a (ix4 B h s d) := by
  pointwise [result]
  rw [show (⟨b.val * 256 + q.val, by omega⟩ : Fin 4096) = ⟨256 * b.val + q.val, by omega⟩ from Fin.ext (by dsimp only; omega)]

end Cert.ReferenceIdeal.Stick

end
-- ==== Proof.StickMath.lean ====
module

public import proofs.«01_k».proof.Proof.StickTile
public import proofs.«01_k».proof.Proof.StickRef
public import Idealize.ShloMosaic.Lib.Pointwise

@[expose] public section

set_option maxRecDepth 16384

noncomputable section

namespace Cert.KernelIdeal.Stick

open Cert.KernelIdeal Cert.KernelIdeal.Gen Idealize.ShloMosaic Idealize.ShloMosaic.TcCoe Finset

/-- A finite sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem coe_max (x y : ℝ) : ((max x y : ℝ) : EReal) = max (x : EReal) (y : EReal) := EReal.coe_strictMono.monotone.map_max

/-- A sum over the 256 positions of a tile is a sum over a range of positions. -/
theorem sum_tile {M : Type} [AddCommMonoid M] (g : ℕ → M) (κ : ℕ) : ∑ x : Fin 256, g (256 * κ + x.val) = ∑ s ∈ Ico (256 * κ) (256 * κ + 256), g s := by
  rw [sum_Ico_eq_sum_range, Nat.add_sub_cancel_left, sum_range]

/-- The softplus of a real number. -/
def splus (x : ℝ) : ℝ := max x 0 + Real.log (1 + Real.exp (-|x|))

theorem absf_coe (x : ℝ) : FloatOps.absf (F := Ideal) (φ := .f32) (x : EReal) = ((|x| : ℝ) : EReal) := by
  show max (x : EReal) (-(x : EReal)) = _
  rw [← EReal.coe_neg, ← coe_max]
  rfl

theorem log_coe_one_add (y : ℝ) (hy : 0 ≤ y) : Ideal.log (1 + (y : EReal)) = ((Real.log (1 + y) : ℝ) : EReal) := by
  rw [show (1 : EReal) + (y : EReal) = ((1 + y : ℝ) : EReal) from rfl, Ideal.log_coe, if_neg (by linarith)]

theorem named_log2e : Named.named (F := Ideal) (φ := .f32) κ "neg_log2_e" 0xBFB8AA3B#32 = ((-((Real.log 2)⁻¹) : ℝ) : EReal) := by
  first | rfl | exact (by simp [κ, Named.named])

/-- Two to the power of `-y / log 2` is the exponential of `-y`. -/
theorem two_rpow (y : ℝ) : Real.rpow 2 (y * -((Real.log 2)⁻¹)) = Real.exp (-y) := by
  show (2 : ℝ) ^ (y * -((Real.log 2)⁻¹)) = _
  rw [Real.rpow_def_of_pos (by norm_num)]
  congr 1
  have : Real.log 2 ≠ 0 := (Real.log_pos (by norm_num)).ne'
  field_simp

/-- The kernel's softplus of a real score. -/
theorem soft_coe (x : ℝ) : soft (x : EReal) = ((splus x : ℝ) : EReal) := by
  unfold soft splus
  rw [absf_coe, named_log2e, ← EReal.coe_mul]
  rw [show FloatOps.exp2 (F := Ideal) (φ := .f32) ((|x| * -((Real.log 2)⁻¹) : ℝ) : EReal) = ((Real.rpow 2 (|x| * -((Real.log 2)⁻¹)) : ℝ) : EReal) from rfl]
  rw [two_rpow, log_coe_one_add _ (Real.exp_nonneg _), EReal.coe_add, coe_max]
  rfl

/-- The reference's softplus of a real score. -/
theorem sp_coe (x : ℝ) : Cert.ReferenceIdeal.Stick.sp (x : EReal) = ((splus x : ℝ) : EReal) := by
  unfold Cert.ReferenceIdeal.Stick.sp splus
  rw [absf_coe, ← EReal.coe_neg, Ideal.exp_coe, log_coe_one_add _ (Real.exp_nonneg _), EReal.coe_add, coe_max]
  rfl

/-- The logarithm of the sigmoid is the score less its softplus. -/
theorem neg_splus_neg (x : ℝ) : -splus (-x) = x - splus x := by
  unfold splus
  rw [abs_neg]
  rcases le_total 0 x with h | h
  · rw [max_eq_right (by linarith : -x ≤ 0), max_eq_left h]; ring
  · rw [max_eq_left (by linarith : (0 : ℝ) ≤ -x), max_eq_right h]; ring

theorem slt_row : ∀ r : Fin 256, IntOp.cmpi .slt (BitVec.ofNat 32 r.val) 256#32 = 1#1 := by decide +kernel
theorem eq_row : ∀ r : Fin 256, IntOp.cmpi .eq (BitVec.ofNat 32 r.val) 256#32 = 0#1 := by decide +kernel
theorem sgt_row (x r : Fin 256) : IntOp.cmpi .sgt (BitVec.ofNat 32 x.val) (BitVec.ofNat 32 r.val) = if r.val < x.val then 1#1 else 0#1 := by
  unfold IntOp.cmpi
  simp only [BitVec.slt, toInt_eq, Nat.cast_lt]
  by_cases h : r.val < x.val <;> simp [h]

theorem word_one : FloatOps.sitofp (F := Ideal) .f32 (1#32) = (1 : EReal) := by
  show (((1#32).toInt : ℝ) : EReal) = 1
  rw [show (1#32).toInt = 1 from rfl]
  norm_num
theorem word_zero : FloatOps.sitofp (F := Ideal) .f32 (0#32) = (0 : EReal) := by
  show (((0#32).toInt : ℝ) : EReal) = 0
  rw [show (0#32).toInt = 0 from rfl]
  norm_num

/-- The ones matrix: an early row has ones above its own position, -/
theorem ones_row (r x : Fin 256) : k0_pay215 (F := Ideal) (ix2 (⟨r.val, by omega⟩ : Fin 272) x) = if r.val < x.val then (1 : EReal) else 0 := by
  pointwise [k0_pay215]
  rw [slt_row, eq_row, sgt_row]
  by_cases h : r.val < x.val
  · rw [if_pos h, if_pos h]; exact word_one
  · rw [if_neg h, if_neg h]; exact word_zero

/-- and row 256 is all ones. -/
theorem ones_last (x : Fin 256) : k0_pay215 (F := Ideal) (ix2 (256 : Fin 272) x) = (1 : EReal) := by
  pointwise [k0_pay215]
  rw [show IntOp.cmpi .slt 256#32 256#32 = 0#1 from rfl]
  have e : ∀ y : BitVec 1, IntOp.ori 1#1 (IntOp.andi 0#1 y) = 1#1 := by decide
  rw [e]
  exact word_one

section model

variable (T : ℕ) (ζ : ℕ → ℝ)

/-- The softplus of a score before the query, zero from the query on. -/
def keep (s : ℕ) : ℝ := if s < T then splus (ζ s) else 0

/-- The softplus values summed from a position on. -/
def after (s : ℕ) : ℝ := ∑ j ∈ Ico s 4096, keep T ζ j

/-- The attention weight of a position. -/
def weight (s : ℕ) : ℝ := if s < T then Real.exp (ζ s - splus (ζ s) - after T ζ (s + 1)) else 0

theorem keep_off {s : ℕ} (h : ¬ s < T) : keep T ζ s = 0 := if_neg h

theorem after_off {s : ℕ} (h : T ≤ s) : after T ζ s = 0 :=
  sum_eq_zero fun j hj => keep_off T ζ (by have := (mem_Ico.1 hj).1; omega)

/-- The reference's weight of a position. -/
theorem ref_weight (z : ℕ → EReal) (hz : ∀ s, s < 4096 → z s = (ζ s : EReal)) (s : Fin 4096) :
    (if s.val < T then Ideal.exp (-Cert.ReferenceIdeal.Stick.sp (-z s.val)
        - ((∑ k : Fin 4096, if s.val + k.val < 4096 then (if s.val + k.val < T then Cert.ReferenceIdeal.Stick.sp (z (s.val + k.val)) else 0) else 0)
          - if s.val < T then Cert.ReferenceIdeal.Stick.sp (z s.val) else 0)) else 0) = ((weight T ζ s.val : ℝ) : EReal) := by
  unfold weight
  by_cases h : s.val < T
  swap
  · rw [if_neg h, if_neg h]; rfl
  rw [if_pos h, if_pos h, if_pos h, hz _ s.isLt, ← EReal.coe_neg, sp_coe, sp_coe, ← EReal.coe_neg, neg_splus_neg]
  have e : (∑ k : Fin 4096, if s.val + k.val < 4096 then (if s.val + k.val < T then Cert.ReferenceIdeal.Stick.sp (z (s.val + k.val)) else 0) else 0)
      = ((after T ζ s.val : ℝ) : EReal) := by
    have e1 : ∀ k : Fin 4096, (if s.val + k.val < 4096 then (if s.val + k.val < T then Cert.ReferenceIdeal.Stick.sp (z (s.val + k.val)) else 0) else (0 : EReal))
        = (fun k : ℕ => ((if s.val + k < 4096 then keep T ζ (s.val + k) else 0 : ℝ) : EReal)) k.val := fun k => by
      dsimp only [keep]
      by_cases h1 : s.val + k.val < 4096
      · rw [if_pos h1, if_pos h1]
        by_cases h2 : s.val + k.val < T
        · rw [if_pos h2, if_pos h2, hz _ h1, sp_coe]
        · rw [if_neg h2, if_neg h2]; rfl
      · rw [if_neg h1, if_neg h1]; rfl
    rw [sum_congr rfl fun k _ => e1 k, Fin.sum_univ_eq_sum_range (fun k : ℕ => ((if s.val + k < 4096 then keep T ζ (s.val + k) else 0 : ℝ) : EReal)) 4096, ← coe_sum]
    congr 1
    unfold after
    rw [sum_Ico_eq_sum_range]
    rw [← sum_subset (range_subset_range.2 (Nat.sub_le 4096 s.val)) fun k _ hk => if_neg (by have := mt mem_range.2 hk; omega)]
    exact sum_congr rfl fun k hk => if_pos (by have := mem_range.1 hk; omega)
  rw [e]
  have e2 : after T ζ s.val = keep T ζ s.val + after T ζ (s.val + 1) := sum_eq_sum_Ico_succ_bot s.isLt _
  rw [e2, ← EReal.coe_sub, ← EReal.coe_sub, Ideal.exp_coe, keep, if_pos h]
  congr 3
  ring

/-- The scores of one head and query, tile by tile. -/
theorem stS_coe {KP : ℕ → ℕ → EReal} {QP : ℕ → ℕ → ℕ → EReal} (b : ℕ) (h : Fin 4) (q : Fin 256) (hT : T = 256 * b + q.val)
    (hz : ∀ κ x : ℕ, κ ≤ b → x < 256 → zed KP QP κ h.val x q.val = ((ζ (256 * κ + x) : ℝ) : EReal)) (n : ℕ) (hn : n ≤ b) (x : Fin 256) :
    stS KP QP b n h x q = ((keep T ζ (256 * (b - n) + x.val) : ℝ) : EReal) := by
  have := q.isLt; have := x.isLt
  cases n with
  | zero =>
    show (if x.val < q.val then soft (zed KP QP b h.val x.val q.val) else 0) = _
    unfold keep
    by_cases h' : x.val < q.val
    · rw [if_pos h', if_pos (by omega), hz b x.val le_rfl x.isLt, soft_coe]; rfl
    · rw [if_neg h', if_neg (by omega)]; rfl
  | succ n =>
    show soft (zed KP QP (b - n - 1) h.val x.val q.val) = _
    unfold keep
    rw [if_pos (by omega), hz (b - n - 1) x.val (by omega) x.isLt, soft_coe]
    rfl

theorem stE_coe {KP : ℕ → ℕ → EReal} {QP : ℕ → ℕ → ℕ → EReal} (b : ℕ) (h : Fin 4) (q : Fin 256) (hT : T = 256 * b + q.val)
    (hz : ∀ κ x : ℕ, κ ≤ b → x < 256 → zed KP QP κ h.val x q.val = ((ζ (256 * κ + x) : ℝ) : EReal)) (n : ℕ) (hn : n ≤ b) (x : Fin 256) :
    stE KP QP b n h x q = if 256 * (b - n) + x.val < T then ((ζ (256 * (b - n) + x.val) - splus (ζ (256 * (b - n) + x.val)) : ℝ) : EReal) else ⊥ := by
  have := q.isLt; have := x.isLt
  cases n with
  | zero =>
    show (if x.val < q.val then zed KP QP b h.val x.val q.val - soft (zed KP QP b h.val x.val q.val) else ⊥) = _
    by_cases h' : x.val < q.val
    · rw [if_pos h', if_pos (by omega), hz b x.val le_rfl x.isLt, soft_coe, EReal.coe_sub]; rfl
    · rw [if_neg h', if_neg (by omega)]
  | succ n =>
    show zed KP QP (b - n - 1) h.val x.val q.val - soft (zed KP QP (b - n - 1) h.val x.val q.val) = _
    rw [if_pos (by omega), hz (b - n - 1) x.val (by omega) x.isLt, soft_coe, EReal.coe_sub]
    rfl

/-- The sum of a tile's softplus values behind a position of the tile. -/
theorem tails_row (S : Fin 256 → Fin 256 → EReal) (κ : ℕ) (q : Fin 256) (hS : ∀ x : Fin 256, S x q = ((keep T ζ (256 * κ + x.val) : ℝ) : EReal)) (r : Fin 256) :
    tails S ⟨r.val, by omega⟩ q = ((∑ s ∈ Ico (256 * κ + r.val + 1) (256 * κ + 256), keep T ζ s : ℝ) : EReal) := by
  unfold tails
  have e : ∀ x : Fin 256, (k0_pay215 (F := Ideal) (ix2 (⟨r.val, by omega⟩ : Fin 272) x) * S x q : EReal)
      = (fun s : ℕ => ((if 256 * κ + r.val < s then keep T ζ s else 0 : ℝ) : EReal)) (256 * κ + x.val) := fun x => by
    rw [ones_row, hS]
    dsimp only
    by_cases h : r.val < x.val
    · rw [if_pos h, if_pos (by omega), one_mul]
    · rw [if_neg h, if_neg (by omega), zero_mul]; rfl
  rw [sum_congr rfl fun x _ => e x, sum_tile (fun s : ℕ => ((if 256 * κ + r.val < s then keep T ζ s else 0 : ℝ) : EReal)), ← coe_sum]
  congr 1
  rw [← sum_filter]
  congr 1
  ext s
  simp only [mem_filter, mem_Ico]
  have := r.isLt
  omega

/-- The sum of all of a tile's softplus values. -/
theorem tails_all (S : Fin 256 → Fin 256 → EReal) (κ : ℕ) (q : Fin 256) (hS : ∀ x : Fin 256, S x q = ((keep T ζ (256 * κ + x.val) : ℝ) : EReal)) :
    tails S 256 q = ((∑ s ∈ Ico (256 * κ) (256 * κ + 256), keep T ζ s : ℝ) : EReal) := by
  unfold tails
  have e : ∀ x : Fin 256, (k0_pay215 (F := Ideal) (ix2 (256 : Fin 272) x) * S x q : EReal)
      = (fun s : ℕ => ((keep T ζ s : ℝ) : EReal)) (256 * κ + x.val) := fun x => by
    rw [ones_last, hS, one_mul]
  rw [sum_congr rfl fun x _ => e x, sum_tile (fun s : ℕ => ((keep T ζ s : ℝ) : EReal)), ← coe_sum]

variable {KP : ℕ → ℕ → EReal} {QP VT : ℕ → ℕ → ℕ → EReal} (b : ℕ) (hb : b < 16) (h : Fin 4) (q : Fin 256) (hT : T = 256 * b + q.val)
    (hz : ∀ κ x : ℕ, κ ≤ b → x < 256 → zed KP QP κ h.val x q.val = ((ζ (256 * κ + x) : ℝ) : EReal))

include hb hT hz in
theorem stL_coe (n : ℕ) (hn : n ≤ b) : stL KP QP b n h q = ((after T ζ (256 * (b - n) + 256) : ℝ) : EReal) := by
  have := q.isLt
  induction n with
  | zero =>
    rw [after_off T ζ (by omega)]; rfl
  | succ n ih =>
    show stL KP QP b n h q + tails (stS KP QP b n h) 256 q = _
    rw [ih (by omega), tails_all T ζ _ (b - n) q (stS_coe T ζ b h q hT hz n (by omega)), ← EReal.coe_add]
    congr 1
    unfold after
    rw [add_comm, sum_Ico_consecutive _ (by omega) (by omega), show 256 * (b - (n + 1)) + 256 = 256 * (b - n) by omega]

include hb hT hz in
/-- A tile's share of the output is the weighted sum of the tile's values. -/
theorem share_coe (v : ℕ → EReal) (d : Fin 64) (hv : ∀ κ x : ℕ, κ ≤ b → x < 256 → VT κ (64 * h.val + d.val) x = v (256 * κ + x)) (n : ℕ) (hn : n ≤ b) :
    share VT (b - n) (stS KP QP b n) (stE KP QP b n) (stL KP QP b n) h d q
      = ∑ s ∈ Ico (256 * (b - n)) (256 * (b - n) + 256), v s * ((weight T ζ s : ℝ) : EReal) := by
  unfold share
  rw [← sum_tile (fun s => v s * ((weight T ζ s : ℝ) : EReal))]
  refine sum_congr rfl fun x _ => ?_
  have := x.isLt
  rw [hv (b - n) x.val (by omega) x.isLt, stE_coe T ζ b h q hT hz n hn, tails_row T ζ _ (b - n) q (stS_coe T ζ b h q hT hz n hn), stL_coe T ζ b hb h q hT hz n hn]
  congr 1
  unfold weight
  by_cases h' : 256 * (b - n) + x.val < T
  · rw [if_pos h', if_pos h', ← EReal.coe_sub, ← EReal.coe_sub, Ideal.exp_coe]
    congr 2
    unfold after
    have e := sum_Ico_consecutive (keep T ζ) (show 256 * (b - n) + x.val + 1 ≤ 256 * (b - n) + 256 by omega) (show 256 * (b - n) + 256 ≤ 4096 by omega)
    rw [← e]
    ring
  · rw [if_neg h', if_neg h', EReal.bot_sub, EReal.bot_sub, Ideal.exp_bot]; rfl

include hb hT hz in
theorem stA_coe (v : ℕ → EReal) (d : Fin 64) (hv : ∀ κ x : ℕ, κ ≤ b → x < 256 → VT κ (64 * h.val + d.val) x = v (256 * κ + x)) (n : ℕ) (hn : n ≤ b + 1) :
    stA KP QP VT b n h d q = ∑ s ∈ Ico (256 * (b + 1 - n)) 4096, v s * ((weight T ζ s : ℝ) : EReal) := by
  have := q.isLt
  induction n with
  | zero =>
    symm
    refine sum_eq_zero fun s hs => ?_
    have := (mem_Ico.1 hs).1
    rw [weight, if_neg (by omega)]
    exact mul_zero _
  | succ n ih =>
    show stA KP QP VT b n h d q + share VT (b - n) (stS KP QP b n) (stE KP QP b n) (stL KP QP b n) h d q = _
    rw [ih (by omega), share_coe T ζ b hb h q hT hz v d hv n (by omega), add_comm, show 256 * (b + 1 - n) = 256 * (b - n) + 256 by omega,
      sum_Ico_consecutive _ (by omega) (by omega), show 256 * (b + 1 - (n + 1)) = 256 * (b - n) by omega]

include hb hT hz in
/-- The kernel's output element is the weighted sum of all values. -/
theorem stA_all (v : ℕ → EReal) (d : Fin 64) (hv : ∀ κ x : ℕ, κ ≤ b → x < 256 → VT κ (64 * h.val + d.val) x = v (256 * κ + x)) :
    stA KP QP VT b (b + 1) h d q = ∑ s : Fin 4096, ((weight T ζ s.val : ℝ) : EReal) * v s.val := by
  rw [stA_coe T ζ b hb h q hT hz v d hv (b + 1) le_rfl, Nat.sub_self, Nat.mul_zero, Nat.Ico_zero_eq_range, sum_range]
  exact sum_congr rfl fun s _ => mul_comm _ _

end model

end Cert.KernelIdeal.Stick

end
-- ==== Proof.StickPad.lean ====
module

public import proofs.«01_k».proof.Defs
public import proofs.«01_k».proof.Proof.Gen.KernelIdeal.Frame
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.KernelIdeal.Stick

open Cert.KernelIdeal Cert.KernelIdeal.Gen Idealize.ShloMosaic Idealize.ShloMosaic.TcCoe
open Idealize.SL Idealize.SL.Sem Idealize.ShloMosaic.Tactic

variable (m : (ℓ : Loc nD τ sig) → Buf (Elt Ideal) ℓ) (ρ : Dev nD → PrngReg)

/-- The projection with its rows flattened. -/
def flat (a : FVec Ideal S8x4096x2956 .f32) : FVec Ideal S32768x2956 .f32 := shapeCast _ a shapeCasts_S8x4096x2956_S32768x2956

/-- The array that the kernel reads: 116 zero columns stand between the projection's first 652 columns and the rest. -/
def padded (a : FVec Ideal S8x4096x2956 .f32) : FVec Ideal S32768x3072 .f32 :=
  concatenate S32768x3072 1 [⟨S32768x652, extractStridedSlice S32768x652 ![0, 0] (flat a) slices_S32768x2956_S32768x652_0_0⟩,
    ⟨S32768x116, broadcastInDim S32768x116 ![] bcast_S_S32768x116 (constant S_ .f32 0x00000000#32)⟩,
    ⟨S32768x2304, extractStridedSlice S32768x2304 ![0, 652] (flat a) slices_S32768x2956_S32768x2304_0_652⟩] concatenates_S32768x652_S32768x116_S32768x2304_S32768x3072_d1

set_option maxHeartbeats 4000000 in
theorem V_padded (c : Dev nD) : V m c main_v4 = padded (m ((c : Thread nD τ).loc main_arg0)) := by
  unfold padded flat
  simp only [V, hostOps0, List.flatten_cons, List.flatten_nil, List.append_nil, List.cons_append, List.nil_append]
  after_results_simp <;> rfl

theorem flat_at (a : FVec Ideal S8x4096x2956 .f32) (R : Fin 32768) (j : Fin 2956) :
    flat a (ix2 R j) = a (ix3 (⟨R.val / 4096, by omega⟩ : Fin 8) (⟨R.val % 4096, by omega⟩ : Fin 4096) j) := by
  pointwise [flat]

/-- A column behind the zero columns. -/
theorem padded_at (a : FVec Ideal S8x4096x2956 .f32) (R : Fin 32768) (j : ℕ) (hj : j < 2304) :
    padded a (ix2 R (⟨768 + j, by omega⟩ : Fin 3072)) = a (ix3 (⟨R.val / 4096, by omega⟩ : Fin 8) (⟨R.val % 4096, by omega⟩ : Fin 4096) (⟨652 + j, by omega⟩ : Fin 2956)) := by
  refine Eq.trans ?_ (flat_at a R _)
  pointwise [padded]
  rw [dif_neg (by omega), dif_neg (by omega)]
  congr 2
  apply Fin.ext
  dsimp only
  omega

/-- Where each window's block lies: a query block moves with the point, the keys and values with the sequence. -/
theorem idx : ∀ t : Fin cfg0.N, win0_0.index t = ![t.val, 6] ∧ win0_1.index t = ![t.val / 16, 7] ∧ win0_2.index t = ![t.val / 16, 8] ∧ win0_3.index t = ![t.val, 0, 0] :=
  (by decide +kernel : ∀ t : Fin grid0.N, _)

theorem coord1 : ∀ t : Fin cfg0.N, ((grid0.coords t) 1).val = t.val % 16 := (by decide +kernel : ∀ t : Fin grid0.N, _)

theorem lt128 (t : Fin cfg0.N) : t.val < 128 := (N_0 : cfg0.N = 128) ▸ t.isLt

theorem emb0 (t : Fin cfg0.N) (r k : Fin 256) : ((cfg0.win 0).blk t).view.emb (ix2 r k)
    = ix2 (⟨256 * t.val + r.val, by have := lt128 t; omega⟩ : Fin 32768) (⟨768 + (768 + k.val), by omega⟩ : Fin 3072) := by
  obtain ⟨h, -⟩ := idx t
  funext a
  match a with
  | ⟨0, _⟩ => apply Fin.ext; show win0_0.index t (0 : Fin 2) * 256 + 1 * r.val = 256 * t.val + r.val; rw [h]; show t.val * 256 + 1 * r.val = 256 * t.val + r.val; omega
  | ⟨1, _⟩ => apply Fin.ext; show win0_0.index t (1 : Fin 2) * 256 + 1 * k.val = 768 + (768 + k.val); rw [h]; show 6 * 256 + 1 * k.val = 768 + (768 + k.val); omega

theorem emb1 (t : Fin cfg0.N) (r : Fin 4096) (k : Fin 256) : ((cfg0.win 1).blk t).view.emb (ix2 r k)
    = ix2 (⟨4096 * (t.val / 16) + r.val, by have := lt128 t; omega⟩ : Fin 32768) (⟨768 + (1024 + k.val), by omega⟩ : Fin 3072) := by
  obtain ⟨-, h, -⟩ := idx t
  funext a
  match a with
  | ⟨0, _⟩ => apply Fin.ext; show win0_1.index t (0 : Fin 2) * 4096 + 1 * r.val = 4096 * (t.val / 16) + r.val; rw [h]; show t.val / 16 * 4096 + 1 * r.val = 4096 * (t.val / 16) + r.val; omega
  | ⟨1, _⟩ => apply Fin.ext; show win0_1.index t (1 : Fin 2) * 256 + 1 * k.val = 768 + (1024 + k.val); rw [h]; show 7 * 256 + 1 * k.val = 768 + (1024 + k.val); omega

theorem emb2 (t : Fin cfg0.N) (r : Fin 4096) (k : Fin 256) : ((cfg0.win 2).blk t).view.emb (ix2 r k)
    = ix2 (⟨4096 * (t.val / 16) + r.val, by have := lt128 t; omega⟩ : Fin 32768) (⟨768 + (1280 + k.val), by omega⟩ : Fin 3072) := by
  obtain ⟨-, -, h, -⟩ := idx t
  funext a
  match a with
  | ⟨0, _⟩ => apply Fin.ext; show win0_2.index t (0 : Fin 2) * 4096 + 1 * r.val = 4096 * (t.val / 16) + r.val; rw [h]; show t.val / 16 * 4096 + 1 * r.val = 4096 * (t.val / 16) + r.val; omega
  | ⟨1, _⟩ => apply Fin.ext; show win0_2.index t (1 : Fin 2) * 256 + 1 * k.val = 768 + (1280 + k.val); rw [h]; show 8 * 256 + 1 * k.val = 768 + (1280 + k.val); omega

theorem emb3 (t : Fin cfg0.N) (r k : Fin 256) : ((cfg0.win 3).blk t).view.emb (ix3 (0 : Fin 1) r k)
    = ix3 (⟨t.val, lt128 t⟩ : Fin 128) r k := by
  obtain ⟨-, -, -, h⟩ := idx t
  funext a
  match a with
  | ⟨0, _⟩ => apply Fin.ext; show win0_3.index t (0 : Fin 3) * 1 + 1 * 0 = t.val; rw [h]; show t.val * 1 + 1 * 0 = t.val; omega
  | ⟨1, _⟩ => apply Fin.ext; show win0_3.index t (1 : Fin 3) * 256 + 1 * r.val = r.val; rw [h]; show 0 * 256 + 1 * r.val = r.val; omega
  | ⟨2, _⟩ => apply Fin.ext; show win0_3.index t (2 : Fin 3) * 256 + 1 * k.val = k.val; rw [h]; show 0 * 256 + 1 * k.val = k.val; omega

/-- The query block of a point. -/
theorem block0 (c : Dev nD) (t : Fin cfg0.N) (r k : Fin 256) : iblk m c 0 t (ix2 r k)
    = m ((c : Thread nD τ).loc main_arg0) (ix3 (⟨t.val / 16, by have := lt128 t; omega⟩ : Fin 8) (⟨256 * (t.val % 16) + r.val, by omega⟩ : Fin 4096) (⟨1420 + k.val, by omega⟩ : Fin 2956)) := by
  show V m c main_v4 (((cfg0.win 0).blk t).view.emb (ix2 r k)) = _
  rw [V_padded, emb0]
  refine (padded_at _ _ (768 + k.val) (by omega)).trans ?_
  congr 1
  funext a
  have := lt128 t
  match a with
  | ⟨0, _⟩ => apply Fin.ext; show (256 * t.val + r.val) / 4096 = t.val / 16; omega
  | ⟨1, _⟩ => apply Fin.ext; show (256 * t.val + r.val) % 4096 = 256 * (t.val % 16) + r.val; omega
  | ⟨2, _⟩ => apply Fin.ext; show 652 + (768 + k.val) = 1420 + k.val; omega

/-- The keys of a point's sequence. -/
theorem block1 (c : Dev nD) (t : Fin cfg0.N) (r : Fin 4096) (k : Fin 256) : iblk m c 1 t (ix2 r k)
    = m ((c : Thread nD τ).loc main_arg0) (ix3 (⟨t.val / 16, by have := lt128 t; omega⟩ : Fin 8) r (⟨1676 + k.val, by omega⟩ : Fin 2956)) := by
  show V m c main_v4 (((cfg0.win 1).blk t).view.emb (ix2 r k)) = _
  rw [V_padded, emb1]
  refine (padded_at _ _ (1024 + k.val) (by omega)).trans ?_
  congr 1
  funext a
  have := lt128 t
  match a with
  | ⟨0, _⟩ => apply Fin.ext; show (4096 * (t.val / 16) + r.val) / 4096 = t.val / 16; omega
  | ⟨1, _⟩ => apply Fin.ext; show (4096 * (t.val / 16) + r.val) % 4096 = r.val; omega
  | ⟨2, _⟩ => apply Fin.ext; show 652 + (1024 + k.val) = 1676 + k.val; omega

/-- The values of a point's sequence. -/
theorem block2 (c : Dev nD) (t : Fin cfg0.N) (r : Fin 4096) (k : Fin 256) : iblk m c 2 t (ix2 r k)
    = m ((c : Thread nD τ).loc main_arg0) (ix3 (⟨t.val / 16, by have := lt128 t; omega⟩ : Fin 8) r (⟨1932 + k.val, by omega⟩ : Fin 2956)) := by
  show V m c main_v4 (((cfg0.win 2).blk t).view.emb (ix2 r k)) = _
  rw [V_padded, emb2]
  refine (padded_at _ _ (1280 + k.val) (by omega)).trans ?_
  congr 1
  funext a
  have := lt128 t
  match a with
  | ⟨0, _⟩ => apply Fin.ext; show (4096 * (t.val / 16) + r.val) / 4096 = t.val / 16; omega
  | ⟨1, _⟩ => apply Fin.ext; show (4096 * (t.val / 16) + r.val) % 4096 = r.val; omega
  | ⟨2, _⟩ => apply Fin.ext; show 652 + (1280 + k.val) = 1932 + k.val; omega

end Cert.KernelIdeal.Stick

end
-- ==== Proof.StickTop.lean ====
module

public import proofs.«01_k».proof.Proof.StickFrame
public import proofs.«01_k».proof.Proof.StickWalk
public import proofs.«01_k».proof.Proof.StickPieces
public import proofs.«01_k».proof.Proof.StickMath
public import proofs.«01_k».proof.Proof.StickPad
public import Idealize.ShloMosaic.Lib.Pointwise
public import Idealize.ShloMosaic.Lib.FinSumWindow
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.KernelIdeal.Stick

open Cert.KernelIdeal Cert.KernelIdeal.Gen Idealize.ShloMosaic Idealize.ShloMosaic.TcCoe
open Idealize.SL Idealize.SL.Sem Idealize.ShloMosaic.Tactic

variable (m : (ℓ : Loc nD τ sig) → Buf (Elt Ideal) ℓ) (ρ : Dev nD → PrngReg)

/-- A point's queries, whichever of its two ways prepared them. -/
theorem qry_read (c : Dev nD) (t : Fin cfg0.N) (g : Fin 2) (q : Fin 256) (l : Fin 128) :
    s2.view.read (Elt Ideal) (qryAt m c t) (ix3 g q l) = qryP (iblk m c 0 t) g.val q.val l.val := by
  unfold qryAt
  split
  · next h => exact first_qry_read c (grid0.coords t) _ _ _ _ _ _ _ _ _ _ _ _ _ _ _ _ _ _ _ _ ((hcond t).2 h) _ _ _ g q l
  · next h => exact next_qry_read c (grid0.coords t) _ _ _ _ _ _ _ _ _ _ _ _ _ _ _ _ _ _ _ _ (fun hc => h ((hcond t).1 hc)) _ (iblk m c 1 t) (iblk m c 2 t) g q l

/-- What a point stores, in terms of the blocks that it and its sequence's first point read. -/
theorem outs_at (c : Dev nD) (t : Fin cfg0.N) (h : Fin 4) (d : Fin 64) (q : Fin 256) :
    outsAt m c t (ix3 (0 : Fin 1) (⟨64 * h.val + d.val, by omega⟩ : Fin 256) q)
      = stA (keyPad (iblk m c 1 (first t.val))) (qryP (iblk m c 0 t)) (valT (iblk m c 2 (first t.val))) (t.val % 16) (t.val % 16 + 1) h d q := by
  unfold outsAt
  rw [← coord1 t]
  exact rest_block (VT := valT (iblk m c 2 (first t.val))) c (grid0.coords t) _ _ _ _ _ _ _ _ _ _ _ _ _ _ _ _ _ _ _ _ _ _ _
    (fun a b => keys_read c (grid0.coords (first t.val)) _ _ _ _ _ _ _ _ _ _ _ _ _ _ _ _ _ _ _ _ ((hcond _).2 (first_mod _)) _ _ _ a b)
    (fun t' r k => vals_read c (grid0.coords (first t.val)) _ _ _ _ _ _ _ _ _ _ _ _ _ _ _ _ _ _ _ _ ((hcond _).2 (first_mod _)) _ _ _ t' r k)
    (fun g q l => qry_read m c t g q l) _ h d q

/-- One score, as the kernel computes it from the padded keys and the scaled queries. -/
theorem zed_at (x2 : Vec Ideal S256x256 .f32) (x3 : Vec Ideal S4096x256 .f32) (κ h k q : ℕ) (hh : h < 4) :
    zed (keyPad x3) (qryP x2) κ h k q
      = ∑ d : Fin 64, rowsN x3 (256 * κ + k) (64 * h + d.val) * (qryN x2 q (64 * h + d.val) * Ideal.ofBits .f32 0x3E000000#32) := by
  unfold zed
  rw [FinSumWindow.sum_window (W := 64) (64 * (h % 2)) (by omega)]
  · refine Finset.sum_congr rfl fun d _ => ?_
    have := d.isLt
    unfold keyPad qryP
    dsimp only
    have hm : h % 2 < 2 := Nat.mod_lt _ (by omega)
    have a1 : (128 * h + (64 * (h % 2) + d.val)) / 128 = h := by omega
    have a2 : (128 * h + (64 * (h % 2) + d.val)) % 128 = 64 * (h % 2) + d.val := by omega
    have a3 : (64 * (h % 2) + d.val) / 64 = h % 2 := by omega
    rw [if_pos (by rw [a1, a2, a3]), show 128 * ((128 * h + (64 * (h % 2) + d.val)) / 256) + (128 * h + (64 * (h % 2) + d.val)) % 128 = 64 * h + d.val by omega,
      show 128 * (h / 2) + (64 * (h % 2) + d.val) = 64 * h + d.val by omega]
    rfl
  · intro P hP
    have := P.isLt
    unfold keyPad
    have a1 : (128 * h + P.val) / 128 = h := by omega
    have a2 : (128 * h + P.val) % 128 = P.val := by omega
    rw [if_neg (by rw [a1, a2]; omega), zero_mul]

/-- The factor is one eighth. -/
theorem eighth : Ideal.ofBits .f32 0x3E000000#32 = (((1 : ℝ) / 8 : ℝ) : EReal) := by
  simp [Ideal.ofBits, Ideal.ieee, -EReal.coe_mul]; norm_num

/-- The queries and keys of the projection are finite. -/
def Finite (a : FVec Ideal S8x4096x2956 .f32) : Prop :=
  ∀ (B : Fin 8) (s : Fin 4096) (j : ℕ) (hj : j < 512), a (ix3 B s (⟨1420 + j, by omega⟩ : Fin 2956)) ≠ (⊤ : EReal) ∧ a (ix3 B s (⟨1420 + j, by omega⟩ : Fin 2956)) ≠ (⊥ : EReal)

/-- The block that a point stores is the reference's block. -/
theorem point (c : Dev nD) (ha : Finite (m ((c : Thread nD τ).loc main_arg0))) (t : Fin cfg0.N) (h : Fin 4) (d : Fin 64) (q : Fin 256) :
    outsAt m c t (ix3 (0 : Fin 1) (⟨64 * h.val + d.val, by omega⟩ : Fin 256) q)
      = Cert.ReferenceIdeal.Stick.result (m ((c : Thread nD τ).loc main_arg0)) (ix3 (⟨t.val, lt128 t⟩ : Fin 128) (⟨64 * h.val + d.val, by omega⟩ : Fin 256) q) := by
  have ht := lt128 t
  have hf : (first t.val).val / 16 = t.val / 16 := by show 16 * (t.val % 128 / 16) / 16 = _; omega
  rw [outs_at]
  have hr := Cert.ReferenceIdeal.Stick.result_at (m ((c : Thread nD τ).loc main_arg0)) (⟨t.val / 16, by omega⟩ : Fin 8) (⟨t.val % 16, by omega⟩ : Fin 16) h d q
  rw [show (⟨16 * (t.val / 16) + t.val % 16, by omega⟩ : Fin 128) = ⟨t.val, ht⟩ from Fin.ext (by dsimp only; omega)] at hr
  rw [hr]
  clear hr
  generalize hA : m ((c : Thread nD τ).loc main_arg0) = a at ha ⊢
  -- the blocks, in terms of the projection
  have h2 : ∀ x : Fin 64, qryN (iblk m c 0 t) q.val (64 * h.val + x.val)
      = a (ix3 (⟨t.val / 16, by omega⟩ : Fin 8) (⟨256 * (t.val % 16) + q.val, by omega⟩ : Fin 4096) (⟨1420 + (64 * h.val + x.val), by omega⟩ : Fin 2956)) := fun x => by
    rw [← qryN_of (iblk m c 0 t) q.isLt (show 64 * h.val + x.val < 256 by omega), ← hA]
    exact block0 m c t _ _
  have h3 : ∀ (s : Fin 4096) (x : Fin 64), rowsN (iblk m c 1 (first t.val)) s.val (64 * h.val + x.val)
      = a (ix3 (⟨t.val / 16, by omega⟩ : Fin 8) s (⟨1676 + (64 * h.val + x.val), by omega⟩ : Fin 2956)) := fun s x => by
    rw [← rowsN_of (iblk m c 1 (first t.val)) s.isLt (show 64 * h.val + x.val < 256 by omega), ← hA]
    refine (block1 m c (first t.val) _ _).trans ?_
    congr 1
    funext y
    match y with
    | ⟨0, _⟩ => apply Fin.ext; exact hf
    | ⟨1, _⟩ => rfl
    | ⟨2, _⟩ => rfl
  have h4 : ∀ (s : Fin 4096), rowsN (iblk m c 2 (first t.val)) s.val (64 * h.val + d.val)
      = a (ix3 (⟨t.val / 16, by omega⟩ : Fin 8) s (⟨1932 + (64 * h.val + d.val), by omega⟩ : Fin 2956)) := fun s => by
    rw [← rowsN_of (iblk m c 2 (first t.val)) s.isLt (show 64 * h.val + d.val < 256 by omega), ← hA]
    refine (block2 m c (first t.val) _ _).trans ?_
    congr 1
    funext y
    match y with
    | ⟨0, _⟩ => apply Fin.ext; exact hf
    | ⟨1, _⟩ => rfl
    | ⟨2, _⟩ => rfl
  -- the scores are real
  let qr : Fin 64 → ℝ := fun x => (qryN (iblk m c 0 t) q.val (64 * h.val + x.val)).toReal
  let kr : ℕ → Fin 64 → ℝ := fun s x => (rowsN (iblk m c 1 (first t.val)) s (64 * h.val + x.val)).toReal
  have hq : ∀ x, qryN (iblk m c 0 t) q.val (64 * h.val + x.val) = ((qr x : ℝ) : EReal) := fun x => by
    refine (EReal.coe_toReal ?_ ?_).symm <;> rw [h2 x]
    · exact (ha _ _ (64 * h.val + x.val) (by omega)).1
    · exact (ha _ _ (64 * h.val + x.val) (by omega)).2
  have hk : ∀ s x, s < 4096 → rowsN (iblk m c 1 (first t.val)) s (64 * h.val + x.val) = ((kr s x : ℝ) : EReal) := fun s x hs => by
    have e : (⟨1676 + (64 * h.val + x.val), by omega⟩ : Fin 2956) = ⟨1420 + (256 + (64 * h.val + x.val)), by omega⟩ := Fin.ext (by dsimp only; omega)
    refine (EReal.coe_toReal ?_ ?_).symm <;> rw [h3 ⟨s, hs⟩ x, e]
    · exact (ha _ _ (256 + (64 * h.val + x.val)) (by omega)).1
    · exact (ha _ _ (256 + (64 * h.val + x.val)) (by omega)).2
  let ζ : ℕ → ℝ := fun s => ∑ x : Fin 64, kr s x * (qr x * (1 / 8))
  have hz : ∀ κ x : ℕ, κ ≤ t.val % 16 → x < 256 → zed (keyPad (iblk m c 1 (first t.val))) (qryP (iblk m c 0 t)) κ h.val x q.val = ((ζ (256 * κ + x) : ℝ) : EReal) := fun κ x hκ hx => by
    rw [zed_at _ _ _ _ _ _ h.isLt, eighth]
    refine Eq.trans ?_ (coe_sum Finset.univ _).symm
    refine Finset.sum_congr rfl fun y _ => ?_
    rw [hq, hk _ _ (by omega), EReal.coe_mul, EReal.coe_mul]
  have hs : ∀ s : Fin 4096, Cert.ReferenceIdeal.Stick.scores a (ix4 (⟨t.val / 16, by omega⟩ : Fin 8) h (⟨256 * (t.val % 16) + q.val, by omega⟩ : Fin 4096) s) = ((ζ s.val : ℝ) : EReal) := fun s => by
    refine (Cert.ReferenceIdeal.Stick.scores_at a _ h _ s).trans ?_
    have e : ∀ x : Fin 64, Cert.ReferenceIdeal.Stick.queries a (ix4 (⟨t.val / 16, by omega⟩ : Fin 8) h (⟨256 * (t.val % 16) + q.val, by omega⟩ : Fin 4096) x) * Cert.ReferenceIdeal.Stick.keys a (ix4 (⟨t.val / 16, by omega⟩ : Fin 8) h s x)
        = ((qr x * kr s.val x : ℝ) : EReal) := fun x => by
      rw [Cert.ReferenceIdeal.Stick.queries_at, Cert.ReferenceIdeal.Stick.keys_at, EReal.coe_mul, ← hq, ← hk s.val x s.isLt, h2, h3]
    rw [Finset.sum_congr rfl fun x _ => e x, ← coe_sum, eighth, ← EReal.coe_mul]
    congr 1
    rw [Finset.sum_mul]
    exact Finset.sum_congr rfl fun x _ => by ring
  rw [stA_all (256 * (t.val % 16) + q.val) ζ (t.val % 16) (by omega) h q rfl hz (fun s => rowsN (iblk m c 2 (first t.val)) s (64 * h.val + d.val)) d (fun κ x _ _ => rfl)]
  refine Finset.sum_congr rfl fun s _ => ?_
  rw [h4, Cert.ReferenceIdeal.Stick.values_at]
  congr 1
  rw [Cert.ReferenceIdeal.Stick.weights_at]
  simp only [hs]
  exact (ref_weight (256 * (t.val % 16) + q.val) ζ (fun s => ((ζ s : ℝ) : EReal)) (fun _ _ => rfl) s).symm

/-- Every element of a stored block is the reference's element at the block's place. -/
theorem point_at (c : Dev nD) (ha : Finite (m ((c : Thread nD τ).loc main_arg0))) (t : Fin cfg0.N) (y : S1x256x256.Idx) :
    outsAt m c t y = Cert.ReferenceIdeal.Stick.result (m ((c : Thread nD τ).loc main_arg0)) (((cfg0.win 3).blk t).view.emb y) := by
  have h1 : (y 1).val < 256 := (y 1).isLt
  have e : y = ix3 (0 : Fin 1) (⟨64 * ((y 1).val / 64) + (y 1).val % 64, by omega⟩ : Fin 256) (y 2 : Fin 256) := by
    funext a
    match a with
    | ⟨0, _⟩ => exact Subsingleton.elim (α := Fin 1) _ _
    | ⟨1, _⟩ => apply Fin.ext; show (y 1).val = 64 * ((y 1).val / 64) + (y 1).val % 64; omega
    | ⟨2, _⟩ => rfl
  rw [e]
  refine (point m c ha t (⟨(y 1).val / 64, by omega⟩ : Fin 4) (⟨(y 1).val % 64, by omega⟩ : Fin 64) (y 2)).trans ?_
  exact congrArg _ (emb3 t _ _).symm

/-- What a point writes back is its block of the reference's result. -/
theorem flushed (c : Dev nD) (ha : Finite (m ((c : Thread nD τ).loc main_arg0))) (t : Fin cfg0.N) :
    (dats m 0 c).flushed 3 t = ((cfg0.win 3).blk t).view.read (Elt Ideal) (Cert.ReferenceIdeal.Stick.result (m ((c : Thread nD τ).loc main_arg0))) := by
  have e : (dats m 0 c).flushed 3 t = outsAt m c t := by
    show (dats m 0 c).after 3 t = _
    exact after0_3 m c t
  rw [e]
  funext y
  exact point_at m c ha t y

end Cert.KernelIdeal.Stick

end
-- ==== Proof.Stick.lean ====
module

public import proofs.«01_k».proof.Proof.StickTop
public import proofs.«01_k».proof.Proof.KernelStickFrame
public import proofs.«01_k».proof.Proof.Gen.ReferenceIdeal.Run
public import Idealize.ShloMosaic.Lib.Quiescent

@[expose] public section

set_option maxRecDepth 16384

noncomputable section

namespace Cert.KernelIdeal.Stick

open Cert.KernelIdeal Cert.KernelIdeal.Gen Idealize.ShloMosaic Idealize.ShloMosaic.TcCoe
open Idealize.SL Idealize.SL.Sem Idealize.ShloMosaic.Tactic

variable (m : (ℓ : Loc nD τ sig) → Buf (Elt Ideal) ℓ) (ρ : Dev nD → PrngReg)

/-- Every element of the result lies in some point's block. -/
theorem covered (i : S128x256x256.Idx) : ∃ t : Fin cfg0.N, (cfg0.win 3).flush t = true ∧ i ∈ ((cfg0.win 3).blk t).view.set := by
  obtain ⟨t, ht⟩ : ∃ t : Fin cfg0.N, t.val = (i 0).val := ⟨⟨(i 0).val, by rw [show cfg0.N = 128 from N_0]; exact (i 0).isLt⟩, rfl⟩
  refine ⟨t, flush0_3 t, ?_⟩
  have h := ((cfg0.win 3).blk t).view.emb_mem_set (ix3 (0 : Fin 1) (i 1 : Fin 256) (i 2 : Fin 256))
  have he : ((cfg0.win 3).blk t).view.emb (ix3 (0 : Fin 1) (i 1 : Fin 256) (i 2 : Fin 256)) = i := by
    refine (emb3 t (i 1) (i 2)).trans ?_
    funext a
    match a with
    | ⟨0, _⟩ => exact Fin.ext ht
    | ⟨1, _⟩ => rfl
    | ⟨2, _⟩ => rfl
  rw [he] at h
  exact h

/-- The kernel's result array after the run is the reference's function of the projection. -/
theorem run (ha : ∀ c : Dev nD, Finite (m ((c : Thread nD τ).loc main_arg0))) : θ_run defs (onTc (τ := τ) (main (F := Ideal))) ⟨m, fun _ => 0, ρ⟩ fun r => ∀ c : Dev nD,
      r.2.mem ((c : Thread nD τ).loc main_v5) = Cert.ReferenceIdeal.Stick.result (m ((c : Thread nD τ).loc main_arg0))
      ∧ r.2.mem ((c : Thread nD τ).loc main_arg0) = m ((c : Thread nD τ).loc main_arg0) := by
  refine (θ_run defs _ _).mono (fun r h c => ⟨?_, ?_⟩) (run_main m ρ)
  · exact ((h c).1 3).trans ((dats m 0 c).arrAt_eq_of_cover 3 _ (fun t _ => flushed m c (ha c) t) covered)
  · exact ((h c).2 main_arg0 (Pipeline.mem_restRefs_of main_arg0 (by decide) (by decide))).trans (V_main_arg0 m c)

/-- The side conditions of the precondition's operations. -/
theorem pre_facts : Cert.Pre_finite_queries_and_keys.Facts := ⟨by decide, by decide⟩

/-- What the precondition says of an element. -/
theorem finite_of_pre (a : FVec Ideal S8x4096x2956 .f32) (h : @Cert.Pre_finite_queries_and_keys.fn pre_facts Ideal _ a = fun _ => 1#1) : Finite a := by
  intro B s j hj
  have h' := congrFun h (ix3 B s (⟨j, hj⟩ : Fin 512))
  revert h'
  unfold Cert.Pre_finite_queries_and_keys.fn
  pointwise []
  intro h'
  have hlt : FloatOps.absf (F := Ideal) (φ := .f32) (a (ix3 B s (⟨1420 + j, by omega⟩ : Fin 2956))) < Ideal.ofBits .f32 0x7F800000#32 := by
    by_contra hn
    rw [decide_eq_false hn] at h'
    exact absurd h' (by decide)
  rw [show Ideal.ofBits .f32 0x7F800000#32 = (⊤ : EReal) by simp [Ideal.ofBits, Ideal.ieee]] at hlt
  have hm : max (a (ix3 B s (⟨1420 + j, by omega⟩ : Fin 2956)) : EReal) (-a (ix3 B s (⟨1420 + j, by omega⟩ : Fin 2956)) : EReal) < ⊤ := hlt
  refine ⟨fun e => ?_, fun e => ?_⟩
  · rw [e] at hm; exact absurd hm (by simp)
  · rw [e] at hm; exact absurd hm (by simp)

end Cert.KernelIdeal.Stick

namespace Cert.Proof

open Idealize.ShloMosaic Idealize.SL.Sem

/-- The stick-breaking attention kernel and its reference compute the same array of extended reals where queries and keys are finite. -/
theorem stick_value : Cert.algebraic_KernelIdeal_ReferenceIdeal_pre_finite_queries_and_keys (hKernelIdeal := Cert.KernelIdeal.Gen.facts)
    (hReferenceIdeal := Cert.ReferenceIdeal.Gen.facts) (hPre_finite_queries_and_keys := Cert.KernelIdeal.Stick.pre_facts) := by
  intro m g m' g' hp hm
  refine ⟨_, Cert.KernelIdeal.Stick.run m g (fun c => Cert.KernelIdeal.Stick.finite_of_pre _ (hp c)), ?_⟩
  refine (θ_run _ _ _).mono (fun r h c => ?_) (Cert.ReferenceIdeal.Value.run (F := Ideal) m' g')
  refine ⟨(h c).1.trans ?_, (h c).2⟩
  rw [Cert.ReferenceIdeal.Stick.result_eq, hm c]

/-- The stick-breaking attention's reference leaves its argument unchanged. -/
theorem stick_reference_frame : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

/-- The two named constants round to the numbers that the kernel's text has. -/
theorem stick_preserves : Cert.preserves_Kernel_KernelIdeal :=
  ⟨IdealRules.named_const.statement Cert.KernelIdeal.κ "neg_log2_e" .f32 0xBFB8AA3B#32 ((-((Real.log 2)⁻¹) : ℝ) : EReal) rfl,
    IdealRules.named_const.statement Cert.KernelIdeal.κ "masked" .f32 0xF149F2CA#32 ⊥ rfl⟩

end Cert.Proof

end
-- ==== Proof.InProj.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.Reference3Ideal.InProj

open Cert.Reference3Ideal Cert.Reference3Ideal.Gen Idealize.ShloMosaic

/-- The normalised rows, scaled by the gain. -/
def normed (a0 : FVec Ideal S8x4096x1024 .f32) (a1 : FVec Ideal S1024 .f32) : FVec Ideal S8x4096x1024 .f32 :=
  mulf (mulf a0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf a0 a0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a1))

/-- The input projection. -/
def proj (a0 : FVec Ideal S8x4096x1024 .f32) (a1 : FVec Ideal S1024 .f32) (a2 : FVec Ideal S1024x2956 .f32) : FVec Ideal S8x4096x2956 .f32 :=
  Host.dotGeneral dot_S8x4096x1024_S1024x2956_S8x4096x2956_2_0_01_1_n_n none (normed a0 a1) a2

/-- The projection with 116 zero columns after its first 652, the rows flattened. -/
def result (a0 : FVec Ideal S8x4096x1024 .f32) (a1 : FVec Ideal S1024 .f32) (a2 : FVec Ideal S1024x2956 .f32) : FVec Ideal S32768x3072 .f32 :=
  shapeCast _ (concatenate S8x4096x3072 2 [⟨S8x4096x652, extractStridedSlice S8x4096x652 ![0, 0, 0] (proj a0 a1 a2) slices_S8x4096x2956_S8x4096x652_0_0_0⟩,
    ⟨S8x4096x116, broadcastInDim S8x4096x116 ![] bcast_S_S8x4096x116 (constant S_ .f32 0x00000000#32)⟩,
    ⟨S8x4096x2304, extractStridedSlice S8x4096x2304 ![0, 0, 652] (proj a0 a1 a2) slices_S8x4096x2956_S8x4096x2304_0_0_652⟩] concatenates_S8x4096x652_S8x4096x116_S8x4096x2304_S8x4096x3072_d2) shapeCasts_S8x4096x3072_S32768x3072

theorem proj_at (a0 : FVec Ideal S8x4096x1024 .f32) (a1 : FVec Ideal S1024 .f32) (a2 : FVec Ideal S1024x2956 .f32) (B : Fin 8) (s : Fin 4096) (j : Fin 2956) :
    proj a0 a1 a2 (ix3 B s j) = ∑ k : Fin 1024, normed a0 a1 (ix3 B s k) * a2 (ix2 k j) := by
  unfold proj
  generalize normed a0 a1 = N
  pointwise

/-- The result's columns, before, among and behind the zero columns. -/
theorem result_at (a0 : FVec Ideal S8x4096x1024 .f32) (a1 : FVec Ideal S1024 .f32) (a2 : FVec Ideal S1024x2956 .f32) (R : Fin 32768) (j : Fin 3072) :
    result a0 a1 a2 (ix2 R j) = if h : j.val < 652 then proj a0 a1 a2 (ix3 (⟨R.val / 4096, by omega⟩ : Fin 8) (⟨R.val % 4096, by omega⟩ : Fin 4096) (⟨j.val, by omega⟩ : Fin 2956))
      else if h' : j.val < 768 then (0 : EReal)
      else proj a0 a1 a2 (ix3 (⟨R.val / 4096, by omega⟩ : Fin 8) (⟨R.val % 4096, by omega⟩ : Fin 4096) (⟨j.val - 116, by omega⟩ : Fin 2956)) := by
  unfold result
  generalize proj a0 a1 a2 = P
  pointwise
  by_cases h1 : j.val < 652
  · rw [dif_pos h1, dif_pos h1]
  · rw [dif_neg h1, dif_neg h1]
    by_cases h2 : j.val < 768
    · rw [dif_pos (by omega), dif_pos h2]
    · rw [dif_neg (by omega), dif_neg h2]
      congr 2
      apply Fin.ext
      show 652 + (j.val - 652 - 116) = j.val - 116
      omega

end Cert.Reference3Ideal.InProj

namespace Cert.Kernel3Ideal.InProj

open Cert.Kernel3Ideal Cert.Kernel3Ideal.Gen Idealize.ShloMosaic Idealize.ShloMosaic.TcCoe
open Idealize.SL Idealize.SL.Sem Idealize.ShloMosaic.Tactic

/-- The block the body leaves: the normalised rows times the weights. -/
def outBlock (x0 : Vec Ideal S1024x1024 .f32) (x1 : Vec Ideal S1x1024 .f32) (x2 : Vec Ideal S1024x3072 .bf16) : Vec Ideal S1024x3072 .f32 := fun j =>
  ∑ k : Fin 1024, k0_pay4 x0 x1 (ix2 (j 0) k) * x2 (ix2 k (j 1))

theorem hz : (![0, 0] : Fin 2 → Nat) = fun _ => 0 := funext fun a => by fin_cases a <;> rfl

/-- Any store of 512 columns holds the matching columns of the block. -/
theorem out_cols (x0 : Vec Ideal S1024x1024 .f32) (x1 : Vec Ideal S1x1024 .f32) (x2 : Vec Ideal S1024x3072 .bf16)
    (o : ℕ) (inb : ∀ a : Fin 2, (![0, o] : Fin 2 → ℕ) a + S1024x512.size a ≤ S1024x3072.size a)
    (x : S1024x512.Idx) : k0_pay3 (k0_pay4 x0 x1) (View.ld x2 (Rect.unit (s := S1024x3072) ![0, o] S1024x512.size inb)) x
      = outBlock x0 x1 x2 ((Rect.unit (s := S1024x3072) ![0, o] S1024x512.size inb).emb x) := by
  have hl : o + (x 1).val < 3072 := Nat.lt_of_lt_of_le (Nat.add_lt_add_left (x 1).isLt o) (inb 1)
  have he : (Rect.unit (s := S1024x3072) ![0, o] S1024x512.size inb).emb x = ix2 (x 0 : Fin 1024) (⟨o + (x 1).val, hl⟩ : Fin 3072) := by
    funext a
    match a with
    | ⟨0, _⟩ => apply Fin.ext; show 0 + 1 * (x 0).val = (x 0).val; omega
    | ⟨1, _⟩ => apply Fin.ext; show o + 1 * (x 1).val = o + (x 1).val; omega
  rw [he]
  unfold outBlock
  generalize k0_pay4 x0 x1 = A
  idx_vars x
  pointwise [k0_pay3]

/-- What the body leaves in the output's staging buffer. -/
theorem out_eq (x0 : Vec Ideal S1024x1024 .f32) (x1 : Vec Ideal S1x1024 .f32) (x2 : Vec Ideal S1024x3072 .bf16) : out0_3 x0 x1 x2 = outBlock x0 x1 x2 := by
  unfold out0_3 k0_pay9
  rw [show View.ld x0 r0_0 = x0 from View.ld_unit_zero (S := S1024x1024) hz _ x0, show View.ld x1 r0_1 = x1 from View.ld_unit_zero (S := S1x1024) hz _ x1]
  funext y
  refine View.canon_apply_of_pieces (outBlock x0 x1 x2) _ ?_ y (cover0_3 _ _ _ _ _ _ y)
  refine View.PiecesOf.mem ?_
  exact ⟨fun x => out_cols x0 x1 x2 2560 _ x, fun x => out_cols x0 x1 x2 2048 _ x, fun x => out_cols x0 x1 x2 1536 _ x,
    fun x => out_cols x0 x1 x2 1024 _ x, fun x => out_cols x0 x1 x2 512 _ x, fun x => out_cols x0 x1 x2 0 _ x, trivial⟩

variable (m : (ℓ : Loc nD τ sig) → Buf (Elt Ideal) ℓ) (ρ : Dev nD → PrngReg)

/-- The weights in the layout that the call reads: 116 zero columns after the first 652. -/
def laid (a : FVec Ideal S1024x2956 .f32) : FVec Ideal S1024x3072 .bf16 :=
  truncf .bf16 (concatenate S1024x3072 1 [⟨S1024x652, extractStridedSlice S1024x652 ![0, 0] a slices_S1024x2956_S1024x652_0_0⟩,
    ⟨S1024x116, broadcastInDim S1024x116 ![] bcast_S_S1024x116 (constant S_ .f32 0x00000000#32)⟩,
    ⟨S1024x2304, extractStridedSlice S1024x2304 ![0, 652] a slices_S1024x2956_S1024x2304_0_652⟩] concatenates_S1024x652_S1024x116_S1024x2304_S1024x3072_d1) bitsLt_bf16_f32

set_option maxHeartbeats 4000000 in
theorem V_laid (c : Dev nD) : V m c main_v6 = laid (m ((c : Thread nD τ).loc main_arg2)) := by
  unfold laid
  simp only [V, hostOps0, List.flatten_cons, List.flatten_nil, List.append_nil, List.cons_append, List.nil_append]
  after_results_simp <;> rfl

theorem laid_at (a : FVec Ideal S1024x2956 .f32) (k : Fin 1024) (j : Fin 3072) : laid a (ix2 k j)
    = if h : j.val < 652 then a (ix2 k (⟨j.val, by omega⟩ : Fin 2956)) else if h' : j.val < 768 then (0 : EReal) else a (ix2 k (⟨j.val - 116, by omega⟩ : Fin 2956)) := by
  pointwise [laid]
  by_cases h1 : j.val < 652
  · rw [dif_pos h1, dif_pos h1]
  · rw [dif_neg h1, dif_neg h1]
    by_cases h2 : j.val < 768
    · rw [dif_pos (by omega), dif_pos h2]
    · rw [dif_neg (by omega), dif_neg h2]
      congr 2
      apply Fin.ext
      show 652 + (j.val - 652 - 116) = j.val - 116
      omega

/-- Where each window's block lies: the row blocks move with the point, the gain and the weights stay. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- A point indexes one of the array's 32 row blocks. -/
theorem lt32 (t : Fin cfg0.N) : t.val < 32 := (N_0 : cfg0.N = 32) ▸ t.isLt

/-- The rows a point reads are the argument's rows, its two leading axes flattened. -/
theorem block0 (c : Dev nD) (t : Fin cfg0.N) (r k : Fin 1024) (h : t.val * 1024 + r.val < 32768) :
    iblk m c 0 t (ix2 r k) = m ((c : Thread nD τ).loc main_arg0) (ix3 (⟨(t.val * 1024 + r.val) / 4096, by omega⟩ : Fin 8) (⟨(t.val * 1024 + r.val) % 4096, by omega⟩ : Fin 4096) k) := by
  blk_point [iblk, V, idx t]

/-- The gain row is the gain vector. -/
theorem block1 (c : Dev nD) (t : Fin cfg0.N) (k : Fin 1024) : iblk m c 1 t (ix2 (0 : Fin 1) k) = m ((c : Thread nD τ).loc main_arg1) (ix1 k) := by
  blk_point [iblk, V, idx t]

theorem emb2 (t : Fin cfg0.N) (k : Fin 1024) (l : Fin 3072) : ((cfg0.win 2).blk t).view.emb (ix2 k l) = ix2 k l := by
  obtain ⟨-, -, h, -⟩ := idx t
  funext a
  match a with
  | ⟨0, _⟩ => apply Fin.ext; show win0_2.index t (0 : Fin 2) * 1024 + 1 * k.val = k.val; rw [h]; show 0 * 1024 + 1 * k.val = k.val; omega
  | ⟨1, _⟩ => apply Fin.ext; show win0_2.index t (1 : Fin 2) * 3072 + 1 * l.val = l.val; rw [h]; show 0 * 3072 + 1 * l.val = l.val; omega

/-- The weights arrive whole. -/
theorem block2 (c : Dev nD) (t : Fin cfg0.N) (k : Fin 1024) (l : Fin 3072) : iblk m c 2 t (ix2 k l) = laid (m ((c : Thread nD τ).loc main_arg2)) (ix2 k l) := by
  show V m c main_v6 (((cfg0.win 2).blk t).view.emb (ix2 k l)) = _
  rw [V_laid, emb2]

/-- Where an index of the output block lies in the output array. -/
theorem emb3 (t : Fin cfg0.N) (y : S1024x3072.Idx) : ((cfg0.win 3).blk t).view.emb y
    = ix2 (⟨t.val * 1024 + (y 0).val, by have := lt32 t; have : (y 0).val < 1024 := (y 0).isLt; omega⟩ : Fin 32768) (y 1 : Fin 3072) := by
  obtain ⟨-, -, -, h⟩ := idx t
  funext a
  match a with
  | ⟨0, _⟩ => apply Fin.ext; show win0_3.index t (0 : Fin 2) * 1024 + 1 * (y 0).val = t.val * 1024 + (y 0).val; rw [h]; show t.val * 1024 + 1 * (y 0).val = t.val * 1024 + (y 0).val; omega
  | ⟨1, _⟩ => apply Fin.ext; show win0_3.index t (1 : Fin 2) * 3072 + 1 * (y 1).val = (y 1).val; rw [h]; show 0 * 3072 + 1 * (y 1).val = (y 1).val; omega

/-- The rows that the body normalises are the reference's. -/
theorem normed_at (c : Dev nD) (t : Fin cfg0.N) (r k : Fin 1024) (h : t.val * 1024 + r.val < 32768) : k0_pay4 (iblk m c 0 t) (iblk m c 1 t) (ix2 r k)
    = Cert.Reference3Ideal.InProj.normed (m ((c : Thread nD τ).loc main_arg0)) (m ((c : Thread nD τ).loc main_arg1))
        (ix3 (⟨(t.val * 1024 + r.val) / 4096, by omega⟩ : Fin 8) (⟨(t.val * 1024 + r.val) % 4096, by omega⟩ : Fin 4096) k) := by
  pointwise [k0_pay4, Cert.Reference3Ideal.InProj.normed]
  simp only [block0 m c t _ _ h, block1]

/-- A block's value is the reference's at the block's place in the array. -/
theorem point (c : Dev nD) (t : Fin cfg0.N) (y : S1024x3072.Idx) :
    outBlock (iblk m c 0 t) (iblk m c 1 t) (iblk m c 2 t) y
      = Cert.Reference3Ideal.InProj.result (m ((c : Thread nD τ).loc main_arg0)) (m ((c : Thread nD τ).loc main_arg1)) (m ((c : Thread nD τ).loc main_arg2))
          (((cfg0.win 3).blk t).view.emb y) := by
  have h : t.val * 1024 + (y 0).val < 32768 := by have := lt32 t; have : (y 0).val < 1024 := (y 0).isLt; omega
  rw [emb3 t y]
  refine Eq.trans ?_ (Cert.Reference3Ideal.InProj.result_at _ _ _ _ _).symm
  refine (Finset.sum_congr rfl fun k _ => congrArg₂ (· * ·) (normed_at m c t (y 0) k h) ((block2 m c t k (y 1)).trans (laid_at _ k (y 1)))).trans ?_
  simp only [Cert.Reference3Ideal.InProj.proj_at]
  by_cases h1 : (y 1).val < 652
  · simp only [dif_pos h1]
  · by_cases h2 : (y 1).val < 768
    · simp only [dif_neg h1, dif_pos h2, mul_zero, Finset.sum_const_zero]
    · simp only [dif_neg h1, dif_neg h2]

/-- What a point writes back is its block of the reference's result. -/
theorem flushed (c : Dev nD) (t : Fin cfg0.N) :
    (dats m 0 c).flushed 3 t = ((cfg0.win 3).blk t).view.read (Elt Ideal)
      (Cert.Reference3Ideal.InProj.result (m ((c : Thread nD τ).loc main_arg0)) (m ((c : Thread nD τ).loc main_arg1)) (m ((c : Thread nD τ).loc main_arg2))) := by
  rw [Value.flushed3, out_eq]
  funext y
  exact point m c t y

/-- Every row of the result lies in some point's block. -/
theorem covered (i : S32768x3072.Idx) : ∃ t : Fin cfg0.N, (cfg0.win 3).flush t = true ∧ i ∈ ((cfg0.win 3).blk t).view.set := by
  have h0 : (i 0).val < 32768 := (i 0).isLt
  obtain ⟨t, ht⟩ : ∃ t : Fin cfg0.N, t.val = (i 0).val / 1024 := ⟨⟨(i 0).val / 1024, by rw [show cfg0.N = 32 from N_0]; omega⟩, rfl⟩
  refine ⟨t, flush0_3 t, ?_⟩
  have h := ((cfg0.win 3).blk t).view.emb_mem_set (ix2 (⟨(i 0).val % 1024, by omega⟩ : Fin 1024) (i 1 : Fin 3072))
  have he : ((cfg0.win 3).blk t).view.emb (ix2 (⟨(i 0).val % 1024, by omega⟩ : Fin 1024) (i 1 : Fin 3072)) = i := by
    refine (emb3 t _).trans ?_
    funext a
    match a with
    | ⟨0, _⟩ => apply Fin.ext; show t.val * 1024 + (i 0).val % 1024 = (i 0).val; omega
    | ⟨1, _⟩ => rfl
  rw [he] at h
  exact h

/-- The kernel's result array after the run is the reference's function of the arguments. -/
theorem run : θ_run defs (onTc (τ := τ) (main (F := Ideal))) ⟨m, fun _ => 0, ρ⟩ fun r => ∀ c : Dev nD,
      r.2.mem ((c : Thread nD τ).loc main_v7) = Cert.Reference3Ideal.InProj.result (m ((c : Thread nD τ).loc main_arg0)) (m ((c : Thread nD τ).loc main_arg1))
          (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed m c t) covered), (h c).2⟩) (Value.run_blocks m ρ)

end Cert.Kernel3Ideal.InProj

namespace Cert.Proof

open Idealize.ShloMosaic Idealize.SL.Sem

/-- The input projection and its reference compute the same array of extended reals. -/
theorem inproj_value : Cert.algebraic_Kernel3Ideal_Reference3Ideal (hKernel3Ideal := Cert.Kernel3Ideal.Gen.facts) (hReference3Ideal := Cert.Reference3Ideal.Gen.facts) := by
  intro m g m' g' _ hm
  refine ⟨_, Cert.Kernel3Ideal.InProj.run m g, ?_⟩
  refine (θ_run _ _ _).mono (fun r h c => ?_) (Cert.Reference3Ideal.Value.run (F := Ideal) m' g')
  obtain ⟨e0, e1, e2⟩ := hm c
  refine ⟨(h c).1.trans ?_, (h c).2⟩
  rw [e0, e1, e2]
  rfl

end Cert.Proof

end
-- ==== Proof.Layout.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.Reference4Ideal.Layout

open Cert.Reference4Ideal Cert.Reference4Ideal.Gen Idealize.ShloMosaic

/-- The weights with 116 zero columns after the first 652. -/
def result (a : FVec Ideal S1024x2956 .f32) : FVec Ideal S1024x3072 .bf16 :=
  truncf .bf16 (concatenate S1024x3072 1 [⟨S1024x652, extractStridedSlice S1024x652 ![0, 0] a slices_S1024x2956_S1024x652_0_0⟩,
    ⟨S1024x116, broadcastInDim S1024x116 ![] bcast_S_S1024x116 (constant S_ .f32 0x00000000#32)⟩,
    ⟨S1024x2304, extractStridedSlice S1024x2304 ![0, 652] a slices_S1024x2956_S1024x2304_0_652⟩] concatenates_S1024x652_S1024x116_S1024x2304_S1024x3072_d1) bitsLt_bf16_f32

theorem result_at (a : FVec Ideal S1024x2956 .f32) (k : Fin 1024) (j : Fin 3072) : result a (ix2 k j)
    = if h : j.val < 652 then a (ix2 k (⟨j.val, by omega⟩ : Fin 2956)) else if h' : j.val < 768 then (0 : EReal) else a (ix2 k (⟨j.val - 116, by omega⟩ : Fin 2956)) := by
  pointwise [result]
  by_cases h1 : j.val < 652
  · rw [dif_pos h1, dif_pos h1]
  · rw [dif_neg h1, dif_neg h1]
    by_cases h2 : j.val < 768
    · rw [dif_pos (by omega), dif_pos h2]
    · rw [dif_neg (by omega), dif_neg h2]
      congr 2
      apply Fin.ext
      show 652 + (j.val - 652 - 116) = j.val - 116
      omega

end Cert.Reference4Ideal.Layout

namespace Cert.Kernel4Ideal.Layout

open Cert.Kernel4Ideal Cert.Kernel4Ideal.Gen Idealize.ShloMosaic Idealize.ShloMosaic.TcCoe
open Idealize.SL Idealize.SL.Sem Idealize.ShloMosaic.Tactic

/-- The block the body leaves. -/
def outBlock (x0 : Vec Ideal S256x2956 .f32) : Vec Ideal S256x3072 .bf16 := fun y =>
  if h : (y 1).val < 652 then x0 (ix2 (y 0 : Fin 256) (⟨(y 1).val, by omega⟩ : Fin 2956)) else if h' : (y 1).val < 768 then (0 : EReal)
    else x0 (ix2 (y 0 : Fin 256) (⟨(y 1).val - 116, by have : (y 1).val < 3072 := (y 1).isLt; omega⟩ : Fin 2956))

/-- The first 640 columns. -/
theorem first (x0 : Vec Ideal S256x2956 .f32) (inb : ∀ a : Fin 2, (![0, 0] : Fin 2 → ℕ) a + S256x640.size a ≤ S256x2956.size a)
    (inb' : ∀ a : Fin 2, (![0, 0] : Fin 2 → ℕ) a + S256x640.size a ≤ S256x3072.size a) (x : S256x640.Idx) :
    k0_pay1 (View.ld x0 (Rect.unit (s := S256x2956) ![0, 0] S256x640.size inb)) x = outBlock x0 ((Rect.unit (s := S256x3072) ![0, 0] S256x640.size inb').emb x) := by
  have hx : (x 1).val < 640 := (x 1).isLt
  have he : (Rect.unit (s := S256x3072) ![0, 0] S256x640.size inb').emb x = ix2 (x 0 : Fin 256) (⟨(x 1).val, by omega⟩ : Fin 3072) := by
    funext a
    match a with
    | ⟨0, _⟩ => apply Fin.ext; show 0 + 1 * (x 0).val = (x 0).val; omega
    | ⟨1, _⟩ => apply Fin.ext; show 0 + 1 * (x 1).val = (x 1).val; omega
  rw [he]
  refine Eq.trans ?_ (dif_pos (show (x 1).val < 652 by omega)).symm
  idx_vars x
  pointwise [k0_pay1]

theorem lane_lt : ∀ n : Fin 128, IntOp.cmpi .slt (BitVec.ofNat 32 n.val) 12#32 = BitVec.ofBool (decide (n.val < 12)) := by decide +kernel

/-- The 128 columns that hold the last 12 before the zero columns, and the zero columns. -/
theorem middle (x0 : Vec Ideal S256x2956 .f32) (inb : ∀ a : Fin 2, (![0, 640] : Fin 2 → ℕ) a + S256x128.size a ≤ S256x2956.size a)
    (inb' : ∀ a : Fin 2, (![0, 640] : Fin 2 → ℕ) a + S256x128.size a ≤ S256x3072.size a) (x : S256x128.Idx) :
    k0_pay2 (View.ld x0 (Rect.unit (s := S256x2956) ![0, 640] S256x128.size inb)) x = outBlock x0 ((Rect.unit (s := S256x3072) ![0, 640] S256x128.size inb').emb x) := by
  have hx : (x 1).val < 128 := (x 1).isLt
  have he : (Rect.unit (s := S256x3072) ![0, 640] S256x128.size inb').emb x = ix2 (x 0 : Fin 256) (⟨640 + (x 1).val, by omega⟩ : Fin 3072) := by
    funext a
    match a with
    | ⟨0, _⟩ => apply Fin.ext; show 0 + 1 * (x 0).val = (x 0).val; omega
    | ⟨1, _⟩ => apply Fin.ext; show 640 + 1 * (x 1).val = 640 + (x 1).val; omega
  rw [he]
  have hv : outBlock x0 (ix2 (x 0 : Fin 256) (⟨640 + (x 1).val, by omega⟩ : Fin 3072))
      = if (x 1).val < 12 then x0 (ix2 (x 0 : Fin 256) (⟨640 + (x 1).val, by omega⟩ : Fin 2956)) else (0 : EReal) := by
    by_cases h : (x 1).val < 12
    · rw [if_pos h]
      exact dif_pos (show 640 + (x 1).val < 652 by omega)
    · rw [if_neg h]
      exact (dif_neg (show ¬640 + (x 1).val < 652 by omega)).trans (dif_pos (show 640 + (x 1).val < 768 by omega))
  refine Eq.trans ?_ hv.symm
  idx_vars x
  pointwise [k0_pay2]
  rw [lane_lt x1]
  by_cases h : x1.val < 12
  · rw [if_pos h, decide_eq_true h]
    rfl
  · rw [if_neg h, decide_eq_false h]
    rfl

/-- The columns behind the zero columns. -/
theorem last (x0 : Vec Ideal S256x2956 .f32) (inb : ∀ a : Fin 2, (![0, 652] : Fin 2 → ℕ) a + S256x2304.size a ≤ S256x2956.size a)
    (inb' : ∀ a : Fin 2, (![0, 768] : Fin 2 → ℕ) a + S256x2304.size a ≤ S256x3072.size a) (x : S256x2304.Idx) :
    k0_pay3 (View.ld x0 (Rect.unit (s := S256x2956) ![0, 652] S256x2304.size inb)) x = outBlock x0 ((Rect.unit (s := S256x3072) ![0, 768] S256x2304.size inb').emb x) := by
  have hx : (x 1).val < 2304 := (x 1).isLt
  have he : (Rect.unit (s := S256x3072) ![0, 768] S256x2304.size inb').emb x = ix2 (x 0 : Fin 256) (⟨768 + (x 1).val, by omega⟩ : Fin 3072) := by
    funext a
    match a with
    | ⟨0, _⟩ => apply Fin.ext; show 0 + 1 * (x 0).val = (x 0).val; omega
    | ⟨1, _⟩ => apply Fin.ext; show 768 + 1 * (x 1).val = 768 + (x 1).val; omega
  rw [he]
  refine Eq.trans ?_ ((dif_neg (show ¬768 + (x 1).val < 652 by omega)).trans (dif_neg (show ¬768 + (x 1).val < 768 by omega))).symm
  have hi : (⟨768 + (x 1).val - 116, by omega⟩ : Fin 2956) = ⟨652 + (x 1).val, by omega⟩ := Fin.ext (by show 768 + (x 1).val - 116 = 652 + (x 1).val; omega)
  refine Eq.trans ?_ (congrArg (fun z => x0 (ix2 (x 0 : Fin 256) z)) hi).symm
  idx_vars x
  pointwise [k0_pay3]

/-- What the body leaves in the output's staging buffer. -/
theorem out_eq (c : Dev nD) (i : grid0.Coords) (arg1 : Memref sig .tc .vmem S256x2956 .f32) (harg1 : arg1.IsWhole)
    (arg2 : Memref sig .tc .vmem S256x3072 .bf16) (harg2 : arg2.IsWhole) (x0 : Vec Ideal S256x2956 .f32) :
    out0_A_1 c i arg1 harg1 arg2 harg2 x0 = outBlock x0 := by
  unfold out0_A_1
  rw [View.read_writes_junk_eq_canon]
  unfold kernelRun0_A
  dsimp only
  sl_unfold_words
  simp only [View.readAt_eq_ld, harg1.read_unread]
  funext y
  refine View.canon_apply_of_pieces (outBlock x0) _ ?_ y (View.cover_of_tiledBy _ ![256, 128] (by sl_kernel_rfl) y)
  refine View.PiecesOf.mem ?_
  exact ⟨fun x => last x0 inb_S256x2956_S256x2304_0_652 inb_S256x3072_S256x2304_0_768 x, fun x => middle x0 inb_S256x2956_S256x128_0_640 inb_S256x3072_S256x128_0_640 x,
    fun x => first x0 inb_S256x2956_S256x640_0_0 inb_S256x3072_S256x640_0_0 x, trivial⟩

variable (m : (ℓ : Loc nD τ sig) → Buf (Elt Ideal) ℓ) (ρ : Dev nD → PrngReg)

/-- Both windows' row blocks move with the point. -/
theorem idx : ∀ t : Fin cfg0.N, win0_0.index t = ![t.val, 0] ∧ win0_1.index t = ![t.val, 0] := (by decide +kernel : ∀ t : Fin grid0.N, _)

/-- A point indexes one of the array's 4 row blocks. -/
theorem lt4 (t : Fin cfg0.N) : t.val < 4 := (N_0 : cfg0.N = 4) ▸ t.isLt

/-- The rows a point reads. -/
theorem block0 (c : Dev nD) (t : Fin cfg0.N) (r : Fin 256) (j : Fin 2956) (h : t.val * 256 + r.val < 1024) :
    iblk m c 0 t (ix2 r j) = m ((c : Thread nD τ).loc main_arg0) (ix2 (⟨t.val * 256 + r.val, h⟩ : Fin 1024) j) := by
  blk_point [iblk, V, idx t]

/-- Where an index of the output block lies in the output array. -/
theorem emb1 (t : Fin cfg0.N) (y : S256x3072.Idx) : ((cfg0.win 1).blk t).view.emb y
    = ix2 (⟨t.val * 256 + (y 0).val, by have := lt4 t; have : (y 0).val < 256 := (y 0).isLt; omega⟩ : Fin 1024) (y 1 : Fin 3072) := by
  obtain ⟨-, h⟩ := idx t
  funext a
  match a with
  | ⟨0, _⟩ => apply Fin.ext; show win0_1.index t (0 : Fin 2) * 256 + 1 * (y 0).val = t.val * 256 + (y 0).val; rw [h]; show t.val * 256 + 1 * (y 0).val = t.val * 256 + (y 0).val; omega
  | ⟨1, _⟩ => apply Fin.ext; show win0_1.index t (1 : Fin 2) * 3072 + 1 * (y 1).val = (y 1).val; rw [h]; show 0 * 3072 + 1 * (y 1).val = (y 1).val; omega

/-- A block's value is the reference's at the block's place in the array. -/
theorem point (c : Dev nD) (t : Fin cfg0.N) (y : S256x3072.Idx) :
    outBlock (iblk m c 0 t) y = Cert.Reference4Ideal.Layout.result (m ((c : Thread nD τ).loc main_arg0)) (((cfg0.win 1).blk t).view.emb y) := by
  have h : t.val * 256 + (y 0).val < 1024 := by have := lt4 t; have : (y 0).val < 256 := (y 0).isLt; omega
  rw [emb1 t y]
  refine Eq.trans ?_ (Cert.Reference4Ideal.Layout.result_at _ _ _).symm
  unfold outBlock
  by_cases h1 : (y 1).val < 652
  · rw [dif_pos h1, dif_pos h1]
    exact block0 m c t _ _ h
  · rw [dif_neg h1, dif_neg h1]
    by_cases h2 : (y 1).val < 768
    · rw [dif_pos h2, dif_pos h2]
    · rw [dif_neg h2, dif_neg h2]
      exact block0 m c t _ _ h

/-- What a point writes back is its block of the reference's result. -/
theorem flushed (c : Dev nD) (t : Fin cfg0.N) :
    (dats m 0 c).flushed 1 t = ((cfg0.win 1).blk t).view.read (Elt Ideal) (Cert.Reference4Ideal.Layout.result (m ((c : Thread nD τ).loc main_arg0))) := by
  rw [Value.flushed1_A, out_eq]
  funext y
  exact point m c t y

/-- Every row of the result lies in some point's block. -/
theorem covered (i : S1024x3072.Idx) : ∃ t : Fin cfg0.N, (cfg0.win 1).flush t = true ∧ i ∈ ((cfg0.win 1).blk t).view.set := by
  have h0 : (i 0).val < 1024 := (i 0).isLt
  obtain ⟨t, ht⟩ : ∃ t : Fin cfg0.N, t.val = (i 0).val / 256 := ⟨⟨(i 0).val / 256, by rw [show cfg0.N = 4 from N_0]; omega⟩, rfl⟩
  refine ⟨t, flush0_1 t, ?_⟩
  have h := ((cfg0.win 1).blk t).view.emb_mem_set (ix2 (⟨(i 0).val % 256, by omega⟩ : Fin 256) (i 1 : Fin 3072))
  have he : ((cfg0.win 1).blk t).view.emb (ix2 (⟨(i 0).val % 256, by omega⟩ : Fin 256) (i 1 : Fin 3072)) = i := by
    refine (emb1 t _).trans ?_
    funext a
    match a with
    | ⟨0, _⟩ => apply Fin.ext; show t.val * 256 + (i 0).val % 256 = (i 0).val; omega
    | ⟨1, _⟩ => rfl
  rw [he] at h
  exact h

/-- The call's result array after the run is the reference's function of the weights. -/
theorem run : θ_run defs (onTc (τ := τ) (main (F := Ideal))) ⟨m, fun _ => 0, ρ⟩ fun r => ∀ c : Dev nD,
      r.2.mem ((c : Thread nD τ).loc main_v0) = Cert.Reference4Ideal.Layout.result (m ((c : Thread nD τ).loc main_arg0))
      ∧ r.2.mem ((c : Thread nD τ).loc main_arg0) = m ((c : Thread nD τ).loc main_arg0) :=
  (θ_run defs _ _).mono (fun r h c => ⟨(h c).1.trans ((dats m 0 c).arrAt_eq_of_cover 1 _ (fun t _ => flushed m c t) covered), (h c).2⟩) (Value.run_blocks m ρ)

end Cert.Kernel4Ideal.Layout

namespace Cert.Proof

open Idealize.ShloMosaic Idealize.SL.Sem

/-- The layout call and its reference give the same array. -/
theorem layout_value : Cert.algebraic_Kernel4Ideal_Reference4Ideal (hKernel4Ideal := Cert.Kernel4Ideal.Gen.facts) (hReference4Ideal := Cert.Reference4Ideal.Gen.facts) := by
  intro m g m' g' _ hm
  refine ⟨_, Cert.Kernel4Ideal.Layout.run m g, ?_⟩
  refine (θ_run _ _ _).mono (fun r h c => ?_) (Cert.Reference4Ideal.Value.run (F := Ideal) m' g')
  have e0 := hm c
  refine ⟨(h c).1.trans ?_, (h c).2⟩
  rw [e0]
  rfl

end Cert.Proof

end
-- ==== Proof.MixBlocks.lean ====
module

public import proofs.«01_k».proof.Defs
public import proofs.«01_k».proof.Proof.Gen.Kernel5Ideal.Frame
public import Idealize.ShloMosaic.Lib.Pointwise
public import Idealize.ShloMosaic.Lib.Routing.OpsOne
public import Idealize.ShloMosaic.Lib.Pipeline.ValueKit
public import Idealize.ShloMosaic.Lib.Pipeline.ValueKit.Point

@[expose] public section

set_option maxRecDepth 16384

noncomputable section

namespace Cert.Kernel5Ideal.Mix

open Cert.Kernel5Ideal Cert.Kernel5Ideal.Gen Idealize.ShloMosaic Idealize.ShloMosaic.TcCoe
open Idealize.SL Idealize.SL.Sem Idealize.ShloMosaic.Tactic

variable (m : (ℓ : Loc nD τ sig) → Buf (Elt Ideal) ℓ) (ρ : Dev nD → PrngReg)

/-- The projection with its rows flattened. -/
def flat (a : FVec Ideal S8x4096x2956 .f32) : FVec Ideal S32768x2956 .f32 := shapeCast _ a shapeCasts_S8x4096x2956_S32768x2956

/-- The array that the kernel reads: 116 zero columns stand between the projection's first 652 columns and the rest. -/
def padded (a : FVec Ideal S8x4096x2956 .f32) : FVec Ideal S32768x3072 .f32 :=
  concatenate S32768x3072 1 [⟨S32768x652, extractStridedSlice S32768x652 ![0, 0] (flat a) slices_S32768x2956_S32768x652_0_0⟩,
    ⟨S32768x116, broadcastInDim S32768x116 ![] bcast_S_S32768x116 (constant S_ .f32 0x00000000#32)⟩,
    ⟨S32768x2304, extractStridedSlice S32768x2304 ![0, 652] (flat a) slices_S32768x2956_S32768x2304_0_652⟩] concatenates_S32768x652_S32768x116_S32768x2304_S32768x3072_d1

/-- The first mixer's heads, 512 positions to a block, features before positions. -/
def tileA (a : FVec Ideal S8x4x4096x64 .f32) : FVec Ideal S64x256x512 .f32 :=
  shapeCast _ (transpose S8x8x4x64x512 [0, 2, 1, 4, 3] (shapeCast S8x4x8x512x64 a shapeCasts_S8x4x4096x64_S8x4x8x512x64) transposes_S8x4x8x512x64_S8x8x4x64x512_0_2_1_4_3) shapeCasts_S8x8x4x64x512_S64x256x512

/-- The third mixer's heads, 256 positions to a block. -/
def tileC (a : FVec Ideal S8x4x4096x64 .f32) : FVec Ideal S128x256x256 .f32 :=
  shapeCast _ (transpose S8x16x4x64x256 [0, 2, 1, 4, 3] (shapeCast S8x4x16x256x64 a shapeCasts_S8x4x4096x64_S8x4x16x256x64) transposes_S8x4x16x256x64_S8x16x4x64x256_0_2_1_4_3) shapeCasts_S8x16x4x64x256_S128x256x256

/-- The fourth mixer's heads, a block's positions sorted by their residue modulo 16. -/
def tileD (a : FVec Ideal S8x4x4096x64 .f32) : FVec Ideal S64x256x512 .f32 :=
  shapeCast _ (transpose S8x8x4x64x16x32 [0, 2, 1, 5, 4, 3] (shapeCast S8x4x8x32x16x64 a shapeCasts_S8x4x4096x64_S8x4x8x32x16x64) transposes_S8x4x8x32x16x64_S8x8x4x64x16x32_0_2_1_5_4_3) shapeCasts_S8x8x4x64x16x32_S64x256x512

/-- The row at which the convolution's weights are written: the first. -/
abbrev top : IVec S1 32 := broadcastInDim S1 ![] bcast_S_S1 (constantI S_ 32 0#32)

/-- The convolution's weights, written over the first three of eight zero rows. -/
def taps (a : FVec Ideal S3x256 .f32) : FVec Ideal S8x256 .f32 :=
  Host.scatter scatter_S8x256_S1_S3x256_01_n_0_0 (fun _ b => b) (broadcastInDim S8x256 ![] bcast_S_S8x256 (constant S_ .f32 0x00000000#32)) top a

set_option maxHeartbeats 4000000 in
theorem V_padded (c : Dev nD) : V m c main_v4 = padded (m ((c : Thread nD τ).loc main_arg1)) := by
  unfold padded flat
  simp only [V, hostOps0, List.flatten_cons, List.flatten_nil, List.append_nil, List.cons_append, List.nil_append]
  after_results_simp <;> rfl

set_option maxHeartbeats 4000000 in
theorem V_tileA (c : Dev nD) : V m c main_v7 = tileA (m ((c : Thread nD τ).loc main_arg2)) := by
  unfold tileA
  simp only [V, hostOps0, List.flatten_cons, List.flatten_nil, List.append_nil, List.cons_append, List.nil_append]
  after_results_simp <;> rfl

set_option maxHeartbeats 4000000 in
theorem V_tileC (c : Dev nD) : V m c main_v10 = tileC (m ((c : Thread nD τ).loc main_arg3)) := by
  unfold tileC
  simp only [V, hostOps0, List.flatten_cons, List.flatten_nil, List.append_nil, List.cons_append, List.nil_append]
  after_results_simp <;> rfl

set_option maxHeartbeats 4000000 in
theorem V_tileD (c : Dev nD) : V m c main_v13 = tileD (m ((c : Thread nD τ).loc main_arg4)) := by
  unfold tileD
  simp only [V, hostOps0, List.flatten_cons, List.flatten_nil, List.append_nil, List.cons_append, List.nil_append]
  after_results_simp <;> rfl

set_option maxHeartbeats 4000000 in
theorem V_taps (c : Dev nD) : V m c main_v16 = taps (m ((c : Thread nD τ).loc main_arg5)) := by
  unfold taps
  simp only [V, hostOps0, List.flatten_cons, List.flatten_nil, List.append_nil, List.cons_append, List.nil_append]
  after_results_simp <;> rfl

theorem flat_at (a : FVec Ideal S8x4096x2956 .f32) (R : Fin 32768) (j : Fin 2956) :
    flat a (ix2 R j) = a (ix3 (⟨R.val / 4096, by omega⟩ : Fin 8) (⟨R.val % 4096, by omega⟩ : Fin 4096) j) := by
  pointwise [flat]

/-- A column behind the zero columns. -/
theorem padded_at (a : FVec Ideal S8x4096x2956 .f32) (R : Fin 32768) (j : ℕ) (hj : j < 2304) :
    padded a (ix2 R (⟨768 + j, by omega⟩ : Fin 3072)) = a (ix3 (⟨R.val / 4096, by omega⟩ : Fin 8) (⟨R.val % 4096, by omega⟩ : Fin 4096) (⟨652 + j, by omega⟩ : Fin 2956)) := by
  refine Eq.trans ?_ (flat_at a R _)
  pointwise [padded]
  rw [dif_neg (by omega), dif_neg (by omega)]
  congr 2
  apply Fin.ext
  dsimp only
  omega

theorem tileA_at (a : FVec Ideal S8x4x4096x64 .f32) (P : Fin 64) (j : Fin 256) (r : Fin 512) :
    tileA a (ix3 P j r) = a (ix4 (⟨P.val / 8, by omega⟩ : Fin 8) (⟨j.val / 64, by omega⟩ : Fin 4) (⟨512 * (P.val % 8) + r.val, by omega⟩ : Fin 4096) (⟨j.val % 64, by omega⟩ : Fin 64)) := by
  pointwise [tileA]
  exact congrArg (fun b => a (ix4 _ _ b _)) (Fin.ext (by dsimp only; omega))

theorem tileC_at (a : FVec Ideal S8x4x4096x64 .f32) (P : Fin 128) (j : Fin 256) (r : Fin 256) :
    tileC a (ix3 P j r) = a (ix4 (⟨P.val / 16, by omega⟩ : Fin 8) (⟨j.val / 64, by omega⟩ : Fin 4) (⟨256 * (P.val % 16) + r.val, by omega⟩ : Fin 4096) (⟨j.val % 64, by omega⟩ : Fin 64)) := by
  pointwise [tileC]
  exact congrArg (fun b => a (ix4 _ _ b _)) (Fin.ext (by dsimp only; omega))

theorem tileD_at (a : FVec Ideal S8x4x4096x64 .f32) (P : Fin 64) (j : Fin 256) (r : Fin 512) :
    tileD a (ix3 P j r) = a (ix4 (⟨P.val / 8, by omega⟩ : Fin 8) (⟨j.val / 64, by omega⟩ : Fin 4) (⟨512 * (P.val % 8) + (16 * (r.val % 32) + r.val / 32), by omega⟩ : Fin 4096) (⟨j.val % 64, by omega⟩ : Fin 64)) := by
  pointwise [tileD]
  exact congrArg (fun b => a (ix4 _ _ b _)) (Fin.ext (by dsimp only; omega))

/-- A written entry lands in its own row and column. -/
theorem lands (k : Fin 3) (j : Fin 256) (r : Fin 8) (c : Fin 256) :
    scatter_S8x256_S1_S3x256_01_n_0_0.resultIdx? (ix2 k j) top = some (ix2 r c) ↔ k.val = r.val ∧ j.val = c.val := by
  have hk : scatter_S8x256_S1_S3x256_01_n_0_0.sKept = [0, 1] := rfl
  have w0 : scatter_S8x256_S1_S3x256_01_n_0_0.window (ix2 k j) 0 = k.val := by
    unfold ScatterDims.window
    rw [dif_pos (by rw [hk]; simp)]
    rfl
  have w1 : scatter_S8x256_S1_S3x256_01_n_0_0.window (ix2 k j) 1 = j.val := by
    unfold ScatterDims.window
    rw [dif_pos (by rw [hk]; simp)]
    rfl
  have s0 : scatter_S8x256_S1_S3x256_01_n_0_0.start (ix2 k j) top 0 = 0 := by
    unfold ScatterDims.start
    split
    · rfl
    · rfl
  have s1 : scatter_S8x256_S1_S3x256_01_n_0_0.start (ix2 k j) top 1 = 0 := by
    unfold ScatterDims.start
    split
    · rfl
    · rfl
  refine (Routing.resultIdx?_ix2 _ _ _ r c).trans ?_
  rw [w0, w1, s0, s1]
  omega

theorem taps_at (a : FVec Ideal S3x256 .f32) (k : Fin 3) (j : Fin 256) : taps a (ix2 (⟨k.val, by omega⟩ : Fin 8) j) = a (ix2 k j) := by
  refine Routing.scatter_set_hit _ _ _ _ _ _ (fun q hq => ?_) (ix2 k j) ((lands k j _ j).2 ⟨rfl, rfl⟩)
  obtain ⟨u, v, rfl⟩ : ∃ (u : Fin 3) (v : Fin 256), q = ix2 u v := ⟨q 0, q 1, by funext b; match b with | ⟨0, _⟩ => rfl | ⟨1, _⟩ => rfl⟩
  obtain ⟨h0, h1⟩ := (lands u v _ j).1 hq
  rw [Fin.ext h0, Fin.ext h1]

/-- Where each window's block lies. -/
theorem idx : ∀ t : Fin cfg0.N, win0_0.index t = ![t.val, 0] ∧ win0_1.index t = ![t.val, 0, 0] ∧ win0_2.index t = ![t.val, 3] ∧ win0_3.index t = ![t.val, 4]
    ∧ win0_4.index t = ![t.val, 5] ∧ win0_5.index t = ![64 * t.val - 1, 4] ∧ win0_6.index t = ![64 * t.val - 1, 5] ∧ win0_7.index t = ![t.val, 0, 0]
    ∧ win0_8.index t = ![t.val, 0, 0] ∧ win0_9.index t = ![0, 0] ∧ win0_10.index t = ![0, 0] ∧ win0_11.index t = ![0, 0] ∧ win0_12.index t = ![t.val, 0] :=
  (by decide +kernel : ∀ t : Fin grid0.N, _)

theorem lt64 (t : Fin cfg0.N) : t.val < 64 := (N_0 : cfg0.N = 64) ▸ t.isLt

theorem emb0 (t : Fin cfg0.N) (r : Fin 512) (k : Fin 1024) : ((cfg0.win 0).blk t).view.emb (ix2 r k)
    = ix2 (⟨512 * t.val + r.val, by have := lt64 t; omega⟩ : Fin 32768) k := by
  obtain ⟨h, -⟩ := idx t
  have := lt64 t
  funext a
  match a with
  | ⟨0, _⟩ => apply Fin.ext; show win0_0.index t (0 : Fin 2) * 512 + 1 * r.val = 512 * t.val + r.val; rw [h]; show t.val * 512 + 1 * r.val = 512 * t.val + r.val; omega
  | ⟨1, _⟩ => apply Fin.ext; show win0_0.index t (1 : Fin 2) * 1024 + 1 * k.val = k.val; rw [h]; show 0 * 1024 + 1 * k.val = k.val; omega

theorem emb1 (t : Fin cfg0.N) (j : Fin 256) (r : Fin 512) : ((cfg0.win 1).blk t).view.emb (ix3 (0 : Fin 1) j r)
    = ix3 (⟨t.val, lt64 t⟩ : Fin 64) j r := by
  obtain ⟨-, h, -⟩ := idx t
  have := lt64 t
  funext a
  match a with
  | ⟨0, _⟩ => apply Fin.ext; show win0_1.index t (0 : Fin 3) * 1 + 1 * 0 = t.val; rw [h]; show t.val * 1 + 1 * 0 = t.val; omega
  | ⟨1, _⟩ => apply Fin.ext; show win0_1.index t (1 : Fin 3) * 256 + 1 * j.val = j.val; rw [h]; show 0 * 256 + 1 * j.val = j.val; omega
  | ⟨2, _⟩ => apply Fin.ext; show win0_1.index t (2 : Fin 3) * 512 + 1 * r.val = r.val; rw [h]; show 0 * 512 + 1 * r.val = r.val; omega

theorem emb2 (t : Fin cfg0.N) (r : Fin 512) (k : Fin 256) : ((cfg0.win 2).blk t).view.emb (ix2 r k)
    = ix2 (⟨512 * t.val + r.val, by have := lt64 t; omega⟩ : Fin 32768) (⟨768 + (0 + k.val), by omega⟩ : Fin 3072) := by
  obtain ⟨-, -, h, -⟩ := idx t
  have := lt64 t
  funext a
  match a with
  | ⟨0, _⟩ => apply Fin.ext; show win0_2.index t (0 : Fin 2) * 512 + 1 * r.val = 512 * t.val + r.val; rw [h]; show t.val * 512 + 1 * r.val = 512 * t.val + r.val; omega
  | ⟨1, _⟩ => apply Fin.ext; show win0_2.index t (1 : Fin 2) * 256 + 1 * k.val = 768 + (0 + k.val); rw [h]; show 3 * 256 + 1 * k.val = 768 + (0 + k.val); omega

theorem emb3 (t : Fin cfg0.N) (r : Fin 512) (k : Fin 256) : ((cfg0.win 3).blk t).view.emb (ix2 r k)
    = ix2 (⟨512 * t.val + r.val, by have := lt64 t; omega⟩ : Fin 32768) (⟨768 + (256 + k.val), by omega⟩ : Fin 3072) := by
  obtain ⟨-, -, -, h, -⟩ := idx t
  have := lt64 t
  funext a
  match a with
  | ⟨0, _⟩ => apply Fin.ext; show win0_3.index t (0 : Fin 2) * 512 + 1 * r.val = 512 * t.val + r.val; rw [h]; show t.val * 512 + 1 * r.val = 512 * t.val + r.val; omega
  | ⟨1, _⟩ => apply Fin.ext; show win0_3.index t (1 : Fin 2) * 256 + 1 * k.val = 768 + (256 + k.val); rw [h]; show 4 * 256 + 1 * k.val = 768 + (256 + k.val); omega

theorem emb4 (t : Fin cfg0.N) (r : Fin 512) (k : Fin 256) : ((cfg0.win 4).blk t).view.emb (ix2 r k)
    = ix2 (⟨512 * t.val + r.val, by have := lt64 t; omega⟩ : Fin 32768) (⟨768 + (512 + k.val), by omega⟩ : Fin 3072) := by
  obtain ⟨-, -, -, -, h, -⟩ := idx t
  have := lt64 t
  funext a
  match a with
  | ⟨0, _⟩ => apply Fin.ext; show win0_4.index t (0 : Fin 2) * 512 + 1 * r.val = 512 * t.val + r.val; rw [h]; show t.val * 512 + 1 * r.val = 512 * t.val + r.val; omega
  | ⟨1, _⟩ => apply Fin.ext; show win0_4.index t (1 : Fin 2) * 256 + 1 * k.val = 768 + (512 + k.val); rw [h]; show 5 * 256 + 1 * k.val = 768 + (512 + k.val); omega

theorem emb5 (t : Fin cfg0.N) (r : Fin 8) (k : Fin 256) : ((cfg0.win 5).blk t).view.emb (ix2 r k)
    = ix2 (⟨8 * (64 * t.val - 1) + r.val, by have := lt64 t; omega⟩ : Fin 32768) (⟨768 + (256 + k.val), by omega⟩ : Fin 3072) := by
  obtain ⟨-, -, -, -, -, h, -⟩ := idx t
  have := lt64 t
  funext a
  match a with
  | ⟨0, _⟩ => apply Fin.ext; show win0_5.index t (0 : Fin 2) * 8 + 1 * r.val = 8 * (64 * t.val - 1) + r.val; rw [h]; show (64 * t.val - 1) * 8 + 1 * r.val = 8 * (64 * t.val - 1) + r.val; omega
  | ⟨1, _⟩ => apply Fin.ext; show win0_5.index t (1 : Fin 2) * 256 + 1 * k.val = 768 + (256 + k.val); rw [h]; show 4 * 256 + 1 * k.val = 768 + (256 + k.val); omega

theorem emb6 (t : Fin cfg0.N) (r : Fin 8) (k : Fin 256) : ((cfg0.win 6).blk t).view.emb (ix2 r k)
    = ix2 (⟨8 * (64 * t.val - 1) + r.val, by have := lt64 t; omega⟩ : Fin 32768) (⟨768 + (512 + k.val), by omega⟩ : Fin 3072) := by
  obtain ⟨-, -, -, -, -, -, h, -⟩ := idx t
  have := lt64 t
  funext a
  match a with
  | ⟨0, _⟩ => apply Fin.ext; show win0_6.index t (0 : Fin 2) * 8 + 1 * r.val = 8 * (64 * t.val - 1) + r.val; rw [h]; show (64 * t.val - 1) * 8 + 1 * r.val = 8 * (64 * t.val - 1) + r.val; omega
  | ⟨1, _⟩ => apply Fin.ext; show win0_6.index t (1 : Fin 2) * 256 + 1 * k.val = 768 + (512 + k.val); rw [h]; show 5 * 256 + 1 * k.val = 768 + (512 + k.val); omega

theorem emb7 (t : Fin cfg0.N) (u : Fin 2) (j : Fin 256) (r : Fin 256) : ((cfg0.win 7).blk t).view.emb (ix3 u j r)
    = ix3 (⟨2 * t.val + u.val, by have := lt64 t; omega⟩ : Fin 128) j r := by
  obtain ⟨-, -, -, -, -, -, -, h, -⟩ := idx t
  have := lt64 t
  funext a
  match a with
  | ⟨0, _⟩ => apply Fin.ext; show win0_7.index t (0 : Fin 3) * 2 + 1 * u.val = 2 * t.val + u.val; rw [h]; show t.val * 2 + 1 * u.val = 2 * t.val + u.val; omega
  | ⟨1, _⟩ => apply Fin.ext; show win0_7.index t (1 : Fin 3) * 256 + 1 * j.val = j.val; rw [h]; show 0 * 256 + 1 * j.val = j.val; omega
  | ⟨2, _⟩ => apply Fin.ext; show win0_7.index t (2 : Fin 3) * 256 + 1 * r.val = r.val; rw [h]; show 0 * 256 + 1 * r.val = r.val; omega

theorem emb8 (t : Fin cfg0.N) (j : Fin 256) (r : Fin 512) : ((cfg0.win 8).blk t).view.emb (ix3 (0 : Fin 1) j r)
    = ix3 (⟨t.val, lt64 t⟩ : Fin 64) j r := by
  obtain ⟨-, -, -, -, -, -, -, -, h, -⟩ := idx t
  have := lt64 t
  funext a
  match a with
  | ⟨0, _⟩ => apply Fin.ext; show win0_8.index t (0 : Fin 3) * 1 + 1 * 0 = t.val; rw [h]; show t.val * 1 + 1 * 0 = t.val; omega
  | ⟨1, _⟩ => apply Fin.ext; show win0_8.index t (1 : Fin 3) * 256 + 1 * j.val = j.val; rw [h]; show 0 * 256 + 1 * j.val = j.val; omega
  | ⟨2, _⟩ => apply Fin.ext; show win0_8.index t (2 : Fin 3) * 512 + 1 * r.val = r.val; rw [h]; show 0 * 512 + 1 * r.val = r.val; omega

theorem emb9 (t : Fin cfg0.N) (r : Fin 8) (k : Fin 256) : ((cfg0.win 9).blk t).view.emb (ix2 r k)
    = ix2 r k := by
  obtain ⟨-, -, -, -, -, -, -, -, -, h, -⟩ := idx t
  have := lt64 t
  funext a
  match a with
  | ⟨0, _⟩ => apply Fin.ext; show win0_9.index t (0 : Fin 2) * 8 + 1 * r.val = r.val; rw [h]; show 0 * 8 + 1 * r.val = r.val; omega
  | ⟨1, _⟩ => apply Fin.ext; show win0_9.index t (1 : Fin 2) * 256 + 1 * k.val = k.val; rw [h]; show 0 * 256 + 1 * k.val = k.val; omega

theorem emb12 (t : Fin cfg0.N) (r : Fin 512) (k : Fin 1024) : ((cfg0.win 12).blk t).view.emb (ix2 r k)
    = ix2 (⟨512 * t.val + r.val, by have := lt64 t; omega⟩ : Fin 32768) k := by
  obtain ⟨-, -, -, -, -, -, -, -, -, -, -, -, h⟩ := idx t
  have := lt64 t
  funext a
  match a with
  | ⟨0, _⟩ => apply Fin.ext; show win0_12.index t (0 : Fin 2) * 512 + 1 * r.val = 512 * t.val + r.val; rw [h]; show t.val * 512 + 1 * r.val = 512 * t.val + r.val; omega
  | ⟨1, _⟩ => apply Fin.ext; show win0_12.index t (1 : Fin 2) * 1024 + 1 * k.val = k.val; rw [h]; show 0 * 1024 + 1 * k.val = k.val; omega

/-- The rows of the residual stream that a point reads. -/
theorem block0 (c : Dev nD) (t : Fin cfg0.N) (r : Fin 512) (k : Fin 1024) : iblk m c 0 t (ix2 r k)
    = m ((c : Thread nD τ).loc main_arg0) (ix3 (⟨(512 * t.val + r.val) / 4096, by have := lt64 t; omega⟩ : Fin 8) (⟨(512 * t.val + r.val) % 4096, by omega⟩ : Fin 4096) k) := by
  have := lt64 t
  blk_point [iblk, V, idx t]

theorem block10 (c : Dev nD) (t : Fin cfg0.N) (k : Fin 1024) : iblk m c 10 t (ix2 (0 : Fin 1) k) = m ((c : Thread nD τ).loc main_arg6) (ix1 k) := by
  blk_point [iblk, V, idx t]

theorem block11 (c : Dev nD) (t : Fin cfg0.N) (k j : Fin 1024) : iblk m c 11 t (ix2 k j) = m ((c : Thread nD τ).loc main_arg7) (ix2 k j) := by
  blk_point [iblk, V, idx t]

theorem block1 (c : Dev nD) (t : Fin cfg0.N) (j : Fin 256) (r : Fin 512) : iblk m c 1 t (ix3 (0 : Fin 1) j r)
    = m ((c : Thread nD τ).loc main_arg2) (ix4 (⟨t.val / 8, by have := lt64 t; omega⟩ : Fin 8) (⟨j.val / 64, by omega⟩ : Fin 4) (⟨512 * (t.val % 8) + r.val, by omega⟩ : Fin 4096) (⟨j.val % 64, by omega⟩ : Fin 64)) := by
  show V m c main_v7 (((cfg0.win 1).blk t).view.emb (ix3 (0 : Fin 1) j r)) = _
  rw [V_tileA, emb1]
  exact tileA_at _ _ _ _

theorem block8 (c : Dev nD) (t : Fin cfg0.N) (j : Fin 256) (r : Fin 512) : iblk m c 8 t (ix3 (0 : Fin 1) j r)
    = m ((c : Thread nD τ).loc main_arg4) (ix4 (⟨t.val / 8, by have := lt64 t; omega⟩ : Fin 8) (⟨j.val / 64, by omega⟩ : Fin 4) (⟨512 * (t.val % 8) + (16 * (r.val % 32) + r.val / 32), by omega⟩ : Fin 4096) (⟨j.val % 64, by omega⟩ : Fin 64)) := by
  show V m c main_v13 (((cfg0.win 8).blk t).view.emb (ix3 (0 : Fin 1) j r)) = _
  rw [V_tileD, emb8]
  exact tileD_at _ _ _ _

theorem block7 (c : Dev nD) (t : Fin cfg0.N) (u : Fin 2) (j : Fin 256) (r : Fin 256) : iblk m c 7 t (ix3 u j r)
    = m ((c : Thread nD τ).loc main_arg3) (ix4 (⟨t.val / 8, by have := lt64 t; omega⟩ : Fin 8) (⟨j.val / 64, by omega⟩ : Fin 4) (⟨512 * (t.val % 8) + (256 * u.val + r.val), by omega⟩ : Fin 4096) (⟨j.val % 64, by omega⟩ : Fin 64)) := by
  show V m c main_v10 (((cfg0.win 7).blk t).view.emb (ix3 u j r)) = _
  rw [V_tileC, emb7]
  refine (tileC_at _ _ _ _).trans ?_
  have := lt64 t
  exact congrArg₂ (fun a b => m ((c : Thread nD τ).loc main_arg3) (ix4 a (⟨j.val / 64, by omega⟩ : Fin 4) b (⟨j.val % 64, by omega⟩ : Fin 64)))
    (Fin.ext (by show (2 * t.val + u.val) / 16 = t.val / 8; omega)) (Fin.ext (by show 256 * ((2 * t.val + u.val) % 16) + r.val = 512 * (t.val % 8) + (256 * u.val + r.val); omega))

theorem block9 (c : Dev nD) (t : Fin cfg0.N) (r : Fin 3) (k : Fin 256) : iblk m c 9 t (ix2 (⟨r.val, by omega⟩ : Fin 8) k) = m ((c : Thread nD τ).loc main_arg5) (ix2 r k) := by
  show V m c main_v16 (((cfg0.win 9).blk t).view.emb (ix2 (⟨r.val, by omega⟩ : Fin 8) k)) = _
  rw [V_taps, emb9]
  exact taps_at _ r k

theorem block2 (c : Dev nD) (t : Fin cfg0.N) (r : Fin 512) (k : Fin 256) : iblk m c 2 t (ix2 r k)
    = m ((c : Thread nD τ).loc main_arg1) (ix3 (⟨t.val / 8, by have := lt64 t; omega⟩ : Fin 8) (⟨512 * (t.val % 8) + r.val, by omega⟩ : Fin 4096) (⟨652 + k.val, by omega⟩ : Fin 2956)) := by
  show V m c main_v4 (((cfg0.win 2).blk t).view.emb (ix2 r k)) = _
  rw [V_padded, emb2]
  refine (padded_at _ _ (0 + k.val) (by omega)).trans ?_
  congr 1
  funext a
  have := lt64 t
  match a with
  | ⟨0, _⟩ => apply Fin.ext; show (512 * t.val + r.val) / 4096 = t.val / 8; omega
  | ⟨1, _⟩ => apply Fin.ext; show (512 * t.val + r.val) % 4096 = 512 * (t.val % 8) + r.val; omega
  | ⟨2, _⟩ => apply Fin.ext; show 652 + (0 + k.val) = 652 + k.val; omega

theorem block3 (c : Dev nD) (t : Fin cfg0.N) (r : Fin 512) (k : Fin 256) : iblk m c 3 t (ix2 r k)
    = m ((c : Thread nD τ).loc main_arg1) (ix3 (⟨t.val / 8, by have := lt64 t; omega⟩ : Fin 8) (⟨512 * (t.val % 8) + r.val, by omega⟩ : Fin 4096) (⟨908 + k.val, by omega⟩ : Fin 2956)) := by
  show V m c main_v4 (((cfg0.win 3).blk t).view.emb (ix2 r k)) = _
  rw [V_padded, emb3]
  refine (padded_at _ _ (256 + k.val) (by omega)).trans ?_
  congr 1
  funext a
  have := lt64 t
  match a with
  | ⟨0, _⟩ => apply Fin.ext; show (512 * t.val + r.val) / 4096 = t.val / 8; omega
  | ⟨1, _⟩ => apply Fin.ext; show (512 * t.val + r.val) % 4096 = 512 * (t.val % 8) + r.val; omega
  | ⟨2, _⟩ => apply Fin.ext; show 652 + (256 + k.val) = 908 + k.val; omega

theorem block4 (c : Dev nD) (t : Fin cfg0.N) (r : Fin 512) (k : Fin 256) : iblk m c 4 t (ix2 r k)
    = m ((c : Thread nD τ).loc main_arg1) (ix3 (⟨t.val / 8, by have := lt64 t; omega⟩ : Fin 8) (⟨512 * (t.val % 8) + r.val, by omega⟩ : Fin 4096) (⟨1164 + k.val, by omega⟩ : Fin 2956)) := by
  show V m c main_v4 (((cfg0.win 4).blk t).view.emb (ix2 r k)) = _
  rw [V_padded, emb4]
  refine (padded_at _ _ (512 + k.val) (by omega)).trans ?_
  congr 1
  funext a
  have := lt64 t
  match a with
  | ⟨0, _⟩ => apply Fin.ext; show (512 * t.val + r.val) / 4096 = t.val / 8; omega
  | ⟨1, _⟩ => apply Fin.ext; show (512 * t.val + r.val) % 4096 = 512 * (t.val % 8) + r.val; omega
  | ⟨2, _⟩ => apply Fin.ext; show 652 + (512 + k.val) = 1164 + k.val; omega

/-- The eight positions before a tile that is not its sequence's first. -/
theorem block5 (c : Dev nD) (t : Fin cfg0.N) (ht : t.val % 8 ≠ 0) (r : Fin 8) (k : Fin 256) : iblk m c 5 t (ix2 r k)
    = m ((c : Thread nD τ).loc main_arg1) (ix3 (⟨t.val / 8, by have := lt64 t; omega⟩ : Fin 8) (⟨512 * (t.val % 8) - 8 + r.val, by omega⟩ : Fin 4096) (⟨908 + k.val, by omega⟩ : Fin 2956)) := by
  show V m c main_v4 (((cfg0.win 5).blk t).view.emb (ix2 r k)) = _
  rw [V_padded, emb5]
  refine (padded_at _ _ (256 + k.val) (by omega)).trans ?_
  congr 1
  funext a
  have := lt64 t
  match a with
  | ⟨0, _⟩ => apply Fin.ext; show (8 * (64 * t.val - 1) + r.val) / 4096 = t.val / 8; omega
  | ⟨1, _⟩ => apply Fin.ext; show (8 * (64 * t.val - 1) + r.val) % 4096 = 512 * (t.val % 8) - 8 + r.val; omega
  | ⟨2, _⟩ => apply Fin.ext; show 652 + (256 + k.val) = 908 + k.val; omega

/-- The eight positions before a tile that is not its sequence's first. -/
theorem block6 (c : Dev nD) (t : Fin cfg0.N) (ht : t.val % 8 ≠ 0) (r : Fin 8) (k : Fin 256) : iblk m c 6 t (ix2 r k)
    = m ((c : Thread nD τ).loc main_arg1) (ix3 (⟨t.val / 8, by have := lt64 t; omega⟩ : Fin 8) (⟨512 * (t.val % 8) - 8 + r.val, by omega⟩ : Fin 4096) (⟨1164 + k.val, by omega⟩ : Fin 2956)) := by
  show V m c main_v4 (((cfg0.win 6).blk t).view.emb (ix2 r k)) = _
  rw [V_padded, emb6]
  refine (padded_at _ _ (512 + k.val) (by omega)).trans ?_
  congr 1
  funext a
  have := lt64 t
  match a with
  | ⟨0, _⟩ => apply Fin.ext; show (8 * (64 * t.val - 1) + r.val) / 4096 = t.val / 8; omega
  | ⟨1, _⟩ => apply Fin.ext; show (8 * (64 * t.val - 1) + r.val) % 4096 = 512 * (t.val % 8) - 8 + r.val; omega
  | ⟨2, _⟩ => apply Fin.ext; show 652 + (512 + k.val) = 1164 + k.val; omega

end Cert.Kernel5Ideal.Mix

end
-- ==== Proof.MixFold.lean ====
module

public import proofs.«01_k».proof.Defs
public import proofs.«01_k».proof.Proof.Gen.Kernel5Ideal.Frame
public import Idealize.ShloMosaic.Lib.Pointwise
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.Kernel5Ideal.Mix

open Cert.Kernel5Ideal Cert.Kernel5Ideal.Gen Idealize.ShloMosaic Idealize.ShloMosaic.TcCoe
open Idealize.SL Idealize.SL.Sem Idealize.ShloMosaic.Tactic

theorem hz : (![0, 0] : Fin 2 → Nat) = fun _ => 0 := funext fun a => by fin_cases a <;> rfl

theorem hz3 : (![0, 0, 0] : Fin 3 → Nat) = fun _ => 0 := funext fun a => by fin_cases a <;> rfl

/-- What the scratch buffer holds after its two stores: the folded rows of the fourth mixer, split into halves of 128 columns. -/
def fold (x8 : Vec Ideal S1x256x512 .f32) : Vec Ideal S1x2x512x128 .f32 := fun y =>
  x8 (ix3 (0 : Fin 1) (⟨128 * (y 1).val + (y 3).val, by have : (y 1).val < 2 := (y 1).isLt; have : (y 3).val < 128 := (y 3).isLt; omega⟩ : Fin 256) (y 2 : Fin 512))

theorem fold0 (x8 : Vec Ideal S1x256x512 .f32) (inb : ∀ a : Fin 4, (![0, 0, 0, 0] : Fin 4 → ℕ) a + S1x1x512x128.size a ≤ S1x2x512x128.size a) (x : S1x1x512x128.Idx) :
    k0_pay3 x8 x = fold x8 ((Rect.unit (s := S1x2x512x128) ![0, 0, 0, 0] S1x1x512x128.size inb).emb x) := by
  unfold fold
  idx_vars x
  pointwise [k0_pay3, k0_pay2]
  congr 2 <;> apply Fin.ext <;> simp

theorem fold1 (x8 : Vec Ideal S1x256x512 .f32) (inb : ∀ a : Fin 4, (![0, 1, 0, 0] : Fin 4 → ℕ) a + S1x1x512x128.size a ≤ S1x2x512x128.size a) (x : S1x1x512x128.Idx) :
    k0_pay4 x8 x = fold x8 ((Rect.unit (s := S1x2x512x128) ![0, 1, 0, 0] S1x1x512x128.size inb).emb x) := by
  unfold fold
  idx_vars x
  pointwise [k0_pay4, k0_pay2]
  congr 2 <;> apply Fin.ext <;> simp

/-- Two stores of the halves: the buffer holds the folded rows. -/
theorem fold_canon (x8 : Vec Ideal S1x256x512 .f32) (inb : ∀ a : Fin 4, (![0, 1, 0, 0] : Fin 4 → ℕ) a + (![1, 1, 512, 128] : Fin 4 → ℕ) a ≤ S1x2x512x128.size a)
    (inb' : ∀ a : Fin 4, (![0, 0, 0, 0] : Fin 4 → ℕ) a + (![1, 1, 512, 128] : Fin 4 → ℕ) a ≤ S1x2x512x128.size a) :
    View.canon (Val := Elt Ideal) (e := .f32) [⟨Rect.unit (s := S1x2x512x128) ![0, 1, 0, 0] ![1, 1, 512, 128] inb, k0_pay4 x8⟩, ⟨Rect.unit (s := S1x2x512x128) ![0, 0, 0, 0] ![1, 1, 512, 128] inb', k0_pay3 x8⟩] = fold x8 := by
  funext y
  refine View.canon_apply_of_pieces (fold x8) _ ?_ y (View.cover_of_tiledL _ ![1, 1, 512, 128] (by sl_kernel_rfl) y)
  refine View.PiecesOf.mem ?_
  exact ⟨fun x => fold1 x8 inb x, fun x => fold0 x8 inb' x, trivial⟩

/-- Sixteen rows of the folded values, 32 apart, starting at row `a` of half `h`. -/
def strip (x8 : Vec Ideal S1x256x512 .f32) (h a : ℕ) : Vec Ideal S1x1x16x128 .f32 := fun j =>
  x8 (ix3 (0 : Fin 1) (⟨(128 * h + (j 3).val) % 256, Nat.mod_lt _ (by omega)⟩ : Fin 256) (⟨(a + 32 * (j 2).val) % 512, Nat.mod_lt _ (by omega)⟩ : Fin 512))

theorem strip_eq (x8 : Vec Ideal S1x256x512 .f32) (h a : ℕ) (inb) :
    (fun j => fold x8 (LoadRect.idx (s := S1x2x512x128) ⟨![0, h, a, 0], ![1, 1, 16, 128], ![1, 1, 32, 1], inb⟩ j)) = strip x8 h a := by
  have h1 := inb 1
  have h2 := inb 2
  simp at h1 h2
  funext j
  unfold fold strip
  idx_vars j
  congr 2 <;> apply Fin.ext
  · simp [Nat.mod_eq_of_lt, LoadRect.idx]; omega
  · simp [LoadRect.idx]; omega

/-- Blocks of sixteen rows, one under the other, read at a row. -/
theorem catAt (p : ℕ → FVec Ideal S16x128 .f32) (r : Fin 256) (l : Fin 128) : ∀ (n i : ℕ) (hs) (c : ℕ) (hc),
    concatenateAt S256x128 0 (ix2 r l) ((List.range' i (n + 1)).map fun a => (⟨S16x128, p a⟩ : (s : Shape) × (s.Idx → Ideal .f32))) hs c hc
      = p (i + c / 16) (ix2 (⟨c % 16, Nat.mod_lt _ (by omega)⟩ : Fin 16) l)
  | 0, i, hs, c, hc => by
    have h : c < 16 := hc
    refine (concatenateAt_singleton 0 (ix2 r l) (p i) hs c hc).trans ?_
    have e : i + c / 16 = i := by omega
    rw [e]
    congr 1
    funext b
    match b with
    | ⟨0, _⟩ => apply Fin.ext; show c = c % 16; omega
    | ⟨1, _⟩ => rfl
  | n + 1, i, hs, c, hc => by
    refine (concatenateAt_cons 0 (ix2 r l) (p i) ⟨S16x128, p (i + 1)⟩ ((List.range' (i + 2) n).map fun a => (⟨S16x128, p a⟩ : (s : Shape) × (s.Idx → Ideal .f32))) hs c hc).trans ?_
    by_cases h : c < 16
    · refine (dif_pos h).trans ?_
      have e : i + c / 16 = i := by omega
      rw [e]
      congr 1
      funext b
      match b with
      | ⟨0, _⟩ => apply Fin.ext; show c = c % 16; omega
      | ⟨1, _⟩ => rfl
    · refine (dif_neg h).trans ?_
      refine (catAt p r l n (i + 1) _ (c - 16) _).trans ?_
      have e : i + 1 + (c - 16) / 16 = i + c / 16 := by omega
      rw [e]
      congr 2
      apply Fin.ext
      show (c - 16) % 16 = c % 16
      omega

/-- Sixteen blocks of sixteen rows, one under the other. -/
theorem cat16 (p : ℕ → FVec Ideal S16x128 .f32) (r : Fin 256) (l : Fin 128) :
    concatenate S256x128 0 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩, ⟨S16x128, p 8⟩, ⟨S16x128, p 9⟩, ⟨S16x128, p 10⟩, ⟨S16x128, p 11⟩, ⟨S16x128, p 12⟩, ⟨S16x128, p 13⟩, ⟨S16x128, p 14⟩, ⟨S16x128, p 15⟩] concatenates_S16x128_S16x128_S16x128_S16x128_S16x128_S16x128_S16x128_S16x128_S16x128_S16x128_S16x128_S16x128_S16x128_S16x128_S16x128_S16x128_S256x128_d0 (ix2 r l)
      = p (r.val / 16) (ix2 (⟨r.val % 16, by omega⟩ : Fin 16) l) := by
  refine (concatenate_apply S256x128 0 _ _ _).trans ((catAt p r l 15 0 _ r.val _).trans ?_)
  rw [Nat.zero_add]

end Cert.Kernel5Ideal.Mix

end
-- ==== Proof.MixScale.lean ====
module

public import proofs.«01_k».proof.Defs
public import proofs.«01_k».proof.Proof.Gen.Kernel5Ideal.Frame
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Kernel5Ideal.Mix

open Cert.Kernel5Ideal Cert.Kernel5Ideal.Gen Idealize.ShloMosaic Idealize.ShloMosaic.TcCoe Finset

/-- A finite sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- Every column's sum over its group of 64, the summands given as a leading part and a rest. -/
def gath (A : FVec Ideal S256x1024 .f32) : FVec Ideal S256x128 .f32 :=
  addf (matmul dot_S256x1024_S1024x128_S256x128_1_0_0_1_n_n none (truncf .bf16 A bitsLt_bf16_f32) k0_pay9 (constant S256x128 .f32 0x00000000#32))
    (matmul dot_S256x1024_S1024x128_S256x128_1_0_0_1_n_n none (truncf .bf16 (subf A (extf .f32 (truncf .bf16 A bitsLt_bf16_f32) bitsLt_bf16_f32)) bitsLt_bf16_f32) k0_pay9 (constant S256x128 .f32 0x00000000#32))

/-- The reciprocal root mean square of the groups. -/
def recip (s : FVec Ideal S256x128 .f32) : FVec Ideal S256x128 .f32 :=
  rsqrt (addf (mulf s (broadcast S256x128 (Scalar.ofBits .f32 0x3C800000#32))) (broadcast S256x128 (Scalar.ofBits .f32 0x358637BD#32)))

/-- A group's value spread over the group's columns, as a leading part and a rest. -/
def spread (v : FVec Ideal S256x128 .f32) : FVec Ideal S256x1024 .f32 :=
  matmul dot_S256x256_S256x1024_S256x1024_1_0_0_1_n_n none
    (concatenate S256x256 1 [⟨S256x128, truncf .bf16 v bitsLt_bf16_f32⟩, ⟨S256x128, truncf .bf16 (subf v (extf .f32 (truncf .bf16 v bitsLt_bf16_f32) bitsLt_bf16_f32)) bitsLt_bf16_f32⟩] concatenates_S256x128_S256x128_S256x256_d1)
    (concatenate S256x1024 0 [⟨S128x1024, k0_pay10⟩, ⟨S128x1024, k0_pay10⟩] concatenates_S128x1024_S128x1024_S256x1024_d0) (constant S256x1024 .f32 0x00000000#32)

/-- The rows of the output from the matrix of the groups, its scale, the gain, the residual rows and the weights. -/
def outRows (M S : FVec Ideal S256x1024 .f32) (g : Vec Ideal S1x1024 .f32) (x : Vec Ideal S256x1024 .f32) (w : Vec Ideal S1024x1024 .bf16) : FVec Ideal S256x1024 .f32 :=
  addf (shapeCast S256x1024 x shapeCasts_S256x1024_S256x1024)
    (matmul dot_S256x1024_S1024x1024_S256x1024_1_0_0_1_n_n none (truncf .bf16 (mulf (mulf M S) (broadcastTo S256x1024 (shapeCast S1x1024 g shapeCasts_S1x1024_S1x1024) broadcasts_S1x1024_S256x1024)) bitsLt_bf16_f32)
      (shapeCast S1024x1024 w shapeCasts_S1024x1024_S1024x1024 : FVec Ideal S1024x1024 .bf16) (constant S256x1024 .f32 0x00000000#32))

theorem outRows_at (M S : FVec Ideal S256x1024 .f32) (g : Vec Ideal S1x1024 .f32) (x : Vec Ideal S256x1024 .f32) (w : Vec Ideal S1024x1024 .bf16) (r : Fin 256) (j : Fin 1024) :
    outRows M S g x w (ix2 r j) = x (ix2 r j) + ∑ k : Fin 1024, M (ix2 r k) * S (ix2 r k) * g (ix2 (0 : Fin 1) k) * w (ix2 k j) := by
  pointwise [outRows]

theorem pay68_eq (M : FVec Ideal S256x1024 .f32) (s : FVec Ideal S256x128 .f32) (g : Vec Ideal S1x1024 .f32) (x : Vec Ideal S256x1024 .f32) (w : Vec Ideal S1024x1024 .bf16) :
    k0_pay68 k0_pay10 M s g x w = outRows M (spread (recip s)) g x w := rfl

theorem pay1_eq (M S : FVec Ideal S256x1024 .f32) (g : Vec Ideal S1x1024 .f32) (x : Vec Ideal S256x1024 .f32) (w : Vec Ideal S1024x1024 .bf16) :
    k0_pay1 M S g x w = outRows M S g x w := rfl

theorem pay67_eq (A : FVec Ideal S256x1024 .f32) :
    k0_pay67 k0_pay9 k0_pay10 A (truncf .bf16 A bitsLt_bf16_f32) (extf .f32 (truncf .bf16 A bitsLt_bf16_f32) bitsLt_bf16_f32) = spread (recip (gath A)) := rfl

theorem word_one : FloatOps.sitofp (F := Ideal) .f32 (1#32) = (1 : EReal) := by
  show (((1#32).toInt : ℝ) : EReal) = 1
  rw [show (1#32).toInt = 1 from rfl]
  norm_num
theorem word_zero : FloatOps.sitofp (F := Ideal) .f32 (0#32) = (0 : EReal) := by
  show (((0#32).toInt : ℝ) : EReal) = 0
  rw [show (0#32).toInt = 0 from rfl]
  norm_num

theorem shift_col : ∀ k : Fin 1024, IntOp.shrsi .vector (BitVec.ofNat 32 k.val) 6#32 = BitVec.ofNat 32 (k.val / 64) := by decide +kernel

theorem eq_lane (a b : ℕ) (ha : a < 1024) (hb : b < 1024) : IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (by
      have := congrArg BitVec.toNat e
      simp only [BitVec.toNat_ofNat] at this
      omega)
    rw [if_neg h]
    show BitVec.ofBool (BitVec.ofNat 32 a == BitVec.ofNat 32 b) = 0#1
    rw [beq_false_of_ne this]
    rfl

/-- The selector that gathers: a one where the column lies in the lane's group. -/
theorem gather_sel (k : Fin 1024) (l : Fin 128) : k0_pay9 (F := Ideal) (ix2 k l) = if k.val / 64 = l.val then (1 : EReal) else 0 := by
  pointwise [k0_pay9]
  rw [shift_col, eq_lane _ _ (by omega) (by omega)]
  by_cases h : k.val / 64 = l.val
  · rw [if_pos h, if_pos h]; exact word_one
  · rw [if_neg h, if_neg h]; exact word_zero

/-- The selector that spreads: its transpose. -/
theorem spread_sel (l : Fin 128) (k : Fin 1024) : k0_pay10 (F := Ideal) (ix2 l k) = if l.val = k.val / 64 then (1 : EReal) else 0 := by
  pointwise [k0_pay10]
  rw [shift_col, eq_lane _ _ (by omega) (by omega)]
  by_cases h : l.val = k.val / 64
  · rw [if_pos h, if_pos h]; exact word_one
  · rw [if_neg h, if_neg h]; exact word_zero

theorem sub_self_coe (a : ℝ) : (a : EReal) - (a : EReal) = 0 := by rw [← EReal.coe_sub, sub_self]; rfl

/-- The gathered sums of finite values: the sums over the groups. -/
theorem gath_at (A : FVec Ideal S256x1024 .f32) (r : Fin 256) (a : Fin 1024 → ℝ) (hA : ∀ k, A (ix2 r k) = (a k : EReal)) (l : Fin 128) :
    gath A (ix2 r l) = ((∑ k : Fin 1024, (if k.val / 64 = l.val then a k else 0) : ℝ) : EReal) := by
  have e : gath A (ix2 r l) = (∑ k : Fin 1024, A (ix2 r k) * k0_pay9 (F := Ideal) (ix2 k l)) + ∑ k : Fin 1024, (A (ix2 r k) - A (ix2 r k)) * k0_pay9 (F := Ideal) (ix2 k l) := by
    unfold gath
    generalize k0_pay9 (F := Ideal) = s
    pointwise
  rw [e, coe_sum]
  have z : ∑ k : Fin 1024, (A (ix2 r k) - A (ix2 r k)) * k0_pay9 (F := Ideal) (ix2 k l) = 0 := sum_eq_zero fun k _ => by rw [hA, sub_self_coe, zero_mul]
  rw [z, add_zero]
  refine sum_congr rfl fun k _ => ?_
  rw [hA, gather_sel]
  by_cases h : k.val / 64 = l.val
  · rw [if_pos h, if_pos h, mul_one]
  · rw [if_neg h, if_neg h, mul_zero]; rfl

/-- The sum over the columns of one group. -/
theorem group_sum (a : Fin 1024 → ℝ) (q : Fin 16) : ∑ k : Fin 1024, (if k.val / 64 = q.val then a k else 0) = ∑ d : Fin 64, a ⟨64 * q.val + d.val, by omega⟩ := by
  rw [← sum_filter]
  symm
  refine sum_bij (fun d _ => (⟨64 * q.val + d.val, by omega⟩ : Fin 1024)) (fun d _ => ?_) (fun d _ d' _ h => ?_) (fun k hk => ?_) (fun d _ => rfl)
  · rw [mem_filter]; exact ⟨mem_univ _, by show (64 * q.val + d.val) / 64 = q.val; omega⟩
  · have := congrArg Fin.val h
    exact Fin.ext (by simp only at this; omega)
  · rw [mem_filter] at hk
    exact ⟨⟨k.val % 64, by omega⟩, mem_univ _, Fin.ext (by show 64 * q.val + k.val % 64 = k.val; omega)⟩

theorem sixtyfourth : Ideal.ofBits .f32 0x3C800000#32 = (((1 : ℝ) / 64 : ℝ) : EReal) := by
  simp [Ideal.ofBits, Ideal.ieee, -EReal.coe_mul]; norm_num

theorem sixtyfour : Ideal.ofBits .f32 0x42800000#32 = ((64 : ℝ) : EReal) := by
  simp [Ideal.ofBits, Ideal.ieee, -EReal.coe_mul]; norm_num

theorem eps_pos : ∃ ε : ℝ, 0 < ε ∧ Ideal.ofBits .f32 0x358637BD#32 = (ε : EReal) := by
  refine ⟨_, ?_, by simp [Ideal.ofBits, Ideal.ieee, -EReal.coe_mul]; rfl⟩
  norm_num

/-- The scale of a group with a given sum of squares. -/
def rms (s : ℝ) : EReal := Ideal.rsqrt (Ideal.div (s : EReal) (Ideal.ofBits .f32 0x42800000#32) + Ideal.ofBits .f32 0x358637BD#32)

theorem rms_finite (s : ℝ) (hs : 0 ≤ s) : ∃ ρ : ℝ, rms s = (ρ : EReal) := by
  obtain ⟨ε, he, h⟩ := eps_pos
  unfold rms
  rw [h, sixtyfour, Ideal.div_coe (by norm_num), ← EReal.coe_mul, ← EReal.coe_add, Ideal.rsqrt_coe]
  have : 0 < s * (1 / 64) + ε := by positivity
  rw [if_neg (by linarith), if_neg (by linarith)]
  exact ⟨_, rfl⟩

theorem recip_at (v : FVec Ideal S256x128 .f32) (r : Fin 256) (l : Fin 128) (s : ℝ) (h : v (ix2 r l) = (s : EReal)) : recip v (ix2 r l) = rms s := by
  unfold rms
  rw [sixtyfour, Ideal.div_coe (by norm_num), ← sixtyfourth, ← h]
  pointwise [recip]

/-- The spread of finite values: every column gets its group's. -/
theorem spread_at (v : FVec Ideal S256x128 .f32) (r : Fin 256) (hv : ∀ l, ∃ ρ : ℝ, v (ix2 r l) = (ρ : EReal)) (k : Fin 1024) :
    spread v (ix2 r k) = v (ix2 r (⟨k.val / 64, by omega⟩ : Fin 128)) := by
  choose ρ hρ using hv
  have e : spread v (ix2 r k) = ∑ l : Fin 256, (if h : l.val < 128 then v (ix2 r (⟨l.val, h⟩ : Fin 128)) else (v (ix2 r (⟨l.val - 128, by omega⟩ : Fin 128)) - v (ix2 r (⟨l.val - 128, by omega⟩ : Fin 128))))
      * (if h : l.val < 128 then k0_pay10 (F := Ideal) (ix2 (⟨l.val, h⟩ : Fin 128) k) else k0_pay10 (F := Ideal) (ix2 (⟨l.val - 128, by omega⟩ : Fin 128) k)) := by
    unfold spread
    generalize k0_pay10 (F := Ideal) = s
    pointwise
  rw [e, sum_eq_single (⟨k.val / 64, by omega⟩ : Fin 256)]
  · rw [dif_pos (show k.val / 64 < 128 by omega), dif_pos (show k.val / 64 < 128 by omega), spread_sel, if_pos rfl, mul_one]
  · intro l _ hl
    by_cases h : l.val < 128
    · rw [dif_pos h, dif_pos h, spread_sel, if_neg (fun e => hl (Fin.ext e)), mul_zero]
    · rw [dif_neg h, hρ, sub_self_coe, zero_mul]
  · intro h; exact absurd (mem_univ _) h

/-- The scale of a matrix of finite values: the reference's. -/
theorem scale_at (M : FVec Ideal S256x1024 .f32) (r : Fin 256) (a : Fin 1024 → ℝ) (hM : ∀ k, M (ix2 r k) = (a k : EReal)) (k : Fin 1024) :
    spread (recip (gath (mulf M M))) (ix2 r k)
      = Ideal.rsqrt (Ideal.div (∑ d : Fin 64, M (ix2 r (⟨64 * (k.val / 64) + d.val, by omega⟩ : Fin 1024)) * M (ix2 r (⟨64 * (k.val / 64) + d.val, by omega⟩ : Fin 1024))) (Ideal.ofBits .f32 0x42800000#32) + Ideal.ofBits .f32 0x358637BD#32) := by
  have hA : ∀ k, mulf M M (ix2 r k) = ((a k * a k : ℝ) : EReal) := fun k => by
    show M (ix2 r k) * M (ix2 r k) = _
    rw [hM, ← EReal.coe_mul]
  have hg := gath_at (mulf M M) r (fun k => a k * a k) hA
  have hr : ∀ l, recip (gath (mulf M M)) (ix2 r l) = rms _ := fun l => recip_at _ r l _ (hg l)
  rw [spread_at _ r (fun l => by
    rw [hr]
    refine rms_finite _ (sum_nonneg fun k _ => ?_)
    by_cases h : k.val / 64 = l.val
    · rw [if_pos h]; exact mul_self_nonneg _
    · rw [if_neg h])]
  rw [hr]
  unfold rms
  rw [group_sum (fun k => a k * a k) (⟨k.val / 64, by omega⟩ : Fin 16), coe_sum]
  simp only [hM, EReal.coe_mul]

end Cert.Kernel5Ideal.Mix

end
-- ==== Proof.MixOut.lean ====
module

public import proofs.«01_k».proof.Proof.MixFold
public import proofs.«01_k».proof.Proof.MixScale

@[expose] public section

set_option maxRecDepth 16384

noncomputable section

namespace Cert.Kernel5Ideal.Mix

open Cert.Kernel5Ideal Cert.Kernel5Ideal.Gen Idealize.ShloMosaic Idealize.ShloMosaic.TcCoe
open Idealize.SL Idealize.SL.Sem Idealize.ShloMosaic.Tactic

/-- The unfolded rows of one half: sixteen strips, one under the other. -/
def unfolded (x8 : Vec Ideal S1x256x512 .f32) (h a0 : ℕ) : FVec Ideal S256x128 .f32 := fun j =>
  x8 (ix3 (0 : Fin 1) (⟨(128 * h + (j 1).val) % 256, Nat.mod_lt _ (by omega)⟩ : Fin 256) (⟨(a0 + (j 0).val / 16 + 32 * ((j 0).val % 16)) % 512, Nat.mod_lt _ (by omega)⟩ : Fin 512))

theorem strips_at (x8 : Vec Ideal S1x256x512 .f32) (h a0 a : ℕ) (q : Fin 16) (l : Fin 128) :
    shapeCast S16x128 (strip x8 h (a0 + a)) shapeCasts_S1x1x16x128_S16x128 (ix2 q l)
      = x8 (ix3 (0 : Fin 1) (⟨(128 * h + l.val) % 256, Nat.mod_lt _ (by omega)⟩ : Fin 256) (⟨(a0 + a + 32 * q.val) % 512, Nat.mod_lt _ (by omega)⟩ : Fin 512)) := by
  pointwise [strip]

theorem unfolded_0_0 (x8 : Vec Ideal S1x256x512 .f32) : concatenate S256x128 0 [⟨S16x128, shapeCast S16x128 (strip x8 0 0) shapeCasts_S1x1x16x128_S16x128⟩, ⟨S16x128, shapeCast S16x128 (strip x8 0 1) shapeCasts_S1x1x16x128_S16x128⟩, ⟨S16x128, shapeCast S16x128 (strip x8 0 2) shapeCasts_S1x1x16x128_S16x128⟩, ⟨S16x128, shapeCast S16x128 (strip x8 0 3) shapeCasts_S1x1x16x128_S16x128⟩, ⟨S16x128, shapeCast S16x128 (strip x8 0 4) shapeCasts_S1x1x16x128_S16x128⟩, ⟨S16x128, shapeCast S16x128 (strip x8 0 5) shapeCasts_S1x1x16x128_S16x128⟩, ⟨S16x128, shapeCast S16x128 (strip x8 0 6) shapeCasts_S1x1x16x128_S16x128⟩, ⟨S16x128, shapeCast S16x128 (strip x8 0 7) shapeCasts_S1x1x16x128_S16x128⟩, ⟨S16x128, shapeCast S16x128 (strip x8 0 8) shapeCasts_S1x1x16x128_S16x128⟩, ⟨S16x128, shapeCast S16x128 (strip x8 0 9) shapeCasts_S1x1x16x128_S16x128⟩, ⟨S16x128, shapeCast S16x128 (strip x8 0 10) shapeCasts_S1x1x16x128_S16x128⟩, ⟨S16x128, shapeCast S16x128 (strip x8 0 11) shapeCasts_S1x1x16x128_S16x128⟩, ⟨S16x128, shapeCast S16x128 (strip x8 0 12) shapeCasts_S1x1x16x128_S16x128⟩, ⟨S16x128, shapeCast S16x128 (strip x8 0 13) shapeCasts_S1x1x16x128_S16x128⟩, ⟨S16x128, shapeCast S16x128 (strip x8 0 14) shapeCasts_S1x1x16x128_S16x128⟩, ⟨S16x128, shapeCast S16x128 (strip x8 0 15) shapeCasts_S1x1x16x128_S16x128⟩] concatenates_S16x128_S16x128_S16x128_S16x128_S16x128_S16x128_S16x128_S16x128_S16x128_S16x128_S16x128_S16x128_S16x128_S16x128_S16x128_S16x128_S256x128_d0 = unfolded x8 0 0 := by
  funext j
  obtain ⟨r, l, rfl⟩ : ∃ (r : Fin 256) (l : Fin 128), j = ix2 r l := ⟨j 0, j 1, by funext b; match b with | ⟨0, _⟩ => rfl | ⟨1, _⟩ => rfl⟩
  refine (cat16 (fun a => shapeCast S16x128 (strip x8 0 (0 + a)) shapeCasts_S1x1x16x128_S16x128) r l).trans ?_
  exact strips_at x8 0 0 (r.val / 16) _ l

theorem unfolded_1_0 (x8 : Vec Ideal S1x256x512 .f32) : concatenate S256x128 0 [⟨S16x128, shapeCast S16x128 (strip x8 1 0) shapeCasts_S1x1x16x128_S16x128⟩, ⟨S16x128, shapeCast S16x128 (strip x8 1 1) shapeCasts_S1x1x16x128_S16x128⟩, ⟨S16x128, shapeCast S16x128 (strip x8 1 2) shapeCasts_S1x1x16x128_S16x128⟩, ⟨S16x128, shapeCast S16x128 (strip x8 1 3) shapeCasts_S1x1x16x128_S16x128⟩, ⟨S16x128, shapeCast S16x128 (strip x8 1 4) shapeCasts_S1x1x16x128_S16x128⟩, ⟨S16x128, shapeCast S16x128 (strip x8 1 5) shapeCasts_S1x1x16x128_S16x128⟩, ⟨S16x128, shapeCast S16x128 (strip x8 1 6) shapeCasts_S1x1x16x128_S16x128⟩, ⟨S16x128, shapeCast S16x128 (strip x8 1 7) shapeCasts_S1x1x16x128_S16x128⟩, ⟨S16x128, shapeCast S16x128 (strip x8 1 8) shapeCasts_S1x1x16x128_S16x128⟩, ⟨S16x128, shapeCast S16x128 (strip x8 1 9) shapeCasts_S1x1x16x128_S16x128⟩, ⟨S16x128, shapeCast S16x128 (strip x8 1 10) shapeCasts_S1x1x16x128_S16x128⟩, ⟨S16x128, shapeCast S16x128 (strip x8 1 11) shapeCasts_S1x1x16x128_S16x128⟩, ⟨S16x128, shapeCast S16x128 (strip x8 1 12) shapeCasts_S1x1x16x128_S16x128⟩, ⟨S16x128, shapeCast S16x128 (strip x8 1 13) shapeCasts_S1x1x16x128_S16x128⟩, ⟨S16x128, shapeCast S16x128 (strip x8 1 14) shapeCasts_S1x1x16x128_S16x128⟩, ⟨S16x128, shapeCast S16x128 (strip x8 1 15) shapeCasts_S1x1x16x128_S16x128⟩] concatenates_S16x128_S16x128_S16x128_S16x128_S16x128_S16x128_S16x128_S16x128_S16x128_S16x128_S16x128_S16x128_S16x128_S16x128_S16x128_S16x128_S256x128_d0 = unfolded x8 1 0 := by
  funext j
  obtain ⟨r, l, rfl⟩ : ∃ (r : Fin 256) (l : Fin 128), j = ix2 r l := ⟨j 0, j 1, by funext b; match b with | ⟨0, _⟩ => rfl | ⟨1, _⟩ => rfl⟩
  refine (cat16 (fun a => shapeCast S16x128 (strip x8 1 (0 + a)) shapeCasts_S1x1x16x128_S16x128) r l).trans ?_
  exact strips_at x8 1 0 (r.val / 16) _ l

theorem unfolded_0_16 (x8 : Vec Ideal S1x256x512 .f32) : concatenate S256x128 0 [⟨S16x128, shapeCast S16x128 (strip x8 0 16) shapeCasts_S1x1x16x128_S16x128⟩, ⟨S16x128, shapeCast S16x128 (strip x8 0 17) shapeCasts_S1x1x16x128_S16x128⟩, ⟨S16x128, shapeCast S16x128 (strip x8 0 18) shapeCasts_S1x1x16x128_S16x128⟩, ⟨S16x128, shapeCast S16x128 (strip x8 0 19) shapeCasts_S1x1x16x128_S16x128⟩, ⟨S16x128, shapeCast S16x128 (strip x8 0 20) shapeCasts_S1x1x16x128_S16x128⟩, ⟨S16x128, shapeCast S16x128 (strip x8 0 21) shapeCasts_S1x1x16x128_S16x128⟩, ⟨S16x128, shapeCast S16x128 (strip x8 0 22) shapeCasts_S1x1x16x128_S16x128⟩, ⟨S16x128, shapeCast S16x128 (strip x8 0 23) shapeCasts_S1x1x16x128_S16x128⟩, ⟨S16x128, shapeCast S16x128 (strip x8 0 24) shapeCasts_S1x1x16x128_S16x128⟩, ⟨S16x128, shapeCast S16x128 (strip x8 0 25) shapeCasts_S1x1x16x128_S16x128⟩, ⟨S16x128, shapeCast S16x128 (strip x8 0 26) shapeCasts_S1x1x16x128_S16x128⟩, ⟨S16x128, shapeCast S16x128 (strip x8 0 27) shapeCasts_S1x1x16x128_S16x128⟩, ⟨S16x128, shapeCast S16x128 (strip x8 0 28) shapeCasts_S1x1x16x128_S16x128⟩, ⟨S16x128, shapeCast S16x128 (strip x8 0 29) shapeCasts_S1x1x16x128_S16x128⟩, ⟨S16x128, shapeCast S16x128 (strip x8 0 30) shapeCasts_S1x1x16x128_S16x128⟩, ⟨S16x128, shapeCast S16x128 (strip x8 0 31) shapeCasts_S1x1x16x128_S16x128⟩] concatenates_S16x128_S16x128_S16x128_S16x128_S16x128_S16x128_S16x128_S16x128_S16x128_S16x128_S16x128_S16x128_S16x128_S16x128_S16x128_S16x128_S256x128_d0 = unfolded x8 0 16 := by
  funext j
  obtain ⟨r, l, rfl⟩ : ∃ (r : Fin 256) (l : Fin 128), j = ix2 r l := ⟨j 0, j 1, by funext b; match b with | ⟨0, _⟩ => rfl | ⟨1, _⟩ => rfl⟩
  refine (cat16 (fun a => shapeCast S16x128 (strip x8 0 (16 + a)) shapeCasts_S1x1x16x128_S16x128) r l).trans ?_
  exact strips_at x8 0 16 (r.val / 16) _ l

theorem unfolded_1_16 (x8 : Vec Ideal S1x256x512 .f32) : concatenate S256x128 0 [⟨S16x128, shapeCast S16x128 (strip x8 1 16) shapeCasts_S1x1x16x128_S16x128⟩, ⟨S16x128, shapeCast S16x128 (strip x8 1 17) shapeCasts_S1x1x16x128_S16x128⟩, ⟨S16x128, shapeCast S16x128 (strip x8 1 18) shapeCasts_S1x1x16x128_S16x128⟩, ⟨S16x128, shapeCast S16x128 (strip x8 1 19) shapeCasts_S1x1x16x128_S16x128⟩, ⟨S16x128, shapeCast S16x128 (strip x8 1 20) shapeCasts_S1x1x16x128_S16x128⟩, ⟨S16x128, shapeCast S16x128 (strip x8 1 21) shapeCasts_S1x1x16x128_S16x128⟩, ⟨S16x128, shapeCast S16x128 (strip x8 1 22) shapeCasts_S1x1x16x128_S16x128⟩, ⟨S16x128, shapeCast S16x128 (strip x8 1 23) shapeCasts_S1x1x16x128_S16x128⟩, ⟨S16x128, shapeCast S16x128 (strip x8 1 24) shapeCasts_S1x1x16x128_S16x128⟩, ⟨S16x128, shapeCast S16x128 (strip x8 1 25) shapeCasts_S1x1x16x128_S16x128⟩, ⟨S16x128, shapeCast S16x128 (strip x8 1 26) shapeCasts_S1x1x16x128_S16x128⟩, ⟨S16x128, shapeCast S16x128 (strip x8 1 27) shapeCasts_S1x1x16x128_S16x128⟩, ⟨S16x128, shapeCast S16x128 (strip x8 1 28) shapeCasts_S1x1x16x128_S16x128⟩, ⟨S16x128, shapeCast S16x128 (strip x8 1 29) shapeCasts_S1x1x16x128_S16x128⟩, ⟨S16x128, shapeCast S16x128 (strip x8 1 30) shapeCasts_S1x1x16x128_S16x128⟩, ⟨S16x128, shapeCast S16x128 (strip x8 1 31) shapeCasts_S1x1x16x128_S16x128⟩] concatenates_S16x128_S16x128_S16x128_S16x128_S16x128_S16x128_S16x128_S16x128_S16x128_S16x128_S16x128_S16x128_S16x128_S16x128_S16x128_S16x128_S256x128_d0 = unfolded x8 1 16 := by
  funext j
  obtain ⟨r, l, rfl⟩ : ∃ (r : Fin 256) (l : Fin 128), j = ix2 r l := ⟨j 0, j 1, by funext b; match b with | ⟨0, _⟩ => rfl | ⟨1, _⟩ => rfl⟩
  refine (cat16 (fun a => shapeCast S16x128 (strip x8 1 (16 + a)) shapeCasts_S1x1x16x128_S16x128) r l).trans ?_
  exact strips_at x8 1 16 (r.val / 16) _ l

/-- The matrix of the groups: four blocks of 256 columns side by side, the last in two halves. -/
def quad (v73 v74 v77 : FVec Ideal S256x256 .f32) (v110 v143 : FVec Ideal S256x128 .f32) : FVec Ideal S256x1024 .f32 :=
  concatenate S256x1024 1 [⟨S256x256, v73⟩, ⟨S256x256, v74⟩, ⟨S256x256, v77⟩, ⟨S256x256, concatenate S256x256 1 [⟨S256x128, v110⟩, ⟨S256x128, v143⟩] concatenates_S256x128_S256x128_S256x256_d1⟩] concatenates_S256x256_S256x256_S256x256_S256x256_S256x1024_d1

theorem quad_at (v73 v74 v77 : FVec Ideal S256x256 .f32) (v110 v143 : FVec Ideal S256x128 .f32) (r : Fin 256) (c : Fin 1024) :
    quad v73 v74 v77 v110 v143 (ix2 r c) = if h0 : c.val < 256 then v73 (ix2 r (⟨c.val, h0⟩ : Fin 256))
      else if h1 : c.val < 512 then v74 (ix2 r (⟨c.val - 256, by omega⟩ : Fin 256))
      else if h2 : c.val < 768 then v77 (ix2 r (⟨c.val - 512, by omega⟩ : Fin 256))
      else if h3 : c.val < 896 then v110 (ix2 r (⟨c.val - 768, by omega⟩ : Fin 128))
      else v143 (ix2 r (⟨c.val - 896, by omega⟩ : Fin 128)) := by
  pointwise [quad]
  by_cases h0 : c.val < 256
  · refine (dif_pos h0).trans (Eq.trans ?_ (dif_pos h0).symm)
    rfl
  refine (dif_neg h0).trans (Eq.trans ?_ (dif_neg h0).symm)
  by_cases h1 : c.val < 512
  · refine (dif_pos (by omega)).trans (Eq.trans ?_ (dif_pos h1).symm)
    rfl
  refine (dif_neg (by omega)).trans (Eq.trans ?_ (dif_neg h1).symm)
  by_cases h2 : c.val < 768
  · refine (dif_pos (by omega)).trans (Eq.trans ?_ (dif_pos h2).symm)
    congr 2
  refine (dif_neg (by omega)).trans (Eq.trans ?_ (dif_neg h2).symm)
  by_cases h3 : c.val < 896
  · refine (dif_pos (by omega)).trans (Eq.trans ?_ (dif_pos h3).symm)
    congr 2
  refine (dif_neg (by omega)).trans (Eq.trans ?_ (dif_neg h3).symm)
  congr 2

/-- The group matrix of a tile of 512 positions: four mixers, 256 columns each. -/
def cell (x1 : Vec Ideal S1x256x512 .f32) (cv : FVec Ideal S512x256 .f32) (x7 : Vec Ideal S2x256x256 .f32) (x8 : Vec Ideal S1x256x512 .f32) (R : Fin 512) (c : Fin 1024) : EReal :=
  if h0 : c.val < 256 then x1 (ix3 (0 : Fin 1) (⟨c.val, h0⟩ : Fin 256) R)
  else if h1 : c.val < 512 then cv (ix2 R (⟨c.val - 256, by omega⟩ : Fin 256))
  else if h2 : c.val < 768 then x7 (ix3 (⟨R.val / 256, by omega⟩ : Fin 2) (⟨c.val - 512, by omega⟩ : Fin 256) (⟨R.val % 256, by omega⟩ : Fin 256))
  else x8 (ix3 (0 : Fin 1) (⟨c.val - 768, by omega⟩ : Fin 256) (⟨R.val / 16 + 32 * (R.val % 16), by omega⟩ : Fin 512))

/-- The first 256 rows of the group matrix, as the body builds them, -/
def M0 (x1 : Vec Ideal S1x256x512 .f32) (cv : FVec Ideal S512x256 .f32) (x7 : Vec Ideal S2x256x256 .f32) (x8 : Vec Ideal S1x256x512 .f32) : FVec Ideal S256x1024 .f32 :=
  k0_pay37 (k0_pay11 (View.ld x1 (Rect.unit (s := S1x256x512) ![0, 0, 0] ![1, 256, 256] inb_S1x256x512_S1x256x256_0_0_0))) (extractStridedSlice S256x256 ![0, 0] cv slices_S512x256_o0_0_S256x256) (k0_pay13 (View.ld x7 (Rect.unit (s := S2x256x256) ![0, 0, 0] ![1, 256, 256] inb_S2x256x256_S1x256x256_0_0_0)))
    (k0_pay23 (k0_pay14 (strip x8 0 0)) (k0_pay15 (strip x8 0 1)) (k0_pay16 (strip x8 0 2)) (k0_pay17 (strip x8 0 3)) (k0_pay18 (strip x8 0 4)) (k0_pay19 (strip x8 0 5)) (k0_pay20 (strip x8 0 6)) (k0_pay21 (strip x8 0 7)) (k0_pay22 (strip x8 0 8)) (strip x8 0 9) (strip x8 0 10) (strip x8 0 11) (strip x8 0 12) (strip x8 0 13) (strip x8 0 14) (strip x8 0 15))
    (k0_pay24 (strip x8 1 0)) (k0_pay25 (strip x8 1 1)) (k0_pay26 (strip x8 1 2)) (k0_pay27 (strip x8 1 3)) (k0_pay28 (strip x8 1 4)) (k0_pay29 (strip x8 1 5)) (k0_pay30 (strip x8 1 6)) (k0_pay31 (strip x8 1 7)) (k0_pay32 (strip x8 1 8)) (k0_pay33 (strip x8 1 9)) (k0_pay34 (strip x8 1 10)) (k0_pay35 (strip x8 1 11)) (k0_pay36 (strip x8 1 12)) (strip x8 1 13) (strip x8 1 14) (strip x8 1 15)

/-- and the other 256 rows. -/
def M1 (x1 : Vec Ideal S1x256x512 .f32) (cv : FVec Ideal S512x256 .f32) (x7 : Vec Ideal S2x256x256 .f32) (x8 : Vec Ideal S1x256x512 .f32) : FVec Ideal S256x1024 .f32 :=
  k0_pay63 (k0_pay39 (View.ld x1 (Rect.unit (s := S1x256x512) ![0, 0, 256] ![1, 256, 256] inb_S1x256x512_S1x256x256_0_0_256))) (k0_pay40 cv) (k0_pay41 (View.ld x7 (Rect.unit (s := S2x256x256) ![1, 0, 0] ![1, 256, 256] inb_S2x256x256_S1x256x256_1_0_0)))
    (k0_pay55 (k0_pay42 (strip x8 0 16)) (k0_pay43 (strip x8 0 17)) (k0_pay44 (strip x8 0 18)) (k0_pay45 (strip x8 0 19)) (k0_pay46 (strip x8 0 20)) (k0_pay47 (strip x8 0 21)) (k0_pay48 (strip x8 0 22)) (k0_pay49 (strip x8 0 23)) (k0_pay50 (strip x8 0 24)) (k0_pay51 (strip x8 0 25)) (k0_pay52 (strip x8 0 26)) (k0_pay53 (strip x8 0 27)) (k0_pay54 (strip x8 0 28)) (strip x8 0 29) (strip x8 0 30) (strip x8 0 31))
    (k0_pay56 (strip x8 1 16)) (k0_pay57 (strip x8 1 17)) (k0_pay58 (strip x8 1 18)) (k0_pay59 (strip x8 1 19)) (k0_pay60 (strip x8 1 20)) (k0_pay61 (strip x8 1 21)) (k0_pay62 (strip x8 1 22)) (strip x8 1 23) (strip x8 1 24) (strip x8 1 25) (strip x8 1 26) (strip x8 1 27) (strip x8 1 28) (strip x8 1 29) (strip x8 1 30) (strip x8 1 31)

theorem M0_eq (x1 : Vec Ideal S1x256x512 .f32) (cv : FVec Ideal S512x256 .f32) (x7 : Vec Ideal S2x256x256 .f32) (x8 : Vec Ideal S1x256x512 .f32) :
    M0 x1 cv x7 x8 = quad (k0_pay11 (View.ld x1 (Rect.unit (s := S1x256x512) ![0, 0, 0] ![1, 256, 256] inb_S1x256x512_S1x256x256_0_0_0))) (extractStridedSlice S256x256 ![0, 0] cv slices_S512x256_o0_0_S256x256) (k0_pay13 (View.ld x7 (Rect.unit (s := S2x256x256) ![0, 0, 0] ![1, 256, 256] inb_S2x256x256_S1x256x256_0_0_0))) (unfolded x8 0 0) (unfolded x8 1 0) := by
  rw [← unfolded_0_0, ← unfolded_1_0]
  rfl

theorem M1_eq (x1 : Vec Ideal S1x256x512 .f32) (cv : FVec Ideal S512x256 .f32) (x7 : Vec Ideal S2x256x256 .f32) (x8 : Vec Ideal S1x256x512 .f32) :
    M1 x1 cv x7 x8 = quad (k0_pay39 (View.ld x1 (Rect.unit (s := S1x256x512) ![0, 0, 256] ![1, 256, 256] inb_S1x256x512_S1x256x256_0_0_256))) (k0_pay40 cv) (k0_pay41 (View.ld x7 (Rect.unit (s := S2x256x256) ![1, 0, 0] ![1, 256, 256] inb_S2x256x256_S1x256x256_1_0_0))) (unfolded x8 0 16) (unfolded x8 1 16) := by
  rw [← unfolded_0_16, ← unfolded_1_16]
  rfl

theorem M0_at (x1 : Vec Ideal S1x256x512 .f32) (cv : FVec Ideal S512x256 .f32) (x7 : Vec Ideal S2x256x256 .f32) (x8 : Vec Ideal S1x256x512 .f32) (r : Fin 256) (c : Fin 1024) :
    M0 x1 cv x7 x8 (ix2 r c) = cell x1 cv x7 x8 (⟨r.val, by omega⟩ : Fin 512) c := by
  rw [M0_eq, quad_at]
  unfold cell
  by_cases h0 : c.val < 256
  · rw [dif_pos h0, dif_pos h0]
    pointwise [k0_pay11]
  rw [dif_neg h0, dif_neg h0]
  by_cases h1 : c.val < 512
  · rw [dif_pos h1, dif_pos h1]
    pointwise
  rw [dif_neg h1, dif_neg h1]
  by_cases h2 : c.val < 768
  · rw [dif_pos h2, dif_pos h2]
    pointwise [k0_pay13]
    exact congrArg x7 (congrArg₂ (fun a b => ix3 a (⟨c.val - 512, by omega⟩ : Fin 256) b) (Fin.ext (by show 0 = r.val / 256; omega)) (Fin.ext (by show r.val = r.val % 256; omega)))
  rw [dif_neg h2, dif_neg h2]
  by_cases h3 : c.val < 896
  · rw [dif_pos h3]
    unfold unfolded
    congr 2 <;> apply Fin.ext
    · show (128 * 0 + (c.val - 768)) % 256 = c.val - 768; omega
    · show (0 + r.val / 16 + 32 * (r.val % 16)) % 512 = r.val / 16 + 32 * (r.val % 16); omega
  · rw [dif_neg h3]
    unfold unfolded
    congr 2 <;> apply Fin.ext
    · show (128 * 1 + (c.val - 896)) % 256 = c.val - 768; omega
    · show (0 + r.val / 16 + 32 * (r.val % 16)) % 512 = r.val / 16 + 32 * (r.val % 16); omega

theorem M1_at (x1 : Vec Ideal S1x256x512 .f32) (cv : FVec Ideal S512x256 .f32) (x7 : Vec Ideal S2x256x256 .f32) (x8 : Vec Ideal S1x256x512 .f32) (r : Fin 256) (c : Fin 1024) :
    M1 x1 cv x7 x8 (ix2 r c) = cell x1 cv x7 x8 (⟨256 + r.val, by omega⟩ : Fin 512) c := by
  rw [M1_eq, quad_at]
  unfold cell
  by_cases h0 : c.val < 256
  · rw [dif_pos h0, dif_pos h0]
    pointwise [k0_pay39]
  rw [dif_neg h0, dif_neg h0]
  by_cases h1 : c.val < 512
  · rw [dif_pos h1, dif_pos h1]
    pointwise [k0_pay40]
  rw [dif_neg h1, dif_neg h1]
  by_cases h2 : c.val < 768
  · rw [dif_pos h2, dif_pos h2]
    pointwise [k0_pay41]
    exact congrArg x7 (congrArg₂ (fun a b => ix3 a (⟨c.val - 512, by omega⟩ : Fin 256) b) (Fin.ext (by show 1 = (256 + r.val) / 256; omega)) (Fin.ext (by show r.val = (256 + r.val) % 256; omega)))
  rw [dif_neg h2, dif_neg h2]
  by_cases h3 : c.val < 896
  · rw [dif_pos h3]
    unfold unfolded
    congr 2 <;> apply Fin.ext
    · show (128 * 0 + (c.val - 768)) % 256 = c.val - 768; omega
    · show (16 + r.val / 16 + 32 * (r.val % 16)) % 512 = (256 + r.val) / 16 + 32 * ((256 + r.val) % 16)
      rw [show (256 + r.val) / 16 = 16 + r.val / 16 by omega, show (256 + r.val) % 16 = r.val % 16 by omega]
      omega
  · rw [dif_neg h3]
    unfold unfolded
    congr 2 <;> apply Fin.ext
    · show (128 * 1 + (c.val - 896)) % 256 = c.val - 768; omega
    · show (16 + r.val / 16 + 32 * (r.val % 16)) % 512 = (256 + r.val) / 16 + 32 * ((256 + r.val) % 16)
      rw [show (256 + r.val) / 16 = 16 + r.val / 16 by omega, show (256 + r.val) % 16 = r.val % 16 by omega]
      omega

/-- A tile's output from its group matrix: each group over its root mean square, scaled, through the projection, plus the residual row. -/
def outOf (G : Fin 512 → Fin 1024 → EReal) (x0 : Vec Ideal S512x1024 .f32) (x10 : Vec Ideal S1x1024 .f32) (x11 : Vec Ideal S1024x1024 .bf16) : Vec Ideal S512x1024 .f32 := fun y =>
  (x0 y : EReal) + ∑ k : Fin 1024, G (y 0) k * Ideal.rsqrt (Ideal.div (∑ d : Fin 64, G (y 0) (⟨64 * (k.val / 64) + d.val, by omega⟩ : Fin 1024) * G (y 0) (⟨64 * (k.val / 64) + d.val, by omega⟩ : Fin 1024)) (Ideal.ofBits .f32 0x42800000#32) + Ideal.ofBits .f32 0x358637BD#32)
    * x10 (ix2 (0 : Fin 1) k) * x11 (ix2 k (y 1 : Fin 1024))

/-- Whether a tile is its sequence's first, as the body tests it. -/
def firstBit (i : grid0.Coords) : BitVec 1 :=
  Scalar.cmpi .eq (Scalar.select (Scalar.andi (Scalar.xori (Scalar.cmpi .slt (Scalar.remsi (BitVec.ofNat 32 (i 0).val) 8#32) 0#32) 0#1) (Scalar.cmpi .ne (Scalar.remsi (BitVec.ofNat 32 (i 0).val) 8#32) 0#32))
    (Scalar.addi (Scalar.remsi (BitVec.ofNat 32 (i 0).val) 8#32) 8#32) (Scalar.remsi (BitVec.ofNat 32 (i 0).val) 8#32)) 0#32

/-- Rows of the output from rows of the group matrix. -/
theorem rows_at (G : Fin 512 → Fin 1024 → EReal) (hG : ∀ R k, ∃ a : ℝ, G R k = (a : EReal)) (x0 : Vec Ideal S512x1024 .f32) (x10 : Vec Ideal S1x1024 .f32) (x11 : Vec Ideal S1024x1024 .bf16)
    (M : FVec Ideal S256x1024 .f32) (o : ℕ) (ho : o ≤ 256) (hM : ∀ (r : Fin 256) (k : Fin 1024), M (ix2 r k) = G (⟨o + r.val, by omega⟩ : Fin 512) k)
    (inb : ∀ a : Fin 2, (![o, 0] : Fin 2 → ℕ) a + (![256, 1024] : Fin 2 → ℕ) a ≤ S512x1024.size a) (x : S256x1024.Idx) :
    outRows M (spread (recip (gath (mulf M M)))) x10 (View.ld x0 (Rect.unit (s := S512x1024) ![o, 0] ![256, 1024] inb)) x11 x
      = outOf G x0 x10 x11 ((Rect.unit (s := S512x1024) ![o, 0] ![256, 1024] inb).emb x) := by
  obtain ⟨r, j, rfl⟩ : ∃ (r : Fin 256) (j : Fin 1024), x = ix2 r j := ⟨x 0, x 1, by funext b; match b with | ⟨0, _⟩ => rfl | ⟨1, _⟩ => rfl⟩
  have he : (Rect.unit (s := S512x1024) ![o, 0] ![256, 1024] inb).emb (ix2 r j) = ix2 (⟨o + r.val, by omega⟩ : Fin 512) j := by
    funext b
    match b with
    | ⟨0, _⟩ => apply Fin.ext; show o + 1 * r.val = o + r.val; omega
    | ⟨1, _⟩ => apply Fin.ext; show 0 + 1 * j.val = j.val; omega
  rw [he, outRows_at]
  unfold outOf
  have hx : View.ld x0 (Rect.unit (s := S512x1024) ![o, 0] ![256, 1024] inb) (ix2 r j) = x0 (ix2 (⟨o + r.val, by omega⟩ : Fin 512) j) := congrArg x0 he
  refine congrArg₂ (· + ·) hx (Finset.sum_congr rfl fun k _ => congrArg₂ (· * ·) (congrArg₂ (· * ·) (congrArg₂ (· * ·) (hM r k) ?_) rfl) rfl)
  have hf : ∀ k, ∃ a : ℝ, M (ix2 r k) = (a : EReal) := fun k => by rw [hM]; exact hG _ _
  choose a ha using hf
  refine (scale_at M r a ha k).trans ?_
  simp only [hM]
  rfl

/-- What the body leaves in the output's staging buffer, the mixers' values finite. -/
theorem out_eq (c : Dev nD) (i : grid0.Coords) (arg1 : Memref sig .tc .vmem S512x1024 .f32) (harg1 : arg1.IsWhole) (arg2 : Memref sig .tc .vmem S1x256x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S2x256x256 .f32) (harg8 : arg8.IsWhole) (arg9 : Memref sig .tc .vmem S1x256x512 .f32) (harg9 : arg9.IsWhole) (arg10 : Memref sig .tc .vmem S8x256 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S512x1024 .f32) (harg13 : arg13.IsWhole) (arg14 : Memref sig .tc .vmem S1x2x512x128 .f32) (harg14 : arg14.IsWhole)
    (x0 : Vec Ideal S512x1024 .f32) (x1 : Vec Ideal S1x256x512 .f32) (x2 : Vec Ideal S512x256 .f32) (x3 : Vec Ideal S512x256 .f32) (x4 : Vec Ideal S512x256 .f32) (x5 : Vec Ideal S8x256 .f32) (x6 : Vec Ideal S8x256 .f32) (x7 : Vec Ideal S2x256x256 .f32) (x8 : Vec Ideal S1x256x512 .f32) (x9 : Vec Ideal S8x256 .f32) (x10 : Vec Ideal S1x1024 .f32) (x11 : Vec Ideal S1024x1024 .bf16)
    (hG : ∀ R k, ∃ a : ℝ, cell x1 (k0_pay8 (k0_pay5 x3 x4) (firstBit i) (k0_pay6 x5) (k0_pay7 x6) x9 x2) x7 x8 R k = (a : EReal)) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = outOf (cell x1 (k0_pay8 (k0_pay5 x3 x4) (firstBit i) (k0_pay6 x5) (k0_pay7 x6) x9 x2) x7 x8) x0 x10 x11 := by
  unfold out0_A_12
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x256) hz, View.ld_unit_zero (S := S8x256) hz, View.ld_unit_zero (S := S1x1024) hz, View.ld_unit_zero (S := S1024x1024) hz, View.ld_unit_zero (S := S1x256x512) hz3, View.readCov_eq_canon', fold_canon, strip_eq]
  funext y
  refine View.canon_apply_of_pieces (outOf (cell x1 (k0_pay8 (k0_pay5 x3 x4) (firstBit i) (k0_pay6 x5) (k0_pay7 x6) x9 x2) x7 x8) x0 x10 x11) _ ?_ y (View.cover_of_tiledL _ ![256, 1024] (by sl_kernel_rfl) y)
  refine View.PiecesOf.mem ?_
  exact ⟨fun x => rows_at _ hG x0 x10 x11 (M1 x1 (k0_pay8 (k0_pay5 x3 x4) (firstBit i) (k0_pay6 x5) (k0_pay7 x6) x9 x2) x7 x8) 256 (by omega) (fun r k => M1_at _ _ _ _ r k) inb_S512x1024_S256x1024_256_0 x,
    fun x => rows_at _ hG x0 x10 x11 (M0 x1 (k0_pay8 (k0_pay5 x3 x4) (firstBit i) (k0_pay6 x5) (k0_pay7 x6) x9 x2) x7 x8) 0 (by omega) (fun r k => (M0_at _ _ _ _ r k).trans (congrArg (fun R => cell x1 (k0_pay8 (k0_pay5 x3 x4) (firstBit i) (k0_pay6 x5) (k0_pay7 x6) x9 x2) x7 x8 R k) (Fin.ext (Nat.zero_add _).symm))) inb_S512x1024_S256x1024_0_0 x, trivial⟩

end Cert.Kernel5Ideal.Mix

end
-- ==== Proof.MixConv.lean ====
module

public import proofs.«01_k».proof.Proof.MixOut
public import Idealize.ShloMosaic.Lib.KernelVsHost

@[expose] public section

set_option maxRecDepth 16384

noncomputable section

namespace Cert.Kernel5Ideal.Mix

open Cert.Kernel5Ideal Cert.Kernel5Ideal.Gen Idealize.ShloMosaic Idealize.ShloMosaic.TcCoe

/-- The eight positions before a tile (zero at the sequence's start) and the tile, one under the other. -/
def joined (v15 : FVec Ideal S512x256 .f32) (b : BitVec 1) (v31 : FVec Ideal S8x256 .f32) : FVec Ideal S520x256 .f32 :=
  concatenate S520x256 0 [⟨S8x256, Scalar.select b (broadcast S8x256 (Scalar.ofBits .f32 0x00000000#32)) v31⟩, ⟨S512x256, v15⟩] concatenates_S8x256_S512x256_S520x256_d0

/-- The convolution's input some positions earlier. -/
def earlier (v15 : FVec Ideal S512x256 .f32) (b : BitVec 1) (v31 : FVec Ideal S8x256 .f32) (n : ℕ) (hn : n ≤ 8) (r : Fin 512) (c : Fin 256) : EReal :=
  if h : n ≤ r.val then v15 (ix2 (⟨r.val - n, by omega⟩ : Fin 512) c) else if b = 1#1 then 0 else v31 (ix2 (⟨8 + r.val - n, by omega⟩ : Fin 8) c)

theorem joined_at (v15 : FVec Ideal S512x256 .f32) (b : BitVec 1) (v31 : FVec Ideal S8x256 .f32) (n : ℕ) (hn : n ≤ 8) (r : Fin 512) (c : Fin 256) :
    joined v15 b v31 (ix2 (⟨8 + r.val - n, by omega⟩ : Fin 520) c) = earlier v15 b v31 n hn r c := by
  unfold joined earlier
  by_cases h : n ≤ r.val
  · rw [dif_pos h]
    pointwise
    rw [dif_neg (by omega)]
    congr 2
    apply Fin.ext
    dsimp only
    omega
  · rw [dif_neg h]
    by_cases hb : b = 1#1
    · subst hb
      rw [if_pos rfl]
      pointwise
      rw [dif_pos (by omega)]
    · have h0 : b = 0#1 := by revert hb; revert b; decide
      subst h0
      rw [if_neg (by decide)]
      pointwise
      rw [dif_pos (by omega)]

theorem rotated_at (n : ℕ) (sb : BitVec 32) (hs : sb.toNat = n) (hn : n ≤ 8) (h0 : 0 < n) (x : FVec Ideal S520x256 .f32) (r : Fin 512) (c : Fin 256) :
    extractStridedSlice S512x256 ![8, 0] (dynamicRotate 0 sb none x rotates_S520x256_d0) slices_S520x256_o8_0_S512x256 (ix2 r c) = x (ix2 (⟨8 + r.val - n, by omega⟩ : Fin 520) c) := by
  have e : extractStridedSlice S512x256 ![8, 0] (dynamicRotate 0 sb none x rotates_S520x256_d0) slices_S520x256_o8_0_S512x256 (ix2 r c)
      = dynamicRotate 0 sb none x rotates_S520x256_d0 (ix2 (⟨8 + r.val, by omega⟩ : Fin 520) c) := by
    generalize dynamicRotate 0 sb none x rotates_S520x256_d0 = y
    pointwise
  rw [e]
  refine dynamicRotate_apply _ _ _ _ _ _ fun b => ?_
  match b with
  | ⟨0, _⟩ =>
    show 8 + r.val - n = (8 + r.val + 520 - sb.toNat % 520) % 520
    rw [hs]
    omega
  | ⟨1, _⟩ => rfl

/-- The gated convolution at a position of a tile. -/
theorem conv_at (x2 x3 x4 : Vec Ideal S512x256 .f32) (x5 x6 x9 : Vec Ideal S8x256 .f32) (b : BitVec 1) (r : Fin 512) (c : Fin 256) :
    k0_pay8 (k0_pay5 x3 x4) b (k0_pay6 x5) (k0_pay7 x6) x9 x2 (ix2 r c)
      = x2 (ix2 r c) * (x9 (ix2 (0 : Fin 8) c) * earlier (k0_pay5 x3 x4) b (mulf (k0_pay6 x5) (k0_pay7 x6)) 2 (by omega) r c
          + x9 (ix2 (1 : Fin 8) c) * earlier (k0_pay5 x3 x4) b (mulf (k0_pay6 x5) (k0_pay7 x6)) 1 (by omega) r c
          + x9 (ix2 (2 : Fin 8) c) * k0_pay5 x3 x4 (ix2 r c)) := by
  rw [← joined_at, ← joined_at, ← rotated_at 2 2#32 rfl (by omega) (by omega) (joined (k0_pay5 x3 x4) b (mulf (k0_pay6 x5) (k0_pay7 x6))) r c,
    ← rotated_at 1 1#32 rfl (by omega) (by omega) (joined (k0_pay5 x3 x4) b (mulf (k0_pay6 x5) (k0_pay7 x6))) r c]
  unfold joined
  generalize k0_pay5 x3 x4 = v15
  generalize k0_pay6 x5 = v28
  generalize k0_pay7 x6 = v30
  unfold k0_pay8
  generalize e1 : extractStridedSlice S512x256 ![8, 0] (dynamicRotate 0 1#32 none _ rotates_S520x256_d0) slices_S520x256_o8_0_S512x256 = A
  generalize e2 : extractStridedSlice S512x256 ![8, 0] (dynamicRotate 0 2#32 none _ rotates_S520x256_d0) slices_S520x256_o8_0_S512x256 = B
  pointwise

end Cert.Kernel5Ideal.Mix

end
-- ==== Proof.MixRef.lean ====
module

public import proofs.«01_k».proof.Defs
public import proofs.«01_k».proof.Proof.Gen.Reference5Ideal.Run
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Reference5Ideal.Mix

open Cert.Reference5Ideal Cert.Reference5Ideal.Gen Idealize.ShloMosaic

/-- The convolution's input: the product of two column groups of the projection. -/
def cu (p : FVec Ideal S8x4096x2956 .f32) : FVec Ideal S8x4096x256 .f32 :=
  mulf (extractStridedSlice S8x4096x256 ![0, 0, 908] p slices_S8x4096x2956_S8x4096x256_0_0_908) (extractStridedSlice S8x4096x256 ![0, 0, 1164] p slices_S8x4096x2956_S8x4096x256_0_0_1164)

/-- The convolution's input one position earlier. -/
def back1 (p : FVec Ideal S8x4096x2956 .f32) : FVec Ideal S8x4096x256 .f32 :=
  concatenate S8x4096x256 1 [⟨S8x1x256, (broadcastInDim S8x1x256 ![] bcast_S_S8x1x256 (constant S_ .f32 0x00000000#32))⟩, ⟨S8x4095x256, (extractStridedSlice S8x4095x256 ![0, 0, 0] (cu p) slices_S8x4096x256_S8x4095x256_0_0_0)⟩] concatenates_S8x1x256_S8x4095x256_S8x4096x256_d1

/-- The convolution's input two positions earlier. -/
def back2 (p : FVec Ideal S8x4096x2956 .f32) : FVec Ideal S8x4096x256 .f32 :=
  concatenate S8x4096x256 1 [⟨S8x2x256, (broadcastInDim S8x2x256 ![] bcast_S_S8x2x256 (constant S_ .f32 0x00000000#32))⟩, ⟨S8x4094x256, (extractStridedSlice S8x4094x256 ![0, 0, 0] (cu p) slices_S8x4096x256_S8x4094x256_0_0_0)⟩] concatenates_S8x2x256_S8x4094x256_S8x4096x256_d1

/-- The gated convolution. -/
def conv (p : FVec Ideal S8x4096x2956 .f32) (w : FVec Ideal S3x256 .f32) : FVec Ideal S8x4096x256 .f32 :=
  mulf (extractStridedSlice S8x4096x256 ![0, 0, 652] p slices_S8x4096x2956_S8x4096x256_0_0_652) (addf (addf (mulf (broadcastInDim S8x4096x256 ![0, 1, 2] bcast_S1x1x256_S8x4096x256_0_1_2 (broadcastInDim S1x1x256 ![2] bcast_S256_S1x1x256_2 (shapeCast _ (extractStridedSlice S1x256 ![0, 0] w slices_S3x256_S1x256_0_0) shapeCasts_S1x256_S256))) (back2 p)) (mulf (broadcastInDim S8x4096x256 ![0, 1, 2] bcast_S1x1x256_S8x4096x256_0_1_2 (broadcastInDim S1x1x256 ![2] bcast_S256_S1x1x256_2 (shapeCast _ (extractStridedSlice S1x256 ![1, 0] w slices_S3x256_S1x256_1_0) shapeCasts_S1x256_S256))) (back1 p))) (mulf (broadcastInDim S8x4096x256 ![0, 1, 2] bcast_S1x1x256_S8x4096x256_0_1_2 (broadcastInDim S1x1x256 ![2] bcast_S256_S1x1x256_2 (shapeCast _ (extractStridedSlice S1x256 ![2, 0] w slices_S3x256_S1x256_2_0) shapeCasts_S1x256_S256))) (cu p)))

/-- The sixteen groups of 64 columns: four per mixer. -/
def groups (p : FVec Ideal S8x4096x2956 .f32) (oa oc od : FVec Ideal S8x4x4096x64 .f32) (w : FVec Ideal S3x256 .f32) : FVec Ideal S8x4096x16x64 .f32 :=
  concatenate S8x4096x16x64 2 [⟨S8x4096x4x64, transpose S8x4096x4x64 [0, 2, 1, 3] oa transposes_S8x4x4096x64_S8x4096x4x64_0_2_1_3⟩,
    ⟨S8x4096x4x64, shapeCast S8x4096x4x64 (conv p w) shapeCasts_S8x4096x256_S8x4096x4x64⟩,
    ⟨S8x4096x4x64, transpose S8x4096x4x64 [0, 2, 1, 3] oc transposes_S8x4x4096x64_S8x4096x4x64_0_2_1_3⟩,
    ⟨S8x4096x4x64, transpose S8x4096x4x64 [0, 2, 1, 3] od transposes_S8x4x4096x64_S8x4096x4x64_0_2_1_3⟩] concatenates_S8x4096x4x64_S8x4096x4x64_S8x4096x4x64_S8x4096x4x64_S8x4096x16x64_d2

/-- The groups, each divided by its root mean square and scaled by the gain. -/
def normed (G : FVec Ideal S8x4096x16x64 .f32) (g : FVec Ideal S1024 .f32) : FVec Ideal S8x4096x1024 .f32 :=
  shapeCast S8x4096x1024 (mulf (mulf G (broadcastInDim S8x4096x16x64 ![0, 1, 2, 3] bcast_S8x4096x16x1_S8x4096x16x64_0_1_2_3 (Host.rsqrt (addf (Host.divf (broadcastInDim S8x4096x16x1 ![0, 1, 2] bcast_S8x4096x16_S8x4096x16x1_0_1_2 (Host.reduceAdd (mulf G G) (constant S_ .f32 0x00000000#32) reducesTo_S8x4096x16x64_S8x4096x16_d3 h_S_)) (broadcastInDim S8x4096x16x1 ![] bcast_S_S8x4096x16x1 (constant S_ .f32 0x42800000#32))) (broadcastInDim S8x4096x16x1 ![] bcast_S_S8x4096x16x1 (constant S_ .f32 0x358637BD#32))))))
    (broadcastInDim S8x4096x16x64 ![0, 1, 2, 3] bcast_S1x1x16x64_S8x4096x16x64_0_1_2_3 (broadcastInDim S1x1x16x64 ![2, 3] bcast_S16x64_S1x1x16x64_2_3 (shapeCast S16x64 g shapeCasts_S1024_S16x64)))) shapeCasts_S8x4096x16x64_S8x4096x1024

/-- The residual stream plus the output projection, the rows flattened. -/
def result (x : FVec Ideal S8x4096x1024 .f32) (p : FVec Ideal S8x4096x2956 .f32) (oa oc od : FVec Ideal S8x4x4096x64 .f32) (w : FVec Ideal S3x256 .f32)
    (g : FVec Ideal S1024 .f32) (wo : FVec Ideal S1024x1024 .f32) : FVec Ideal S32768x1024 .f32 :=
  shapeCast S32768x1024 (addf x (Host.dotGeneral dot_S8x4096x1024_S1024x1024_S8x4096x1024_2_0_01_1_n_n none (normed (groups p oa oc od w) g) wo)) shapeCasts_S8x4096x1024_S32768x1024

theorem result_eq (m : (ℓ : Loc nD τ sig) → Buf (Elt Ideal) ℓ) (c : Dev nD) :
    Cert.Reference5Ideal.Value.res_main_v50 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- The convolution's input at an index. -/
theorem cu_at (p : FVec Ideal S8x4096x2956 .f32) (B : Fin 8) (s : Fin 4096) (c : Fin 256) :
    cu p (ix3 B s c) = p (ix3 B s (⟨908 + c.val, by omega⟩ : Fin 2956)) * p (ix3 B s (⟨1164 + c.val, by omega⟩ : Fin 2956)) := by
  pointwise [cu]

theorem back1_at (p : FVec Ideal S8x4096x2956 .f32) (B : Fin 8) (s : Fin 4096) (c : Fin 256) :
    back1 p (ix3 B s c) = if h : s.val < 1 then (0 : EReal) else cu p (ix3 B (⟨s.val - 1, by omega⟩ : Fin 4096) c) := by
  unfold back1
  generalize cu p = Q
  pointwise

theorem back2_at (p : FVec Ideal S8x4096x2956 .f32) (B : Fin 8) (s : Fin 4096) (c : Fin 256) :
    back2 p (ix3 B s c) = if h : s.val < 2 then (0 : EReal) else cu p (ix3 B (⟨s.val - 2, by omega⟩ : Fin 4096) c) := by
  unfold back2
  generalize cu p = Q
  pointwise

/-- The gated convolution at an index. -/
theorem conv_at (p : FVec Ideal S8x4096x2956 .f32) (w : FVec Ideal S3x256 .f32) (B : Fin 8) (s : Fin 4096) (c : Fin 256) :
    conv p w (ix3 B s c) = p (ix3 B s (⟨652 + c.val, by omega⟩ : Fin 2956))
      * (w (ix2 (0 : Fin 3) c) * back2 p (ix3 B s c) + w (ix2 (1 : Fin 3) c) * back1 p (ix3 B s c) + w (ix2 (2 : Fin 3) c) * cu p (ix3 B s c)) := by
  unfold conv
  generalize cu p = Q
  generalize back1 p = Q1
  generalize back2 p = Q2
  pointwise

/-- Column `k` of the 1024 that the norm and the output projection read. -/
def col (p : FVec Ideal S8x4096x2956 .f32) (oa oc od : FVec Ideal S8x4x4096x64 .f32) (w : FVec Ideal S3x256 .f32) (B : Fin 8) (s : Fin 4096) (k : ℕ) : EReal :=
  if k < 256 then oa (ix4 B (⟨k / 64 % 4, by omega⟩ : Fin 4) s (⟨k % 64, by omega⟩ : Fin 64))
  else if k < 512 then conv p w (ix3 B s (⟨(k - 256) % 256, by omega⟩ : Fin 256))
  else if k < 768 then oc (ix4 B (⟨k / 64 % 4, by omega⟩ : Fin 4) s (⟨k % 64, by omega⟩ : Fin 64))
  else od (ix4 B (⟨k / 64 % 4, by omega⟩ : Fin 4) s (⟨k % 64, by omega⟩ : Fin 64))

theorem groups_at (p : FVec Ideal S8x4096x2956 .f32) (oa oc od : FVec Ideal S8x4x4096x64 .f32) (w : FVec Ideal S3x256 .f32) (B : Fin 8) (s : Fin 4096) (g : Fin 16) (d : Fin 64) :
    groups p oa oc od w (ix4 B s g d) = col p oa oc od w B s (64 * g.val + d.val) := by
  unfold groups col
  generalize conv p w = Q
  pointwise
  have hd := d.isLt
  have e2 : d = (⟨(64 * g.val + d.val) % 64, by omega⟩ : Fin 64) := Fin.ext (by dsimp only; omega)
  by_cases h1 : g.val < 4
  · refine (dif_pos h1).trans (Eq.trans ?_ (if_pos (show 64 * g.val + d.val < 256 by omega)).symm)
    exact congrArg₂ (fun a b => oa (ix4 B a s b)) (Fin.ext (by dsimp only; omega)) e2
  · refine (dif_neg h1).trans (Eq.trans ?_ (if_neg (show ¬64 * g.val + d.val < 256 by omega)).symm)
    by_cases h2 : g.val < 8
    · refine (dif_pos (show g.val - 4 < 4 by omega)).trans (Eq.trans ?_ (if_pos (show 64 * g.val + d.val < 512 by omega)).symm)
      exact congrArg (fun a => Q (ix3 B s a)) (Fin.ext (by dsimp only; omega))
    · refine (dif_neg (show ¬g.val - 4 < 4 by omega)).trans (Eq.trans ?_ (if_neg (show ¬64 * g.val + d.val < 512 by omega)).symm)
      by_cases h3 : g.val < 12
      · refine (dif_pos (show g.val - 4 - 4 < 4 by omega)).trans (Eq.trans ?_ (if_pos (show 64 * g.val + d.val < 768 by omega)).symm)
        exact congrArg₂ (fun a b => oc (ix4 B a s b)) (Fin.ext (by dsimp only; omega)) e2
      · refine (dif_neg (show ¬g.val - 4 - 4 < 4 by omega)).trans (Eq.trans ?_ (if_neg (show ¬64 * g.val + d.val < 768 by omega)).symm)
        exact congrArg₂ (fun a b => od (ix4 B a s b)) (Fin.ext (by dsimp only; omega)) e2

/-- A normalised column. -/
theorem normed_at (G : FVec Ideal S8x4096x16x64 .f32) (g : FVec Ideal S1024 .f32) (B : Fin 8) (s : Fin 4096) (k : Fin 1024) :
    normed G g (ix3 B s k) = G (ix4 B s (⟨k.val / 64, by omega⟩ : Fin 16) (⟨k.val % 64, by omega⟩ : Fin 64))
      * Ideal.rsqrt (Ideal.div (∑ d : Fin 64, G (ix4 B s (⟨k.val / 64, by omega⟩ : Fin 16) d) * G (ix4 B s (⟨k.val / 64, by omega⟩ : Fin 16) d)) (Ideal.ofBits .f32 0x42800000#32) + Ideal.ofBits .f32 0x358637BD#32)
      * g (ix1 k) := by
  pointwise [normed]

/-- The result at an index. -/
theorem result_at (x : FVec Ideal S8x4096x1024 .f32) (p : FVec Ideal S8x4096x2956 .f32) (oa oc od : FVec Ideal S8x4x4096x64 .f32) (w : FVec Ideal S3x256 .f32)
    (g : FVec Ideal S1024 .f32) (wo : FVec Ideal S1024x1024 .f32) (R : Fin 32768) (j : Fin 1024) :
    result x p oa oc od w g wo (ix2 R j) = x (ix3 (⟨R.val / 4096, by omega⟩ : Fin 8) (⟨R.val % 4096, by omega⟩ : Fin 4096) j)
      + ∑ k : Fin 1024, normed (groups p oa oc od w) g (ix3 (⟨R.val / 4096, by omega⟩ : Fin 8) (⟨R.val % 4096, by omega⟩ : Fin 4096) k) * wo (ix2 k j) := by
  unfold result
  generalize normed (groups p oa oc od w) g = N
  pointwise

end Cert.Reference5Ideal.Mix

end
-- ==== Proof.MixPre.lean ====
module

public import proofs.«01_k».proof.Defs
public import proofs.«01_k».proof.Proof.MixRef
public import Idealize.ShloMosaic.Lib.Pointwise

@[expose] public section

set_option maxRecDepth 16384

noncomputable section

namespace Cert.Reference5Ideal.Mix

open Cert.Reference5Ideal Cert.Reference5Ideal.Gen Idealize.ShloMosaic

/-- A number below infinity in size is real. -/
theorem real_of_abs (v : EReal) (h : BitVec.ofBool (decide (FloatOps.absf (F := Ideal) (φ := .f32) v < Ideal.ofBits .f32 0x7F800000#32)) = 1#1) : ∃ r : ℝ, v = (r : EReal) := by
  have hlt : FloatOps.absf (F := Ideal) (φ := .f32) v < Ideal.ofBits .f32 0x7F800000#32 := by
    by_contra hn
    rw [decide_eq_false hn] at h
    exact absurd h (by decide)
  rw [show Ideal.ofBits .f32 0x7F800000#32 = (⊤ : EReal) by simp [Ideal.ofBits, Ideal.ieee]] at hlt
  have hm : max v (-v) < ⊤ := hlt
  refine ⟨v.toReal, (EReal.coe_toReal (fun e => ?_) (fun e => ?_)).symm⟩
  · rw [e] at hm; simp at hm
  · rw [e] at hm; simp at hm

theorem pre_facts : Cert.Pre_finite_mixers.Facts := ⟨by decide, by decide, by decide, by decide, by decide, by decide, by decide, by decide, by decide, by decide, by decide, by decide, by decide⟩

/-- The values that the group norm reads are real numbers. -/
structure Finite (p : FVec Ideal S8x4096x2956 .f32) (oa oc od : FVec Ideal S8x4x4096x64 .f32) (w : FVec Ideal S3x256 .f32) : Prop where
  gate : ∀ (B : Fin 8) (s : Fin 4096) (c : Fin 256), ∃ r : ℝ, p (ix3 B s (⟨652 + c.val, by omega⟩ : Fin 2956)) = (r : EReal)
  left : ∀ (B : Fin 8) (s : Fin 4096) (c : Fin 256), ∃ r : ℝ, p (ix3 B s (⟨908 + c.val, by omega⟩ : Fin 2956)) = (r : EReal)
  right : ∀ (B : Fin 8) (s : Fin 4096) (c : Fin 256), ∃ r : ℝ, p (ix3 B s (⟨1164 + c.val, by omega⟩ : Fin 2956)) = (r : EReal)
  a : ∀ (B : Fin 8) (h : Fin 4) (s : Fin 4096) (d : Fin 64), ∃ r : ℝ, oa (ix4 B h s d) = (r : EReal)
  c : ∀ (B : Fin 8) (h : Fin 4) (s : Fin 4096) (d : Fin 64), ∃ r : ℝ, oc (ix4 B h s d) = (r : EReal)
  d : ∀ (B : Fin 8) (h : Fin 4) (s : Fin 4096) (d : Fin 64), ∃ r : ℝ, od (ix4 B h s d) = (r : EReal)
  tap : ∀ (k : Fin 3) (c : Fin 256), ∃ r : ℝ, w (ix2 k c) = (r : EReal)

theorem both (x y : BitVec 1) (h : x &&& y = 1#1) : x = 1#1 ∧ y = 1#1 := by
  revert h
  revert x y
  decide

/-- What the precondition says at one index. -/
theorem pre_at (x : FVec Ideal S8x4096x1024 .f32) (p : FVec Ideal S8x4096x2956 .f32) (oa oc od : FVec Ideal S8x4x4096x64 .f32) (w : FVec Ideal S3x256 .f32) (g : FVec Ideal S1024 .f32) (wo : FVec Ideal S1024x1024 .f32)
    (h : @Cert.Pre_finite_mixers.fn pre_facts Ideal _ x p oa oc od w g wo = fun _ => 1#1) (B : Fin 8) (s : Fin 4096) (c : Fin 256) :
    (∃ r : ℝ, p (ix3 B s (⟨652 + c.val, by omega⟩ : Fin 2956)) = (r : EReal)) ∧ (∃ r : ℝ, p (ix3 B s (⟨908 + c.val, by omega⟩ : Fin 2956)) = (r : EReal))
    ∧ (∃ r : ℝ, p (ix3 B s (⟨1164 + c.val, by omega⟩ : Fin 2956)) = (r : EReal))
    ∧ (∃ r : ℝ, oa (ix4 B (⟨c.val / 64, by omega⟩ : Fin 4) s (⟨c.val % 64, by omega⟩ : Fin 64)) = (r : EReal))
    ∧ (∃ r : ℝ, oc (ix4 B (⟨c.val / 64, by omega⟩ : Fin 4) s (⟨c.val % 64, by omega⟩ : Fin 64)) = (r : EReal))
    ∧ (∃ r : ℝ, od (ix4 B (⟨c.val / 64, by omega⟩ : Fin 4) s (⟨c.val % 64, by omega⟩ : Fin 64)) = (r : EReal))
    ∧ (∃ r : ℝ, w (ix2 (0 : Fin 3) c) = (r : EReal)) ∧ (∃ r : ℝ, w (ix2 (1 : Fin 3) c) = (r : EReal)) ∧ (∃ r : ℝ, w (ix2 (2 : Fin 3) c) = (r : EReal)) := by
  have h' := congrFun h (ix3 B s c)
  revert h'
  unfold Cert.Pre_finite_mixers.fn Cert.Pre_finite_mixers.fn_part1 Cert.Pre_finite_mixers.fn_part2
  pointwise []
  intro h'
  obtain ⟨h', h9⟩ := both _ _ h'
  obtain ⟨h', h8⟩ := both _ _ h'
  obtain ⟨h', h7⟩ := both _ _ h'
  obtain ⟨h', h6⟩ := both _ _ h'
  obtain ⟨h', h5⟩ := both _ _ h'
  obtain ⟨h', h4⟩ := both _ _ h'
  obtain ⟨h', h3⟩ := both _ _ h'
  obtain ⟨h1, h2⟩ := both _ _ h'
  exact ⟨real_of_abs _ h1, real_of_abs _ h2, real_of_abs _ h3, real_of_abs _ h4, real_of_abs _ h5, real_of_abs _ h6, real_of_abs _ h7, real_of_abs _ h8, real_of_abs _ h9⟩

theorem finite_of_pre (x : FVec Ideal S8x4096x1024 .f32) (p : FVec Ideal S8x4096x2956 .f32) (oa oc od : FVec Ideal S8x4x4096x64 .f32) (w : FVec Ideal S3x256 .f32) (g : FVec Ideal S1024 .f32) (wo : FVec Ideal S1024x1024 .f32)
    (h : @Cert.Pre_finite_mixers.fn pre_facts Ideal _ x p oa oc od w g wo = fun _ => 1#1) : Finite p oa oc od w := by
  have key := pre_at x p oa oc od w g wo h
  have hh : ∀ (a : FVec Ideal S8x4x4096x64 .f32), (∀ (B : Fin 8) (s : Fin 4096) (c : Fin 256), ∃ r : ℝ, a (ix4 B (⟨c.val / 64, by omega⟩ : Fin 4) s (⟨c.val % 64, by omega⟩ : Fin 64)) = (r : EReal)) →
      ∀ (B : Fin 8) (h : Fin 4) (s : Fin 4096) (d : Fin 64), ∃ r : ℝ, a (ix4 B h s d) = (r : EReal) := by
    intro a ha B h s d
    obtain ⟨r, hr⟩ := ha B s (⟨64 * h.val + d.val, by omega⟩ : Fin 256)
    refine ⟨r, Eq.trans ?_ hr⟩
    exact congrArg₂ (fun u v => a (ix4 B u s v)) (Fin.ext (by dsimp only; omega)) (Fin.ext (by dsimp only; omega))
  refine ⟨fun B s c => (key B s c).1, fun B s c => (key B s c).2.1, fun B s c => (key B s c).2.2.1, hh oa fun B s c => (key B s c).2.2.2.1,
    hh oc fun B s c => (key B s c).2.2.2.2.1, hh od fun B s c => (key B s c).2.2.2.2.2.1, fun k c => ?_⟩
  match k with
  | ⟨0, _⟩ => exact (key 0 0 c).2.2.2.2.2.2.1
  | ⟨1, _⟩ => exact (key 0 0 c).2.2.2.2.2.2.2.1
  | ⟨2, _⟩ => exact (key 0 0 c).2.2.2.2.2.2.2.2

theorem real_mul {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩

theorem real_add {a b : EReal} (ha : ∃ r : ℝ, a = (r : EReal)) (hb : ∃ r : ℝ, b = (r : EReal)) : ∃ r : ℝ, a + b = (r : EReal) := by
  obtain ⟨r, rfl⟩ := ha
  obtain ⟨s, rfl⟩ := hb
  exact ⟨r + s, (EReal.coe_add r s).symm⟩

/-- Every column that the group norm reads is real. -/
theorem col_real (p : FVec Ideal S8x4096x2956 .f32) (oa oc od : FVec Ideal S8x4x4096x64 .f32) (w : FVec Ideal S3x256 .f32) (hf : Finite p oa oc od w) (B : Fin 8) (s : Fin 4096) (k : ℕ) :
    ∃ r : ℝ, col p oa oc od w B s k = (r : EReal) := by
  have hcu : ∀ (s : Fin 4096) (c : Fin 256), ∃ r : ℝ, cu p (ix3 B s c) = (r : EReal) := fun s c => by
    rw [cu_at]
    exact real_mul (hf.left B s c) (hf.right B s c)
  unfold col
  split
  · exact hf.a _ _ _ _
  · split
    · rw [conv_at]
      refine real_mul (hf.gate _ _ _) (real_add (real_add (real_mul (hf.tap _ _) ?_) (real_mul (hf.tap _ _) ?_)) (real_mul (hf.tap _ _) (hcu _ _)))
      · rw [back2_at]
        split
        · exact ⟨0, rfl⟩
        · exact hcu _ _
      · rw [back1_at]
        split
        · exact ⟨0, rfl⟩
        · exact hcu _ _
    · split
      · exact hf.c _ _ _ _
      · exact hf.d _ _ _ _

end Cert.Reference5Ideal.Mix

end
-- ==== Proof.Mix.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.MixBlocks
public import proofs.«01_k».proof.Proof.MixConv
public import proofs.«01_k».proof.Proof.MixOut
public import proofs.«01_k».proof.Proof.MixPre
public import proofs.«01_k».proof.Proof.MixRef
public import Idealize.ShloMosaic.Lib.Pointwise
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.Kernel5Ideal.Mix

open Cert.Kernel5Ideal Cert.Kernel5Ideal.Gen Idealize.ShloMosaic Idealize.ShloMosaic.TcCoe
open Idealize.SL Idealize.SL.Sem Idealize.ShloMosaic.Tactic
open Cert.Reference5Ideal.Mix (cu back1 back2 conv col groups normed result)

variable (m : (ℓ : Loc nD τ sig) → Buf (Elt Ideal) ℓ) (ρ : Dev nD → PrngReg)

/-- The body's test holds at the first tile of each sequence only. -/
theorem firstBit_eq : ∀ t : Fin cfg0.N, firstBit (grid0.coords t) = if t.val % 8 = 0 then 1#1 else 0#1 :=
  (by decide +kernel : ∀ t : Fin grid0.N, _)

theorem pay5_at (x3 x4 : Vec Ideal S512x256 .f32) (r : Fin 512) (k : Fin 256) : k0_pay5 x3 x4 (ix2 r k) = x3 (ix2 r k) * x4 (ix2 r k) := by
  pointwise [k0_pay5]

theorem pay67_at (x5 x6 : Vec Ideal S8x256 .f32) (r : Fin 8) (k : Fin 256) : mulf (k0_pay6 x5) (k0_pay7 x6) (ix2 r k) = x5 (ix2 r k) * x6 (ix2 r k) := by
  pointwise [k0_pay6, k0_pay7]

/-- The convolution's input in a tile. -/
theorem input_at (c : Dev nD) (t : Fin cfg0.N) (r : Fin 512) (k : Fin 256) : k0_pay5 (iblk m c 3 t) (iblk m c 4 t) (ix2 r k)
    = cu (m ((c : Thread nD τ).loc main_arg1)) (ix3 (⟨t.val / 8, by have := lt64 t; omega⟩ : Fin 8) (⟨512 * (t.val % 8) + r.val, by omega⟩ : Fin 4096) k) := by
  rw [pay5_at, block3, block4]
  exact (Cert.Reference5Ideal.Mix.cu_at _ _ _ _).symm

/-- The convolution's input some positions earlier is the reference's, in the tile or before it. -/
theorem earlier_eq (c : Dev nD) (t : Fin cfg0.N) (n : ℕ) (hn : n ≤ 8) (r : Fin 512) (k : Fin 256) :
    earlier (k0_pay5 (iblk m c 3 t) (iblk m c 4 t)) (firstBit (grid0.coords t)) (mulf (k0_pay6 (iblk m c 5 t)) (k0_pay7 (iblk m c 6 t))) n hn r k
      = if h : 512 * (t.val % 8) + r.val < n then (0 : EReal)
        else cu (m ((c : Thread nD τ).loc main_arg1)) (ix3 (⟨t.val / 8, by have := lt64 t; omega⟩ : Fin 8) (⟨512 * (t.val % 8) + r.val - n, by omega⟩ : Fin 4096) k) := by
  unfold earlier
  by_cases h1 : n ≤ r.val
  · rw [dif_pos h1, dif_neg (by omega), input_at]
    exact congrArg (fun s => cu (m ((c : Thread nD τ).loc main_arg1)) (ix3 (⟨t.val / 8, by have := lt64 t; omega⟩ : Fin 8) s k)) (Fin.ext (by dsimp only; omega))
  · rw [dif_neg h1, firstBit_eq]
    by_cases h2 : t.val % 8 = 0
    · rw [if_pos h2, if_pos rfl, dif_pos (by omega)]
    · rw [if_neg h2, if_neg (by decide), dif_neg (by omega), pay67_at, block5 m c t h2, block6 m c t h2]
      refine Eq.trans ?_ (Cert.Reference5Ideal.Mix.cu_at _ _ _ _).symm
      have e : (⟨512 * (t.val % 8) - 8 + (8 + r.val - n), by omega⟩ : Fin 4096) = (⟨512 * (t.val % 8) + r.val - n, by omega⟩ : Fin 4096) := Fin.ext (by dsimp only; omega)
      dsimp only
      rw [e]

/-- The gated convolution's tile of a point. -/
abbrev cvOf (c : Dev nD) (t : Fin cfg0.N) : FVec Ideal S512x256 .f32 :=
  k0_pay8 (k0_pay5 (iblk m c 3 t) (iblk m c 4 t)) (firstBit (grid0.coords t)) (k0_pay6 (iblk m c 5 t)) (k0_pay7 (iblk m c 6 t)) (iblk m c 9 t) (iblk m c 2 t)

/-- The tile's convolution is the reference's. -/
theorem cv_at (c : Dev nD) (t : Fin cfg0.N) (r : Fin 512) (k : Fin 256) : cvOf m c t (ix2 r k)
    = conv (m ((c : Thread nD τ).loc main_arg1)) (m ((c : Thread nD τ).loc main_arg5)) (ix3 (⟨t.val / 8, by have := lt64 t; omega⟩ : Fin 8) (⟨512 * (t.val % 8) + r.val, by omega⟩ : Fin 4096) k) := by
  refine (conv_at _ _ _ _ _ _ _ _ _).trans ?_
  rw [earlier_eq, earlier_eq, input_at, block2, Cert.Reference5Ideal.Mix.conv_at, Cert.Reference5Ideal.Mix.back2_at, Cert.Reference5Ideal.Mix.back1_at]
  rw [show iblk m c 9 t (ix2 (0 : Fin 8) k) = m ((c : Thread nD τ).loc main_arg5) (ix2 (0 : Fin 3) k) from block9 m c t 0 k,
    show iblk m c 9 t (ix2 (1 : Fin 8) k) = m ((c : Thread nD τ).loc main_arg5) (ix2 (1 : Fin 3) k) from block9 m c t 1 k,
    show iblk m c 9 t (ix2 (2 : Fin 8) k) = m ((c : Thread nD τ).loc main_arg5) (ix2 (2 : Fin 3) k) from block9 m c t 2 k]

/-- The columns that the body norms are the reference's. -/
theorem cell_eq (c : Dev nD) (t : Fin cfg0.N) (R : Fin 512) (k : Fin 1024) :
    cell (iblk m c 1 t) (cvOf m c t) (iblk m c 7 t) (iblk m c 8 t) R k
      = col (m ((c : Thread nD τ).loc main_arg1)) (m ((c : Thread nD τ).loc main_arg2)) (m ((c : Thread nD τ).loc main_arg3)) (m ((c : Thread nD τ).loc main_arg4)) (m ((c : Thread nD τ).loc main_arg5))
          (⟨t.val / 8, by have := lt64 t; omega⟩ : Fin 8) (⟨512 * (t.val % 8) + R.val, by omega⟩ : Fin 4096) k.val := by
  have ht := lt64 t
  unfold cell col
  by_cases h0 : k.val < 256
  · refine (dif_pos h0).trans (Eq.trans ?_ (if_pos h0).symm)
    refine (block1 m c t _ _).trans ?_
    exact congrArg (fun h => m ((c : Thread nD τ).loc main_arg2) (ix4 (⟨t.val / 8, by omega⟩ : Fin 8) h (⟨512 * (t.val % 8) + R.val, by omega⟩ : Fin 4096) (⟨k.val % 64, by omega⟩ : Fin 64))) (Fin.ext (by dsimp only; omega))
  · refine (dif_neg h0).trans (Eq.trans ?_ (if_neg h0).symm)
    by_cases h1 : k.val < 512
    · refine (dif_pos h1).trans (Eq.trans ?_ (if_pos h1).symm)
      refine (cv_at m c t _ _).trans ?_
      exact congrArg (fun h => conv (m ((c : Thread nD τ).loc main_arg1)) (m ((c : Thread nD τ).loc main_arg5)) (ix3 (⟨t.val / 8, by omega⟩ : Fin 8) (⟨512 * (t.val % 8) + R.val, by omega⟩ : Fin 4096) h)) (Fin.ext (by dsimp only; omega))
    · refine (dif_neg h1).trans (Eq.trans ?_ (if_neg h1).symm)
      by_cases h2 : k.val < 768
      · refine (dif_pos h2).trans (Eq.trans ?_ (if_pos h2).symm)
        refine (block7 m c t _ _ _).trans ?_
        have e1 : (⟨(k.val - 512) / 64, by omega⟩ : Fin 4) = (⟨k.val / 64 % 4, by omega⟩ : Fin 4) := Fin.ext (by dsimp only; omega)
        have e2 : (⟨512 * (t.val % 8) + (256 * (R.val / 256) + R.val % 256), by omega⟩ : Fin 4096) = (⟨512 * (t.val % 8) + R.val, by omega⟩ : Fin 4096) := Fin.ext (by dsimp only; omega)
        have e3 : (⟨(k.val - 512) % 64, by omega⟩ : Fin 64) = (⟨k.val % 64, by omega⟩ : Fin 64) := Fin.ext (by dsimp only; omega)
        dsimp only
        rw [e1, e2, e3]
      · refine (dif_neg h2).trans (Eq.trans ?_ (if_neg h2).symm)
        refine (block8 m c t _ _).trans ?_
        have e1 : (⟨(k.val - 768) / 64, by omega⟩ : Fin 4) = (⟨k.val / 64 % 4, by omega⟩ : Fin 4) := Fin.ext (by dsimp only; omega)
        have e2 : (⟨512 * (t.val % 8) + (16 * ((R.val / 16 + 32 * (R.val % 16)) % 32) + (R.val / 16 + 32 * (R.val % 16)) / 32), by omega⟩ : Fin 4096) = (⟨512 * (t.val % 8) + R.val, by omega⟩ : Fin 4096) := Fin.ext (by dsimp only; omega)
        have e3 : (⟨(k.val - 768) % 64, by omega⟩ : Fin 64) = (⟨k.val % 64, by omega⟩ : Fin 64) := Fin.ext (by dsimp only; omega)
        dsimp only
        rw [e1, e2, e3]

/-- The reference's result, of the arguments that a device holds. -/
abbrev target (c : Dev nD) : FVec Ideal S32768x1024 .f32 :=
  result (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What the precondition gives of a device's arguments. -/
abbrev FiniteAt (c : Dev nD) : Prop :=
  Cert.Reference5Ideal.Mix.Finite (m ((c : Thread nD τ).loc main_arg1)) (m ((c : Thread nD τ).loc main_arg2)) (m ((c : Thread nD τ).loc main_arg3)) (m ((c : Thread nD τ).loc main_arg4)) (m ((c : Thread nD τ).loc main_arg5))

theorem cell_real (c : Dev nD) (hf : FiniteAt m c) (t : Fin cfg0.N) (R : Fin 512) (k : Fin 1024) :
    ∃ a : ℝ, cell (iblk m c 1 t) (cvOf m c t) (iblk m c 7 t) (iblk m c 8 t) R k = (a : EReal) := by
  rw [cell_eq]
  exact Cert.Reference5Ideal.Mix.col_real _ _ _ _ _ hf _ _ _

/-- A block's value is the reference's at the block's place in the array. -/
theorem point (c : Dev nD) (t : Fin cfg0.N) (r : Fin 512) (j : Fin 1024) :
    outOf (cell (iblk m c 1 t) (cvOf m c t) (iblk m c 7 t) (iblk m c 8 t)) (iblk m c 0 t) (iblk m c 10 t) (iblk m c 11 t) (ix2 r j)
      = target m c (((cfg0.win 12).blk t).view.emb (ix2 r j)) := by
  have ht := lt64 t
  rw [emb12]
  refine Eq.trans ?_ (Cert.Reference5Ideal.Mix.result_at _ _ _ _ _ _ _ _ _ _).symm
  have eB : (⟨(512 * t.val + r.val) / 4096, by omega⟩ : Fin 8) = (⟨t.val / 8, by omega⟩ : Fin 8) := Fin.ext (by dsimp only; omega)
  have es : (⟨(512 * t.val + r.val) % 4096, by omega⟩ : Fin 4096) = (⟨512 * (t.val % 8) + r.val, by omega⟩ : Fin 4096) := Fin.ext (by dsimp only; omega)
  refine congrArg₂ (· + ·) (block0 m c t r j) (Finset.sum_congr rfl fun k _ => congrArg₂ (· * ·) ?_ (block11 m c t k j))
  rw [Cert.Reference5Ideal.Mix.normed_at]
  dsimp only
  rw [eB, es, block10]
  simp only [Cert.Reference5Ideal.Mix.groups_at]
  have hk : 64 * (k.val / 64) + k.val % 64 = k.val := by omega
  rw [hk]
  refine congrArg₂ (· * ·) (congrArg₂ (· * ·) (cell_eq m c t r k) (congrArg (fun S => Ideal.rsqrt (Ideal.div S (Ideal.ofBits .f32 0x42800000#32) + Ideal.ofBits .f32 0x358637BD#32)) ?_)) rfl
  exact Finset.sum_congr rfl fun d _ => congrArg₂ (· * ·) (cell_eq m c t r _) (cell_eq m c t r _)

/-- What a point writes back is its block of the reference's result. -/
theorem flushed (c : Dev nD) (hf : FiniteAt m c) (t : Fin cfg0.N) :
    (dats m 0 c).flushed 12 t = ((cfg0.win 12).blk t).view.read (Elt Ideal) (target m c) := by
  rw [Value.flushed12_A, out_eq (hG := cell_real m c hf t)]
  funext y
  obtain ⟨r, j, rfl⟩ : ∃ (r : Fin 512) (j : Fin 1024), y = ix2 r j := ⟨y 0, y 1, by funext b; match b with | ⟨0, _⟩ => rfl | ⟨1, _⟩ => rfl⟩
  exact point m c t r j

/-- Every row of the result lies in some point's block. -/
theorem covered (i : S32768x1024.Idx) : ∃ t : Fin cfg0.N, (cfg0.win 12).flush t = true ∧ i ∈ ((cfg0.win 12).blk t).view.set := by
  have h0 : (i 0).val < 32768 := (i 0).isLt
  obtain ⟨t, ht⟩ : ∃ t : Fin cfg0.N, t.val = (i 0).val / 512 := ⟨⟨(i 0).val / 512, by rw [show cfg0.N = 64 from N_0]; omega⟩, rfl⟩
  refine ⟨t, flush0_12 t, ?_⟩
  have h := ((cfg0.win 12).blk t).view.emb_mem_set (ix2 (⟨(i 0).val % 512, by omega⟩ : Fin 512) (i 1 : Fin 1024))
  have he : ((cfg0.win 12).blk t).view.emb (ix2 (⟨(i 0).val % 512, by omega⟩ : Fin 512) (i 1 : Fin 1024)) = i := by
    refine (emb12 t _ _).trans ?_
    funext a
    match a with
    | ⟨0, _⟩ => apply Fin.ext; show 512 * t.val + (i 0).val % 512 = (i 0).val; omega
    | ⟨1, _⟩ => rfl
  rw [he] at h
  exact h

/-- The kernel's result array after the run is the reference's function of the arguments, the mixers' values finite. -/
theorem run (hf : ∀ c : Dev nD, FiniteAt m c) : θ_run defs (onTc (τ := τ) (main (F := Ideal))) ⟨m, fun _ => 0, ρ⟩ fun r => ∀ c : Dev nD,
      r.2.mem ((c : Thread nD τ).loc main_v20) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((dats m 0 c).arrAt_eq_of_cover 12 _ (fun t _ => flushed m c (hf c) t) covered), (h c).2⟩) (Value.run_blocks m ρ)

end Cert.Kernel5Ideal.Mix

namespace Cert.Proof

open Idealize.ShloMosaic Idealize.SL.Sem

/-- The group norm with the output projection and its reference compute the same array of extended reals, the mixers'
    values finite. -/
theorem mix_value : Cert.algebraic_Kernel5Ideal_Reference5Ideal_pre_finite_mixers (hKernel5Ideal := Cert.Kernel5Ideal.Gen.facts)
    (hReference5Ideal := Cert.Reference5Ideal.Gen.facts) (hPre_finite_mixers := Cert.Reference5Ideal.Mix.pre_facts) := by
  intro m g m' g' hp hm
  refine ⟨_, Cert.Kernel5Ideal.Mix.run m g (fun c => Cert.Reference5Ideal.Mix.finite_of_pre _ _ _ _ _ _ _ _ (hp c)), ?_⟩
  refine (θ_run _ _ _).mono (fun r h c => ?_) (Cert.Reference5Ideal.Value.run (F := Ideal) m' g')
  obtain ⟨e0, e1, e2, e3, e4, e5, e6, e7⟩ := hm c
  refine ⟨(h c).1.trans ?_, (h c).2⟩
  rw [Cert.Reference5Ideal.Mix.result_eq, e0, e1, e2, e3, e4, e5, e6, e7]

/-- The reference leaves its arguments unchanged. -/
theorem mix_reference_frame : Cert.quiescent_Reference5Ideal (hReference5Ideal := Cert.Reference5Ideal.Gen.facts) := fun m ρ _ =>
  (θ_run _ _ _).mono (fun r h => ⟨fun c => (h c).2, sem_eq_zero_of_no_sems rfl r.2⟩) (Cert.Reference5Ideal.Value.run (F := Ideal) m ρ)

end Cert.Proof

end
-- ==== Proof.CompressBlocks.lean ====
module

public import proofs.«01_k».proof.Defs
public import proofs.«01_k».proof.Proof.Gen.Kernel6Ideal.Frame
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Kernel6Ideal.Compress

open Cert.Kernel6Ideal Cert.Kernel6Ideal.Gen Idealize.ShloMosaic Idealize.ShloMosaic.TcCoe
open Idealize.SL Idealize.SL.Sem Idealize.ShloMosaic.Tactic

variable (m : (ℓ : Loc nD τ sig) → Buf (Elt Ideal) ℓ) (ρ : Dev nD → PrngReg)

/-- The projection with its rows flattened. -/
def flat (a : FVec Ideal S8x4096x2956 .f32) : FVec Ideal S32768x2956 .f32 := shapeCast _ a shapeCasts_S8x4096x2956_S32768x2956

/-- The array that the kernel reads: 116 zero columns stand between the projection's first 652 columns and the rest. -/
def padded (a : FVec Ideal S8x4096x2956 .f32) : FVec Ideal S32768x3072 .f32 :=
  concatenate S32768x3072 1 [⟨S32768x652, extractStridedSlice S32768x652 ![0, 0] (flat a) slices_S32768x2956_S32768x652_0_0⟩,
    ⟨S32768x116, broadcastInDim S32768x116 ![] bcast_S_S32768x116 (constant S_ .f32 0x00000000#32)⟩,
    ⟨S32768x2304, extractStridedSlice S32768x2304 ![0, 652] (flat a) slices_S32768x2956_S32768x2304_0_652⟩] concatenates_S32768x652_S32768x116_S32768x2304_S32768x3072_d1

/-- The embeddings of the place, the keys' beside the values'. -/
def embed (a b : FVec Ideal S32x64 .f32) : FVec Ideal S32x128 .f32 := concatenate S32x128 1 [⟨S32x64, a⟩, ⟨S32x64, b⟩] concatenates_S32x64_S32x64_S32x128_d1

/-- The first layers as one, the keys' matrix and the values' on the diagonal of every place. -/
def first (a b : FVec Ideal S2048x256 .f32) : FVec Ideal S32x128x512 .bf16 :=
  truncf .bf16 (concatenate S32x128x512 1
    [⟨S32x64x512, concatenate S32x64x512 2 [⟨S32x64x256, shapeCast S32x64x256 a shapeCasts_S2048x256_S32x64x256⟩, ⟨S32x64x256, broadcastInDim S32x64x256 ![] bcast_S_S32x64x256 (constant S_ .f32 0x00000000#32)⟩] concatenates_S32x64x256_S32x64x256_S32x64x512_d2⟩,
     ⟨S32x64x512, concatenate S32x64x512 2 [⟨S32x64x256, broadcastInDim S32x64x256 ![] bcast_S_S32x64x256 (constant S_ .f32 0x00000000#32)⟩, ⟨S32x64x256, shapeCast S32x64x256 b shapeCasts_S2048x256_S32x64x256⟩] concatenates_S32x64x256_S32x64x256_S32x64x512_d2⟩]
    concatenates_S32x64x512_S32x64x512_S32x128x512_d1) bitsLt_bf16_f32

/-- The second layers as one, in the same way. -/
def second (a b : FVec Ideal S256x64 .f32) : FVec Ideal S512x128 .bf16 :=
  truncf .bf16 (concatenate S512x128 0
    [⟨S256x128, concatenate S256x128 1 [⟨S256x64, a⟩, ⟨S256x64, broadcastInDim S256x64 ![] bcast_S_S256x64 (constant S_ .f32 0x00000000#32)⟩] concatenates_S256x64_S256x64_S256x128_d1⟩,
     ⟨S256x128, concatenate S256x128 1 [⟨S256x64, broadcastInDim S256x64 ![] bcast_S_S256x64 (constant S_ .f32 0x00000000#32)⟩, ⟨S256x64, b⟩] concatenates_S256x64_S256x64_S256x128_d1⟩]
    concatenates_S256x128_S256x128_S512x128_d0) bitsLt_bf16_f32

/-- The gain, twice. -/
def gain (g : FVec Ideal S64 .f32) : FVec Ideal S1x128 .f32 :=
  shapeCast S1x128 (shapeCast S128 (broadcastInDim S2x64 ![0, 1] bcast_S1x64_S2x64_0_1 (shapeCast S1x64 g shapeCasts_S64_S1x64)) shapeCasts_S2x64_S128) shapeCasts_S128_S1x128

set_option maxHeartbeats 4000000 in
theorem V_padded (c : Dev nD) : V m c main_v4 = padded (m ((c : Thread nD τ).loc main_arg0)) := by
  unfold padded flat
  simp only [V, hostOps0, List.flatten_cons, List.flatten_nil, List.append_nil, List.cons_append, List.nil_append]
  after_results_simp <;> rfl

set_option maxHeartbeats 4000000 in
theorem V_embed (c : Dev nD) : V m c main_v15 = embed (m ((c : Thread nD τ).loc main_arg2)) (m ((c : Thread nD τ).loc main_arg3)) := by
  unfold embed
  simp only [V, hostOps0, List.flatten_cons, List.flatten_nil, List.append_nil, List.cons_append, List.nil_append]
  after_results_simp <;> rfl

set_option maxHeartbeats 4000000 in
theorem V_first (c : Dev nD) : V m c main_v16 = first (m ((c : Thread nD τ).loc main_arg4)) (m ((c : Thread nD τ).loc main_arg6)) := by
  unfold first
  simp only [V, hostOps0, List.flatten_cons, List.flatten_nil, List.append_nil, List.cons_append, List.nil_append]
  after_results_simp <;> rfl

set_option maxHeartbeats 4000000 in
theorem V_second (c : Dev nD) : V m c main_v17 = second (m ((c : Thread nD τ).loc main_arg5)) (m ((c : Thread nD τ).loc main_arg7)) := by
  unfold second
  simp only [V, hostOps0, List.flatten_cons, List.flatten_nil, List.append_nil, List.cons_append, List.nil_append]
  after_results_simp <;> rfl

set_option maxHeartbeats 4000000 in
theorem V_gain (c : Dev nD) : V m c main_v21 = gain (m ((c : Thread nD τ).loc main_arg1)) := by
  unfold gain
  simp only [V, hostOps0, List.flatten_cons, List.flatten_nil, List.append_nil, List.cons_append, List.nil_append]
  after_results_simp <;> rfl

theorem flat_at (a : FVec Ideal S8x4096x2956 .f32) (R : Fin 32768) (j : Fin 2956) :
    flat a (ix2 R j) = a (ix3 (⟨R.val / 4096, by omega⟩ : Fin 8) (⟨R.val % 4096, by omega⟩ : Fin 4096) j) := by
  pointwise [flat]

/-- A column before the zero columns. -/
theorem padded_at (a : FVec Ideal S8x4096x2956 .f32) (R : Fin 32768) (j : ℕ) (hj : j < 128) :
    padded a (ix2 R (⟨256 + j, by omega⟩ : Fin 3072)) = a (ix3 (⟨R.val / 4096, by omega⟩ : Fin 8) (⟨R.val % 4096, by omega⟩ : Fin 4096) (⟨256 + j, by omega⟩ : Fin 2956)) := by
  refine Eq.trans ?_ (flat_at a R _)
  pointwise [padded]
  rw [dif_pos (by omega)]

theorem embed_at (a b : FVec Ideal S32x64 .f32) (j : Fin 32) (l : Fin 128) :
    embed a b (ix2 j l) = if h : l.val < 64 then a (ix2 j ⟨l.val, h⟩) else b (ix2 j ⟨l.val - 64, by omega⟩) := by
  pointwise [embed]

theorem first_at (a b : FVec Ideal S2048x256 .f32) (j : Fin 32) (l : Fin 128) (n : Fin 512) :
    first a b (ix3 j l n) = if h : l.val < 64 then (if h' : n.val < 256 then a (ix2 (⟨64 * j.val + l.val, by omega⟩ : Fin 2048) ⟨n.val, h'⟩) else 0)
      else (if h' : n.val < 256 then 0 else b (ix2 (⟨64 * j.val + (l.val - 64), by omega⟩ : Fin 2048) ⟨n.val - 256, by omega⟩)) := by
  pointwise [first]
  simp only [Nat.mul_comm j.val 64]

theorem second_at (a b : FVec Ideal S256x64 .f32) (n : Fin 512) (y : Fin 128) :
    second a b (ix2 n y) = if h : n.val < 256 then (if h' : y.val < 64 then a (ix2 ⟨n.val, h⟩ ⟨y.val, h'⟩) else 0)
      else (if h' : y.val < 64 then 0 else b (ix2 ⟨n.val - 256, by omega⟩ ⟨y.val - 64, by omega⟩)) := by
  pointwise [second]

theorem gain_at (g : FVec Ideal S64 .f32) (y : Fin 128) : gain g (ix2 (0 : Fin 1) y) = g (ix1 (⟨y.val % 64, by omega⟩ : Fin 64)) := by
  pointwise [gain]

/-- Where each window's block lies. -/
theorem idx : ∀ t : Fin cfg0.N, win0_0.index t = ![t.val, 2] ∧ win0_1.index t = ![0, 0] ∧ win0_2.index t = ![0, 0, 0] ∧ win0_3.index t = ![0, 0]
    ∧ win0_4.index t = ![0, 0] ∧ win0_5.index t = ![t.val, 0, 0] ∧ win0_6.index t = ![t.val, 0, 0] :=
  (by decide +kernel : ∀ t : Fin grid0.N, _)

theorem lt8 (t : Fin cfg0.N) : t.val < 8 := (N_0 : cfg0.N = 8) ▸ t.isLt

theorem emb0 (t : Fin cfg0.N) (r : Fin 4096) (k : Fin 128) : ((cfg0.win 0).blk t).view.emb (ix2 r k)
    = ix2 (⟨4096 * t.val + r.val, by have := lt8 t; omega⟩ : Fin 32768) (⟨256 + k.val, by omega⟩ : Fin 3072) := by
  obtain ⟨h, -⟩ := idx t
  have := lt8 t
  funext a
  match a with
  | ⟨0, _⟩ => apply Fin.ext; show win0_0.index t (0 : Fin 2) * 4096 + 1 * r.val = 4096 * t.val + r.val; rw [h]; show t.val * 4096 + 1 * r.val = 4096 * t.val + r.val; omega
  | ⟨1, _⟩ => apply Fin.ext; show win0_0.index t (1 : Fin 2) * 128 + 1 * k.val = 256 + k.val; rw [h]; show 2 * 128 + 1 * k.val = 256 + k.val; omega

theorem emb1 (t : Fin cfg0.N) (r : Fin 32) (k : Fin 128) : ((cfg0.win 1).blk t).view.emb (ix2 r k)
    = ix2 r k := by
  obtain ⟨-, h, -⟩ := idx t
  have := lt8 t
  funext a
  match a with
  | ⟨0, _⟩ => apply Fin.ext; show win0_1.index t (0 : Fin 2) * 32 + 1 * r.val = r.val; rw [h]; show 0 * 32 + 1 * r.val = r.val; omega
  | ⟨1, _⟩ => apply Fin.ext; show win0_1.index t (1 : Fin 2) * 128 + 1 * k.val = k.val; rw [h]; show 0 * 128 + 1 * k.val = k.val; omega

theorem emb2 (t : Fin cfg0.N) (j : Fin 32) (r : Fin 128) (k : Fin 512) : ((cfg0.win 2).blk t).view.emb (ix3 j r k)
    = ix3 j r k := by
  obtain ⟨-, -, h, -⟩ := idx t
  have := lt8 t
  funext a
  match a with
  | ⟨0, _⟩ => apply Fin.ext; show win0_2.index t (0 : Fin 3) * 32 + 1 * j.val = j.val; rw [h]; show 0 * 32 + 1 * j.val = j.val; omega
  | ⟨1, _⟩ => apply Fin.ext; show win0_2.index t (1 : Fin 3) * 128 + 1 * r.val = r.val; rw [h]; show 0 * 128 + 1 * r.val = r.val; omega
  | ⟨2, _⟩ => apply Fin.ext; show win0_2.index t (2 : Fin 3) * 512 + 1 * k.val = k.val; rw [h]; show 0 * 512 + 1 * k.val = k.val; omega

theorem emb3 (t : Fin cfg0.N) (r : Fin 512) (k : Fin 128) : ((cfg0.win 3).blk t).view.emb (ix2 r k)
    = ix2 r k := by
  obtain ⟨-, -, -, h, -⟩ := idx t
  have := lt8 t
  funext a
  match a with
  | ⟨0, _⟩ => apply Fin.ext; show win0_3.index t (0 : Fin 2) * 512 + 1 * r.val = r.val; rw [h]; show 0 * 512 + 1 * r.val = r.val; omega
  | ⟨1, _⟩ => apply Fin.ext; show win0_3.index t (1 : Fin 2) * 128 + 1 * k.val = k.val; rw [h]; show 0 * 128 + 1 * k.val = k.val; omega

theorem emb4 (t : Fin cfg0.N) (r : Fin 1) (k : Fin 128) : ((cfg0.win 4).blk t).view.emb (ix2 r k)
    = ix2 r k := by
  obtain ⟨-, -, -, -, h, -⟩ := idx t
  have := lt8 t
  funext a
  match a with
  | ⟨0, _⟩ => apply Fin.ext; show win0_4.index t (0 : Fin 2) * 1 + 1 * r.val = r.val; rw [h]; show 0 * 1 + 1 * r.val = r.val; omega
  | ⟨1, _⟩ => apply Fin.ext; show win0_4.index t (1 : Fin 2) * 128 + 1 * k.val = k.val; rw [h]; show 0 * 128 + 1 * k.val = k.val; omega

theorem emb5 (t : Fin cfg0.N) (r : Fin 256) (k : Fin 256) : ((cfg0.win 5).blk t).view.emb (ix3 (0 : Fin 1) r k)
    = ix3 (⟨t.val, lt8 t⟩ : Fin 8) r k := by
  obtain ⟨-, -, -, -, -, h, -⟩ := idx t
  have := lt8 t
  funext a
  match a with
  | ⟨0, _⟩ => apply Fin.ext; show win0_5.index t (0 : Fin 3) * 1 + 1 * 0 = t.val; rw [h]; show t.val * 1 + 1 * 0 = t.val; omega
  | ⟨1, _⟩ => apply Fin.ext; show win0_5.index t (1 : Fin 3) * 256 + 1 * r.val = r.val; rw [h]; show 0 * 256 + 1 * r.val = r.val; omega
  | ⟨2, _⟩ => apply Fin.ext; show win0_5.index t (2 : Fin 3) * 256 + 1 * k.val = k.val; rw [h]; show 0 * 256 + 1 * k.val = k.val; omega

theorem emb6 (t : Fin cfg0.N) (r : Fin 64) (k : Fin 256) : ((cfg0.win 6).blk t).view.emb (ix3 (0 : Fin 1) r k)
    = ix3 (⟨t.val, lt8 t⟩ : Fin 8) r k := by
  obtain ⟨-, -, -, -, -, -, h⟩ := idx t
  have := lt8 t
  funext a
  match a with
  | ⟨0, _⟩ => apply Fin.ext; show win0_6.index t (0 : Fin 3) * 1 + 1 * 0 = t.val; rw [h]; show t.val * 1 + 1 * 0 = t.val; omega
  | ⟨1, _⟩ => apply Fin.ext; show win0_6.index t (1 : Fin 3) * 64 + 1 * r.val = r.val; rw [h]; show 0 * 64 + 1 * r.val = r.val; omega
  | ⟨2, _⟩ => apply Fin.ext; show win0_6.index t (2 : Fin 3) * 256 + 1 * k.val = k.val; rw [h]; show 0 * 256 + 1 * k.val = k.val; omega

theorem block0 (c : Dev nD) (t : Fin cfg0.N) (r : Fin 4096) (k : Fin 128) : iblk m c 0 t (ix2 r k)
    = m ((c : Thread nD τ).loc main_arg0) (ix3 (⟨t.val, lt8 t⟩ : Fin 8) r (⟨256 + k.val, by omega⟩ : Fin 2956)) := by
  show V m c main_v4 (((cfg0.win 0).blk t).view.emb (ix2 r k)) = _
  rw [V_padded, emb0]
  have := lt8 t
  refine (padded_at _ _ _ (by omega)).trans ?_
  have e1 : (⟨(4096 * t.val + r.val) / 4096, by omega⟩ : Fin 8) = (⟨t.val, lt8 t⟩ : Fin 8) := Fin.ext (by dsimp only; omega)
  have e2 : (⟨(4096 * t.val + r.val) % 4096, by omega⟩ : Fin 4096) = r := Fin.ext (by dsimp only; omega)
  dsimp only
  rw [e1, e2]

theorem block1 (c : Dev nD) (t : Fin cfg0.N) (r : Fin 32) (k : Fin 128) : iblk m c 1 t (ix2 r k)
    = embed (m ((c : Thread nD τ).loc main_arg2)) (m ((c : Thread nD τ).loc main_arg3)) (ix2 r k) := by
  show V m c main_v15 (((cfg0.win 1).blk t).view.emb (ix2 r k)) = _
  rw [V_embed, emb1]

theorem block2 (c : Dev nD) (t : Fin cfg0.N) (j : Fin 32) (r : Fin 128) (k : Fin 512) : iblk m c 2 t (ix3 j r k)
    = first (m ((c : Thread nD τ).loc main_arg4)) (m ((c : Thread nD τ).loc main_arg6)) (ix3 j r k) := by
  show V m c main_v16 (((cfg0.win 2).blk t).view.emb (ix3 j r k)) = _
  rw [V_first, emb2]

theorem block3 (c : Dev nD) (t : Fin cfg0.N) (r : Fin 512) (k : Fin 128) : iblk m c 3 t (ix2 r k)
    = second (m ((c : Thread nD τ).loc main_arg5)) (m ((c : Thread nD τ).loc main_arg7)) (ix2 r k) := by
  show V m c main_v17 (((cfg0.win 3).blk t).view.emb (ix2 r k)) = _
  rw [V_second, emb3]

theorem block4 (c : Dev nD) (t : Fin cfg0.N) (k : Fin 128) : iblk m c 4 t (ix2 (0 : Fin 1) k)
    = m ((c : Thread nD τ).loc main_arg1) (ix1 (⟨k.val % 64, by omega⟩ : Fin 64)) := by
  show V m c main_v21 (((cfg0.win 4).blk t).view.emb (ix2 (0 : Fin 1) k)) = _
  rw [V_gain, emb4]
  exact gain_at _ _

end Cert.Kernel6Ideal.Compress

end
-- ==== Proof.CompressRef.lean ====
module

public import proofs.«01_k».proof.Defs
public import proofs.«01_k».proof.Proof.Gen.Reference6Ideal.Run
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Reference6Ideal.Compress

open Cert.Reference6Ideal Cert.Reference6Ideal.Gen Idealize.ShloMosaic

/-- The token numbers of the windows, wrapping at the end of the sequence. -/
def tok : IVec S256x32 32 :=
  andi (addi (broadcastInDim S256x32 ![0, 1] bcast_S256x1_S256x32_0_1 (muli (broadcastInDim S256x1 ![0] bcast_S256_S256x1_0 (iotaInDim S256 32 0)) (broadcastInDim S256x1 ![] bcast_S_S256x1 (constantI S_ 32 16#32))))
    (broadcastInDim S256x32 ![0, 1] bcast_S1x32_S256x32_0_1 (broadcastInDim S1x32 ![1] bcast_S32_S1x32_1 (iotaInDim S32 32 0)))) (broadcastInDim S256x32 ![] bcast_S_S256x32 (constantI S_ 32 4095#32))

/-- The same as the indices of a gather. -/
def tokIdx : IVec S256x32x1 32 :=
  broadcastInDim S256x32x1 ![0, 1] bcast_S256x32_S256x32x1_0_1 (select (cmpi .slt tok (broadcastInDim S256x32 ![] bcast_S_S256x32 (constantI S_ 32 0#32))) (addi tok (broadcastInDim S256x32 ![] bcast_S_S256x32 (constantI S_ 32 4096#32))) tok)

/-- The windows of 32 tokens. -/
def window (t : FVec Ideal S8x4096x64 .f32) : FVec Ideal S8x256x32x64 .f32 :=
  Host.gather gather_S8x4096x64_S256x32x1_S8x256x32x64_03_1_n_n_1_2_8164 t tokIdx

/-- The hidden layer: the windows plus the embedding of the place, times the first matrix. -/
def hidden (W : FVec Ideal S8x256x32x64 .f32) (pe : FVec Ideal S32x64 .f32) (w1 : FVec Ideal S2048x256 .f32) : FVec Ideal S8x256x256 .f32 :=
  Host.dotGeneral dot_S8x256x2048_S2048x256_S8x256x256_2_0_01_1_n_n none
    (shapeCast S8x256x2048 (addf W (broadcastInDim S8x256x32x64 ![0, 1, 2, 3] bcast_S1x1x32x64_S8x256x32x64_0_1_2_3 (broadcastInDim S1x1x32x64 ![2, 3] bcast_S32x64_S1x1x32x64_2_3 pe))) shapeCasts_S8x256x32x64_S8x256x2048) w1

/-- The gelu, in its form with the hyperbolic tangent. -/
def gelu (h : FVec Ideal S8x256x256 .f32) : FVec Ideal S8x256x256 .f32 :=
  mulf h (mulf (broadcastInDim S8x256x256 ![] bcast_S_S8x256x256 (constant S_ .f32 0x3F000000#32)) (addf (broadcastInDim S8x256x256 ![] bcast_S_S8x256x256 (constant S_ .f32 0x3F800000#32)) (Host.tanh (mulf (broadcastInDim S8x256x256 ![] bcast_S_S8x256x256 (constant S_ .f32 0x3F4C422A#32))
    (addf h (mulf (broadcastInDim S8x256x256 ![] bcast_S_S8x256x256 (constant S_ .f32 0x3D372713#32)) (mulf (mulf h h) h)))))))

/-- The second layer. -/
def outer (h : FVec Ideal S8x256x256 .f32) (w2 : FVec Ideal S256x64 .f32) : FVec Ideal S8x256x64 .f32 :=
  Host.dotGeneral dot_S8x256x256_S256x64_S8x256x64_2_0_01_1_n_n none h w2

/-- The norm of the compressed keys. -/
def normed (C : FVec Ideal S8x256x64 .f32) (g : FVec Ideal S64 .f32) : FVec Ideal S8x256x64 .f32 :=
  mulf (mulf C (broadcastInDim S8x256x64 ![0, 1, 2] bcast_S8x256x1_S8x256x64_0_1_2 (Host.rsqrt (addf (Host.divf (broadcastInDim S8x256x1 ![0, 1] bcast_S8x256_S8x256x1_0_1 (Host.reduceAdd (mulf C C) (constant S_ .f32 0x00000000#32) reducesTo_S8x256x64_S8x256_d2 h_S_)) (broadcastInDim S8x256x1 ![] bcast_S_S8x256x1 (constant S_ .f32 0x42800000#32))) (broadcastInDim S8x256x1 ![] bcast_S_S8x256x1 (constant S_ .f32 0x358637BD#32))))))
    (broadcastInDim S8x256x64 ![0, 1, 2] bcast_S1x1x64_S8x256x64_0_1_2 (broadcastInDim S1x1x64 ![2] bcast_S64_S1x1x64_2 g))

/-- The position of a window's last token. -/
def lastTok : IVec S256x1 32 :=
  broadcastInDim S256x1 ![0] bcast_S256_S256x1_0 (addi (muli (iotaInDim S256 32 0) (broadcastInDim S256 ![] bcast_S_S256 (constantI S_ 32 16#32))) (broadcastInDim S256 ![] bcast_S_S256 (constantI S_ 32 31#32)))

/-- The 64 columns that hold a window's place. -/
def place : FVec Ideal S8x256x64 .f32 :=
  broadcastInDim S8x256x64 ![1, 2] bcast_S256x64_S8x256x64_1_2 (concatenate S256x64 1 [⟨S256x1, sitofp .f32 (Host.shrsi lastTok (broadcastInDim S256x1 ![] bcast_S_S256x1 (constantI S_ 32 6#32)))⟩,
    ⟨S256x1, sitofp .f32 (andi lastTok (broadcastInDim S256x1 ![] bcast_S_S256x1 (constantI S_ 32 63#32)))⟩, ⟨S256x2, broadcastInDim S256x2 ![] bcast_S_S256x2 (constant S_ .f32 0x3F800000#32)⟩,
    ⟨S256x60, broadcastInDim S256x60 ![] bcast_S_S256x60 (constant S_ .f32 0x00000000#32)⟩] concatenates_S256x1_S256x1_S256x2_S256x60_S256x64_d1)

/-- The keys with their place, twice. -/
def keys (K P : FVec Ideal S8x256x64 .f32) : FVec Ideal S8x256x256 .bf16 :=
  truncf .bf16 (concatenate S8x256x256 2 [⟨S8x256x64, K⟩, ⟨S8x256x64, P⟩, ⟨S8x256x64, P⟩, ⟨S8x256x64, K⟩] concatenates_S8x256x64_S8x256x64_S8x256x64_S8x256x64_S8x256x256_d2) bitsLt_bf16_f32

/-- The values, transposed. -/
def vals (C : FVec Ideal S8x256x64 .f32) : FVec Ideal S8x64x256 .bf16 :=
  truncf .bf16 (transpose S8x64x256 [0, 2, 1] C transposes_S8x256x64_S8x64x256_0_2_1) bitsLt_bf16_f32

/-- The compression of one group of 64 columns. -/
abbrev compressed (t : FVec Ideal S8x4096x64 .f32) (pe : FVec Ideal S32x64 .f32) (w1 : FVec Ideal S2048x256 .f32) (w2 : FVec Ideal S256x64 .f32) : FVec Ideal S8x256x64 .f32 :=
  outer (gelu (hidden (window t) pe w1)) w2

abbrev resultK (p : FVec Ideal S8x4096x2956 .f32) (g : FVec Ideal S64 .f32) (pe : FVec Ideal S32x64 .f32) (w1 : FVec Ideal S2048x256 .f32) (w2 : FVec Ideal S256x64 .f32) : FVec Ideal S8x256x256 .bf16 :=
  keys (normed (compressed (extractStridedSlice S8x4096x64 ![0, 0, 256] p slices_S8x4096x2956_S8x4096x64_0_0_256) pe w1 w2) g) place

abbrev resultV (p : FVec Ideal S8x4096x2956 .f32) (pe : FVec Ideal S32x64 .f32) (w1 : FVec Ideal S2048x256 .f32) (w2 : FVec Ideal S256x64 .f32) : FVec Ideal S8x64x256 .bf16 :=
  vals (compressed (extractStridedSlice S8x4096x64 ![0, 0, 320] p slices_S8x4096x2956_S8x4096x64_0_0_320) pe w1 w2)

theorem resultK_eq (m : (ℓ : Loc nD τ sig) → Buf (Elt Ideal) ℓ) (c : Dev nD) :
    Cert.Reference6Ideal.Value.res_main_v106 (F := Ideal) m c = resultK (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) := rfl

theorem resultV_eq (m : (ℓ : Loc nD τ sig) → Buf (Elt Ideal) ℓ) (c : Dev nD) :
    Cert.Reference6Ideal.Value.res_main_v108 (F := Ideal) m c = resultV (m ((c.tc : Thread nD τ).loc main_arg0)) (m ((c.tc : Thread nD τ).loc main_arg3))
      (m ((c.tc : Thread nD τ).loc main_arg6)) (m ((c.tc : Thread nD τ).loc main_arg7)) := rfl

/-- The gather reads the operand at the token that the index names, cut to the sequence. -/
theorem gather_at (t : FVec Ideal S8x4096x64 .f32) (idx : IVec S256x32x1 32) (B : Fin 8) (r : Fin 256) (j : Fin 32) (d : Fin 64) :
    Host.gather gather_S8x4096x64_S256x32x1_S8x256x32x64_03_1_n_n_1_2_8164 t idx (ix4 B r j d)
      = t (ix3 B (⟨min (idx (ix3 r j (0 : Fin 1))).toInt.toNat 4095, by omega⟩ : Fin 4096) d) := by
  unfold Host.gather
  congr 1
  funext a
  refine Fin.ext ?_
  show GatherDims.start _ (ix4 B r j d) idx a + GatherDims.batchCoord _ (ix4 B r j d) a + GatherDims.offCoord _ (ix4 B r j d) a = _
  rw [GatherDims.batchCoord_eq_zero _ _ _ (fun h => List.not_mem_nil h)]
  match a with
  | ⟨0, h0⟩ =>
    unfold GatherDims.start
    rw [dif_neg (show ¬ (⟨0, h0⟩ : Fin S8x4096x64.rank) ∈ gather_S8x4096x64_S256x32x1_S8x256x32x64_03_1_n_n_1_2_8164.startIndexMap from fun h => absurd (congrArg Fin.val (List.mem_singleton.mp h)) (show ¬ (0 : ℕ) = 1 by decide))]
    simp only [Nat.zero_add]
    rfl
  | ⟨1, h1⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, h1⟩ : Fin S8x4096x64.rank) ∈ gather_S8x4096x64_S256x32x1_S8x256x32x64_03_1_n_n_1_2_8164.startIndexMap from List.mem_singleton.mpr rfl)]
    have hsi : gather_S8x4096x64_S256x32x1_S8x256x32x64_03_1_n_n_1_2_8164.siIdx (ix4 B r j d) ⟨List.idxOf (⟨1, h1⟩ : Fin S8x4096x64.rank) gather_S8x4096x64_S256x32x1_S8x256x32x64_03_1_n_n_1_2_8164.startIndexMap,
        List.idxOf_lt_length_iff.2 (List.mem_singleton.mpr rfl)⟩ = ix3 r j (0 : Fin 1) := by
      funext b; refine Fin.ext ?_
      match b with
      | ⟨0, _⟩ => rfl
      | ⟨1, _⟩ => rfl
      | ⟨2, _⟩ => rfl
    rw [hsi]
    rfl
  | ⟨2, h2⟩ =>
    unfold GatherDims.start
    rw [dif_neg (show ¬ (⟨2, h2⟩ : Fin S8x4096x64.rank) ∈ gather_S8x4096x64_S256x32x1_S8x256x32x64_03_1_n_n_1_2_8164.startIndexMap from fun h => absurd (congrArg Fin.val (List.mem_singleton.mp h)) (show ¬ (2 : ℕ) = 1 by decide))]
    simp only [Nat.zero_add]
    rfl

theorem tok_at (r : Fin 256) (j : Fin 32) : tok (ix2 r j) = IntOp.andi (IntOp.addi (IntOp.muli (BitVec.ofNat 32 r.val) 16#32) (BitVec.ofNat 32 j.val)) 4095#32 := by
  pointwise [tok]

/-- The clamped index as a function of the token number's word. -/
def clampOf (w : BitVec 32) : ℕ := min (Scalar.select (IntOp.cmpi .slt w 0#32) (IntOp.addi w 4096#32) w).toInt.toNat 4095

theorem clampV : ∀ (r : Fin 256) (j : Fin 32), clampOf (IntOp.andi (IntOp.addi (IntOp.muli (BitVec.ofNat 32 r.val) 16#32) (BitVec.ofNat 32 j.val)) 4095#32) = (16 * r.val + j.val) % 4096 := by decide +kernel

theorem tokIdx_at (r : Fin 256) (j : Fin 32) : tokIdx (ix3 r j (0 : Fin 1)) = Scalar.select (IntOp.cmpi .slt (tok (ix2 r j)) 0#32) (IntOp.addi (tok (ix2 r j)) 4096#32) (tok (ix2 r j)) := by
  unfold tokIdx
  generalize tok = T
  pointwise

theorem tokIdx_val (r : Fin 256) (j : Fin 32) : min (tokIdx (ix3 r j (0 : Fin 1))).toInt.toNat 4095 = (16 * r.val + j.val) % 4096 := by
  rw [tokIdx_at, tok_at]
  exact clampV r j

/-- A window's place reads the token that many places after its first. -/
theorem window_at (t : FVec Ideal S8x4096x64 .f32) (B : Fin 8) (r : Fin 256) (j : Fin 32) (d : Fin 64) :
    window t (ix4 B r j d) = t (ix3 B (⟨(16 * r.val + j.val) % 4096, Nat.mod_lt _ (by decide)⟩ : Fin 4096) d) := by
  unfold window
  rw [gather_at]
  exact congrArg (fun n => t (ix3 B n d)) (Fin.ext (tokIdx_val r j))

theorem hidden_at (W : FVec Ideal S8x256x32x64 .f32) (pe : FVec Ideal S32x64 .f32) (w1 : FVec Ideal S2048x256 .f32) (B : Fin 8) (r n : Fin 256) :
    hidden W pe w1 (ix3 B r n) = ∑ k : Fin 2048, (W (ix4 B r (⟨k.val / 64, by omega⟩ : Fin 32) (⟨k.val % 64, by omega⟩ : Fin 64)) + pe (ix2 (⟨k.val / 64, by omega⟩ : Fin 32) (⟨k.val % 64, by omega⟩ : Fin 64))) * w1 (ix2 k n) := by
  pointwise [hidden]

/-- The gelu at one number. -/
def geluAt (h : EReal) : EReal :=
  h * (Ideal.ofBits .f32 0x3F000000#32 * (1 + Ideal.tanh (Ideal.ofBits .f32 0x3F4C422A#32 * (h + Ideal.ofBits .f32 0x3D372713#32 * (h * h * h)))))

theorem gelu_at (h : FVec Ideal S8x256x256 .f32) (B : Fin 8) (r n : Fin 256) : gelu h (ix3 B r n) = geluAt (h (ix3 B r n)) := by
  unfold geluAt
  pointwise [gelu]

theorem outer_at (h : FVec Ideal S8x256x256 .f32) (w2 : FVec Ideal S256x64 .f32) (B : Fin 8) (r : Fin 256) (e : Fin 64) :
    outer h w2 (ix3 B r e) = ∑ n : Fin 256, h (ix3 B r n) * w2 (ix2 n e) := by
  pointwise [outer]

theorem normed_at (C : FVec Ideal S8x256x64 .f32) (g : FVec Ideal S64 .f32) (B : Fin 8) (r : Fin 256) (e : Fin 64) :
    normed C g (ix3 B r e) = C (ix3 B r e) * Ideal.rsqrt (Ideal.div (∑ d : Fin 64, C (ix3 B r d) * C (ix3 B r d)) (Ideal.ofBits .f32 0x42800000#32) + Ideal.ofBits .f32 0x358637BD#32) * g (ix1 e) := by
  pointwise [normed]

theorem vals_at (C : FVec Ideal S8x256x64 .f32) (B : Fin 8) (e : Fin 64) (r : Fin 256) : vals C (ix3 B e r) = C (ix3 B r e) := by
  pointwise [vals]

theorem keys_0 (K P : FVec Ideal S8x256x64 .f32) (B : Fin 8) (r : Fin 256) (e : Fin 64) : keys K P (ix3 B r (⟨e.val, by omega⟩ : Fin 256)) = K (ix3 B r e) := by
  pointwise [keys]

theorem keys_1 (K P : FVec Ideal S8x256x64 .f32) (B : Fin 8) (r : Fin 256) (e : Fin 64) : keys K P (ix3 B r (⟨64 + e.val, by omega⟩ : Fin 256)) = P (ix3 B r e) := by
  pointwise [keys]

theorem keys_2 (K P : FVec Ideal S8x256x64 .f32) (B : Fin 8) (r : Fin 256) (e : Fin 64) : keys K P (ix3 B r (⟨128 + e.val, by omega⟩ : Fin 256)) = P (ix3 B r e) := by
  pointwise [keys]
  rw [dif_neg (by omega), dif_neg (by omega), dif_pos (by omega)]
  exact congrArg (fun y => P (ix3 B r y)) (Fin.ext (by dsimp only; omega))

theorem keys_3 (K P : FVec Ideal S8x256x64 .f32) (B : Fin 8) (r : Fin 256) (e : Fin 64) : keys K P (ix3 B r (⟨192 + e.val, by omega⟩ : Fin 256)) = K (ix3 B r e) := by
  pointwise [keys]
  rw [dif_neg (by omega), dif_neg (by omega), dif_neg (by omega)]
  exact congrArg (fun y => K (ix3 B r y)) (Fin.ext (by dsimp only; omega))

/-- A window's last token, as a word. -/
abbrev lastWord (r : Fin 256) : BitVec 32 := IntOp.addi (IntOp.muli (BitVec.ofNat 32 r.val) 16#32) 31#32

theorem lastTok_at (r : Fin 256) : lastTok (ix2 r (0 : Fin 1)) = lastWord r := by
  pointwise [lastTok]

/-- The 64 columns of a window's place. -/
def placeAt (r : Fin 256) (y : ℕ) : EReal :=
  if y = 0 then FloatOps.sitofp (F := Ideal) .f32 (IntOp.shrsi .host (lastWord r) 6#32) else if y = 1 then FloatOps.sitofp (F := Ideal) .f32 (IntOp.andi (lastWord r) 63#32) else if y < 4 then 1 else 0

theorem place_at (B : Fin 8) (r : Fin 256) (y : Fin 64) : place (ix3 B r y) = placeAt r y.val := by
  unfold placeAt
  rw [← lastTok_at]
  pointwise [place]
  by_cases h0 : y.val = 0
  · rw [dif_pos (by omega), if_pos h0]
    exact congrArg (fun a => FloatOps.sitofp (F := Ideal) .f32 (IntOp.shrsi .host (lastTok (ix2 r a)) 6#32)) (Fin.ext h0)
  · rw [dif_neg (by omega), if_neg h0]
    by_cases h1 : y.val = 1
    · rw [dif_pos (by omega), if_pos h1]
      exact congrArg (fun a => FloatOps.sitofp (F := Ideal) .f32 (IntOp.andi (lastTok (ix2 r a)) 63#32)) (Fin.ext (by dsimp only; omega))
    · rw [dif_neg (by omega), if_neg h1]
      by_cases h2 : y.val < 4
      · rw [dif_pos (by omega), if_pos h2]
      · rw [dif_neg (by omega), if_neg h2]

end Cert.Reference6Ideal.Compress

end
-- ==== Proof.CompressHid.lean ====
module

public import proofs.«01_k».proof.Defs
public import proofs.«01_k».proof.Proof.Gen.Kernel6Ideal.Frame
public import proofs.«01_k».proof.Proof.CompressRef
public import Idealize.ShloMosaic.Lib.Pointwise
public import Idealize.ShloMosaic.Lib.KernelVsHost
public import Idealize.ShloMosaic.Lib.Pipeline.ValueKit
public import Idealize.ShloMosaic.Lib.Pipeline.ValueKit.Point
public import Idealize.ShloMosaic.Lib.Pipeline.ReadBack

@[expose] public section

set_option maxRecDepth 16384

noncomputable section

namespace Cert.Kernel6Ideal.Compress

open Cert.Kernel6Ideal Cert.Kernel6Ideal.Gen Idealize.ShloMosaic Idealize.ShloMosaic.TcCoe
open Idealize.SL Idealize.SL.Sem Idealize.ShloMosaic.Tactic
open Cert.Reference6Ideal.Compress (geluAt)

/-- Every sixteenth token from one on. -/
def stride (x0 : Vec Ideal S4096x128 .f32) (j : ℕ) : Vec Ideal S256x128 .f32 := fun y =>
  x0 (ix2 (⟨(16 * (y 0).val + j) % 4096, Nat.mod_lt _ (by decide)⟩ : Fin 4096) (y 1 : Fin 128))

/-- One row of the embeddings. -/
def rowOf (x1 : Vec Ideal S32x128 .f32) (j : ℕ) : Vec Ideal S1x128 .f32 := fun y =>
  x1 (ix2 (⟨j % 32, Nat.mod_lt _ (by decide)⟩ : Fin 32) (y 1 : Fin 128))

/-- One place's matrix. -/
def sliceOf (x2 : Vec Ideal S32x128x512 .bf16) (j : ℕ) : Vec Ideal S1x128x512 .bf16 := fun y =>
  x2 (ix3 (⟨j % 32, Nat.mod_lt _ (by decide)⟩ : Fin 32) (y 1 : Fin 128) (y 2 : Fin 512))

theorem stride_eq (arg1 : Memref sig .tc .vmem S4096x128 .f32) (harg1 : arg1.IsWhole) (x0 : Vec Ideal S4096x128 .f32) (j : ℕ) (inb) :
    View.readAt (Elt Ideal) arg1.view (⟨![j, 0], ![256, 128], ![16, 1], inb⟩ : LoadRect S4096x128) (harg1.unread x0) = stride x0 j := by
  have hj : j + 16 * 255 < 4096 := (inb (0 : Fin 2)).resolve_left (show ¬ (256 = 0) by decide)
  funext y
  show arg1.view.read (Elt Ideal) (harg1.unread x0) (LoadRect.idx (s := S4096x128) ⟨![j, 0], ![256, 128], ![16, 1], inb⟩ y) = _
  rw [harg1.read_unread]
  refine congrArg x0 (funext fun a => ?_)
  have h0 : (y 0).val < 256 := (y 0).isLt
  match a with
  | ⟨0, _⟩ => apply Fin.ext; show j + 16 * (y 0).val = (16 * (y 0).val + j) % 4096; omega
  | ⟨1, _⟩ => apply Fin.ext; show 0 + 1 * (y 1).val = (y 1).val; omega

theorem rowOf_eq (x1 : Vec Ideal S32x128 .f32) (j : ℕ) (inb) :
    View.ld x1 (Rect.unit (s := S32x128) ![j, 0] ![1, 128] inb) = rowOf x1 j := by
  have hj : j + 1 ≤ 32 := inb (0 : Fin 2)
  funext y
  refine congrArg x1 (funext fun a => ?_)
  have h0 : (y 0).val < 1 := (y 0).isLt
  match a with
  | ⟨0, _⟩ => apply Fin.ext; show j + 1 * (y 0).val = j % 32; omega
  | ⟨1, _⟩ => apply Fin.ext; show 0 + 1 * (y 1).val = (y 1).val; omega

theorem sliceOf_eq (x2 : Vec Ideal S32x128x512 .bf16) (j : ℕ) (inb) :
    View.ld x2 (Rect.unit (s := S32x128x512) ![j, 0, 0] ![1, 128, 512] inb) = sliceOf x2 j := by
  have hj : j + 1 ≤ 32 := inb (0 : Fin 3)
  funext y
  refine congrArg x2 (funext fun a => ?_)
  have h0 : (y 0).val < 1 := (y 0).isLt
  match a with
  | ⟨0, _⟩ => apply Fin.ext; show j + 1 * (y 0).val = j % 32; omega
  | ⟨1, _⟩ => apply Fin.ext; show 0 + 1 * (y 1).val = (y 1).val; omega
  | ⟨2, _⟩ => apply Fin.ext; show 0 + 1 * (y 2).val = (y 2).val; omega

/-- What one place adds to the hidden layer. -/
def part (t : Vec Ideal S256x128 .f32) (p : Vec Ideal S1x128 .f32) (w : Vec Ideal S1x128x512 .bf16) : FVec Ideal S256x512 .f32 :=
  matmul dot_S256x128_S128x512_S256x512_1_0_0_1_n_n none
    (truncf .bf16 (addf (shapeCast S256x128 t shapeCasts_S256x128_S256x128 : FVec Ideal S256x128 .f32) (broadcastTo S256x128 (shapeCast S1x128 p shapeCasts_S1x128_S1x128) broadcasts_S1x128_S256x128)) bitsLt_bf16_f32)
    (shapeCast S128x512 w shapeCasts_S1x128x512_S128x512 : FVec Ideal S128x512 .bf16) (constant S256x512 .f32 0x00000000#32)

theorem part_at (t : Vec Ideal S256x128 .f32) (p : Vec Ideal S1x128 .f32) (w : Vec Ideal S1x128x512 .bf16) (r : Fin 256) (n : Fin 512) :
    part t p w (ix2 r n) = ∑ l : Fin 128, (t (ix2 r l) + p (ix2 (0 : Fin 1) l)) * w (ix3 (0 : Fin 1) l n) := by
  pointwise [part]

/-- The sum of sixteen places' parts, in the body's order. -/
def acc (f : ℕ → FVec Ideal S256x512 .f32) : FVec Ideal S256x512 .f32 :=
  addf (addf (addf (addf (addf (addf (addf (addf (addf (addf (addf (addf (addf (addf (addf (f 0) (f 1)) (f 2)) (f 3)) (f 4)) (f 5)) (f 6)) (f 7)) (f 8)) (f 9)) (f 10)) (f 11)) (f 12)) (f 13)) (f 14)) (f 15)

theorem acc_at (f : ℕ → FVec Ideal S256x512 .f32) (y : S256x512.Idx) : acc f y = ∑ j ∈ Finset.range 16, f j y := by
  simp only [Finset.sum_range_succ, Finset.sum_range_zero, zero_add]
  rfl

/-- The hidden layer before the gelu: the first sixteen places' parts, and the other sixteen's of the next window's first tokens. -/
def hid (x0 : Vec Ideal S4096x128 .f32) (x1 : Vec Ideal S32x128 .f32) (x2 : Vec Ideal S32x128x512 .bf16) : FVec Ideal S256x512 .f32 :=
  addf (acc fun j => part (stride x0 j) (rowOf x1 j) (sliceOf x2 j))
    (dynamicRotate 0 255#32 none (acc fun j => part (stride x0 j) (rowOf x1 (16 + j)) (sliceOf x2 (16 + j))) rotates_S256x512_d0)

/-- The gelu of the hidden layer. -/
def act (H : FVec Ideal S256x512 .f32) : FVec Ideal S256x512 .f32 :=
  mulf H (mulf (broadcast S256x512 (Scalar.ofBits .f32 0x3F000000#32)) (addf (broadcast S256x512 (Scalar.ofBits .f32 0x3F800000#32)) (tanh (mulf (broadcast S256x512 (Scalar.ofBits .f32 0x3F4C422A#32))
    (addf H (mulf (broadcast S256x512 (Scalar.ofBits .f32 0x3D372713#32)) (mulf (mulf H H) H)))))))

theorem act_at (H : FVec Ideal S256x512 .f32) (r : Fin 256) (n : Fin 512) : act H (ix2 r n) = geluAt (H (ix2 r n)) := by
  unfold geluAt
  pointwise [act]

/-- The second layer. -/
def layer2 (A : FVec Ideal S256x512 .f32) (w : Vec Ideal S512x128 .bf16) : FVec Ideal S256x128 .f32 :=
  matmul dot_S256x512_S512x128_S256x128_1_0_0_1_n_n none (truncf .bf16 A bitsLt_bf16_f32) (shapeCast S512x128 w shapeCasts_S512x128_S512x128 : FVec Ideal S512x128 .bf16) (constant S256x128 .f32 0x00000000#32)

theorem layer2_at (A : FVec Ideal S256x512 .f32) (w : Vec Ideal S512x128 .bf16) (r : Fin 256) (y : Fin 128) : layer2 A w (ix2 r y) = ∑ n : Fin 512, A (ix2 r n) * w (ix2 n y) := by
  pointwise [layer2]

/-- The selector of a column's group of 64. -/
def selector : FVec Ideal S128x128 .bf16 :=
  truncf .bf16 (sitofp .f32 (extui 32 (cmpi .eq (shrsi (iota .tc S128x128 32 [0] iota_S128x128_d0_w32) (broadcast S128x128 6#32)) (shrsi (iota .tc S128x128 32 [1] iota_S128x128_d1_w32) (broadcast S128x128 6#32))) natLt_1_32)) bitsLt_bf16_f32

/-- The mean square of the groups, the summands as a leading part and a rest. -/
def meanSq (A : FVec Ideal S256x128 .f32) : FVec Ideal S256x128 .f32 :=
  mulf (matmul dot_S256x256_S256x128_S256x128_1_0_0_1_n_n none
    (concatenate S256x256 1 [⟨S256x128, truncf .bf16 A bitsLt_bf16_f32⟩, ⟨S256x128, truncf .bf16 (subf A (extf .f32 (truncf .bf16 A bitsLt_bf16_f32) bitsLt_bf16_f32)) bitsLt_bf16_f32⟩] concatenates_S256x128_S256x128_S256x256_d1)
    (concatenate S256x128 0 [⟨S128x128, selector⟩, ⟨S128x128, selector⟩] concatenates_S128x128_S128x128_S256x128_d0) (constant S256x128 .f32 0x00000000#32))
    (broadcast S256x128 (Scalar.ofBits .f32 0x3C800000#32))

/-- The body's first result, of the compressed columns and the gain. -/
def outK (C : FVec Ideal S256x128 .f32) (g : Vec Ideal S1x128 .f32) : FVec Ideal S1x256x256 .bf16 :=
  k0_pay56 k0_pay52 (k0_pay53 C (k0_pay48 g) (meanSq (mulf C C)) k0_pay50) (k0_pay54 C (k0_pay48 g) (meanSq (mulf C C)) k0_pay50)
    (iota .tc S256x128 32 [1] iota_S256x128_d1_w32) (iota .tc S256x128 32 [1] iota_S256x128_d1_w32) k0_pay55

/-- The body's second result. -/
def outV (C : FVec Ideal S256x128 .f32) : FVec Ideal S1x64x256 .bf16 := k0_pay1 (k0_pay57 C)

theorem pay47_eq (v296 v297 v307 : FVec Ideal S256x512 .f32) (v312 : FVec Ideal S256x128 .bf16) (v314 : FVec Ideal S128x512 .bf16) (z : FVec Ideal S256x512 .f32) (w : Vec Ideal S512x128 .bf16) :
    k0_pay47 v296 v297 v307 v312 v314 z w
      = layer2 (act (addf (addf v296 v307) (dynamicRotate 0 255#32 none (addf v297 (matmul dot_S256x128_S128x512_S256x512_1_0_0_1_n_n none v312 v314 z)) rotates_S256x512_d0))) w := rfl

theorem pay49_eq (v296 v297 v307 : FVec Ideal S256x512 .f32) (v312 : FVec Ideal S256x128 .bf16) (v314 : FVec Ideal S128x512 .bf16) (z : FVec Ideal S256x512 .f32) (w : Vec Ideal S512x128 .bf16) :
    k0_pay49 v296 v297 v307 v312 v314 z w = meanSq (mulf (k0_pay47 v296 v297 v307 v312 v314 z w) (k0_pay47 v296 v297 v307 v312 v314 z w)) := rfl

theorem hz : (![0, 0] : Fin 2 → ℕ) = fun _ => 0 := by
  funext a
  match a with
  | ⟨0, _⟩ => rfl
  | ⟨1, _⟩ => rfl

/-- The compressed columns, keys' beside values'. -/
abbrev comp (x0 : Vec Ideal S4096x128 .f32) (x1 : Vec Ideal S32x128 .f32) (x2 : Vec Ideal S32x128x512 .bf16) (x3 : Vec Ideal S512x128 .bf16) : FVec Ideal S256x128 .f32 :=
  layer2 (act (hid x0 x1 x2)) x3

/-- The whole of an output block is the store's rectangle. -/
theorem whole5 (inb) (x : S1x256x256.Idx) : (Rect.unit (s := S1x256x256) ![0, 0, 0] ![1, 256, 256] inb).emb x = x := by
  funext a
  match a with
  | ⟨0, _⟩ => apply Fin.ext; show 0 + 1 * (x 0).val = (x 0).val; omega
  | ⟨1, _⟩ => apply Fin.ext; show 0 + 1 * (x 1).val = (x 1).val; omega
  | ⟨2, _⟩ => apply Fin.ext; show 0 + 1 * (x 2).val = (x 2).val; omega

theorem whole6 (inb) (x : S1x64x256.Idx) : (Rect.unit (s := S1x64x256) ![0, 0, 0] ![1, 64, 256] inb).emb x = x := by
  funext a
  match a with
  | ⟨0, _⟩ => apply Fin.ext; show 0 + 1 * (x 0).val = (x 0).val; omega
  | ⟨1, _⟩ => apply Fin.ext; show 0 + 1 * (x 1).val = (x 1).val; omega
  | ⟨2, _⟩ => apply Fin.ext; show 0 + 1 * (x 2).val = (x 2).val; omega

/-- The body's sums are the hidden layer's. -/
theorem hid_eq (x0 : Vec Ideal S4096x128 .f32) (x1 : Vec Ideal S32x128 .f32) (x2 : Vec Ideal S32x128x512 .bf16) :
    addf (addf (k0_pay41 (k0_pay38 (k0_pay33 (k0_pay28 (k0_pay22 (k0_pay19 (k0_pay14 (k0_pay9 (k0_pay3 (stride x0 0) (rowOf x1 0) (sliceOf x2 0)) (k0_pay6 (stride x0 1) (rowOf x1 1) (sliceOf x2 1)) (stride x0 2) (rowOf x1 2) (sliceOf x2 2)) (k0_pay12 (stride x0 3) (rowOf x1 3) (sliceOf x2 3)) (stride x0 4) (rowOf x1 4) (sliceOf x2 4)) (k0_pay17 (stride x0 5) (rowOf x1 5)) (sliceOf x2 5) (stride x0 6) (rowOf x1 6) (sliceOf x2 6)) (stride x0 7) (rowOf x1 7) (sliceOf x2 7)) (k0_pay25 (stride x0 8) (rowOf x1 8) (sliceOf x2 8)) (stride x0 9) (rowOf x1 9) (sliceOf x2 9)) (k0_pay31 (stride x0 10) (rowOf x1 10) (sliceOf x2 10)) (stride x0 11) (rowOf x1 11) (sliceOf x2 11)) (k0_pay36 (stride x0 12) (rowOf x1 12)) (sliceOf x2 12) (stride x0 13) (rowOf x1 13) (sliceOf x2 13)) (k0_pay40 (stride x0 14)) (rowOf x1 14) (sliceOf x2 14)) (k0_pay44 (stride x0 15) (rowOf x1 15) (sliceOf x2 15))) (dynamicRotate 0 255#32 none (addf (k0_pay42 (k0_pay39 (k0_pay34 (k0_pay29 (k0_pay23 (k0_pay20 (k0_pay15 (k0_pay10 (k0_pay4 (stride x0 0) (rowOf x1 16) (sliceOf x2 16)) (k0_pay7 (stride x0 1) (rowOf x1 17)) (sliceOf x2 17) (stride x0 2) (rowOf x1 18) (sliceOf x2 18)) (k0_pay11 (stride x0 3)) (rowOf x1 19) (sliceOf x2 19) (stride x0 4) (rowOf x1 20) (sliceOf x2 20)) (k0_pay16 (stride x0 5)) (rowOf x1 21) (sliceOf x2 21) (stride x0 6) (rowOf x1 22) (sliceOf x2 22)) (stride x0 7) (rowOf x1 23) (sliceOf x2 23)) (k0_pay26 (stride x0 8) (rowOf x1 24)) (sliceOf x2 24) (stride x0 9) (rowOf x1 25) (sliceOf x2 25)) (k0_pay30 (stride x0 10)) (rowOf x1 26) (sliceOf x2 26) (stride x0 11) (rowOf x1 27) (sliceOf x2 27)) (k0_pay35 (stride x0 12)) (rowOf x1 28) (sliceOf x2 28) (stride x0 13) (rowOf x1 29) (sliceOf x2 29)) (k0_pay40 (stride x0 14)) (rowOf x1 30) (sliceOf x2 30)) (matmul dot_S256x128_S128x512_S256x512_1_0_0_1_n_n none (k0_pay45 (stride x0 15) (rowOf x1 31)) (k0_pay46 (sliceOf x2 31)) (constant S256x512 .f32 0x00000000#32))) rotates_S256x512_d0) = hid x0 x1 x2 := rfl

/-- What the body leaves in the first output's staging buffer. -/
theorem out5_eq (c : Dev nD) (i : grid0.Coords) (arg1 : Memref sig .tc .vmem S4096x128 .f32) (harg1 : arg1.IsWhole) (arg2 : Memref sig .tc .vmem S32x128 .f32) (harg2 : arg2.IsWhole) (arg3 : Memref sig .tc .vmem S32x128x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x256x256 .bf16) (harg6 : arg6.IsWhole) (arg7 : Memref sig .tc .vmem S1x64x256 .bf16) (harg7 : arg7.IsWhole)
    (x0 : Vec Ideal S4096x128 .f32) (x1 : Vec Ideal S32x128 .f32) (x2 : Vec Ideal S32x128x512 .bf16) (x3 : Vec Ideal S512x128 .bf16) (x4 : Vec Ideal S1x128 .f32) :
    out0_A_5 c i arg1 harg1 arg2 harg2 arg3 harg3 arg4 harg4 arg5 harg5 arg6 harg6 arg7 harg7 x0 x1 x2 x3 x4 = outK (comp x0 x1 x2 x3) x4 := by
  unfold out0_A_5
  rw [View.read_writes_junk_eq_canon]
  unfold kernelRun0_A
  dsimp only
  sl_unfold_words
  simp only [View.readAt_eq_ld, harg1.read_unread, harg2.read_unread, harg3.read_unread, harg4.read_unread, harg5.read_unread, View.ld_unit_zero (S := S512x128) hz, View.ld_unit_zero (S := S1x128) hz, stride_eq arg1 harg1, rowOf_eq, sliceOf_eq, pay49_eq, pay47_eq]
  funext y
  refine View.canon_apply_of_pieces (Val := Elt Ideal) (e := .bf16) (outK (comp x0 x1 x2 x3) x4) _ ?_ y (View.cover_of_tiledL _ ![1, 256, 256] (by sl_kernel_rfl) y)
  refine View.PiecesOf.mem ?_
  exact ⟨fun x => (congrFun (congrArg (fun h => outK (layer2 (act h) x3) x4) (hid_eq x0 x1 x2)) x).trans
    (congrArg (outK (comp x0 x1 x2 x3) x4) (whole5 inb_S1x256x256_S1x256x256_0_0_0 x).symm), trivial⟩

/-- What the body leaves in the second output's staging buffer. -/
theorem out6_eq (c : Dev nD) (i : grid0.Coords) (arg1 : Memref sig .tc .vmem S4096x128 .f32) (harg1 : arg1.IsWhole) (arg2 : Memref sig .tc .vmem S32x128 .f32) (harg2 : arg2.IsWhole) (arg3 : Memref sig .tc .vmem S32x128x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1x256x256 .bf16) (harg6 : arg6.IsWhole) (arg7 : Memref sig .tc .vmem S1x64x256 .bf16) (harg7 : arg7.IsWhole)
    (x0 : Vec Ideal S4096x128 .f32) (x1 : Vec Ideal S32x128 .f32) (x2 : Vec Ideal S32x128x512 .bf16) (x3 : Vec Ideal S512x128 .bf16) (x4 : Vec Ideal S1x128 .f32) :
    out0_A_6 c i arg1 harg1 arg2 harg2 arg3 harg3 arg4 harg4 arg5 harg5 arg6 harg6 arg7 harg7 x0 x1 x2 x3 x4 = outV (comp x0 x1 x2 x3) := by
  unfold out0_A_6
  rw [View.read_writes_junk_eq_canon]
  unfold kernelRun0_A
  dsimp only
  sl_unfold_words
  simp only [View.readAt_eq_ld, harg1.read_unread, harg2.read_unread, harg3.read_unread, harg4.read_unread, harg5.read_unread, View.ld_unit_zero (S := S512x128) hz, View.ld_unit_zero (S := S1x128) hz, stride_eq arg1 harg1, rowOf_eq, sliceOf_eq, pay49_eq, pay47_eq]
  funext y
  refine View.canon_apply_of_pieces (Val := Elt Ideal) (e := .bf16) (outV (comp x0 x1 x2 x3)) _ ?_ y (View.cover_of_tiledL _ ![1, 64, 256] (by sl_kernel_rfl) y)
  refine View.PiecesOf.mem ?_
  exact ⟨fun x => (congrFun (congrArg (fun h => outV (layer2 (act h) x3)) (hid_eq x0 x1 x2)) x).trans
    (congrArg (outV (comp x0 x1 x2 x3)) (whole6 inb_S1x64x256_S1x64x256_0_0_0 x).symm), trivial⟩

end Cert.Kernel6Ideal.Compress

end
-- ==== Proof.CompressSum.lean ====
module

public import proofs.«01_k».proof.Defs
public import proofs.«01_k».proof.Proof.CompressHid
public import proofs.«01_k».proof.Proof.MixScale
public import Idealize.ShloMosaic.Lib.Pointwise
public import Idealize.ShloMosaic.Lib.KernelVsHost

@[expose] public section

set_option maxRecDepth 16384

noncomputable section

namespace Cert.Kernel6Ideal.Compress

open Cert.Kernel6Ideal Cert.Kernel6Ideal.Gen Idealize.ShloMosaic Idealize.ShloMosaic.TcCoe
open Cert.Reference6Ideal.Compress (geluAt window window_at hidden hidden_at gelu gelu_at outer outer_at compressed placeAt lastWord)
open Cert.Kernel5Ideal.Mix (word_one word_zero eq_lane sub_self_coe sixtyfourth sixtyfour)

/-- A sum over 128 is a sum over the first 64 and the last 64. -/
theorem halves128 (f : Fin 128 → EReal) : ∑ l, f l = (∑ d : Fin 64, f (⟨d.val, by omega⟩ : Fin 128)) + ∑ d : Fin 64, f (⟨64 + d.val, by omega⟩ : Fin 128) :=
  Fin.sum_univ_add (a := 64) (b := 64) f

theorem halves256 (f : Fin 256 → EReal) : ∑ l, f l = (∑ d : Fin 128, f (⟨d.val, by omega⟩ : Fin 256)) + ∑ d : Fin 128, f (⟨128 + d.val, by omega⟩ : Fin 256) :=
  Fin.sum_univ_add (a := 128) (b := 128) f

theorem halves512 (f : Fin 512 → EReal) : ∑ l, f l = (∑ d : Fin 256, f (⟨d.val, by omega⟩ : Fin 512)) + ∑ d : Fin 256, f (⟨256 + d.val, by omega⟩ : Fin 512) :=
  Fin.sum_univ_add (a := 256) (b := 256) f

/-- A sum over the 2048 entries of a window is one over its tokens and their columns. -/
theorem sum2048 (f : Fin 2048 → EReal) : ∑ k, f k = ∑ j : Fin 32, ∑ d : Fin 64, f (⟨64 * j.val + d.val, by omega⟩ : Fin 2048) := by
  rw [← Fintype.sum_prod_type' (fun (j : Fin 32) (d : Fin 64) => f (⟨64 * j.val + d.val, by omega⟩ : Fin 2048))]
  refine (Fintype.sum_equiv (finProdFinEquiv (m := 32) (n := 64)) _ _ fun x => ?_).symm
  refine congrArg f (Fin.ext ?_)
  show 64 * x.1.val + x.2.val = x.2.val + 64 * x.1.val
  omega

/-- One place's summand of the hidden layer. -/
def place1 (x0 : Vec Ideal S4096x128 .f32) (x1 : Vec Ideal S32x128 .f32) (x2 : Vec Ideal S32x128x512 .bf16) (r : Fin 256) (n : Fin 512) (j : ℕ) : EReal :=
  ∑ l : Fin 128, (x0 (ix2 (⟨(16 * r.val + j) % 4096, Nat.mod_lt _ (by decide)⟩ : Fin 4096) l) + x1 (ix2 (⟨j % 32, Nat.mod_lt _ (by decide)⟩ : Fin 32) l)) * x2 (ix3 (⟨j % 32, Nat.mod_lt _ (by decide)⟩ : Fin 32) l n)

theorem part_place (x0 : Vec Ideal S4096x128 .f32) (x1 : Vec Ideal S32x128 .f32) (x2 : Vec Ideal S32x128x512 .bf16) (r : Fin 256) (n : Fin 512) (j : ℕ) :
    part (stride x0 j) (rowOf x1 j) (sliceOf x2 j) (ix2 r n) = place1 x0 x1 x2 r n j := part_at _ _ _ r n

theorem part_next (x0 : Vec Ideal S4096x128 .f32) (x1 : Vec Ideal S32x128 .f32) (x2 : Vec Ideal S32x128x512 .bf16) (r : Fin 256) (n : Fin 512) (j : ℕ) :
    part (stride x0 j) (rowOf x1 (16 + j)) (sliceOf x2 (16 + j)) (ix2 (⟨(r.val + 1) % 256, Nat.mod_lt _ (by decide)⟩ : Fin 256) n) = place1 x0 x1 x2 r n (16 + j) := by
  rw [part_at]
  unfold place1
  refine Finset.sum_congr rfl fun l _ => ?_
  refine congrArg (fun a => (a + x1 (ix2 _ l)) * x2 (ix3 _ l n)) (congrArg (fun s => x0 (ix2 s l)) (Fin.ext ?_))
  show (16 * ((r.val + 1) % 256) + j) % 4096 = (16 * r.val + (16 + j)) % 4096
  omega

/-- The hidden layer is the sum over the 32 places of a window. -/
theorem hid_at (x0 : Vec Ideal S4096x128 .f32) (x1 : Vec Ideal S32x128 .f32) (x2 : Vec Ideal S32x128x512 .bf16) (r : Fin 256) (n : Fin 512) :
    hid x0 x1 x2 (ix2 r n) = ∑ j : Fin 32, ∑ l : Fin 128, (x0 (ix2 (⟨(16 * r.val + j.val) % 4096, Nat.mod_lt _ (by decide)⟩ : Fin 4096) l) + x1 (ix2 j l)) * x2 (ix3 j l n) := by
  have e : hid x0 x1 x2 (ix2 r n) = (∑ j ∈ Finset.range 16, place1 x0 x1 x2 r n j) + ∑ j ∈ Finset.range 16, place1 x0 x1 x2 r n (16 + j) := by
    show acc _ (ix2 r n) + dynamicRotate (s := S256x512) 0 255#32 none _ rotates_S256x512_d0 (ix2 r n) = _
    rw [dynamicRotate_apply (s := S256x512) 0 255#32 _ rotates_S256x512_d0 (ix2 r n) (ix2 (⟨(r.val + 1) % 256, Nat.mod_lt _ (by decide)⟩ : Fin 256) n) ?_, acc_at, acc_at]
    · exact congrArg₂ (· + ·) (Finset.sum_congr rfl fun j _ => part_place x0 x1 x2 r n j) (Finset.sum_congr rfl fun j _ => part_next x0 x1 x2 r n j)
    · intro b
      match b with
      | ⟨0, _⟩ => show (r.val + 1) % 256 = (r.val + 256 - 255 % 256) % 256; omega
      | ⟨1, _⟩ => rfl
  rw [e, ← Finset.sum_range_add, Finset.sum_range]
  refine Finset.sum_congr rfl fun j _ => ?_
  have hj : (⟨j.val % 32, Nat.mod_lt _ (by decide)⟩ : Fin 32) = j := Fin.ext (Nat.mod_eq_of_lt j.isLt)
  unfold place1
  rw [hj]

/-- One half of the hidden layer, where the other half's lanes meet zeros. -/
theorem hid_half (x0 : Vec Ideal S4096x128 .f32) (x1 : Vec Ideal S32x128 .f32) (x2 : Vec Ideal S32x128x512 .bf16) (t : FVec Ideal Cert.Reference6Ideal.S8x4096x64 .f32) (pe : FVec Ideal Cert.Reference6Ideal.S32x64 .f32)
    (w1 : FVec Ideal Cert.Reference6Ideal.S2048x256 .f32) (B : Fin 8) (u v : Fin 64 → Fin 128) (hs : ∀ f : Fin 128 → EReal, ∑ l, f l = (∑ d, f (u d)) + ∑ d, f (v d))
    (h0 : ∀ (s : Fin 4096) (d : Fin 64), x0 (ix2 s (u d)) = t (ix3 B s d)) (h1 : ∀ (j : Fin 32) (d : Fin 64), x1 (ix2 j (u d)) = pe (ix2 j d)) (n' : Fin 512) (n : Fin 256)
    (h2 : ∀ (j : Fin 32) (d : Fin 64), x2 (ix3 j (u d) n') = w1 (ix2 (⟨64 * j.val + d.val, by omega⟩ : Fin 2048) n)) (h3 : ∀ (j : Fin 32) (d : Fin 64), x2 (ix3 j (v d) n') = 0) (r : Fin 256) :
    hid x0 x1 x2 (ix2 r n') = hidden (window t) pe w1 (ix3 B r n) := by
  rw [hid_at, hidden_at, sum2048]
  refine Finset.sum_congr rfl fun j _ => ?_
  rw [hs, Finset.sum_eq_zero (s := Finset.univ) (f := fun d => _ * x2 (ix3 j (v d) n')) (fun d _ => by rw [h3, mul_zero]), add_zero]
  refine Finset.sum_congr rfl fun d _ => ?_
  have ej : (⟨(64 * j.val + d.val) / 64, by omega⟩ : Fin 32) = j := Fin.ext (by dsimp only; omega)
  have ed : (⟨(64 * j.val + d.val) % 64, by omega⟩ : Fin 64) = d := Fin.ext (by dsimp only; omega)
  rw [h0, h1, h2]
  simp only [ej, ed]
  rw [window_at]

/-- One half of the compressed columns. -/
theorem comp_half (x0 : Vec Ideal S4096x128 .f32) (x1 : Vec Ideal S32x128 .f32) (x2 : Vec Ideal S32x128x512 .bf16) (x3 : Vec Ideal S512x128 .bf16) (t : FVec Ideal Cert.Reference6Ideal.S8x4096x64 .f32) (pe : FVec Ideal Cert.Reference6Ideal.S32x64 .f32)
    (w1 : FVec Ideal Cert.Reference6Ideal.S2048x256 .f32) (w2 : FVec Ideal Cert.Reference6Ideal.S256x64 .f32) (B : Fin 8) (r : Fin 256) (u v : Fin 256 → Fin 512)
    (hs : ∀ f : Fin 512 → EReal, ∑ l, f l = (∑ d, f (u d)) + ∑ d, f (v d)) (hh : ∀ n, hid x0 x1 x2 (ix2 r (u n)) = hidden (window t) pe w1 (ix3 B r n)) (y : Fin 128) (e : Fin 64)
    (h2 : ∀ n : Fin 256, x3 (ix2 (u n) y) = w2 (ix2 n e)) (h3 : ∀ n : Fin 256, x3 (ix2 (v n) y) = 0) :
    comp x0 x1 x2 x3 (ix2 r y) = compressed t pe w1 w2 (ix3 B r e) := by
  show layer2 _ x3 (ix2 r y) = outer _ w2 (ix3 B r e)
  rw [layer2_at, outer_at, hs, Finset.sum_eq_zero (s := Finset.univ) (f := fun d => _ * x3 (ix2 (v d) y)) (fun d _ => by rw [h3, mul_zero]), add_zero]
  refine Finset.sum_congr rfl fun n _ => ?_
  rw [act_at, gelu_at, hh, h2]

theorem shift_lane : ∀ k : Fin 128, IntOp.shrsi .vector (BitVec.ofNat 32 k.val) 6#32 = BitVec.ofNat 32 (k.val / 64) := by decide +kernel

theorem selector_at (l y : Fin 128) : selector (ix2 l y) = if l.val / 64 = y.val / 64 then (1 : EReal) else 0 := by
  pointwise [selector]
  rw [shift_lane, shift_lane, eq_lane _ _ (by omega) (by omega)]
  by_cases h : l.val / 64 = y.val / 64
  · rw [if_pos h, if_pos h]; exact word_one
  · rw [if_neg h, if_neg h]; exact word_zero

/-- The sum of 128 lanes with the selector is the sum over the first group. -/
theorem select_sum (f : Fin 128 → EReal) (y : Fin 64) : ∑ l : Fin 128, f l * selector (ix2 l (⟨y.val, by omega⟩ : Fin 128)) = ∑ d : Fin 64, f (⟨d.val, by omega⟩ : Fin 128) := by
  rw [halves128]
  have z : ∑ d : Fin 64, f (⟨64 + d.val, by omega⟩ : Fin 128) * selector (ix2 (⟨64 + d.val, by omega⟩ : Fin 128) (⟨y.val, by omega⟩ : Fin 128)) = 0 :=
    Finset.sum_eq_zero fun d _ => by rw [selector_at, if_neg (by dsimp only; omega), mul_zero]
  rw [z, add_zero]
  exact Finset.sum_congr rfl fun d _ => by rw [selector_at, if_pos (by dsimp only; omega), mul_one]

/-- The mean over the first group, where its numbers are real. -/
theorem meanSq_at (A : FVec Ideal S256x128 .f32) (r : Fin 256) (hA : ∀ d : Fin 64, ∃ a : ℝ, A (ix2 r (⟨d.val, by omega⟩ : Fin 128)) = (a : EReal)) (y : Fin 64) :
    meanSq A (ix2 r (⟨y.val, by omega⟩ : Fin 128)) = Ideal.div (∑ d : Fin 64, A (ix2 r (⟨d.val, by omega⟩ : Fin 128))) (Ideal.ofBits .f32 0x42800000#32) := by
  have e : ∀ y : Fin 128, meanSq A (ix2 r y) = (∑ l : Fin 256, (if h : l.val < 128 then A (ix2 r (⟨l.val, h⟩ : Fin 128)) else (A (ix2 r (⟨l.val - 128, by omega⟩ : Fin 128)) - A (ix2 r (⟨l.val - 128, by omega⟩ : Fin 128))))
      * (if h : l.val < 128 then selector (ix2 (⟨l.val, h⟩ : Fin 128) y) else selector (ix2 (⟨l.val - 128, by omega⟩ : Fin 128) y))) * Ideal.ofBits .f32 0x3C800000#32 := by
    intro y
    unfold meanSq
    generalize selector = s
    pointwise
  have z : ∑ d : Fin 64, (A (ix2 r (⟨d.val, by omega⟩ : Fin 128)) - A (ix2 r (⟨d.val, by omega⟩ : Fin 128))) = 0 :=
    Finset.sum_eq_zero fun d _ => by obtain ⟨a, ha⟩ := hA d; rw [ha, sub_self_coe]
  rw [e, halves256]
  have e1 : ∀ d : Fin 128, (⟨128 + d.val - 128, by omega⟩ : Fin 128) = d := fun d => Fin.ext (by dsimp only; omega)
  simp only [Fin.is_lt, dite_true, show ∀ d : Fin 128, ¬ (128 + d.val < 128) from fun d => by omega, dite_false, e1, Fin.eta]
  rw [select_sum (fun l => A (ix2 r l)) y, select_sum (fun l => A (ix2 r l) - A (ix2 r l)) y, z, add_zero, sixtyfour, Ideal.div_coe (by norm_num), ← sixtyfourth]

/-- The normed columns, from the mean squares. -/
theorem pay51_at (C M : FVec Ideal S256x128 .f32) (g : Vec Ideal S1x128 .f32) (r : Fin 256) (y : Fin 128) :
    k0_pay51 C (k0_pay48 g) M k0_pay50 (ix2 r y) = C (ix2 r y) * Ideal.rsqrt (M (ix2 r y) + Ideal.ofBits .f32 0x358637BD#32) * g (ix2 (0 : Fin 1) y) := by
  pointwise [k0_pay51, k0_pay48, k0_pay50]

/-- The second result's rows are the value half's columns. -/
theorem outV_at (C : FVec Ideal S256x128 .f32) (e : Fin 64) (r : Fin 256) : outV C (ix3 (0 : Fin 1) e r) = C (ix2 r (⟨64 + e.val, by omega⟩ : Fin 128)) := by
  pointwise [outV, k0_pay1, k0_pay57]

/-- The body's columns for a window's place, by the number of the column. -/
def placeSel (r : Fin 256) (w : BitVec 32) : EReal :=
  Scalar.select (IntOp.cmpi .eq w 0#32) (FloatOps.sitofp (F := Ideal) .f32 (IntOp.shrsi .vector (lastWord r) 6#32))
    (Scalar.select (IntOp.cmpi .eq w 1#32) (FloatOps.sitofp (F := Ideal) .f32 (IntOp.andi (lastWord r) 63#32))
      (Scalar.select (IntOp.ori (IntOp.cmpi .eq w 2#32) (IntOp.cmpi .eq w 3#32)) 1 0))

theorem shift_last : ∀ r : Fin 256, IntOp.shrsi .vector (lastWord r) 6#32 = IntOp.shrsi .host (lastWord r) 6#32 := by decide +kernel

theorem placeSel_at (r : Fin 256) (e : ℕ) (he : e < 64) : placeSel r (BitVec.ofNat 32 e) = placeAt r e := by
  unfold placeSel placeAt
  rw [shift_last, eq_lane e 0 (by omega) (by omega), eq_lane e 1 (by omega) (by omega), eq_lane e 2 (by omega) (by omega), eq_lane e 3 (by omega) (by omega)]
  by_cases h0 : e = 0
  · rw [if_pos h0, if_pos h0]; rfl
  rw [if_neg h0, if_neg h0]
  by_cases h1 : e = 1
  · rw [if_pos h1, if_pos h1]; rfl
  rw [if_neg h1, if_neg h1]
  by_cases h2 : e = 2
  · rw [if_pos h2, if_neg (by omega), if_pos (by omega)]; rfl
  by_cases h3 : e = 3
  · rw [if_neg h2, if_pos h3, if_pos (by omega)]; rfl
  · rw [if_neg h2, if_neg h3, if_neg (by omega)]; rfl

theorem select_one (a b : EReal) : Scalar.select 1#1 a b = a := rfl

theorem outK_raw (C : FVec Ideal S256x128 .f32) (g : Vec Ideal S1x128 .f32) (r : Fin 256) (y : Fin 256) :
    outK C g (ix3 (0 : Fin 1) r y) = if h : y.val < 128 then
      Scalar.select (IntOp.cmpi .slt (BitVec.ofNat 32 y.val) 64#32) (k0_pay51 C (k0_pay48 g) (meanSq (mulf C C)) k0_pay50 (ix2 r (⟨y.val, h⟩ : Fin 128))) (placeSel r (IntOp.subi (BitVec.ofNat 32 y.val) 64#32))
    else Scalar.select (IntOp.cmpi .sge (BitVec.ofNat 32 (y.val - 128)) 64#32)
      (dynamicRotate (s := S256x128) 1 64#32 none (k0_pay51 C (k0_pay48 g) (meanSq (mulf C C)) k0_pay50) rotates_S256x128_d1 (ix2 r (⟨y.val - 128, by omega⟩ : Fin 128))) (placeSel r (IntOp.subi (BitVec.ofNat 32 (y.val - 128)) 0#32)) := by
  unfold outK k0_pay53 k0_pay54 placeSel
  generalize k0_pay51 C (k0_pay48 g) (meanSq (mulf C C)) k0_pay50 = N
  generalize dynamicRotate (s := S256x128) 1 64#32 none N rotates_S256x128_d1 = R
  pointwise [k0_pay56, k0_pay52, k0_pay55]

theorem lane_lt : ∀ e : Fin 64, IntOp.cmpi .slt (BitVec.ofNat 32 e.val) 64#32 = 1#1 := by decide +kernel
theorem lane_not_lt : ∀ e : Fin 64, IntOp.cmpi .slt (BitVec.ofNat 32 (64 + e.val)) 64#32 = 0#1 := by decide +kernel
theorem lane_not_ge : ∀ e : Fin 64, IntOp.cmpi .sge (BitVec.ofNat 32 e.val) 64#32 = 0#1 := by decide +kernel
theorem lane_ge : ∀ e : Fin 64, IntOp.cmpi .sge (BitVec.ofNat 32 (64 + e.val)) 64#32 = 1#1 := by decide +kernel
theorem lane_sub : ∀ e : Fin 64, IntOp.subi (BitVec.ofNat 32 (64 + e.val)) 64#32 = BitVec.ofNat 32 e.val := by decide +kernel
theorem lane_sub0 : ∀ e : Fin 64, IntOp.subi (BitVec.ofNat 32 e.val) 0#32 = BitVec.ofNat 32 e.val := by decide +kernel

/-- The first 64 columns of the first result: the normed keys. -/
theorem outK_0 (C : FVec Ideal S256x128 .f32) (g : Vec Ideal S1x128 .f32) (r : Fin 256) (e : Fin 64) :
    outK C g (ix3 (0 : Fin 1) r (⟨e.val, by omega⟩ : Fin 256)) = k0_pay51 C (k0_pay48 g) (meanSq (mulf C C)) k0_pay50 (ix2 r (⟨e.val, by omega⟩ : Fin 128)) := by
  rw [outK_raw, dif_pos (show e.val < 128 by omega), lane_lt]
  rfl

/-- The next 64: the place. -/
theorem outK_1 (C : FVec Ideal S256x128 .f32) (g : Vec Ideal S1x128 .f32) (r : Fin 256) (e : Fin 64) :
    outK C g (ix3 (0 : Fin 1) r (⟨64 + e.val, by omega⟩ : Fin 256)) = placeAt r e.val := by
  rw [outK_raw, dif_pos (show 64 + e.val < 128 by omega), lane_not_lt, lane_sub, placeSel_at r e.val e.isLt]
  rfl

/-- The next 64: the place again. -/
theorem outK_2 (C : FVec Ideal S256x128 .f32) (g : Vec Ideal S1x128 .f32) (r : Fin 256) (e : Fin 64) :
    outK C g (ix3 (0 : Fin 1) r (⟨128 + e.val, by omega⟩ : Fin 256)) = placeAt r e.val := by
  rw [outK_raw, dif_neg (show ¬ (128 + e.val < 128) by omega)]
  simp only [show 128 + e.val - 128 = e.val from by omega]
  rw [lane_not_ge, lane_sub0, placeSel_at r e.val e.isLt]
  rfl

/-- The last 64: the normed keys again. -/
theorem outK_3 (C : FVec Ideal S256x128 .f32) (g : Vec Ideal S1x128 .f32) (r : Fin 256) (e : Fin 64) :
    outK C g (ix3 (0 : Fin 1) r (⟨192 + e.val, by omega⟩ : Fin 256)) = k0_pay51 C (k0_pay48 g) (meanSq (mulf C C)) k0_pay50 (ix2 r (⟨e.val, by omega⟩ : Fin 128)) := by
  rw [outK_raw, dif_neg (show ¬ (192 + e.val < 128) by omega)]
  simp only [show 192 + e.val - 128 = 64 + e.val from by omega]
  rw [lane_ge]
  refine (select_one _ _).trans ?_
  refine (dynamicRotate_apply (s := S256x128) 1 64#32 _ rotates_S256x128_d1 _ (ix2 r (⟨e.val, by omega⟩ : Fin 128)) fun b => ?_)
  match b with
  | ⟨0, _⟩ => rfl
  | ⟨1, _⟩ => show e.val = (64 + e.val + 128 - 64 % 128) % 128; omega

end Cert.Kernel6Ideal.Compress

end
-- ==== Proof.CompressPre.lean ====
module

public import proofs.«01_k».proof.Defs
public import proofs.«01_k».proof.Proof.CompressRef
public import proofs.«01_k».proof.Proof.MixPre
public import proofs.«01_k».proof.Proof.MixScale
public import Idealize.ShloMosaic.Lib.Pointwise

@[expose] public section

set_option maxRecDepth 16384

noncomputable section

namespace Cert.Reference6Ideal.Compress

open Cert.Reference6Ideal Cert.Reference6Ideal.Gen Idealize.ShloMosaic
open Cert.Reference5Ideal.Mix (real_of_abs both real_mul real_add)

theorem pre_facts : Cert.Pre_finite_compression.Facts := ⟨by decide, by decide, by decide, by decide, by decide, by decide, by decide, by decide, by decide, by decide, by decide, by decide⟩

/-- The numbers that the compressed keys are computed from are real. -/
structure Finite (p : FVec Ideal S8x4096x2956 .f32) (pe : FVec Ideal S32x64 .f32) (w1 : FVec Ideal S2048x256 .f32) (w2 : FVec Ideal S256x64 .f32) : Prop where
  key : ∀ (B : Fin 8) (s : Fin 4096) (d : Fin 64), ∃ r : ℝ, p (ix3 B s (⟨256 + d.val, by omega⟩ : Fin 2956)) = (r : EReal)
  emb : ∀ (j : Fin 32) (d : Fin 64), ∃ r : ℝ, pe (ix2 j d) = (r : EReal)
  inner : ∀ (k : Fin 2048) (n : Fin 256), ∃ r : ℝ, w1 (ix2 k n) = (r : EReal)
  last : ∀ (n : Fin 256) (e : Fin 64), ∃ r : ℝ, w2 (ix2 n e) = (r : EReal)

/-- What the precondition says at one index. -/
theorem pre_at (p : FVec Ideal S8x4096x2956 .f32) (g : FVec Ideal S64 .f32) (pe pv : FVec Ideal S32x64 .f32) (w1 : FVec Ideal S2048x256 .f32) (w2 : FVec Ideal S256x64 .f32) (v1 : FVec Ideal S2048x256 .f32) (v2 : FVec Ideal S256x64 .f32)
    (h : @Cert.Pre_finite_compression.fn pre_facts Ideal _ p g pe pv w1 w2 v1 v2 = fun _ => 1#1) (B : Fin 8) (s : Fin 4096) (d : Fin 64) :
    (∃ r : ℝ, p (ix3 B s (⟨256 + d.val, by omega⟩ : Fin 2956)) = (r : EReal)) ∧ (∃ r : ℝ, pe (ix2 (⟨s.val % 32, by omega⟩ : Fin 32) d) = (r : EReal))
    ∧ (∃ r : ℝ, w1 (ix2 (⟨(B.val % 2 * 4096 + s.val) / 4, by omega⟩ : Fin 2048) (⟨(B.val % 2 * 4096 + s.val) % 4 * 64 + d.val, by omega⟩ : Fin 256)) = (r : EReal))
    ∧ (∃ r : ℝ, w2 (ix2 (⟨s.val % 256, by omega⟩ : Fin 256) d) = (r : EReal)) := by
  have h' := congrFun h (ix3 B s d)
  revert h'
  unfold Cert.Pre_finite_compression.fn Cert.Pre_finite_compression.fn_part1
  pointwise []
  intro h'
  obtain ⟨h', h4⟩ := both _ _ h'
  obtain ⟨h', h3⟩ := both _ _ h'
  obtain ⟨h1, h2⟩ := both _ _ h'
  exact ⟨real_of_abs _ h1, real_of_abs _ h2, real_of_abs _ h3, real_of_abs _ h4⟩

theorem finite_of_pre (p : FVec Ideal S8x4096x2956 .f32) (g : FVec Ideal S64 .f32) (pe pv : FVec Ideal S32x64 .f32) (w1 : FVec Ideal S2048x256 .f32) (w2 : FVec Ideal S256x64 .f32) (v1 : FVec Ideal S2048x256 .f32) (v2 : FVec Ideal S256x64 .f32)
    (h : @Cert.Pre_finite_compression.fn pre_facts Ideal _ p g pe pv w1 w2 v1 v2 = fun _ => 1#1) : Finite p pe w1 w2 := by
  have key := pre_at p g pe pv w1 w2 v1 v2 h
  refine ⟨fun B s d => (key B s d).1, fun j d => ?_, fun k n => ?_, fun n e => ?_⟩
  · obtain ⟨r, hr⟩ := (key 0 (⟨j.val, by omega⟩ : Fin 4096) d).2.1
    exact ⟨r, Eq.trans (congrArg (fun a => pe (ix2 a d)) (Fin.ext (by dsimp only; omega))) hr⟩
  · obtain ⟨r, hr⟩ := (key (⟨(4 * k.val + n.val / 64) / 4096, by omega⟩ : Fin 8) (⟨(4 * k.val + n.val / 64) % 4096, by omega⟩ : Fin 4096) (⟨n.val % 64, by omega⟩ : Fin 64)).2.2.1
    exact ⟨r, Eq.trans (congrArg₂ (fun a b => w1 (ix2 a b)) (Fin.ext (by dsimp only; omega)) (Fin.ext (by dsimp only; omega))) hr⟩
  · obtain ⟨r, hr⟩ := (key 0 (⟨n.val, by omega⟩ : Fin 4096) e).2.2.2
    exact ⟨r, Eq.trans (congrArg (fun a => w2 (ix2 a e)) (Fin.ext (by dsimp only; omega))) hr⟩

/-- A finite sum of real numbers is real. -/
theorem real_sum {ι : Type} [Fintype ι] (f : ι → EReal) (h : ∀ i, ∃ r : ℝ, f i = (r : EReal)) : ∃ r : ℝ, ∑ i, f i = (r : EReal) := by
  choose r hr using h
  exact ⟨∑ i, r i, by rw [Cert.Kernel5Ideal.Mix.coe_sum]; exact Finset.sum_congr rfl fun i _ => hr i⟩

theorem real_half : ∃ r : ℝ, Ideal.ofBits .f32 0x3F000000#32 = (r : EReal) := ⟨_, by simp [Ideal.ofBits, Ideal.ieee, -EReal.coe_mul]; rfl⟩
theorem real_root : ∃ r : ℝ, Ideal.ofBits .f32 0x3F4C422A#32 = (r : EReal) := ⟨_, by simp [Ideal.ofBits, Ideal.ieee, -EReal.coe_mul]; rfl⟩
theorem real_cube : ∃ r : ℝ, Ideal.ofBits .f32 0x3D372713#32 = (r : EReal) := ⟨_, by simp [Ideal.ofBits, Ideal.ieee, -EReal.coe_mul]; rfl⟩

theorem real_tanh {a : EReal} (h : ∃ r : ℝ, a = (r : EReal)) : ∃ r : ℝ, Ideal.tanh a = (r : EReal) := by
  obtain ⟨r, rfl⟩ := h
  exact ⟨Real.tanh r, rfl⟩

/-- The gelu of a real number is real. -/
theorem real_gelu {a : EReal} (h : ∃ r : ℝ, a = (r : EReal)) : ∃ r : ℝ, geluAt a = (r : EReal) :=
  real_mul h (real_mul real_half (real_add ⟨1, rfl⟩ (real_tanh (real_mul real_root (real_add h (real_mul real_cube (real_mul (real_mul h h) h)))))))

/-- The compressed keys are real. -/
theorem compressed_real (t : FVec Ideal S8x4096x64 .f32) (pe : FVec Ideal S32x64 .f32) (w1 : FVec Ideal S2048x256 .f32) (w2 : FVec Ideal S256x64 .f32) (ht : ∀ (B : Fin 8) (s : Fin 4096) (d : Fin 64), ∃ r : ℝ, t (ix3 B s d) = (r : EReal))
    (he : ∀ (j : Fin 32) (d : Fin 64), ∃ r : ℝ, pe (ix2 j d) = (r : EReal)) (hi : ∀ (k : Fin 2048) (n : Fin 256), ∃ r : ℝ, w1 (ix2 k n) = (r : EReal)) (hl : ∀ (n : Fin 256) (e : Fin 64), ∃ r : ℝ, w2 (ix2 n e) = (r : EReal))
    (B : Fin 8) (r : Fin 256) (e : Fin 64) : ∃ a : ℝ, compressed t pe w1 w2 (ix3 B r e) = (a : EReal) := by
  show ∃ a : ℝ, outer _ w2 (ix3 B r e) = (a : EReal)
  rw [outer_at]
  refine real_sum _ fun n => real_mul ?_ (hl n e)
  rw [gelu_at]
  refine real_gelu ?_
  rw [hidden_at]
  refine real_sum _ fun k => real_mul (real_add ?_ (he _ _)) (hi _ _)
  rw [window_at]
  exact ht _ _ _

end Cert.Reference6Ideal.Compress

end
-- ==== Proof.Compress.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.CompressBlocks
public import proofs.«01_k».proof.Proof.CompressSum
public import proofs.«01_k».proof.Proof.CompressPre
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Kernel6Ideal.Compress

open Cert.Kernel6Ideal Cert.Kernel6Ideal.Gen Idealize.ShloMosaic Idealize.ShloMosaic.TcCoe
open Idealize.SL Idealize.SL.Sem Idealize.ShloMosaic.Tactic
open Cert.Reference6Ideal.Compress (hidden window compressed normed normed_at place place_at placeAt keys keys_0 keys_1 keys_2 keys_3 vals vals_at resultK resultV)

variable (m : (ℓ : Loc nD τ sig) → Buf (Elt Ideal) ℓ) (ρ : Dev nD → PrngReg)

/-- The keys' columns of the projection. -/
abbrev keyCols (p : FVec Ideal Cert.Reference6Ideal.S8x4096x2956 .f32) : FVec Ideal Cert.Reference6Ideal.S8x4096x64 .f32 :=
  extractStridedSlice Cert.Reference6Ideal.S8x4096x64 ![0, 0, 256] p Cert.Reference6Ideal.Gen.slices_S8x4096x2956_S8x4096x64_0_0_256

/-- The values' columns. -/
abbrev valCols (p : FVec Ideal Cert.Reference6Ideal.S8x4096x2956 .f32) : FVec Ideal Cert.Reference6Ideal.S8x4096x64 .f32 :=
  extractStridedSlice Cert.Reference6Ideal.S8x4096x64 ![0, 0, 320] p Cert.Reference6Ideal.Gen.slices_S8x4096x2956_S8x4096x64_0_0_320

theorem keyCols_at (p : FVec Ideal Cert.Reference6Ideal.S8x4096x2956 .f32) (B : Fin 8) (s : Fin 4096) (d : Fin 64) : keyCols p (ix3 B s d) = p (ix3 B s (⟨256 + d.val, by omega⟩ : Fin 2956)) := by
  pointwise []

theorem valCols_at (p : FVec Ideal Cert.Reference6Ideal.S8x4096x2956 .f32) (B : Fin 8) (s : Fin 4096) (d : Fin 64) : valCols p (ix3 B s d) = p (ix3 B s (⟨320 + d.val, by omega⟩ : Fin 2956)) := by
  pointwise []

/-- The reference's compressed keys, of the arguments that a device holds. -/
abbrev keyC (c : Dev nD) : FVec Ideal Cert.Reference6Ideal.S8x256x64 .f32 :=
  compressed (keyCols (m ((c : Thread nD τ).loc main_arg0))) (m ((c : Thread nD τ).loc main_arg2)) (m ((c : Thread nD τ).loc main_arg4)) (m ((c : Thread nD τ).loc main_arg5))

/-- The reference's compressed values. -/
abbrev valC (c : Dev nD) : FVec Ideal Cert.Reference6Ideal.S8x256x64 .f32 :=
  compressed (valCols (m ((c : Thread nD τ).loc main_arg0))) (m ((c : Thread nD τ).loc main_arg3)) (m ((c : Thread nD τ).loc main_arg6)) (m ((c : Thread nD τ).loc main_arg7))

/-- The compressed columns of a point. -/
abbrev compOf (c : Dev nD) (t : Fin cfg0.N) : FVec Ideal S256x128 .f32 := comp (iblk m c 0 t) (iblk m c 1 t) (iblk m c 2 t) (iblk m c 3 t)

/-- The first 64 compressed columns are the reference's keys. -/
theorem key_half (c : Dev nD) (t : Fin cfg0.N) (r : Fin 256) (e : Fin 64) : compOf m c t (ix2 r (⟨e.val, by omega⟩ : Fin 128)) = keyC m c (ix3 (⟨t.val, lt8 t⟩ : Fin 8) r e) := by
  refine comp_half _ _ _ _ _ _ _ _ _ r (fun n => (⟨n.val, by omega⟩ : Fin 512)) (fun n => (⟨256 + n.val, by omega⟩ : Fin 512)) halves512 (fun n => ?_) _ e (fun n => ?_) (fun n => ?_)
  · refine hid_half _ _ _ _ _ _ _ (fun d => (⟨d.val, by omega⟩ : Fin 128)) (fun d => (⟨64 + d.val, by omega⟩ : Fin 128)) halves128 (fun s d => ?_) (fun j d => ?_) _ n (fun j d => ?_) (fun j d => ?_) r
    · exact (block0 m c t s _).trans (keyCols_at _ _ _ _).symm
    · rw [block1, embed_at, dif_pos (show d.val < 64 from d.isLt)]
    · rw [block2, first_at, dif_pos (show d.val < 64 from d.isLt), dif_pos (show n.val < 256 from n.isLt)]
    · rw [block2, first_at, dif_neg (show ¬ (64 + d.val < 64) by omega), dif_pos (show n.val < 256 from n.isLt)]
  · rw [block3, second_at, dif_pos (show n.val < 256 from n.isLt), dif_pos (show e.val < 64 from e.isLt)]
  · rw [block3, second_at, dif_neg (show ¬ (256 + n.val < 256) by omega), dif_pos (show e.val < 64 from e.isLt)]

/-- The last 64 are its values. -/
theorem val_half (c : Dev nD) (t : Fin cfg0.N) (r : Fin 256) (e : Fin 64) : compOf m c t (ix2 r (⟨64 + e.val, by omega⟩ : Fin 128)) = valC m c (ix3 (⟨t.val, lt8 t⟩ : Fin 8) r e) := by
  refine comp_half _ _ _ _ _ _ _ _ _ r (fun n => (⟨256 + n.val, by omega⟩ : Fin 512)) (fun n => (⟨n.val, by omega⟩ : Fin 512)) (fun f => (halves512 f).trans (add_comm _ _)) (fun n => ?_) _ e (fun n => ?_) (fun n => ?_)
  · refine hid_half _ _ _ _ _ _ _ (fun d => (⟨64 + d.val, by omega⟩ : Fin 128)) (fun d => (⟨d.val, by omega⟩ : Fin 128)) (fun f => (halves128 f).trans (add_comm _ _)) (fun s d => ?_) (fun j d => ?_) _ n (fun j d => ?_) (fun j d => ?_) r
    · refine (block0 m c t s _).trans (Eq.trans ?_ (valCols_at _ _ _ _).symm)
      exact congrArg (fun k => m ((c : Thread nD τ).loc main_arg0) (ix3 (⟨t.val, lt8 t⟩ : Fin 8) s k)) (Fin.ext (by dsimp only; omega))
    · rw [block1, embed_at, dif_neg (show ¬ (64 + d.val < 64) by omega)]
      exact congrArg (fun k => m ((c : Thread nD τ).loc main_arg3) (ix2 j k)) (Fin.ext (by dsimp only; omega))
    · rw [block2, first_at, dif_neg (show ¬ (64 + d.val < 64) by omega), dif_neg (show ¬ (256 + n.val < 256) by omega)]
      exact congrArg₂ (fun k n => m ((c : Thread nD τ).loc main_arg6) (ix2 k n)) (Fin.ext (by dsimp only; omega)) (Fin.ext (by dsimp only; omega))
    · rw [block2, first_at, dif_pos (show d.val < 64 from d.isLt), dif_neg (show ¬ (256 + n.val < 256) by omega)]
  · rw [block3, second_at, dif_neg (show ¬ (256 + n.val < 256) by omega), dif_neg (show ¬ (64 + e.val < 64) by omega)]
    exact congrArg₂ (fun k n => m ((c : Thread nD τ).loc main_arg7) (ix2 k n)) (Fin.ext (by dsimp only; omega)) (Fin.ext (by dsimp only; omega))
  · rw [block3, second_at, dif_pos (show n.val < 256 from n.isLt), dif_neg (show ¬ (64 + e.val < 64) by omega)]

/-- The reference's first result, of the arguments that a device holds. -/
abbrev targetK (c : Dev nD) : FVec Ideal S8x256x256 .bf16 :=
  resultK (m ((c : Thread nD τ).loc main_arg0)) (m ((c : Thread nD τ).loc main_arg1)) (m ((c : Thread nD τ).loc main_arg2)) (m ((c : Thread nD τ).loc main_arg4)) (m ((c : Thread nD τ).loc main_arg5))

/-- The reference's second result. -/
abbrev targetV (c : Dev nD) : FVec Ideal S8x64x256 .bf16 :=
  resultV (m ((c : Thread nD τ).loc main_arg0)) (m ((c : Thread nD τ).loc main_arg3)) (m ((c : Thread nD τ).loc main_arg6)) (m ((c : Thread nD τ).loc main_arg7))

/-- What the precondition gives of a device's arguments. -/
abbrev FiniteAt (c : Dev nD) : Prop :=
  Cert.Reference6Ideal.Compress.Finite (m ((c : Thread nD τ).loc main_arg0)) (m ((c : Thread nD τ).loc main_arg2)) (m ((c : Thread nD τ).loc main_arg4)) (m ((c : Thread nD τ).loc main_arg5))

theorem key_real (c : Dev nD) (hf : FiniteAt m c) (B : Fin 8) (r : Fin 256) (e : Fin 64) : ∃ a : ℝ, keyC m c (ix3 B r e) = (a : EReal) :=
  Cert.Reference6Ideal.Compress.compressed_real _ _ _ _ (fun B s d => by rw [keyCols_at]; exact hf.key B s d) hf.emb hf.inner hf.last B r e

/-- The normed keys of a point are the reference's. -/
theorem norm_eq (c : Dev nD) (hf : FiniteAt m c) (t : Fin cfg0.N) (r : Fin 256) (e : Fin 64) :
    k0_pay51 (compOf m c t) (k0_pay48 (iblk m c 4 t)) (meanSq (mulf (compOf m c t) (compOf m c t))) k0_pay50 (ix2 r (⟨e.val, by omega⟩ : Fin 128))
      = normed (keyC m c) (m ((c : Thread nD τ).loc main_arg1)) (ix3 (⟨t.val, lt8 t⟩ : Fin 8) r e) := by
  have sq : ∀ d : Fin 64, mulf (compOf m c t) (compOf m c t) (ix2 r (⟨d.val, by omega⟩ : Fin 128)) = keyC m c (ix3 (⟨t.val, lt8 t⟩ : Fin 8) r d) * keyC m c (ix3 (⟨t.val, lt8 t⟩ : Fin 8) r d) :=
    fun d => congrArg₂ (· * ·) (key_half m c t r d) (key_half m c t r d)
  rw [pay51_at, normed_at, meanSq_at _ r (fun d => by
    obtain ⟨a, ha⟩ := key_real m c hf (⟨t.val, lt8 t⟩ : Fin 8) r d
    exact ⟨a * a, by rw [sq, ha, EReal.coe_mul]⟩) e, Finset.sum_congr rfl (fun d _ => sq d), key_half, block4]
  have he : (⟨e.val % 64, by omega⟩ : Fin 64) = e := Fin.ext (Nat.mod_eq_of_lt e.isLt)
  dsimp only
  rw [he]

/-- The first result's agreement at one place. -/
def Agree (c : Dev nD) (t : Fin cfg0.N) (r y : Fin 256) : Prop :=
  outK (compOf m c t) (iblk m c 4 t) (ix3 (0 : Fin 1) r y) = targetK m c (ix3 (⟨t.val, lt8 t⟩ : Fin 8) r y)

/-- A block of the first result is the reference's at the block's place. -/
theorem point5 (c : Dev nD) (hf : FiniteAt m c) (t : Fin cfg0.N) (r y : Fin 256) :
    outK (compOf m c t) (iblk m c 4 t) (ix3 (0 : Fin 1) r y) = targetK m c (((cfg0.win 5).blk t).view.emb (ix3 (0 : Fin 1) r y)) := by
  rw [emb5]
  show Agree m c t r y
  have key0 : ∀ e : Fin 64, Agree m c t r (⟨e.val, by omega⟩ : Fin 256) := fun e => (outK_0 _ _ r e).trans ((norm_eq m c hf t r e).trans (keys_0 _ _ _ r e).symm)
  have key1 : ∀ e : Fin 64, Agree m c t r (⟨64 + e.val, by omega⟩ : Fin 256) := fun e => (outK_1 _ _ r e).trans ((place_at _ r e).symm.trans (keys_1 _ _ _ r e).symm)
  have key2 : ∀ e : Fin 64, Agree m c t r (⟨128 + e.val, by omega⟩ : Fin 256) := fun e => (outK_2 _ _ r e).trans ((place_at _ r e).symm.trans (keys_2 _ _ _ r e).symm)
  have key3 : ∀ e : Fin 64, Agree m c t r (⟨192 + e.val, by omega⟩ : Fin 256) := fun e => (outK_3 _ _ r e).trans ((norm_eq m c hf t r e).trans (keys_3 _ _ _ r e).symm)
  by_cases h0 : y.val < 64
  · exact key0 ⟨y.val, h0⟩
  by_cases h1 : y.val < 128
  · exact (show (⟨64 + (y.val - 64), by omega⟩ : Fin 256) = y from Fin.ext (by dsimp only; omega)) ▸ key1 ⟨y.val - 64, by omega⟩
  by_cases h2 : y.val < 192
  · exact (show (⟨128 + (y.val - 128), by omega⟩ : Fin 256) = y from Fin.ext (by dsimp only; omega)) ▸ key2 ⟨y.val - 128, by omega⟩
  · exact (show (⟨192 + (y.val - 192), by omega⟩ : Fin 256) = y from Fin.ext (by dsimp only; omega)) ▸ key3 ⟨y.val - 192, by omega⟩

/-- A block of the second result likewise. -/
theorem point6 (c : Dev nD) (t : Fin cfg0.N) (e : Fin 64) (r : Fin 256) :
    outV (compOf m c t) (ix3 (0 : Fin 1) e r) = targetV m c (((cfg0.win 6).blk t).view.emb (ix3 (0 : Fin 1) e r)) := by
  rw [emb6]
  exact (outV_at _ e r).trans ((val_half m c t r e).trans (vals_at _ _ e r).symm)

/-- What a point writes back to the first result is its block of the reference's. -/
theorem flushed5 (c : Dev nD) (hf : FiniteAt m c) (t : Fin cfg0.N) :
    (dats m 0 c).flushed 5 t = ((cfg0.win 5).blk t).view.read (Elt Ideal) (targetK m c) := by
  rw [Value.flushed5_A, out5_eq]
  funext y
  obtain ⟨r, j, rfl⟩ : ∃ (r j : Fin 256), y = ix3 (0 : Fin 1) r j := ⟨y 1, y 2, by
    funext b
    match b with
    | ⟨0, _⟩ => apply Fin.ext; have h : (y 0).val < 1 := (y 0).isLt; show (y 0).val = 0; omega
    | ⟨1, _⟩ => rfl
    | ⟨2, _⟩ => rfl⟩
  exact point5 m c hf t r j

/-- What a point writes back to the second. -/
theorem flushed6 (c : Dev nD) (t : Fin cfg0.N) :
    (dats m 0 c).flushed 6 t = ((cfg0.win 6).blk t).view.read (Elt Ideal) (targetV m c) := by
  rw [Value.flushed6_A, out6_eq]
  funext y
  obtain ⟨e, r, rfl⟩ : ∃ (e : Fin 64) (r : Fin 256), y = ix3 (0 : Fin 1) e r := ⟨y 1, y 2, by
    funext b
    match b with
    | ⟨0, _⟩ => apply Fin.ext; have h : (y 0).val < 1 := (y 0).isLt; show (y 0).val = 0; omega
    | ⟨1, _⟩ => rfl
    | ⟨2, _⟩ => rfl⟩
  exact point6 m c t e r

/-- Every row of the first result lies in some point's block. -/
theorem covered5 (i : S8x256x256.Idx) : ∃ t : Fin cfg0.N, (cfg0.win 5).flush t = true ∧ i ∈ ((cfg0.win 5).blk t).view.set := by
  have h0 : (i 0).val < 8 := (i 0).isLt
  obtain ⟨t, ht⟩ : ∃ t : Fin cfg0.N, t.val = (i 0).val := ⟨⟨(i 0).val, by rw [show cfg0.N = 8 from N_0]; omega⟩, rfl⟩
  refine ⟨t, flush0_5 t, ?_⟩
  have h := ((cfg0.win 5).blk t).view.emb_mem_set (ix3 (0 : Fin 1) (i 1 : Fin 256) (i 2 : Fin 256))
  have he : ((cfg0.win 5).blk t).view.emb (ix3 (0 : Fin 1) (i 1 : Fin 256) (i 2 : Fin 256)) = i := by
    refine (emb5 t _ _).trans ?_
    funext a
    match a with
    | ⟨0, _⟩ => apply Fin.ext; exact ht
    | ⟨1, _⟩ => rfl
    | ⟨2, _⟩ => rfl
  rw [he] at h
  exact h

/-- Every row of the second likewise. -/
theorem covered6 (i : S8x64x256.Idx) : ∃ t : Fin cfg0.N, (cfg0.win 6).flush t = true ∧ i ∈ ((cfg0.win 6).blk t).view.set := by
  have h0 : (i 0).val < 8 := (i 0).isLt
  obtain ⟨t, ht⟩ : ∃ t : Fin cfg0.N, t.val = (i 0).val := ⟨⟨(i 0).val, by rw [show cfg0.N = 8 from N_0]; omega⟩, rfl⟩
  refine ⟨t, flush0_6 t, ?_⟩
  have h := ((cfg0.win 6).blk t).view.emb_mem_set (ix3 (0 : Fin 1) (i 1 : Fin 64) (i 2 : Fin 256))
  have he : ((cfg0.win 6).blk t).view.emb (ix3 (0 : Fin 1) (i 1 : Fin 64) (i 2 : Fin 256)) = i := by
    refine (emb6 t _ _).trans ?_
    funext a
    match a with
    | ⟨0, _⟩ => apply Fin.ext; exact ht
    | ⟨1, _⟩ => rfl
    | ⟨2, _⟩ => rfl
  rw [he] at h
  exact h

/-- The kernel's result arrays after the run are the reference's functions of the arguments, the keys' side finite. -/
theorem run (hf : ∀ c : Dev nD, FiniteAt m c) : θ_run defs (onTc (τ := τ) (main (F := Ideal))) ⟨m, fun _ => 0, ρ⟩ fun r => ∀ c : Dev nD,
      r.2.mem ((c : Thread nD τ).loc main_v22_0) = targetK m c
      ∧ r.2.mem ((c : Thread nD τ).loc main_v22_1) = targetV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((dats m 0 c).arrAt_eq_of_cover 5 _ (fun t _ => flushed5 m c (hf c) t) covered5),
    (h c).2.1.trans ((dats m 0 c).arrAt_eq_of_cover 6 _ (fun t _ => flushed6 m c t) covered6), (h c).2.2⟩) (Value.run_blocks m ρ)

end Cert.Kernel6Ideal.Compress

namespace Cert.Proof

open Idealize.ShloMosaic Idealize.SL.Sem

/-- The compression and its reference compute the same two arrays of extended reals, the numbers that the compressed
    keys are computed from finite. -/
theorem compress_value : Cert.algebraic_Kernel6Ideal_Reference6Ideal_pre_finite_compression (hKernel6Ideal := Cert.Kernel6Ideal.Gen.facts)
    (hReference6Ideal := Cert.Reference6Ideal.Gen.facts) (hPre_finite_compression := Cert.Reference6Ideal.Compress.pre_facts) := by
  intro m g m' g' hp hm
  refine ⟨_, _, Cert.Kernel6Ideal.Compress.run m g (fun c => Cert.Reference6Ideal.Compress.finite_of_pre _ _ _ _ _ _ _ _ (hp c)), ?_⟩
  refine (θ_run _ _ _).mono (fun r h c => ?_) (Cert.Reference6Ideal.Value.run (F := Ideal) m' g')
  obtain ⟨e0, e1, e2, e3, e4, e5, e6, e7⟩ := hm c
  refine ⟨(h c).1.trans ?_, (h c).2.1.trans ?_, (h c).2.2⟩
  · rw [Cert.Reference6Ideal.Compress.resultK_eq, e0, e1, e2, e4, e5]
  · rw [Cert.Reference6Ideal.Compress.resultV_eq, e0, e3, e6, e7]

/-- The reference leaves its arguments unchanged. -/
theorem compress_reference_frame : Cert.quiescent_Reference6Ideal (hReference6Ideal := Cert.Reference6Ideal.Gen.facts) := fun m ρ _ =>
  (θ_run _ _ _).mono (fun r h => ⟨fun c => (h c).2.2, sem_eq_zero_of_no_sems rfl r.2⟩) (Cert.Reference6Ideal.Value.run (F := Ideal) m ρ)

end Cert.Proof

end
-- ==== Proof.lean ====
module

public import proofs.«01_k».proof.Proof.Ffn
public import proofs.«01_k».proof.Proof.Stick
public import proofs.«01_k».proof.Proof.InProj
public import proofs.«01_k».proof.Proof.Layout
public import proofs.«01_k».proof.Proof.Mix
public import proofs.«01_k».proof.Proof.Compress
public import proofs.«01_k».proof.Defs
public import Idealize.ShloMosaic.Adequacy
public import Idealize.ShloMosaic.Init

@[expose] public section

noncomputable section

namespace Cert.Proof

open Idealize.ShloMosaic Idealize.SL.Sem

/-- The feed-forward reference leaves its arguments as they were and declares no semaphore. -/
theorem ffn_reference_frame : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run m ρ)

/-- The same of the input projection's reference. -/
theorem inproj_reference_frame : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run m ρ)

/-- The same of the column layout's reference. -/
theorem layout_reference_frame : Cert.quiescent_Reference4Ideal (hReference4Ideal := Cert.Reference4Ideal.Gen.facts) := fun m ρ _ =>
  (θ_run _ _ _).mono (fun r h => ⟨fun c => (h c).2, sem_eq_zero_of_no_sems rfl r.2⟩) (Cert.Reference4Ideal.Value.run m ρ)

/-- The claims of all six calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.KernelIdeal.Stick.pre_facts, Cert.Reference5Ideal.Mix.pre_facts, Cert.Reference6Ideal.Compress.pre_facts,
  fun m ρ _ => Cert.Kernel.Stick.frame_run m ρ, fun m ρ _ => Cert.KernelIdeal.Stick.frame_run m ρ, fun m ρ _ => Cert.KernelIdeal.Stick.frame_run m ρ,
  stick_reference_frame, fun m ρ _ => stick_reference_frame m ρ trivial,
  fun m ρ _ => Cert.Kernel2.Gen.frame m ρ, fun m ρ _ => Cert.Kernel2Ideal.Gen.frame m ρ, ffn_reference_frame,
  fun m ρ _ => Cert.Kernel3.Gen.frame m ρ, fun m ρ _ => Cert.Kernel3Ideal.Gen.frame m ρ, inproj_reference_frame,
  fun m ρ _ => Cert.Kernel4.Gen.frame m ρ, fun m ρ _ => Cert.Kernel4Ideal.Gen.frame m ρ, layout_reference_frame,
  fun m ρ _ => Cert.Kernel5.Gen.frame m ρ, fun m ρ _ => Cert.Kernel5Ideal.Gen.frame m ρ, fun m ρ _ => Cert.Kernel5Ideal.Gen.frame m ρ,
  mix_reference_frame, fun m ρ _ => mix_reference_frame m ρ trivial,
  fun m ρ _ => Cert.Kernel6.Gen.frame m ρ, fun m ρ _ => Cert.Kernel6Ideal.Gen.frame m ρ, fun m ρ _ => Cert.Kernel6Ideal.Gen.frame m ρ,
  compress_reference_frame, fun m ρ _ => compress_reference_frame m ρ trivial,
  stick_preserves, stick_value, trivial, ffn_value, trivial, inproj_value, trivial, layout_value, trivial, mix_value, trivial, compress_value⟩

end Cert.Proof

end
